-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83_0)) (v1 : (c : Dev Cert.KernelIdeal.nD) → Buf (Elt Ideal) ((c.tc : Thread Cert.KernelIdeal.nD Cert.KernelIdeal.τ).loc Cert.KernelIdeal.main_v83_1)) (v2 : (c : Dev Cert.KernelIdeal.nD) → Buf (Elt Ideal) ((c.tc : Thread Cert.KernelIdeal.nD Cert.KernelIdeal.τ).loc Cert.KernelIdeal.main_v83_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83_0) = v0 c
          ∧ r.2.mem ((c.tc : Thread Cert.KernelIdeal.nD Cert.KernelIdeal.τ).loc Cert.KernelIdeal.main_v83_1) = v1 c
          ∧ r.2.mem ((c.tc : Thread Cert.KernelIdeal.nD Cert.KernelIdeal.τ).loc Cert.KernelIdeal.main_v83_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_v165) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v7_5)) (v1 : (c : Dev Cert.Kernel2Ideal.nD) → Buf (Elt Ideal) ((c.tc : Thread Cert.Kernel2Ideal.nD Cert.Kernel2Ideal.τ).loc Cert.Kernel2Ideal.main_v7_6)) (v2 : (c : Dev Cert.Kernel2Ideal.nD) → Buf (Elt Ideal) ((c.tc : Thread Cert.Kernel2Ideal.nD Cert.Kernel2Ideal.τ).loc Cert.Kernel2Ideal.main_v7_7)) (v3 : (c : Dev Cert.Kernel2Ideal.nD) → Buf (Elt Ideal) ((c.tc : Thread Cert.Kernel2Ideal.nD Cert.Kernel2Ideal.τ).loc Cert.Kernel2Ideal.main_v7_8)) (v4 : (c : Dev Cert.Kernel2Ideal.nD) → Buf (Elt Ideal) ((c.tc : Thread Cert.Kernel2Ideal.nD Cert.Kernel2Ideal.τ).loc Cert.Kernel2Ideal.main_v8_0)) (v5 : (c : Dev Cert.Kernel2Ideal.nD) → Buf (Elt Ideal) ((c.tc : Thread Cert.Kernel2Ideal.nD Cert.Kernel2Ideal.τ).loc Cert.Kernel2Ideal.main_v8_1)) (v6 : (c : Dev Cert.Kernel2Ideal.nD) → Buf (Elt Ideal) ((c.tc : Thread Cert.Kernel2Ideal.nD Cert.Kernel2Ideal.τ).loc Cert.Kernel2Ideal.main_v9_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_5) = v0 c
          ∧ r.2.mem ((c.tc : Thread Cert.Kernel2Ideal.nD Cert.Kernel2Ideal.τ).loc Cert.Kernel2Ideal.main_v7_6) = v1 c
          ∧ r.2.mem ((c.tc : Thread Cert.Kernel2Ideal.nD Cert.Kernel2Ideal.τ).loc Cert.Kernel2Ideal.main_v7_7) = v2 c
          ∧ r.2.mem ((c.tc : Thread Cert.Kernel2Ideal.nD Cert.Kernel2Ideal.τ).loc Cert.Kernel2Ideal.main_v7_8) = v3 c
          ∧ r.2.mem ((c.tc : Thread Cert.Kernel2Ideal.nD Cert.Kernel2Ideal.τ).loc Cert.Kernel2Ideal.main_v8_0) = v4 c
          ∧ r.2.mem ((c.tc : Thread Cert.Kernel2Ideal.nD Cert.Kernel2Ideal.τ).loc Cert.Kernel2Ideal.main_v8_1) = v5 c
          ∧ r.2.mem ((c.tc : Thread Cert.Kernel2Ideal.nD Cert.Kernel2Ideal.τ).loc Cert.Kernel2Ideal.main_v9_0) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v107) = v0 c
          ∧ r.2.mem ((c.tc : Thread Cert.Reference2Ideal.nD Cert.Reference2Ideal.τ).loc Cert.Reference2Ideal.main_v108) = v1 c
          ∧ r.2.mem ((c.tc : Thread Cert.Reference2Ideal.nD Cert.Reference2Ideal.τ).loc Cert.Reference2Ideal.main_v109) = v2 c
          ∧ r.2.mem ((c.tc : Thread Cert.Reference2Ideal.nD Cert.Reference2Ideal.τ).loc Cert.Reference2Ideal.main_v110) = v3 c
          ∧ r.2.mem ((c.tc : Thread Cert.Reference2Ideal.nD Cert.Reference2Ideal.τ).loc Cert.Reference2Ideal.main_v111) = v4 c
          ∧ r.2.mem ((c.tc : Thread Cert.Reference2Ideal.nD Cert.Reference2Ideal.τ).loc Cert.Reference2Ideal.main_v112) = v5 c
          ∧ r.2.mem ((c.tc : Thread Cert.Reference2Ideal.nD Cert.Reference2Ideal.τ).loc Cert.Reference2Ideal.main_v75) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)) →
    ∃ (v0 : (c : Dev Cert.Kernel5Ideal.nD) → Buf (Elt Ideal) ((c.tc : Thread Cert.Kernel5Ideal.nD Cert.Kernel5Ideal.τ).loc Cert.Kernel5Ideal.main_v0_1)) (v1 : (c : Dev Cert.Kernel5Ideal.nD) → Buf (Elt Ideal) ((c.tc : Thread Cert.Kernel5Ideal.nD Cert.Kernel5Ideal.τ).loc Cert.Kernel5Ideal.main_v0_2)) (v2 : (c : Dev Cert.Kernel5Ideal.nD) → Buf (Elt Ideal) ((c.tc : Thread Cert.Kernel5Ideal.nD Cert.Kernel5Ideal.τ).loc Cert.Kernel5Ideal.main_v0_3)) (v3 : (c : Dev Cert.Kernel5Ideal.nD) → Buf (Elt Ideal) ((c.tc : Thread Cert.Kernel5Ideal.nD Cert.Kernel5Ideal.τ).loc Cert.Kernel5Ideal.main_v0_5)) (v4 : (c : Dev Cert.Kernel5Ideal.nD) → Buf (Elt Ideal) ((c.tc : Thread Cert.Kernel5Ideal.nD Cert.Kernel5Ideal.τ).loc Cert.Kernel5Ideal.main_v0_6)) (v5 : (c : Dev Cert.Kernel5Ideal.nD) → Buf (Elt Ideal) ((c.tc : Thread Cert.Kernel5Ideal.nD Cert.Kernel5Ideal.τ).loc Cert.Kernel5Ideal.main_v0_7)) (v6 : (c : Dev Cert.Kernel5Ideal.nD) → Buf (Elt Ideal) ((c.tc : Thread Cert.Kernel5Ideal.nD Cert.Kernel5Ideal.τ).loc Cert.Kernel5Ideal.main_v0_9)) (v7 : (c : Dev Cert.Kernel5Ideal.nD) → Buf (Elt Ideal) ((c.tc : Thread Cert.Kernel5Ideal.nD Cert.Kernel5Ideal.τ).loc Cert.Kernel5Ideal.main_v0_10)) (v8 : (c : Dev Cert.Kernel5Ideal.nD) → Buf (Elt Ideal) ((c.tc : Thread Cert.Kernel5Ideal.nD Cert.Kernel5Ideal.τ).loc Cert.Kernel5Ideal.main_v0_11)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_1) = v0 c
          ∧ r.2.mem ((c.tc : Thread Cert.Kernel5Ideal.nD Cert.Kernel5Ideal.τ).loc Cert.Kernel5Ideal.main_v0_2) = v1 c
          ∧ r.2.mem ((c.tc : Thread Cert.Kernel5Ideal.nD Cert.Kernel5Ideal.τ).loc Cert.Kernel5Ideal.main_v0_3) = v2 c
          ∧ r.2.mem ((c.tc : Thread Cert.Kernel5Ideal.nD Cert.Kernel5Ideal.τ).loc Cert.Kernel5Ideal.main_v0_5) = v3 c
          ∧ r.2.mem ((c.tc : Thread Cert.Kernel5Ideal.nD Cert.Kernel5Ideal.τ).loc Cert.Kernel5Ideal.main_v0_6) = v4 c
          ∧ r.2.mem ((c.tc : Thread Cert.Kernel5Ideal.nD Cert.Kernel5Ideal.τ).loc Cert.Kernel5Ideal.main_v0_7) = v5 c
          ∧ r.2.mem ((c.tc : Thread Cert.Kernel5Ideal.nD Cert.Kernel5Ideal.τ).loc Cert.Kernel5Ideal.main_v0_9) = v6 c
          ∧ r.2.mem ((c.tc : Thread Cert.Kernel5Ideal.nD Cert.Kernel5Ideal.τ).loc Cert.Kernel5Ideal.main_v0_10) = v7 c
          ∧ r.2.mem ((c.tc : Thread Cert.Kernel5Ideal.nD Cert.Kernel5Ideal.τ).loc Cert.Kernel5Ideal.main_v0_11) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v47) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v34) = v5 c
          ∧ r.2.mem ((c.tc : Thread Cert.Reference5Ideal.nD Cert.Reference5Ideal.τ).loc Cert.Reference5Ideal.main_v71) = v6 c
          ∧ r.2.mem ((c.tc : Thread Cert.Reference5Ideal.nD Cert.Reference5Ideal.τ).loc Cert.Reference5Ideal.main_v52) = v7 c
          ∧ r.2.mem ((c.tc : Thread Cert.Reference5Ideal.nD Cert.Reference5Ideal.τ).loc Cert.Reference5Ideal.main_v58) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0_1)) (v1 : (c : Dev Cert.Kernel6Ideal.nD) → Buf (Elt Ideal) ((c.tc : Thread Cert.Kernel6Ideal.nD Cert.Kernel6Ideal.τ).loc Cert.Kernel6Ideal.main_v0_2)) (v2 : (c : Dev Cert.Kernel6Ideal.nD) → Buf (Elt Ideal) ((c.tc : Thread Cert.Kernel6Ideal.nD Cert.Kernel6Ideal.τ).loc Cert.Kernel6Ideal.main_v0_3)) (v3 : (c : Dev Cert.Kernel6Ideal.nD) → Buf (Elt Ideal) ((c.tc : Thread Cert.Kernel6Ideal.nD Cert.Kernel6Ideal.τ).loc Cert.Kernel6Ideal.main_v0_5)) (v4 : (c : Dev Cert.Kernel6Ideal.nD) → Buf (Elt Ideal) ((c.tc : Thread Cert.Kernel6Ideal.nD Cert.Kernel6Ideal.τ).loc Cert.Kernel6Ideal.main_v0_6)) (v5 : (c : Dev Cert.Kernel6Ideal.nD) → Buf (Elt Ideal) ((c.tc : Thread Cert.Kernel6Ideal.nD Cert.Kernel6Ideal.τ).loc Cert.Kernel6Ideal.main_v0_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_1) = v0 c
          ∧ r.2.mem ((c.tc : Thread Cert.Kernel6Ideal.nD Cert.Kernel6Ideal.τ).loc Cert.Kernel6Ideal.main_v0_2) = v1 c
          ∧ r.2.mem ((c.tc : Thread Cert.Kernel6Ideal.nD Cert.Kernel6Ideal.τ).loc Cert.Kernel6Ideal.main_v0_3) = v2 c
          ∧ r.2.mem ((c.tc : Thread Cert.Kernel6Ideal.nD Cert.Kernel6Ideal.τ).loc Cert.Kernel6Ideal.main_v0_5) = v3 c
          ∧ r.2.mem ((c.tc : Thread Cert.Kernel6Ideal.nD Cert.Kernel6Ideal.τ).loc Cert.Kernel6Ideal.main_v0_6) = v4 c
          ∧ r.2.mem ((c.tc : Thread Cert.Kernel6Ideal.nD Cert.Kernel6Ideal.τ).loc Cert.Kernel6Ideal.main_v0_7) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v47) = v3 c
          ∧ r.2.mem ((c.tc : Thread Cert.Reference6Ideal.nD Cert.Reference6Ideal.τ).loc Cert.Reference6Ideal.main_v28) = v4 c
          ∧ r.2.mem ((c.tc : Thread Cert.Reference6Ideal.nD Cert.Reference6Ideal.τ).loc Cert.Reference6Ideal.main_v34) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v30) = v1 c
          ∧ r.2.mem ((c.tc : Thread Cert.Reference7Ideal.nD Cert.Reference7Ideal.τ).loc Cert.Reference7Ideal.main_v11) = v2 c
          ∧ r.2.mem ((c.tc : Thread Cert.Reference7Ideal.nD Cert.Reference7Ideal.τ).loc Cert.Reference7Ideal.main_v17) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_v32) = v1 c
          ∧ r.2.mem ((c.tc : Thread Cert.Reference8Ideal.nD Cert.Reference8Ideal.τ).loc Cert.Reference8Ideal.main_v13) = v2 c
          ∧ r.2.mem ((c.tc : Thread Cert.Reference8Ideal.nD Cert.Reference8Ideal.τ).loc Cert.Reference8Ideal.main_v19) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_v30) = v1 c
          ∧ r.2.mem ((c.tc : Thread Cert.Reference9Ideal.nD Cert.Reference9Ideal.τ).loc Cert.Reference9Ideal.main_v11) = v2 c
          ∧ r.2.mem ((c.tc : Thread Cert.Reference9Ideal.nD Cert.Reference9Ideal.τ).loc Cert.Reference9Ideal.main_v17) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2048x512 : Shape := ⟨2, ![2048, 512]⟩
abbrev S8x2048x64 : Shape := ⟨3, ![8, 2048, 64]⟩
abbrev S8x2048 : Shape := ⟨2, ![8, 2048]⟩
abbrev S_ : Shape := ⟨0, ![]⟩
abbrev S1 : Shape := ⟨1, ![1]⟩
abbrev S8 : Shape := ⟨1, ![8]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S8x2048x64 : S_.BroadcastsInDim S8x2048x64 (![] : Fin 0 → Fin S8x2048x64.rank)
  reducesTo_S8x2048x64_S_d0_1_2 : S8x2048x64.ReducesTo [0, 1, 2] S_
  bcast_S_S8x2048 : S_.BroadcastsInDim S8x2048 (![] : Fin 0 → Fin S8x2048.rank)
  reducesTo_S8x2048_S_d0_1 : S8x2048.ReducesTo [0, 1] S_
  bcast_S_S1 : S_.BroadcastsInDim S1 (![] : Fin 0 → Fin S1.rank)
  concatenates_S1_S1_S1_S1_S1_S1_S1_S1_S8_d0 : Shape.Concatenates [S1, S1, S1, S1, S1, S1, S1, S1] S8 0

variable [Facts]

def fn_part2 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S8 1 :=
  let main_v32 : IVec S1 1 := broadcastInDim S1 ![] bcast_S_S1 main_v3
  let main_v33 : IVec S1 1 := broadcastInDim S1 ![] bcast_S_S1 main_v7
  let main_v34 : IVec S1 1 := broadcastInDim S1 ![] bcast_S_S1 main_v11
  let main_v35 : IVec S1 1 := broadcastInDim S1 ![] bcast_S_S1 main_v15
  let main_v36 : IVec S1 1 := broadcastInDim S1 ![] bcast_S_S1 main_v19
  let main_v37 : IVec S1 1 := broadcastInDim S1 ![] bcast_S_S1 main_v23
  let main_v38 : IVec S1 1 := broadcastInDim S1 ![] bcast_S_S1 main_v27
  let main_v39 : IVec S1 1 := broadcastInDim S1 ![] bcast_S_S1 main_v31
  let main_v40 : IVec S8 1 := concatenate S8 0 [⟨S1, main_v32⟩, ⟨S1, main_v33⟩, ⟨S1, main_v34⟩, ⟨S1, main_v35⟩, ⟨S1, main_v36⟩, ⟨S1, main_v37⟩, ⟨S1, main_v38⟩, ⟨S1, main_v39⟩] concatenates_S1_S1_S1_S1_S1_S1_S1_S1_S8_d0
  main_v40

def fn_part1 {F : FTy → Type} [FloatOps F] (main_arg4 : FVec F S8x2048 .f32) (main_arg5 : FVec F S8x2048x64 .f32) (main_arg6 : FVec F S8x2048 .f32) (main_arg7 : FVec F S2048x512 .f32) (main_v3 : IVec S_ 1) (main_v7 : IVec S_ 1) (main_v11 : IVec S_ 1) (main_v15 : IVec S_ 1) : IVec S8 1 :=
  let main_v16 : FVec F S8x2048 .f32 := Host.absf main_arg4
  let main_cst_6 : FVec F S_ .f32 := constant S_ .f32 0x7F800000#32
  let main_v17 : FVec F S8x2048 .f32 := broadcastInDim S8x2048 ![] bcast_S_S8x2048 main_cst_6
  let main_v18 : IVec S8x2048 1 := cmpf .olt main_v16 main_v17
  let main_c_7 : IVec S_ 1 := constantI S_ 1 1#1
  let main_v19 : IVec S_ 1 := (fun x v => Host.reduce IntOp.andi x v reducesTo_S8x2048_S_d0_1 h_S_) main_v18 main_c_7
  let main_v20 : FVec F S8x2048x64 .f32 := Host.absf main_arg5
  let main_cst_8 : FVec F S_ .f32 := constant S_ .f32 0x7F800000#32
  let main_v21 : FVec F S8x2048x64 .f32 := broadcastInDim S8x2048x64 ![] bcast_S_S8x2048x64 main_cst_8
  let main_v22 : IVec S8x2048x64 1 := cmpf .olt main_v20 main_v21
  let main_c_9 : IVec S_ 1 := constantI S_ 1 1#1
  let main_v23 : IVec S_ 1 := (fun x v => Host.reduce IntOp.andi x v reducesTo_S8x2048x64_S_d0_1_2 h_S_) main_v22 main_c_9
  let main_v24 : FVec F S8x2048 .f32 := Host.absf main_arg6
  let main_cst_10 : FVec F S_ .f32 := constant S_ .f32 0x7F800000#32
  let main_v25 : FVec F S8x2048 .f32 := broadcastInDim S8x2048 ![] bcast_S_S8x2048 main_cst_10
  let main_v26 : IVec S8x2048 1 := cmpf .olt main_v24 main_v25
  let main_c_11 : IVec S_ 1 := constantI S_ 1 1#1
  let main_v27 : IVec S_ 1 := (fun x v => Host.reduce IntOp.andi x v reducesTo_S8x2048_S_d0_1 h_S_) main_v26 main_c_11
  let main_v28 : FVec F S2048x512 .f32 := Host.absf main_arg7
  let main_cst_12 : FVec F S_ .f32 := constant S_ .f32 0x7F800000#32
  let main_v29 : FVec F S2048x512 .f32 := broadcastInDim S2048x512 ![] bcast_S_S2048x512 main_cst_12
  let main_v30 : IVec S2048x512 1 := cmpf .olt main_v28 main_v29
  let main_c_13 : IVec S_ 1 := constantI S_ 1 1#1
  let main_v31 : IVec S_ 1 := (fun x v => Host.reduce IntOp.andi x v reducesTo_S2048x512_S_d0_1 h_S_) main_v30 main_c_13
  fn_part2 (F := F) main_v3 main_v7 main_v11 main_v15 main_v19 main_v23 main_v27 main_v31

def fn {F : FTy → Type} [FloatOps F] (main_arg0 : FVec F S2048x512 .f32) (main_arg1 : FVec F S2048x512 .f32) (main_arg2 : FVec F S2048x512 .f32) (main_arg3 : FVec F S8x2048x64 .f32) (main_arg4 : FVec F S8x2048 .f32) (main_arg5 : FVec F S8x2048x64 .f32) (main_arg6 : FVec F S8x2048 .f32) (main_arg7 : FVec F S2048x512 .f32) : IVec S8 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : FVec F S2048x512 .f32 := Host.absf main_arg2
  let main_cst_2 : FVec F S_ .f32 := constant S_ .f32 0x7F800000#32
  let main_v9 : FVec F S2048x512 .f32 := broadcastInDim S2048x512 ![] bcast_S_S2048x512 main_cst_2
  let main_v10 : IVec S2048x512 1 := cmpf .olt main_v8 main_v9
  let main_c_3 : IVec S_ 1 := constantI S_ 1 1#1
  let main_v11 : IVec S_ 1 := (fun x v => Host.reduce IntOp.andi x v reducesTo_S2048x512_S_d0_1 h_S_) main_v10 main_c_3
  let main_v12 : FVec F S8x2048x64 .f32 := Host.absf main_arg3
  let main_cst_4 : FVec F S_ .f32 := constant S_ .f32 0x7F800000#32
  let main_v13 : FVec F S8x2048x64 .f32 := broadcastInDim S8x2048x64 ![] bcast_S_S8x2048x64 main_cst_4
  let main_v14 : IVec S8x2048x64 1 := cmpf .olt main_v12 main_v13
  let main_c_5 : IVec S_ 1 := constantI S_ 1 1#1
  let main_v15 : IVec S_ 1 := (fun x v => Host.reduce IntOp.andi x v reducesTo_S8x2048x64_S_d0_1_2 h_S_) main_v14 main_c_5
  fn_part1 (F := F) main_arg4 main_arg5 main_arg6 main_arg7 main_v3 main_v7 main_v11 main_v15
-- ==== Pre_finite2.lean ====
abbrev S2048x1024 : Shape := ⟨2, ![2048, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S1 : Shape := ⟨1, ![1]⟩
abbrev S7 : Shape := ⟨1, ![7]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024 : S_.BroadcastsInDim S1024 (![] : Fin 0 → Fin S1024.rank)
  reducesTo_S1024_S_d0 : S1024.ReducesTo [0] S_
  bcast_S_S1 : S_.BroadcastsInDim S1 (![] : Fin 0 → Fin S1.rank)
  concatenates_S1_S1_S1_S1_S1_S1_S1_S7_d0 : Shape.Concatenates [S1, S1, S1, S1, S1, S1, S1] S7 0

variable [Facts]

def fn_part2 {F : FTy → Type} [FloatOps F] (main_v27 : IVec S_ 1) (main_v28 : IVec S1 1) (main_v29 : IVec S1 1) (main_v30 : IVec S1 1) (main_v31 : IVec S1 1) (main_v32 : IVec S1 1) (main_v33 : IVec S1 1) : IVec S7 1 :=
  let main_v34 : IVec S1 1 := broadcastInDim S1 ![] bcast_S_S1 main_v27
  let main_v35 : IVec S7 1 := concatenate S7 0 [⟨S1, main_v28⟩, ⟨S1, main_v29⟩, ⟨S1, main_v30⟩, ⟨S1, main_v31⟩, ⟨S1, main_v32⟩, ⟨S1, main_v33⟩, ⟨S1, main_v34⟩] concatenates_S1_S1_S1_S1_S1_S1_S1_S7_d0
  main_v35

def fn_part1 {F : FTy → Type} [FloatOps F] (main_arg4 : FVec F S2816x1024 .f32) (main_arg5 : FVec F S1024 .f32) (main_arg6 : FVec F S1024 .f32) (main_v3 : IVec S_ 1) (main_v7 : IVec S_ 1) (main_v11 : IVec S_ 1) (main_v15 : IVec S_ 1) : IVec S7 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S1024 .f32 := Host.absf main_arg5
  let main_cst_8 : FVec F S_ .f32 := constant S_ .f32 0x7F800000#32
  let main_v21 : FVec F S1024 .f32 := broadcastInDim S1024 ![] bcast_S_S1024 main_cst_8
  let main_v22 : IVec S1024 1 := cmpf .olt main_v20 main_v21
  let main_c_9 : IVec S_ 1 := constantI S_ 1 1#1
  let main_v23 : IVec S_ 1 := (fun x v => Host.reduce IntOp.andi x v reducesTo_S1024_S_d0 h_S_) main_v22 main_c_9
  let main_v24 : FVec F S1024 .f32 := Host.absf main_arg6
  let main_cst_10 : FVec F S_ .f32 := constant S_ .f32 0x7F800000#32
  let main_v25 : FVec F S1024 .f32 := broadcastInDim S1024 ![] bcast_S_S1024 main_cst_10
  let main_v26 : IVec S1024 1 := cmpf .olt main_v24 main_v25
  let main_c_11 : IVec S_ 1 := constantI S_ 1 1#1
  let main_v27 : IVec S_ 1 := (fun x v => Host.reduce IntOp.andi x v reducesTo_S1024_S_d0 h_S_) main_v26 main_c_11
  let main_v28 : IVec S1 1 := broadcastInDim S1 ![] bcast_S_S1 main_v3
  let main_v29 : IVec S1 1 := broadcastInDim S1 ![] bcast_S_S1 main_v7
  let main_v30 : IVec S1 1 := broadcastInDim S1 ![] bcast_S_S1 main_v11
  let main_v31 : IVec S1 1 := broadcastInDim S1 ![] bcast_S_S1 main_v15
  let main_v32 : IVec S1 1 := broadcastInDim S1 ![] bcast_S_S1 main_v19
  let main_v33 : IVec S1 1 := broadcastInDim S1 ![] bcast_S_S1 main_v23
  fn_part2 (F := F) main_v27 main_v28 main_v29 main_v30 main_v31 main_v32 main_v33

def fn {F : FTy → Type} [FloatOps F] (main_arg0 : FVec F S2048x1024 .f32) (main_arg1 : FVec F S2048x1024 .f32) (main_arg2 : FVec F S1024x2816 .f32) (main_arg3 : FVec F S1024x2816 .f32) (main_arg4 : FVec F S2816x1024 .f32) (main_arg5 : FVec F S1024 .f32) (main_arg6 : FVec F S1024 .f32) : IVec S7 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg6 main_v3 main_v7 main_v11 main_v15
-- ==== Kernel.lean ====
abbrev S2048x512 : Shape := ⟨2, ![2048, 512]⟩
abbrev S8x2048x64 : Shape := ⟨3, ![8, 2048, 64]⟩
abbrev S8x2048 : Shape := ⟨2, ![8, 2048]⟩
abbrev S2048x8x64 : Shape := ⟨3, ![2048, 8, 64]⟩
abbrev S8x2048x2048 : Shape := ⟨3, ![8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x2048x1 : Shape := ⟨3, ![8, 2048, 1]⟩
abbrev S128x8192 : Shape := ⟨2, ![128, 8192]⟩
abbrev S2048x8 : Shape := ⟨2, ![2048, 8]⟩
abbrev S2048x8x16 : Shape := ⟨3, ![2048, 8, 16]⟩
abbrev S2048x128 : Shape := ⟨2, ![2048, 128]⟩
abbrev S128x2048 : Shape := ⟨2, ![128, 2048]⟩
abbrev S128x512 : Shape := ⟨2, ![128, 512]⟩
abbrev S128x128 : Shape := ⟨2, ![128, 128]⟩
abbrev S1x128 : Shape := ⟨2, ![1, 128]⟩

abbrev nBuf : Space → Nat
  | .hbm => 125
  | .vmem => 20
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S8x2048x64, .f32⟩
  | .hbm, ⟨4, _⟩ => ⟨S8x2048, .f32⟩
  | .hbm, ⟨5, _⟩ => ⟨S8x2048x64, .f32⟩
  | .hbm, ⟨6, _⟩ => ⟨S8x2048, .f32⟩
  | .hbm, ⟨7, _⟩ => ⟨S2048x512, .f32⟩
  | .hbm, ⟨8, _⟩ => ⟨S2048x8x64, .f32⟩
  | .hbm, ⟨9, _⟩ => ⟨S8x2048x64, .f32⟩
  | .hbm, ⟨10, _⟩ => ⟨S2048x8x64, .f32⟩
  | .hbm, ⟨11, _⟩ => ⟨S8x2048x64, .f32⟩
  | .hbm, ⟨12, _⟩ => ⟨S2048x8x64, .f32⟩
  | .hbm, ⟨13, _⟩ => ⟨S8x2048x64, .f32⟩
  | .hbm, ⟨14, _⟩ => ⟨S8x2048x2048, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S_, .i32⟩
  | .hbm, ⟨26, _⟩ => ⟨S2048x2048, .i32⟩
  | .hbm, ⟨27, _⟩ => ⟨S2048x2048, .i1⟩
  | .hbm, ⟨28, _⟩ => ⟨S2048x2048, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S2048x2048, .i32⟩
  | .hbm, ⟨36, _⟩ => ⟨S2048x2048, .i32⟩
  | .hbm, ⟨37, _⟩ => ⟨S_, .i32⟩
  | .hbm, ⟨38, _⟩ => ⟨S2048x2048, .i32⟩
  | .hbm, ⟨39, _⟩ => ⟨S2048x2048, .i1⟩
  | .hbm, ⟨40, _⟩ => ⟨S_, .i32⟩
  | .hbm, ⟨41, _⟩ => ⟨S2048x2048, .i32⟩
  | .hbm, ⟨42, _⟩ => ⟨S2048x2048, .i1⟩
  | .hbm, ⟨43, _⟩ => ⟨S_, .i32⟩
  | .hbm, ⟨44, _⟩ => ⟨S_, .i1⟩
  | .hbm, ⟨45, _⟩ => ⟨S2048x2048, .i1⟩
  | .hbm, ⟨46, _⟩ => ⟨S2048x2048, .i1⟩
  | .hbm, ⟨47, _⟩ => ⟨S2048x2048, .i1⟩
  | .hbm, ⟨48, _⟩ => ⟨S2048x2048, .i32⟩
  | .hbm, ⟨49, _⟩ => ⟨S2048x2048, .i32⟩
  | .hbm, ⟨50, _⟩ => ⟨S2048x2048, .i32⟩
  | .hbm, ⟨51, _⟩ => ⟨S_, .i32⟩
  | .hbm, ⟨52, _⟩ => ⟨S2048x2048, .i32⟩
  | .hbm, ⟨53, _⟩ => ⟨S2048x2048, .i1⟩
  | .hbm, ⟨54, _⟩ => ⟨S2048x2048, .i1⟩
  | .hbm, ⟨55, _⟩ => ⟨S_, .f32⟩
  | .hbm, ⟨56, _⟩ => ⟨S_, .f32⟩
  | .hbm, ⟨57, _⟩ => ⟨S8x2048x2048, .i1⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S_, .f32⟩
  | .hbm, ⟨67, _⟩ => ⟨S8x2048, .f32⟩
  | .hbm, ⟨68, _⟩ => ⟨S8x2048x1, .f32⟩
  | .hbm, ⟨69, _⟩ => ⟨S8x2048x64, .f32⟩
  | .hbm, ⟨70, _⟩ => ⟨S8x2048x64, .f32⟩
  | .hbm, ⟨71, _⟩ => ⟨S8x2048x64, .f32⟩
  | .hbm, ⟨72, _⟩ => ⟨S8x2048x1, .f32⟩
  | .hbm, ⟨73, _⟩ => ⟨S8x2048x1, .f32⟩
  | .hbm, ⟨74, _⟩ => ⟨S8x2048, .f32⟩
  | .hbm, ⟨75, _⟩ => ⟨S8x2048, .f32⟩
  | .hbm, ⟨76, _⟩ => ⟨S8x2048, .f32⟩
  | .hbm, ⟨77, _⟩ => ⟨S8x2048, .f32⟩
  | .hbm, ⟨78, _⟩ => ⟨S8x2048, .f32⟩
  | .hbm, ⟨79, _⟩ => ⟨S8x2048, .f32⟩
  | .hbm, ⟨80, _⟩ => ⟨S8x2048, .f32⟩
  | .hbm, ⟨81, _⟩ => ⟨S8x2048, .f32⟩
  | .hbm, ⟨82, _⟩ => ⟨S8x2048, .f32⟩
  | .hbm, ⟨83, _⟩ => ⟨S8x2048, .f32⟩
  | .hbm, ⟨84, _⟩ => ⟨S8x2048, .f32⟩
  | .hbm, ⟨85, _⟩ => ⟨S8x2048, .f32⟩
  | .hbm, ⟨86, _⟩ => ⟨S8x2048, .f32⟩
  | .hbm, ⟨87, _⟩ => ⟨S8x2048, .f32⟩
  | .hbm, ⟨88, _⟩ => ⟨S8x2048x1, .f32⟩
  | .hbm, ⟨89, _⟩ => ⟨S8x2048x64, .f32⟩
  | .hbm, ⟨90, _⟩ => ⟨S8x2048x64, .f32⟩
  | .hbm, ⟨91, _⟩ => ⟨S8x2048, .f32⟩
  | .hbm, ⟨92, _⟩ => ⟨S8x2048x1, .f32⟩
  | .hbm, ⟨93, _⟩ => ⟨S8x2048x64, .f32⟩
  | .hbm, ⟨94, _⟩ => ⟨S8x2048x64, .f32⟩
  | .hbm, ⟨95, _⟩ => ⟨S8x2048x64, .f32⟩
  | .hbm, ⟨96, _⟩ => ⟨S8x2048, .f32⟩
  | .hbm, ⟨97, _⟩ => ⟨S8x2048x1, .f32⟩
  | .hbm, ⟨98, _⟩ => ⟨S8x2048x64, .f32⟩
  | .hbm, ⟨99, _⟩ => ⟨S8x2048x64, .f32⟩
  | .hbm, ⟨100, _⟩ => ⟨S8x2048x64, .f32⟩
  | .hbm, ⟨101, _⟩ => ⟨S2048x8x64, .f32⟩
  | .hbm, ⟨102, _⟩ => ⟨S8x2048x64, .f32⟩
  | .hbm, ⟨103, _⟩ => ⟨S8x2048x64, .f32⟩
  | .hbm, ⟨104, _⟩ => ⟨S_, .f32⟩
  | .hbm, ⟨105, _⟩ => ⟨S8x2048, .f32⟩
  | .hbm, ⟨106, _⟩ => ⟨S128x8192, .f32⟩
  | .hbm, ⟨107, _⟩ => ⟨S128x8192, .bf16⟩
  | .hbm, ⟨108, _⟩ => ⟨S128x8192, .f32⟩
  | .hbm, ⟨109, _⟩ => ⟨S128x8192, .bf16⟩
  | .hbm, ⟨110, _⟩ => ⟨S128x8192, .f32⟩
  | .hbm, ⟨111, _⟩ => ⟨S128x8192, .bf16⟩
  | .hbm, ⟨112, _⟩ => ⟨S128x8192, .f32⟩
  | .hbm, ⟨113, _⟩ => ⟨S128x8192, .bf16⟩
  | .hbm, ⟨114, _⟩ => ⟨S2048x8, .f32⟩
  | .hbm, ⟨115, _⟩ => ⟨S2048x8x16, .f32⟩
  | .hbm, ⟨116, _⟩ => ⟨S2048x128, .f32⟩
  | .hbm, ⟨117, _⟩ => ⟨S128x2048, .f32⟩
  | .hbm, ⟨118, _⟩ => ⟨S2048x8, .f32⟩
  | .hbm, ⟨119, _⟩ => ⟨S2048x8x16, .f32⟩
  | .hbm, ⟨120, _⟩ => ⟨S2048x128, .f32⟩
  | .hbm, ⟨121, _⟩ => ⟨S128x2048, .f32⟩
  | .hbm, ⟨122, _⟩ => ⟨S128x8192, .bf16⟩
  | .hbm, ⟨123, _⟩ => ⟨S128x8192, .bf16⟩
  | .hbm, ⟨124, _⟩ => ⟨S128x8192, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x512, .f32⟩
  | .local _ .vmem, ⟨19, _⟩ => ⟨S128x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v19 : Ref sig .tc := ⟨.hbm, 50, rfl⟩
abbrev main_c_2 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v23 : Ref sig .tc := ⟨.hbm, 59, rfl⟩
abbrev main_cst_3 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_4 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_5 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83_0 : Ref sig .tc := ⟨.hbm, 122, rfl⟩
abbrev main_v83_1 : Ref sig .tc := ⟨.hbm, 123, rfl⟩
abbrev main_v83_2 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2048x512 : Shape := ⟨2, ![2048, 512]⟩
abbrev S8x2048x64 : Shape := ⟨3, ![8, 2048, 64]⟩
abbrev S8x2048 : Shape := ⟨2, ![8, 2048]⟩
abbrev S2048x8x64 : Shape := ⟨3, ![2048, 8, 64]⟩
abbrev S8x2048x2048 : Shape := ⟨3, ![8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x2048x1 : Shape := ⟨3, ![8, 2048, 1]⟩
abbrev S1x8x2048 : Shape := ⟨3, ![1, 8, 2048]⟩
abbrev S3x8x2048 : Shape := ⟨3, ![3, 8, 2048]⟩
abbrev S3x8x2048x1 : Shape := ⟨4, ![3, 8, 2048, 1]⟩
abbrev S1x8x2048x64 : Shape := ⟨4, ![1, 8, 2048, 64]⟩
abbrev S3x8x2048x64 : Shape := ⟨4, ![3, 8, 2048, 64]⟩
abbrev S8x64x2048 : Shape := ⟨3, ![8, 64, 2048]⟩
abbrev S128x8192 : Shape := ⟨2, ![128, 8192]⟩

abbrev nBuf : Space → Nat
  | .hbm => 233
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S8x2048x64, .f32⟩
  | 4 => ⟨S8x2048, .f32⟩
  | 5 => ⟨S8x2048x64, .f32⟩
  | 6 => ⟨S8x2048, .f32⟩
  | 7 => ⟨S2048x512, .f32⟩
  | 8 => ⟨S2048x8x64, .f32⟩
  | 9 => ⟨S8x2048x64, .f32⟩
  | 10 => ⟨S2048x8x64, .f32⟩
  | 11 => ⟨S8x2048x64, .f32⟩
  | 12 => ⟨S2048x8x64, .f32⟩
  | 13 => ⟨S8x2048x64, .f32⟩
  | 14 => ⟨S8x2048x2048, .f32⟩
  | 15 => ⟨S2048, .i32⟩
  | 16 => ⟨S2048x1, .i32⟩
  | 17 => ⟨S2048, .i32⟩
  | 18 => ⟨S1x2048, .i32⟩
  | 19 => ⟨S2048x2048, .i32⟩
  | 20 => ⟨S2048x2048, .i32⟩
  | 21 => ⟨S2048x2048, .i32⟩
  | 22 => ⟨S_, .i32⟩
  | 23 => ⟨S2048x2048, .i32⟩
  | 24 => ⟨S2048x2048, .i1⟩
  | 25 => ⟨S_, .i32⟩
  | 26 => ⟨S2048x2048, .i32⟩
  | 27 => ⟨S2048x2048, .i1⟩
  | 28 => ⟨S2048x2048, .i1⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S2048x2048, .i32⟩
  | 36 => ⟨S2048x2048, .i32⟩
  | 37 => ⟨S_, .i32⟩
  | 38 => ⟨S2048x2048, .i32⟩
  | 39 => ⟨S2048x2048, .i1⟩
  | 40 => ⟨S_, .i32⟩
  | 41 => ⟨S2048x2048, .i32⟩
  | 42 => ⟨S2048x2048, .i1⟩
  | 43 => ⟨S_, .i32⟩
  | 44 => ⟨S_, .i1⟩
  | 45 => ⟨S2048x2048, .i1⟩
  | 46 => ⟨S2048x2048, .i1⟩
  | 47 => ⟨S2048x2048, .i1⟩
  | 48 => ⟨S2048x2048, .i32⟩
  | 49 => ⟨S2048x2048, .i32⟩
  | 50 => ⟨S2048x2048, .i32⟩
  | 51 => ⟨S_, .i32⟩
  | 52 => ⟨S2048x2048, .i32⟩
  | 53 => ⟨S2048x2048, .i1⟩
  | 54 => ⟨S2048x2048, .i1⟩
  | 55 => ⟨S_, .f32⟩
  | 56 => ⟨S_, .f32⟩
  | 57 => ⟨S8x2048x2048, .i1⟩
  | 58 => ⟨S8x2048x2048, .f32⟩
  | 59 => ⟨S8x2048x2048, .f32⟩
  | 60 => ⟨S_, .f32⟩
  | 61 => ⟨S8x2048x2048, .f32⟩
  | 62 => ⟨S_, .f32⟩
  | 63 => ⟨S8x2048, .f32⟩
  | 64 => ⟨S8x2048x1, .f32⟩
  | 65 => ⟨S8x2048x2048, .f32⟩
  | 66 => ⟨S8x2048x2048, .i1⟩
  | 67 => ⟨S8x2048x2048, .f32⟩
  | 68 => ⟨S_, .f32⟩
  | 69 => ⟨S8x2048, .f32⟩
  | 70 => ⟨S8x2048x1, .f32⟩
  | 71 => ⟨S8x2048x2048, .f32⟩
  | 72 => ⟨S8x2048x2048, .f32⟩
  | 73 => ⟨S8x2048x2048, .f32⟩
  | 74 => ⟨S_, .f32⟩
  | 75 => ⟨S8x2048, .f32⟩
  | 76 => ⟨S8x2048x1, .f32⟩
  | 77 => ⟨S8x2048x64, .f32⟩
  | 78 => ⟨S8x2048x64, .f32⟩
  | 79 => ⟨S8x2048x64, .f32⟩
  | 80 => ⟨S8x2048x1, .f32⟩
  | 81 => ⟨S_, .f32⟩
  | 82 => ⟨S8x2048x1, .f32⟩
  | 83 => ⟨S8x2048x1, .f32⟩
  | 84 => ⟨S8x2048x1, .f32⟩
  | 85 => ⟨S8x2048x1, .f32⟩
  | 86 => ⟨S8x2048, .f32⟩
  | 87 => ⟨S1x8x2048, .f32⟩
  | 88 => ⟨S1x8x2048, .f32⟩
  | 89 => ⟨S1x8x2048, .f32⟩
  | 90 => ⟨S3x8x2048, .f32⟩
  | 91 => ⟨S_, .f32⟩
  | 92 => ⟨S8x2048, .f32⟩
  | 93 => ⟨S_, .f32⟩
  | 94 => ⟨S8x2048, .f32⟩
  | 95 => ⟨S_, .f32⟩
  | 96 => ⟨S8x2048, .f32⟩
  | 97 => ⟨S1x8x2048, .f32⟩
  | 98 => ⟨S3x8x2048, .f32⟩
  | 99 => ⟨S3x8x2048, .i1⟩
  | 100 => ⟨S3x8x2048, .f32⟩
  | 101 => ⟨S_, .f32⟩
  | 102 => ⟨S8x2048, .f32⟩
  | 103 => ⟨S_, .f32⟩
  | 104 => ⟨S8x2048, .f32⟩
  | 105 => ⟨S8x2048, .f32⟩
  | 106 => ⟨S_, .f32⟩
  | 107 => ⟨S8x2048, .f32⟩
  | 108 => ⟨S8x2048, .i1⟩
  | 109 => ⟨S_, .f32⟩
  | 110 => ⟨S8x2048, .f32⟩
  | 111 => ⟨S8x2048, .i1⟩
  | 112 => ⟨S_, .f32⟩
  | 113 => ⟨S8x2048, .f32⟩
  | 114 => ⟨S_, .f32⟩
  | 115 => ⟨S8x2048, .f32⟩
  | 116 => ⟨S_, .f32⟩
  | 117 => ⟨S8x2048, .f32⟩
  | 118 => ⟨S8x2048, .f32⟩
  | 119 => ⟨S8x2048, .f32⟩
  | 120 => ⟨S1x8x2048, .f32⟩
  | 121 => ⟨S3x8x2048, .f32⟩
  | 122 => ⟨S3x8x2048, .f32⟩
  | 123 => ⟨S3x8x2048, .f32⟩
  | 124 => ⟨S_, .f32⟩
  | 125 => ⟨S8x2048, .f32⟩
  | 126 => ⟨S1x8x2048, .f32⟩
  | 127 => ⟨S3x8x2048, .f32⟩
  | _ => ⟨S2048x512, .f32⟩

abbrev hbmTy0_1 (i : Nat) : BufTy := match i % 128 with
  | 0 => ⟨S3x8x2048, .f32⟩
  | 1 => ⟨S1x8x2048, .f32⟩
  | 2 => ⟨S_, .f32⟩
  | 3 => ⟨S1x8x2048, .f32⟩
  | 4 => ⟨S1x8x2048, .f32⟩
  | 5 => ⟨S3x8x2048x1, .f32⟩
  | 6 => ⟨S1x8x2048x64, .f32⟩
  | 7 => ⟨S1x8x2048x64, .f32⟩
  | 8 => ⟨S1x8x2048x64, .f32⟩
  | 9 => ⟨S3x8x2048x64, .f32⟩
  | 10 => ⟨S_, .f32⟩
  | 11 => ⟨S8x2048x64, .f32⟩
  | 12 => ⟨S_, .f32⟩
  | 13 => ⟨S8x2048x64, .f32⟩
  | 14 => ⟨S3x8x2048x64, .f32⟩
  | 15 => ⟨S3x8x2048x64, .f32⟩
  | 16 => ⟨S_, .f32⟩
  | 17 => ⟨S8x2048x64, .f32⟩
  | 18 => ⟨S2048x8x64, .f32⟩
  | 19 => ⟨S2048x512, .f32⟩
  | 20 => ⟨S2048x8x64, .f32⟩
  | 21 => ⟨S8x2048x64, .f32⟩
  | 22 => ⟨S3x8x2048x64, .f32⟩
  | 23 => ⟨S3x8x2048x64, .f32⟩
  | 24 => ⟨S3x8x2048x64, .f32⟩
  | 25 => ⟨S3x8x2048x64, .f32⟩
  | 26 => ⟨S_, .f32⟩
  | 27 => ⟨S3x8x2048, .f32⟩
  | 28 => ⟨S3x8x2048x1, .f32⟩
  | 29 => ⟨S1x8x2048x64, .f32⟩
  | 30 => ⟨S8x2048x64, .f32⟩
  | 31 => ⟨S1x8x2048x64, .f32⟩
  | 32 => ⟨S8x2048x64, .f32⟩
  | 33 => ⟨S1x8x2048x64, .f32⟩
  | 34 => ⟨S8x2048x64, .f32⟩
  | 35 => ⟨S_, .f32⟩
  | 36 => ⟨S3x8x2048, .f32⟩
  | 37 => ⟨S3x8x2048, .f32⟩
  | 38 => ⟨S3x8x2048, .f32⟩
  | 39 => ⟨S3x8x2048, .f32⟩
  | 40 => ⟨S_, .f32⟩
  | 41 => ⟨S8x2048, .f32⟩
  | 42 => ⟨S1x8x2048, .f32⟩
  | 43 => ⟨S1x8x2048, .f32⟩
  | 44 => ⟨S3x8x2048, .f32⟩
  | 45 => ⟨S3x8x2048, .f32⟩
  | 46 => ⟨S_, .f32⟩
  | 47 => ⟨S8x2048, .f32⟩
  | 48 => ⟨S3x8x2048, .f32⟩
  | 49 => ⟨S3x8x2048, .f32⟩
  | 50 => ⟨S3x8x2048, .f32⟩
  | 51 => ⟨S1x8x2048, .f32⟩
  | 52 => ⟨S8x2048, .f32⟩
  | 53 => ⟨S1x8x2048, .f32⟩
  | 54 => ⟨S8x2048, .f32⟩
  | 55 => ⟨S1x8x2048, .f32⟩
  | 56 => ⟨S8x2048, .f32⟩
  | 57 => ⟨S8x2048x1, .f32⟩
  | 58 => ⟨S8x2048x1, .f32⟩
  | 59 => ⟨S8x2048x64, .f32⟩
  | 60 => ⟨S8x2048x64, .f32⟩
  | 61 => ⟨S8x2048x64, .f32⟩
  | 62 => ⟨S_, .f32⟩
  | 63 => ⟨S8x2048, .f32⟩
  | 64 => ⟨S8x2048x1, .f32⟩
  | 65 => ⟨S8x2048x1, .f32⟩
  | 66 => ⟨S8x2048x1, .f32⟩
  | 67 => ⟨S8x2048x64, .f32⟩
  | 68 => ⟨S8x2048x64, .f32⟩
  | 69 => ⟨S8x64x2048, .f32⟩
  | 70 => ⟨S8x2048x64, .f32⟩
  | 71 => ⟨S8x2048x2048, .f32⟩
  | 72 => ⟨S_, .f32⟩
  | 73 => ⟨S8x2048, .f32⟩
  | 74 => ⟨S8x2048x2048, .f32⟩
  | 75 => ⟨S8x2048x2048, .f32⟩
  | 76 => ⟨S8x2048x2048, .f32⟩
  | 77 => ⟨S8x2048x2048, .f32⟩
  | 78 => ⟨S_, .f32⟩
  | 79 => ⟨S8x2048, .f32⟩
  | 80 => ⟨S8x2048x1, .f32⟩
  | 81 => ⟨S8x2048x1, .f32⟩
  | 82 => ⟨S_, .f32⟩
  | 83 => ⟨S8x2048, .f32⟩
  | 84 => ⟨S8x2048, .f32⟩
  | 85 => ⟨S8x2048x2048, .f32⟩
  | 86 => ⟨S8x2048x2048, .f32⟩
  | 87 => ⟨S8x2048x2048, .f32⟩
  | 88 => ⟨S_, .f32⟩
  | 89 => ⟨S8x2048x2048, .f32⟩
  | 90 => ⟨S8x2048x2048, .f32⟩
  | 91 => ⟨S8x2048x64, .f32⟩
  | 92 => ⟨S8x2048x64, .f32⟩
  | 93 => ⟨S2048x8x64, .f32⟩
  | 94 => ⟨S2048x512, .f32⟩
  | 95 => ⟨S2048x8x64, .f32⟩
  | 96 => ⟨S2048x512, .f32⟩
  | 97 => ⟨S2048x8x64, .f32⟩
  | 98 => ⟨S2048x512, .f32⟩
  | 99 => ⟨S128x8192, .f32⟩
  | 100 => ⟨S128x8192, .bf16⟩
  | 101 => ⟨S128x8192, .f32⟩
  | 102 => ⟨S128x8192, .bf16⟩
  | 103 => ⟨S128x8192, .f32⟩
  | 104 => ⟨S128x8192, .bf16⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v19 : Ref sig .tc := ⟨.hbm, 50, rfl⟩
abbrev main_c_2 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_cst : Ref sig .tc := ⟨.hbm, 55, rfl⟩
abbrev main_call1_v0 : Ref sig .tc := ⟨.hbm, 56, rfl⟩
abbrev main_v23_1 : Ref sig .tc := ⟨.hbm, 57, rfl⟩
abbrev main_call1_v2 : Ref sig .tc := ⟨.hbm, 58, rfl⟩
abbrev main_v23_0 : Ref sig .tc := ⟨.hbm, 59, rfl⟩
abbrev main_call1_cst : Ref sig .tc := ⟨.hbm, 60, rfl⟩
abbrev main_v23_2 : Ref sig .tc := ⟨.hbm, 61, rfl⟩
abbrev main_cst_3 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_4 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_5 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_6 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_cst_7 : Ref sig .tc := ⟨.hbm, 91, rfl⟩
abbrev main_v49 : Ref sig .tc := ⟨.hbm, 92, rfl⟩
abbrev main_cst_8 : Ref sig .tc := ⟨.hbm, 93, rfl⟩
abbrev main_v50 : Ref sig .tc := ⟨.hbm, 94, rfl⟩
abbrev main_cst_9 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_10 : Ref sig .tc := ⟨.hbm, 101, rfl⟩
abbrev main_v56 : Ref sig .tc := ⟨.hbm, 102, rfl⟩
abbrev main_cst_11 : Ref sig .tc := ⟨.hbm, 103, rfl⟩
abbrev main_v57 : Ref sig .tc := ⟨.hbm, 104, rfl⟩
abbrev main_v58 : Ref sig .tc := ⟨.hbm, 105, rfl⟩
abbrev main_cst_12 : Ref sig .tc := ⟨.hbm, 106, rfl⟩
abbrev main_v59 : Ref sig .tc := ⟨.hbm, 107, rfl⟩
abbrev main_v60 : Ref sig .tc := ⟨.hbm, 108, rfl⟩
abbrev main_cst_13 : Ref sig .tc := ⟨.hbm, 109, rfl⟩
abbrev main_v61 : Ref sig .tc := ⟨.hbm, 110, rfl⟩
abbrev main_v62 : Ref sig .tc := ⟨.hbm, 111, rfl⟩
abbrev main_cst_14 : Ref sig .tc := ⟨.hbm, 112, rfl⟩
abbrev main_v63 : Ref sig .tc := ⟨.hbm, 113, rfl⟩
abbrev main_cst_15 : Ref sig .tc := ⟨.hbm, 114, rfl⟩
abbrev main_v64 : Ref sig .tc := ⟨.hbm, 115, rfl⟩
abbrev main_cst_16 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_cst_17 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_18 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_cst_19 : Ref sig .tc := ⟨.hbm, 138, rfl⟩
abbrev main_v84 : Ref sig .tc := ⟨.hbm, 139, rfl⟩
abbrev main_cst_20 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_21 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_cst_22 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_cst_23 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_24 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_cst_25 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_cst_26 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_cst_27 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_28 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_cst_29 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_call2_cst : Ref sig .tc := ⟨.hbm, 216, rfl⟩
abbrev main_call2_v0 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩

abbrev nD : Nat := 1
abbrev τ : Topo := Topo.v7x

variable {F : FTy → Type} [FloatOps F]
-- ==== Kernel2.lean ====
abbrev S2048x1024 : Shape := ⟨2, ![2048, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S2048x2816 : Shape := ⟨2, ![2048, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024x1024 : Shape := ⟨2, ![1024, 1024]⟩
abbrev S768x1024 : Shape := ⟨2, ![768, 1024]⟩
abbrev S256x768 : Shape := ⟨2, ![256, 768]⟩
abbrev S2048x256 : Shape := ⟨2, ![2048, 256]⟩

abbrev nBuf : Space → Nat
  | .hbm => 29
  | .vmem => 46
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S2816x1024, .f32⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S2816x1024, .bf16⟩
  | .hbm, ⟨12, _⟩ => ⟨S1x1024, .f32⟩
  | .hbm, ⟨13, _⟩ => ⟨S1x1024, .f32⟩
  | .hbm, ⟨14, _⟩ => ⟨S2048x1024, .bf16⟩
  | .hbm, ⟨15, _⟩ => ⟨S2048x2816, .bf16⟩
  | .hbm, ⟨16, _⟩ => ⟨S2048x2816, .bf16⟩
  | .hbm, ⟨17, _⟩ => ⟨S2048x2816, .bf16⟩
  | .hbm, ⟨18, _⟩ => ⟨S2048x1024, .bf16⟩
  | .hbm, ⟨19, _⟩ => ⟨S2048x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S2816x1024, .f32⟩
  | .hbm, ⟨24, _⟩ => ⟨S2816x1024, .f32⟩
  | .hbm, ⟨25, _⟩ => ⟨S2816x1024, .bf16⟩
  | .hbm, ⟨26, _⟩ => ⟨S2816x1024, .bf16⟩
  | .hbm, ⟨27, _⟩ => ⟨S2816x1024, .f32⟩
  | .hbm, ⟨28, _⟩ => ⟨S2816x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S2816x1024, .bf16⟩
  | .local _ .vmem, ⟨5, _⟩ => ⟨S2816x1024, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S256x2816, .f32⟩
  | .local _ .vmem, ⟨25, _⟩ => ⟨S256x2816, .f32⟩
  | .local _ .vmem, ⟨26, _⟩ => ⟨S2048x256, .bf16⟩
  | .local _ .vmem, ⟨27, _⟩ => ⟨S2048x256, .bf16⟩
  | .local _ .vmem, ⟨28, _⟩ => ⟨S2048x256, .bf16⟩
  | .local _ .vmem, ⟨29, _⟩ => ⟨S2048x256, .bf16⟩
  | .local _ .vmem, ⟨30, _⟩ => ⟨S2048x1024, .bf16⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S2048x256, .bf16⟩
  | .local _ .vmem, ⟨40, _⟩ => ⟨S2048x256, .bf16⟩
  | .local _ .vmem, ⟨41, _⟩ => ⟨S2048x1024, .bf16⟩
  | .local _ .vmem, ⟨42, _⟩ => ⟨S256x1024, .f32⟩
  | .local _ .vmem, ⟨43, _⟩ => ⟨S256x1024, .f32⟩
  | .local _ .vmem, ⟨44, _⟩ => ⟨S256x1024, .bf16⟩
  | .local _ .vmem, ⟨45, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_v7_7 : Ref sig .tc := ⟨.hbm, 21, rfl⟩
abbrev main_v7_8 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v8_3 : Ref sig .tc := ⟨.hbm, 26, rfl⟩
abbrev main_v9_0 : Ref sig .tc := ⟨.hbm, 27, rfl⟩
abbrev main_v9_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg4_1 : Ref sig .tc := ⟨.vmem, 34, rfl⟩
abbrev cc1_stg5_0 : Ref sig .tc := ⟨.vmem, 35, rfl⟩
abbrev cc1_stg5_1 : Ref sig .tc := ⟨.vmem, 36, rfl⟩
abbrev cc1_stg6_0 : Ref sig .tc := ⟨.vmem, 37, rfl⟩
abbrev cc1_stg6_1 : Ref sig .tc := ⟨.vmem, 38, rfl⟩
abbrev cc2_stg0_0 : Ref sig .tc := ⟨.vmem, 39, rfl⟩
abbrev cc2_stg0_1 : Ref sig .tc := ⟨.vmem, 40, rfl⟩
abbrev cc2_stg1_0 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_stg3_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem5_1 : DmaSem sig := 34
abbrev cc1_sem6_0 : DmaSem sig := 35
abbrev cc1_sem6_1 : DmaSem sig := 36
abbrev cc2_sem0_0 : DmaSem sig := 37
abbrev cc2_sem0_1 : DmaSem sig := 38
abbrev cc2_sem1_0 : DmaSem sig := 39
abbrev cc2_sem2_0 : DmaSem sig := 40
abbrev cc2_sem2_1 : DmaSem sig := 41
abbrev cc2_sem3_0 : DmaSem sig := 42
abbrev cc2_sem3_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![11], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== Reference2Ideal.lean ====
abbrev S2048x1024 : Shape := ⟨2, ![2048, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x2816 : Shape := ⟨2, ![2048, 2816]⟩

abbrev nBuf : Space → Nat
  | .hbm => 162
  | .vmem => 0
  | .smem => 0
  | _ => 0

abbrev hbmTy0_0 (i : Nat) : BufTy := match i % 128 with
  | 0 => ⟨S2048x1024, .f32⟩
  | 1 => ⟨S2048x1024, .f32⟩
  | 2 => ⟨S1024x2816, .f32⟩
  | 3 => ⟨S1024x2816, .f32⟩
  | 4 => ⟨S2816x1024, .f32⟩
  | 5 => ⟨S1024, .f32⟩
  | 6 => ⟨S1024, .f32⟩
  | 7 => ⟨S2048x1024, .f32⟩
  | 8 => ⟨S_, .f32⟩
  | 9 => ⟨S2048, .f32⟩
  | 10 => ⟨S2048x1, .f32⟩
  | 11 => ⟨S_, .f32⟩
  | 12 => ⟨S2048x1, .f32⟩
  | 13 => ⟨S2048x1, .f32⟩
  | 14 => ⟨S_, .f32⟩
  | 15 => ⟨S2048x1, .f32⟩
  | 16 => ⟨S2048x1, .f32⟩
  | 17 => ⟨S2048x1, .f32⟩
  | 18 => ⟨S2048x1, .f32⟩
  | 19 => ⟨S_, .f32⟩
  | 20 => ⟨S2048x1, .f32⟩
  | 21 => ⟨S2048x1, .f32⟩
  | 22 => ⟨S2048x1024, .f32⟩
  | 23 => ⟨S2048x1024, .f32⟩
  | 24 => ⟨S1x1024, .f32⟩
  | 25 => ⟨S2048x1024, .f32⟩
  | 26 => ⟨S2048x1024, .f32⟩
  | 27 => ⟨S2048x2816, .f32⟩
  | 28 => ⟨S2048x2816, .f32⟩
  | 29 => ⟨S2048x2816, .f32⟩
  | 30 => ⟨S_, .f32⟩
  | 31 => ⟨S2048x2816, .f32⟩
  | 32 => ⟨S2048x2816, .f32⟩
  | 33 => ⟨S_, .f32⟩
  | 34 => ⟨S2048x2816, .f32⟩
  | 35 => ⟨S2048x2816, .f32⟩
  | 36 => ⟨S_, .f32⟩
  | 37 => ⟨S2048x2816, .f32⟩
  | 38 => ⟨S2048x2816, .f32⟩
  | 39 => ⟨S2048x2816, .f32⟩
  | 40 => ⟨S2048x2816, .f32⟩
  | 41 => ⟨S2048x2816, .f32⟩
  | 42 => ⟨S2048x2816, .f32⟩
  | 43 => ⟨S2048x1024, .f32⟩
  | 44 => ⟨S2048x1024, .f32⟩
  | 45 => ⟨S_, .f32⟩
  | 46 => ⟨S2048, .f32⟩
  | 47 => ⟨S2048x1, .f32⟩
  | 48 => ⟨S_, .f32⟩
  | 49 => ⟨S2048x1, .f32⟩
  | 50 => ⟨S2048x1, .f32⟩
  | 51 => ⟨S_, .f32⟩
  | 52 => ⟨S2048x1, .f32⟩
  | 53 => ⟨S2048x1, .f32⟩
  | 54 => ⟨S2048x1, .f32⟩
  | 55 => ⟨S2048x1, .f32⟩
  | 56 => ⟨S_, .f32⟩
  | 57 => ⟨S2048x1, .f32⟩
  | 58 => ⟨S2048x1, .f32⟩
  | 59 => ⟨S2048x1024, .f32⟩
  | 60 => ⟨S2048x1024, .f32⟩
  | 61 => ⟨S1x1024, .f32⟩
  | 62 => ⟨S2048x1024, .f32⟩
  | 63 => ⟨S2048x1024, .f32⟩
  | 64 => ⟨S2048x1024, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S_, .f32⟩
  | 71 => ⟨S2048, .f32⟩
  | 72 => ⟨S_, .f32⟩
  | 73 => ⟨S2048, .f32⟩
  | 74 => ⟨S2048, .f32⟩
  | 75 => ⟨S_, .f32⟩
  | 76 => ⟨S_, .f32⟩
  | 77 => ⟨S_, .f32⟩
  | 78 => ⟨S_, .f32⟩
  | 79 => ⟨S_, .f32⟩
  | 80 => ⟨S1024, .f32⟩
  | 81 => ⟨S_, .f32⟩
  | 82 => ⟨S_, .f32⟩
  | 83 => ⟨S_, .f32⟩
  | 84 => ⟨S2048, .f32⟩
  | 85 => ⟨S_, .f32⟩
  | 86 => ⟨S2048, .f32⟩
  | 87 => ⟨S2048, .f32⟩
  | 88 => ⟨S2048x1024, .f32⟩
  | 89 => ⟨S2048x1024, .f32⟩
  | 90 => ⟨S2048x1024, .f32⟩
  | 91 => ⟨S_, .f32⟩
  | 92 => ⟨S1024, .f32⟩
  | 93 => ⟨S1x1024, .f32⟩
  | 94 => ⟨S2048x1024, .f32⟩
  | 95 => ⟨S2048x1024, .f32⟩
  | 96 => ⟨S_, .f32⟩
  | 97 => ⟨S1024, .f32⟩
  | 98 => ⟨S2048x1024, .f32⟩
  | 99 => ⟨S_, .f32⟩
  | 100 => ⟨S2048, .f32⟩
  | 101 => ⟨S2048x1, .f32⟩
  | 102 => ⟨S2048x1024, .f32⟩
  | 103 => ⟨S2048x1024, .f32⟩
  | 104 => ⟨S2048x1, .f32⟩
  | 105 => ⟨S_, .f32⟩
  | 106 => ⟨S2048x1, .f32⟩
  | 107 => ⟨S2048x1, .f32⟩
  | 108 => ⟨S_, .f32⟩
  | 109 => ⟨S2048, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S1024x2816, .f32⟩
  | 116 => ⟨S2816x1024, .f32⟩
  | 117 => ⟨S2048x2816, .f32⟩
  | 118 => ⟨S2048x2816, .f32⟩
  | 119 => ⟨S2048x2816, .f32⟩
  | 120 => ⟨S2816x1024, .f32⟩
  | 121 => ⟨S1024x2816, .f32⟩
  | 122 => ⟨S2048x1024, .f32⟩
  | 123 => ⟨S2048x2816, .f32⟩
  | 124 => ⟨S2048x2816, .f32⟩
  | 125 => ⟨S2048x2816, .f32⟩
  | 126 => ⟨S2048x2816, .f32⟩
  | 127 => ⟨S2816x1024, .f32⟩
  | _ => ⟨S2048x1024, .f32⟩

abbrev hbmTy0_1 (i : Nat) : BufTy := match i % 128 with
  | 0 => ⟨S1024x2816, .f32⟩
  | 1 => ⟨S2048x1024, .f32⟩
  | 2 => ⟨S2048x1024, .f32⟩
  | 3 => ⟨S2048x1024, .f32⟩
  | 4 => ⟨S_, .f32⟩
  | 5 => ⟨S1024, .f32⟩
  | 6 => ⟨S1x1024, .f32⟩
  | 7 => ⟨S2048x1024, .f32⟩
  | 8 => ⟨S2048x1024, .f32⟩
  | 9 => ⟨S_, .f32⟩
  | 10 => ⟨S1024, .f32⟩
  | 11 => ⟨S2048x1024, .f32⟩
  | 12 => ⟨S_, .f32⟩
  | 13 => ⟨S2048, .f32⟩
  | 14 => ⟨S2048x1, .f32⟩
  | 15 => ⟨S2048x1024, .f32⟩
  | 16 => ⟨S2048x1024, .f32⟩
  | 17 => ⟨S2048x1024, .f32⟩
  | 18 => ⟨S2048x1, .f32⟩
  | 19 => ⟨S_, .f32⟩
  | 20 => ⟨S2048x1, .f32⟩
  | 21 => ⟨S2048x1, .f32⟩
  | 22 => ⟨S_, .f32⟩
  | 23 => ⟨S2048, .f32⟩
  | 24 => ⟨S2048x1024, .f32⟩
  | 25 => ⟨S2048x1024, .f32⟩
  | 26 => ⟨S2048x1024, .f32⟩
  | 27 => ⟨S2048x1024, .f32⟩
  | 28 => ⟨S2048x1024, .f32⟩
  | 29 => ⟨S1x1024, .f32⟩
  | 30 => ⟨S1x1024, .f32⟩
  | 31 => ⟨S1x1024, .f32⟩
  | 32 => ⟨S2816x1024, .f32⟩
  | 33 => ⟨S2816x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v17_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v17_1 : Ref sig .tc := ⟨.hbm, 39, rfl⟩
abbrev main_v17_0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_cst_4 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_6 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_cst_12 : Ref sig .tc := ⟨.hbm, 79, rfl⟩
abbrev main_v47 : Ref sig .tc := ⟨.hbm, 80, rfl⟩
abbrev main_cst_13 : Ref sig .tc := ⟨.hbm, 81, rfl⟩
abbrev main_cst_14 : Ref sig .tc := ⟨.hbm, 82, rfl⟩
abbrev main_v48 : Ref sig .tc := ⟨.hbm, 83, rfl⟩
abbrev main_v49 : Ref sig .tc := ⟨.hbm, 84, rfl⟩
abbrev main_cst_15 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_16 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_17 : Ref sig .tc := ⟨.hbm, 96, rfl⟩
abbrev main_v59 : Ref sig .tc := ⟨.hbm, 97, rfl⟩
abbrev main_v60 : Ref sig .tc := ⟨.hbm, 98, rfl⟩
abbrev main_cst_18 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_19 : Ref sig .tc := ⟨.hbm, 105, rfl⟩
abbrev main_v66 : Ref sig .tc := ⟨.hbm, 106, rfl⟩
abbrev main_v67 : Ref sig .tc := ⟨.hbm, 107, rfl⟩
abbrev main_cst_20 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_21 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_22 : Ref sig .tc := ⟨.hbm, 137, rfl⟩
abbrev main_v92 : Ref sig .tc := ⟨.hbm, 138, rfl⟩
abbrev main_v93 : Ref sig .tc := ⟨.hbm, 139, rfl⟩
abbrev main_cst_23 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_cst_24 : Ref sig .tc := ⟨.hbm, 147, rfl⟩
abbrev main_v100 : Ref sig .tc := ⟨.hbm, 148, rfl⟩
abbrev main_v101 : Ref sig .tc := ⟨.hbm, 149, rfl⟩
abbrev main_cst_25 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩

abbrev nD : Nat := 1
abbrev τ : Topo := Topo.v7x

variable {F : FTy → Type} [FloatOps F]
-- ==== Kernel3.lean ====
abbrev S2048x1024 : Shape := ⟨2, ![2048, 1024]⟩
abbrev S2048x2560 : Shape := ⟨2, ![2048, 2560]⟩
abbrev S4x1024x640 : Shape := ⟨3, ![4, 1024, 640]⟩
abbrev S2048x640 : Shape := ⟨2, ![2048, 640]⟩
abbrev S1x1024x640 : Shape := ⟨3, ![1, 1024, 640]⟩
abbrev S1024x640 : Shape := ⟨2, ![1024, 640]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x2560, .bf16⟩
  | .hbm, ⟨2, _⟩ => ⟨S4x1024x640, .f32⟩
  | .hbm, ⟨3, _⟩ => ⟨S4x1024x640, .bf16⟩
  | .local _ .vmem, ⟨0, _⟩ => ⟨S2048x1024, .bf16⟩
  | .local _ .vmem, ⟨1, _⟩ => ⟨S2048x640, .bf16⟩
  | .local _ .vmem, ⟨2, _⟩ => ⟨S2048x640, .bf16⟩
  | .local _ .vmem, ⟨3, _⟩ => ⟨S1x1024x640, .f32⟩
  | .local _ .vmem, ⟨4, _⟩ => ⟨S1x1024x640, .f32⟩
  | .local _ .vmem, ⟨5, _⟩ => ⟨S1x1024x640, .bf16⟩
  | .local _ .vmem, ⟨6, _⟩ => ⟨S1x1024x640, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2048x1024 : Shape := ⟨2, ![2048, 1024]⟩
abbrev S2048x2560 : Shape := ⟨2, ![2048, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2560, .bf16⟩
  | .hbm, ⟨2, _⟩ => ⟨S_, .f32⟩
  | .hbm, ⟨3, _⟩ => ⟨S1024x2560, .f32⟩
  | .hbm, ⟨4, _⟩ => ⟨S2048x1024, .f32⟩
  | .hbm, ⟨5, _⟩ => ⟨S2048x2560, .f32⟩
  | .hbm, ⟨6, _⟩ => ⟨S2048x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S2048x1024 : Shape := ⟨2, ![2048, 1024]⟩
abbrev S4x256x1024 : Shape := ⟨3, ![4, 256, 1024]⟩
abbrev S2048x256 : Shape := ⟨2, ![2048, 256]⟩
abbrev S1x256x1024 : Shape := ⟨3, ![1, 256, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4x256x1024, .f32⟩
  | .hbm, ⟨3, _⟩ => ⟨S4x256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x256x1024, .bf16⟩
  | .local _ .vmem, ⟨6, _⟩ => ⟨S1x256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2048x1024 : Shape := ⟨2, ![2048, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S704x1024 : Shape := ⟨2, ![704, 1024]⟩
abbrev S176x1024 : Shape := ⟨2, ![176, 1024]⟩

abbrev nBuf : Space → Nat
  | .hbm => 24
  | .vmem => 48
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .vmem, ⟨20, _⟩ => ⟨S176x1024, .f32⟩
  | .local _ .vmem, ⟨21, _⟩ => ⟨S176x1024, .f32⟩
  | .local _ .vmem, ⟨22, _⟩ => ⟨S176x1024, .f32⟩
  | .local _ .vmem, ⟨23, _⟩ => ⟨S176x1024, .f32⟩
  | .local _ .vmem, ⟨24, _⟩ => ⟨S176x1024, .f32⟩
  | .local _ .vmem, ⟨25, _⟩ => ⟨S176x1024, .f32⟩
  | .local _ .vmem, ⟨26, _⟩ => ⟨S176x1024, .f32⟩
  | .local _ .vmem, ⟨27, _⟩ => ⟨S176x1024, .f32⟩
  | .local _ .vmem, ⟨28, _⟩ => ⟨S176x1024, .f32⟩
  | .local _ .vmem, ⟨29, _⟩ => ⟨S176x1024, .f32⟩
  | .local _ .vmem, ⟨30, _⟩ => ⟨S176x1024, .f32⟩
  | .local _ .vmem, ⟨31, _⟩ => ⟨S176x1024, .f32⟩
  | .local _ .vmem, ⟨32, _⟩ => ⟨S176x1024, .f32⟩
  | .local _ .vmem, ⟨33, _⟩ => ⟨S176x1024, .f32⟩
  | .local _ .vmem, ⟨34, _⟩ => ⟨S176x1024, .f32⟩
  | .local _ .vmem, ⟨35, _⟩ => ⟨S176x1024, .f32⟩
  | .local _ .vmem, ⟨36, _⟩ => ⟨S176x1024, .f32⟩
  | .local _ .vmem, ⟨37, _⟩ => ⟨S176x1024, .f32⟩
  | .local _ .vmem, ⟨38, _⟩ => ⟨S176x1024, .f32⟩
  | .local _ .vmem, ⟨39, _⟩ => ⟨S176x1024, .f32⟩
  | .local _ .vmem, ⟨40, _⟩ => ⟨S176x1024, .f32⟩
  | .local _ .vmem, ⟨41, _⟩ => ⟨S176x1024, .f32⟩
  | .local _ .vmem, ⟨42, _⟩ => ⟨S176x1024, .f32⟩
  | .local _ .vmem, ⟨43, _⟩ => ⟨S176x1024, .f32⟩
  | .local _ .vmem, ⟨44, _⟩ => ⟨S176x1024, .f32⟩
  | .local _ .vmem, ⟨45, _⟩ => ⟨S176x1024, .f32⟩
  | .local _ .vmem, ⟨46, _⟩ => ⟨S176x1024, .f32⟩
  | .local _ .vmem, ⟨47, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S176x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S176x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S176x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S176x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S176x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S176x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S176x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S176x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference5Ideal.lean ====
abbrev S704x1024 : Shape := ⟨2, ![704, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | .hbm, ⟨45, _⟩ => ⟨S_, .f32⟩
  | .hbm, ⟨46, _⟩ => ⟨S704x1024, .f32⟩
  | .hbm, ⟨47, _⟩ => ⟨S704x1024, .f32⟩
  | .hbm, ⟨48, _⟩ => ⟨S_, .f32⟩
  | .hbm, ⟨49, _⟩ => ⟨S704x1024, .f32⟩
  | .hbm, ⟨50, _⟩ => ⟨S704x1024, .f32⟩
  | .hbm, ⟨51, _⟩ => ⟨S704x1024, .f32⟩
  | .hbm, ⟨52, _⟩ => ⟨S_, .f32⟩
  | .hbm, ⟨53, _⟩ => ⟨S704x1024, .f32⟩
  | .hbm, ⟨54, _⟩ => ⟨S704x1024, .f32⟩
  | .hbm, ⟨55, _⟩ => ⟨S704x1024, .f32⟩
  | .hbm, ⟨56, _⟩ => ⟨S_, .f32⟩
  | .hbm, ⟨57, _⟩ => ⟨S704x1024, .f32⟩
  | .hbm, ⟨58, _⟩ => ⟨S704x1024, .f32⟩
  | .hbm, ⟨59, _⟩ => ⟨S704x1024, .f32⟩
  | .hbm, ⟨60, _⟩ => ⟨S_, .f32⟩
  | .hbm, ⟨61, _⟩ => ⟨S704x1024, .f32⟩
  | .hbm, ⟨62, _⟩ => ⟨S704x1024, .f32⟩
  | .hbm, ⟨63, _⟩ => ⟨S_, .f32⟩
  | .hbm, ⟨64, _⟩ => ⟨S704x1024, .f32⟩
  | .hbm, ⟨65, _⟩ => ⟨S704x1024, .f32⟩
  | .hbm, ⟨66, _⟩ => ⟨S704x1024, .f32⟩
  | .hbm, ⟨67, _⟩ => ⟨S_, .f32⟩
  | .hbm, ⟨68, _⟩ => ⟨S704x1024, .f32⟩
  | .hbm, ⟨69, _⟩ => ⟨S704x1024, .f32⟩
  | .hbm, ⟨70, _⟩ => ⟨S704x1024, .f32⟩
  | .hbm, ⟨71, _⟩ => ⟨S_, .f32⟩
  | .hbm, ⟨72, _⟩ => ⟨S704x1024, .f32⟩
  | .hbm, ⟨73, _⟩ => ⟨S704x1024, .f32⟩
  | .hbm, ⟨74, _⟩ => ⟨S704x1024, .f32⟩
  | .hbm, ⟨75, _⟩ => ⟨S_, .f32⟩
  | .hbm, ⟨76, _⟩ => ⟨S704x1024, .f32⟩
  | .hbm, ⟨77, _⟩ => ⟨S704x1024, .f32⟩
  | .hbm, ⟨78, _⟩ => ⟨S_, .f32⟩
  | .hbm, ⟨79, _⟩ => ⟨S704x1024, .f32⟩
  | .hbm, ⟨80, _⟩ => ⟨S704x1024, .f32⟩
  | .hbm, ⟨81, _⟩ => ⟨S_, .f32⟩
  | .hbm, ⟨82, _⟩ => ⟨S704x1024, .f32⟩
  | .hbm, ⟨83, _⟩ => ⟨S704x1024, .f32⟩
  | .hbm, ⟨84, _⟩ => ⟨S704x1024, .f32⟩
  | .hbm, ⟨85, _⟩ => ⟨S_, .f32⟩
  | .hbm, ⟨86, _⟩ => ⟨S704x1024, .f32⟩
  | .hbm, ⟨87, _⟩ => ⟨S704x1024, .f32⟩
  | .hbm, ⟨88, _⟩ => ⟨S704x1024, .f32⟩
  | .hbm, ⟨89, _⟩ => ⟨S_, .f32⟩
  | .hbm, ⟨90, _⟩ => ⟨S704x1024, .f32⟩
  | .hbm, ⟨91, _⟩ => ⟨S704x1024, .f32⟩
  | .hbm, ⟨92, _⟩ => ⟨S704x1024, .f32⟩
  | .hbm, ⟨93, _⟩ => ⟨S_, .f32⟩
  | .hbm, ⟨94, _⟩ => ⟨S704x1024, .f32⟩
  | .hbm, ⟨95, _⟩ => ⟨S704x1024, .f32⟩
  | .hbm, ⟨96, _⟩ => ⟨S_, .f32⟩
  | .hbm, ⟨97, _⟩ => ⟨S704x1024, .f32⟩
  | .hbm, ⟨98, _⟩ => ⟨S704x1024, .f32⟩
  | .hbm, ⟨99, _⟩ => ⟨S704x1024, .f32⟩
  | .hbm, ⟨100, _⟩ => ⟨S_, .f32⟩
  | .hbm, ⟨101, _⟩ => ⟨S704x1024, .f32⟩
  | .hbm, ⟨102, _⟩ => ⟨S704x1024, .f32⟩
  | .hbm, ⟨103, _⟩ => ⟨S704x1024, .f32⟩
  | .hbm, ⟨104, _⟩ => ⟨S_, .f32⟩
  | .hbm, ⟨105, _⟩ => ⟨S704x1024, .f32⟩
  | .hbm, ⟨106, _⟩ => ⟨S704x1024, .f32⟩
  | .hbm, ⟨107, _⟩ => ⟨S704x1024, .f32⟩
  | .hbm, ⟨108, _⟩ => ⟨S_, .f32⟩
  | .hbm, ⟨109, _⟩ => ⟨S704x1024, .f32⟩
  | .hbm, ⟨110, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel6.lean ====
abbrev S1024x640 : Shape := ⟨2, ![1024, 640]⟩
abbrev S256x1024 : Shape := ⟨2, ![256, 1024]⟩
abbrev S256x640 : Shape := ⟨2, ![256, 640]⟩
abbrev S64x1024 : Shape := ⟨2, ![64, 1024]⟩

abbrev nBuf : Space → Nat
  | .hbm => 16
  | .vmem => 32
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S1024x640, .f32⟩
  | .hbm, ⟨9, _⟩ => ⟨S1024x640, .f32⟩
  | .hbm, ⟨10, _⟩ => ⟨S1024x640, .f32⟩
  | .hbm, ⟨11, _⟩ => ⟨S1024x640, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .local _ .vmem, ⟨0, _⟩ => ⟨S256x640, .f32⟩
  | .local _ .vmem, ⟨1, _⟩ => ⟨S256x640, .f32⟩
  | .local _ .vmem, ⟨2, _⟩ => ⟨S64x1024, .f32⟩
  | .local _ .vmem, ⟨3, _⟩ => ⟨S64x1024, .f32⟩
  | .local _ .vmem, ⟨4, _⟩ => ⟨S256x640, .f32⟩
  | .local _ .vmem, ⟨5, _⟩ => ⟨S256x640, .f32⟩
  | .local _ .vmem, ⟨6, _⟩ => ⟨S64x1024, .f32⟩
  | .local _ .vmem, ⟨7, _⟩ => ⟨S64x1024, .f32⟩
  | .local _ .vmem, ⟨8, _⟩ => ⟨S256x640, .f32⟩
  | .local _ .vmem, ⟨9, _⟩ => ⟨S256x640, .f32⟩
  | .local _ .vmem, ⟨10, _⟩ => ⟨S64x1024, .f32⟩
  | .local _ .vmem, ⟨11, _⟩ => ⟨S64x1024, .f32⟩
  | .local _ .vmem, ⟨12, _⟩ => ⟨S256x640, .f32⟩
  | .local _ .vmem, ⟨13, _⟩ => ⟨S256x640, .f32⟩
  | .local _ .vmem, ⟨14, _⟩ => ⟨S64x1024, .f32⟩
  | .local _ .vmem, ⟨15, _⟩ => ⟨S64x1024, .f32⟩
  | .local _ .vmem, ⟨16, _⟩ => ⟨S256x640, .f32⟩
  | .local _ .vmem, ⟨17, _⟩ => ⟨S256x640, .f32⟩
  | .local _ .vmem, ⟨18, _⟩ => ⟨S256x640, .f32⟩
  | .local _ .vmem, ⟨19, _⟩ => ⟨S256x640, .f32⟩
  | .local _ .vmem, ⟨20, _⟩ => ⟨S256x640, .f32⟩
  | .local _ .vmem, ⟨21, _⟩ => ⟨S256x640, .f32⟩
  | .local _ .vmem, ⟨22, _⟩ => ⟨S256x640, .f32⟩
  | .local _ .vmem, ⟨23, _⟩ => ⟨S256x640, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | _, _ => ⟨S1024x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x640 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference6Ideal.lean ====
abbrev S1024x640 : Shape := ⟨2, ![1024, 640]⟩
abbrev S256x1024 : Shape := ⟨2, ![256, 1024]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S1024x640, .f32⟩
  | .hbm, ⟨1, _⟩ => ⟨S1024x640, .f32⟩
  | .hbm, ⟨2, _⟩ => ⟨S1024x640, .f32⟩
  | .hbm, ⟨3, _⟩ => ⟨S1024x640, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S1024x640, .f32⟩
  | .hbm, ⟨10, _⟩ => ⟨S1024x640, .f32⟩
  | .hbm, ⟨11, _⟩ => ⟨S_, .f32⟩
  | .hbm, ⟨12, _⟩ => ⟨S1024x640, .f32⟩
  | .hbm, ⟨13, _⟩ => ⟨S1024x640, .f32⟩
  | .hbm, ⟨14, _⟩ => ⟨S1024x640, .f32⟩
  | .hbm, ⟨15, _⟩ => ⟨S_, .f32⟩
  | .hbm, ⟨16, _⟩ => ⟨S1024x640, .f32⟩
  | .hbm, ⟨17, _⟩ => ⟨S1024x640, .f32⟩
  | .hbm, ⟨18, _⟩ => ⟨S1024x640, .f32⟩
  | .hbm, ⟨19, _⟩ => ⟨S_, .f32⟩
  | .hbm, ⟨20, _⟩ => ⟨S1024x640, .f32⟩
  | .hbm, ⟨21, _⟩ => ⟨S1024x640, .f32⟩
  | .hbm, ⟨22, _⟩ => ⟨S1024x640, .f32⟩
  | .hbm, ⟨23, _⟩ => ⟨S_, .f32⟩
  | .hbm, ⟨24, _⟩ => ⟨S1024x640, .f32⟩
  | .hbm, ⟨25, _⟩ => ⟨S1024x640, .f32⟩
  | .hbm, ⟨26, _⟩ => ⟨S_, .f32⟩
  | .hbm, ⟨27, _⟩ => ⟨S1024x640, .f32⟩
  | .hbm, ⟨28, _⟩ => ⟨S1024x640, .f32⟩
  | .hbm, ⟨29, _⟩ => ⟨S1024x640, .f32⟩
  | .hbm, ⟨30, _⟩ => ⟨S_, .f32⟩
  | .hbm, ⟨31, _⟩ => ⟨S1024x640, .f32⟩
  | .hbm, ⟨32, _⟩ => ⟨S1024x640, .f32⟩
  | .hbm, ⟨33, _⟩ => ⟨S1024x640, .f32⟩
  | .hbm, ⟨34, _⟩ => ⟨S_, .f32⟩
  | .hbm, ⟨35, _⟩ => ⟨S1024x640, .f32⟩
  | .hbm, ⟨36, _⟩ => ⟨S1024x640, .f32⟩
  | .hbm, ⟨37, _⟩ => ⟨S1024x640, .f32⟩
  | .hbm, ⟨38, _⟩ => ⟨S_, .f32⟩
  | .hbm, ⟨39, _⟩ => ⟨S1024x640, .f32⟩
  | .hbm, ⟨40, _⟩ => ⟨S1024x640, .f32⟩
  | .hbm, ⟨41, _⟩ => ⟨S_, .f32⟩
  | .hbm, ⟨42, _⟩ => ⟨S256x1024, .f32⟩
  | .hbm, ⟨43, _⟩ => ⟨S256x1024, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S256x1024, .f32⟩
  | .hbm, ⟨58, _⟩ => ⟨S256x1024, .f32⟩
  | .hbm, ⟨59, _⟩ => ⟨S_, .f32⟩
  | .hbm, ⟨60, _⟩ => ⟨S256x1024, .f32⟩
  | .hbm, ⟨61, _⟩ => ⟨S256x1024, .f32⟩
  | .hbm, ⟨62, _⟩ => ⟨S256x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S_, .f32⟩
  | .hbm, ⟨72, _⟩ => ⟨S256x1024, .f32⟩
  | .hbm, ⟨73, _⟩ => ⟨S256x1024, .f32⟩
  | _, _ => ⟨S1024x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_cst_9 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_11 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_v35 : Ref sig .tc := ⟨.hbm, 57, rfl⟩
abbrev main_v36 : Ref sig .tc := ⟨.hbm, 58, rfl⟩
abbrev main_cst_13 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_14 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_16 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]
-- ==== Kernel7.lean ====
abbrev S8x1024 : Shape := ⟨2, ![8, 1024]⟩
abbrev S8x8x1024 : Shape := ⟨3, ![8, 8, 1024]⟩
abbrev S1 : Shape := ⟨1, ![1]⟩
abbrev S1x8x1024 : Shape := ⟨3, ![1, 8, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x1024, .f32⟩
  | .hbm, ⟨1, _⟩ => ⟨S8x8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .local _ .vmem, ⟨0, _⟩ => ⟨S8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .smem, ⟨0, _⟩ => ⟨S1, .i32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S8x1024 : Shape := ⟨2, ![8, 1024]⟩
abbrev S8x8x1024 : Shape := ⟨3, ![8, 8, 1024]⟩
abbrev S1 : Shape := ⟨1, ![1]⟩
abbrev S8 : Shape := ⟨1, ![8]⟩
abbrev S8x1x1 : Shape := ⟨3, ![8, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S1, .i32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x8x1024, .i1⟩
  | .hbm, ⟨12, _⟩ => ⟨S8x8x1024, .f32⟩
  | .hbm, ⟨13, _⟩ => ⟨S8x8x1024, .f32⟩
  | .hbm, ⟨14, _⟩ => ⟨S_, .f32⟩
  | .hbm, ⟨15, _⟩ => ⟨S8x1024, .f32⟩
  | .hbm, ⟨16, _⟩ => ⟨S_, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S_, .f32⟩
  | .hbm, ⟨24, _⟩ => ⟨S8x1024, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S8x1024, .f32⟩
  | .hbm, ⟨31, _⟩ => ⟨S_, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | .hbm, ⟨37, _⟩ => ⟨S8x1024, .f32⟩
  | .hbm, ⟨38, _⟩ => ⟨S_, .f32⟩
  | .hbm, ⟨39, _⟩ => ⟨S8x1024, .f32⟩
  | .hbm, ⟨40, _⟩ => ⟨S8x1024, .f32⟩
  | .hbm, ⟨41, _⟩ => ⟨S8x1024, .f32⟩
  | .hbm, ⟨42, _⟩ => ⟨S_, .f32⟩
  | .hbm, ⟨43, _⟩ => ⟨S8x1024, .f32⟩
  | .hbm, ⟨44, _⟩ => ⟨S8x1024, .f32⟩
  | .hbm, ⟨45, _⟩ => ⟨S8x1024, .f32⟩
  | .hbm, ⟨46, _⟩ => ⟨S_, .f32⟩
  | .hbm, ⟨47, _⟩ => ⟨S8x1024, .f32⟩
  | .hbm, ⟨48, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Kernel8.lean ====
abbrev S1024x128 : Shape := ⟨2, ![1024, 128]⟩
abbrev S8x1024x128 : Shape := ⟨3, ![8, 1024, 128]⟩
abbrev S1 : Shape := ⟨1, ![1]⟩
abbrev S1x1024x128 : Shape := ⟨3, ![1, 1024, 128]⟩

abbrev nBuf : Space → Nat
  | .hbm => 9
  | .vmem => 9
  | .smem => 1
  | _ => 0

abbrev bufTy : (tb : Table) → Fin (tcTables nBuf tb) → BufTy
  | .hbm, ⟨0, _⟩ => ⟨S1024x128, .bf16⟩
  | .hbm, ⟨1, _⟩ => ⟨S8x1024x128, .bf16⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S1024x128, .f32⟩
  | .hbm, ⟨8, _⟩ => ⟨S1024x128, .f32⟩
  | .local _ .vmem, ⟨0, _⟩ => ⟨S1024x128, .bf16⟩
  | .local _ .vmem, ⟨1, _⟩ => ⟨S8x1024x128, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .smem, ⟨0, _⟩ => ⟨S1, .i32⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S1024x128 : Shape := ⟨2, ![1024, 128]⟩
abbrev S8x1024x128 : Shape := ⟨3, ![8, 1024, 128]⟩
abbrev S1 : Shape := ⟨1, ![1]⟩
abbrev S8 : Shape := ⟨1, ![8]⟩
abbrev S8x1x1 : Shape := ⟨3, ![8, 1, 1]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S1024x128, .bf16⟩
  | .hbm, ⟨1, _⟩ => ⟨S8x1024x128, .bf16⟩
  | .hbm, ⟨2, _⟩ => ⟨S1024x128, .f32⟩
  | .hbm, ⟨3, _⟩ => ⟨S1024x128, .f32⟩
  | .hbm, ⟨4, _⟩ => ⟨S1024x128, .f32⟩
  | .hbm, ⟨5, _⟩ => ⟨S1, .i32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S1024x128, .f32⟩
  | .hbm, ⟨12, _⟩ => ⟨S8x1024x128, .f32⟩
  | .hbm, ⟨13, _⟩ => ⟨S8x1024x128, .i1⟩
  | .hbm, ⟨14, _⟩ => ⟨S8x1024x128, .f32⟩
  | .hbm, ⟨15, _⟩ => ⟨S8x1024x128, .f32⟩
  | .hbm, ⟨16, _⟩ => ⟨S_, .f32⟩
  | .hbm, ⟨17, _⟩ => ⟨S1024x128, .f32⟩
  | .hbm, ⟨18, _⟩ => ⟨S_, .f32⟩
  | .hbm, ⟨19, _⟩ => ⟨S1024x128, .f32⟩
  | .hbm, ⟨20, _⟩ => ⟨S1024x128, .f32⟩
  | .hbm, ⟨21, _⟩ => ⟨S_, .f32⟩
  | .hbm, ⟨22, _⟩ => ⟨S1024x128, .f32⟩
  | .hbm, ⟨23, _⟩ => ⟨S1024x128, .f32⟩
  | .hbm, ⟨24, _⟩ => ⟨S1024x128, .f32⟩
  | .hbm, ⟨25, _⟩ => ⟨S_, .f32⟩
  | .hbm, ⟨26, _⟩ => ⟨S1024x128, .f32⟩
  | .hbm, ⟨27, _⟩ => ⟨S1024x128, .f32⟩
  | .hbm, ⟨28, _⟩ => ⟨S1024x128, .f32⟩
  | .hbm, ⟨29, _⟩ => ⟨S_, .f32⟩
  | .hbm, ⟨30, _⟩ => ⟨S1024x128, .f32⟩
  | .hbm, ⟨31, _⟩ => ⟨S1024x128, .f32⟩
  | .hbm, ⟨32, _⟩ => ⟨S1024x128, .f32⟩
  | .hbm, ⟨33, _⟩ => ⟨S_, .f32⟩
  | .hbm, ⟨34, _⟩ => ⟨S1024x128, .f32⟩
  | .hbm, ⟨35, _⟩ => ⟨S1024x128, .f32⟩
  | .hbm, ⟨36, _⟩ => ⟨S_, .f32⟩
  | .hbm, ⟨37, _⟩ => ⟨S1024x128, .f32⟩
  | .hbm, ⟨38, _⟩ => ⟨S1024x128, .f32⟩
  | .hbm, ⟨39, _⟩ => ⟨S1024x128, .f32⟩
  | .hbm, ⟨40, _⟩ => ⟨S_, .f32⟩
  | .hbm, ⟨41, _⟩ => ⟨S1024x128, .f32⟩
  | .hbm, ⟨42, _⟩ => ⟨S1024x128, .f32⟩
  | .hbm, ⟨43, _⟩ => ⟨S1024x128, .f32⟩
  | .hbm, ⟨44, _⟩ => ⟨S_, .f32⟩
  | .hbm, ⟨45, _⟩ => ⟨S1024x128, .f32⟩
  | .hbm, ⟨46, _⟩ => ⟨S1024x128, .f32⟩
  | .hbm, ⟨47, _⟩ => ⟨S1024x128, .f32⟩
  | .hbm, ⟨48, _⟩ => ⟨S_, .f32⟩
  | .hbm, ⟨49, _⟩ => ⟨S1024x128, .f32⟩
  | .hbm, ⟨50, _⟩ => ⟨S1024x128, .f32⟩
  | _, _ => ⟨S1024x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel9.lean ====
abbrev S1x1024 : Shape := ⟨2, ![1, 1024]⟩
abbrev S8x1x1024 : Shape := ⟨3, ![8, 1, 1024]⟩
abbrev S1 : Shape := ⟨1, ![1]⟩
abbrev S1x1x1024 : Shape := ⟨3, ![1, 1, 1024]⟩

abbrev nBuf : Space → Nat
  | .hbm => 9
  | .vmem => 9
  | .smem => 1
  | _ => 0

abbrev bufTy : (tb : Table) → Fin (tcTables nBuf tb) → BufTy
  | .hbm, ⟨0, _⟩ => ⟨S1x1024, .f32⟩
  | .hbm, ⟨1, _⟩ => ⟨S8x1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S1x1024, .f32⟩
  | .local _ .vmem, ⟨1, _⟩ => ⟨S8x1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .smem, ⟨0, _⟩ => ⟨S1, .i32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S1x1024 : Shape := ⟨2, ![1, 1024]⟩
abbrev S8x1x1024 : Shape := ⟨3, ![8, 1, 1024]⟩
abbrev S1 : Shape := ⟨1, ![1]⟩
abbrev S8 : Shape := ⟨1, ![8]⟩
abbrev S8x1x1 : Shape := ⟨3, ![8, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S8x1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1, .i32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x1x1024, .i1⟩
  | .hbm, ⟨12, _⟩ => ⟨S8x1x1024, .f32⟩
  | .hbm, ⟨13, _⟩ => ⟨S8x1x1024, .f32⟩
  | .hbm, ⟨14, _⟩ => ⟨S_, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S_, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== Proof.Reals.lean ====
module

public import Idealize.ShloMosaic.PureOps.Ideal.Laws
public import Idealize.ShloMosaic.Lib.ValueIdx

@[expose] public section

noncomputable section

/-! Real numbers inside the extended reals, and the row of an attention backward pass over the real numbers. -/

namespace Cert.Attn

open Idealize.ShloMosaic
open scoped BigOperators

/-- A finite sum of real numbers is the same sum taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of real numbers with a nonzero denominator is the real quotient. -/
theorem div_real {x y : ℝ} (h : y ≠ 0) : Ideal.div (x : EReal) (y : EReal) = ((x / y : ℝ) : EReal) := by
  rw [Ideal.div_coe h, ← EReal.coe_mul, mul_one_div]

/-- The logarithm of a positive real number is the real logarithm. -/
theorem log_real {x : ℝ} (h : 0 < x) : Ideal.log (x : EReal) = ((Real.log x : ℝ) : EReal) := by
  rw [Ideal.log_coe, if_neg (not_le.mpr h)]

/-- Zero over anything is zero, where the denominator is not zero. -/
theorem div_zero_left {y : EReal} (h : y ≠ 0) : Ideal.div 0 y = 0 := by
  unfold Ideal.div; rw [if_neg h, zero_mul]

/-- The maximum of finitely many values none of which is `⊤` and one of which is real is a real number. -/
theorem fold_max_real {ι : Type*} (s : Finset ι) (f : ι → EReal) (htop : ∀ i ∈ s, f i ≠ ⊤) {i₀ : ι} (hi : i₀ ∈ s)
    (hbot : f i₀ ≠ ⊥) : ∃ r : ℝ, s.fold max ⊥ f = (r : EReal) := by
  classical
  have h1 : s.fold max ⊥ f ≠ ⊤ := by
    have : s.fold max ⊥ f < ⊤ := by
      rw [Finset.fold_max_lt]
      exact ⟨bot_lt_top, fun x hx => lt_top_iff_ne_top.mpr (htop x hx)⟩
    exact this.ne
  have h2 : s.fold max ⊥ f ≠ ⊥ := by
    have : ⊥ < s.fold max ⊥ f := by
      rw [Finset.lt_fold_max]
      exact Or.inr ⟨i₀, hi, bot_lt_iff_ne_bot.mpr hbot⟩
    exact this.ne'
  exact ⟨(s.fold max ⊥ f).toReal, (EReal.coe_toReal h1 h2).symm⟩

/-! ## One row over the real numbers -/

section Row

variable {n D : ℕ} (ok : Fin n → Prop) [DecidablePred ok] (S : Fin n → ℝ) (V : Fin n → Fin D → ℝ)
variable (ct oa ob : Fin D → ℝ) (la lb mx M M' : ℝ)

/-- A row's unnormalised softmax weights: the exponentials of the allowed scores less `mx`. -/
def rowP (s : Fin n) : ℝ := if ok s then Real.exp (S s - mx) else 0

/-- The row's softmax denominator. -/
def rowDen : ℝ := ∑ s, rowP ok S mx s

/-- The row's unnormalised output. -/
def rowU (d : Fin D) : ℝ := ∑ s, rowP ok S mx s * V s d

/-- The row's log-sum. -/
def rowLse : ℝ := mx + Real.log (rowDen ok S mx)

/-- The mixture's denominator of three log-sums, each less `M`. -/
def mixDen (la lb lc M : ℝ) : ℝ := Real.exp (la - M) + Real.exp (lb - M) + Real.exp (lc - M)

/-- The weight of the log-sum `l` in the mixture of `la`, `lb`, `lc`. -/
def mixW (la lb lc M l : ℝ) : ℝ := Real.exp (l - M) / mixDen la lb lc M

theorem mixDen_pos (la lb lc M : ℝ) : 0 < mixDen la lb lc M := by
  unfold mixDen; positivity

/-- The mixture's denominator less another number: the factor comes out. -/
theorem mixDen_shift (la lb lc M M' : ℝ) : mixDen la lb lc M = Real.exp (M' - M) * mixDen la lb lc M' := by
  unfold mixDen
  rw [mul_add, mul_add, ← Real.exp_add, ← Real.exp_add, ← Real.exp_add]
  congr 1
  · congr 1 <;> congr 1 <;> ring
  · congr 1; ring

/-- A mixture weight does not depend on the number subtracted from the log-sums. -/
theorem mixW_shift (la lb lc M M' l : ℝ) : mixW la lb lc M l = mixW la lb lc M' l := by
  unfold mixW
  have h : l - M = (M' - M) + (l - M') := by ring
  rw [mixDen_shift la lb lc M M', h, Real.exp_add, mul_div_mul_left _ _ (Real.exp_pos _).ne']

/-- The mixture's own log-sum. -/
def mixLse (la lb lc M : ℝ) : ℝ := M + Real.log (mixDen la lb lc M)

/-- The exponential of a log-sum less the mixture's is its weight. -/
theorem exp_sub_mixLse (la lb lc M l : ℝ) : Real.exp (l - mixLse la lb lc M) = mixW la lb lc M l := by
  unfold mixLse mixW
  rw [show l - (M + Real.log (mixDen la lb lc M)) = (l - M) - Real.log (mixDen la lb lc M) by ring, Real.exp_sub,
    Real.exp_log (mixDen_pos _ _ _ _)]

/-- A row that allows one key has a positive denominator. -/
theorem rowDen_pos {s₀ : Fin n} (h : ok s₀) : 0 < rowDen ok S mx := by
  unfold rowDen
  apply Finset.sum_pos'
  · intro s _; unfold rowP; split <;> positivity
  · exact ⟨s₀, Finset.mem_univ _, by unfold rowP; rw [if_pos h]; positivity⟩

/-- The row's weights in the mixture: the exponentials of the allowed scores less the mixture's log-sum. -/
def rowPM (L : ℝ) (s : Fin n) : ℝ := if ok s then Real.exp (S s - L) else 0

/-- The exponentials less the mixture's log-sum are the row's own weights times the weight of its log-sum. -/
theorem rowPM_eq {s₀ : Fin n} (h : ok s₀) (s : Fin n) :
    rowPM ok S (mixLse la lb (rowLse ok S mx) M) s
      = mixW la lb (rowLse ok S mx) M (rowLse ok S mx) * (rowP ok S mx s / rowDen ok S mx) := by
  unfold rowPM rowP
  split
  · rw [← exp_sub_mixLse, ← mul_div_assoc, ← Real.exp_add, eq_div_iff (rowDen_pos ok S mx h).ne']
    conv_lhs => rw [← Real.exp_log (rowDen_pos ok S mx h)]
    rw [← Real.exp_add]
    congr 1
    unfold rowLse; ring
  · simp

/-- The row's normalised output. -/
def rowO (d : Fin D) : ℝ := rowU ok S V mx d / rowDen ok S mx

/-- The mixture of the three outputs by the weights of their log-sums. -/
def mixO (d : Fin D) : ℝ :=
  mixW la lb (rowLse ok S mx) M la * oa d + mixW la lb (rowLse ok S mx) M lb * ob d
    + mixW la lb (rowLse ok S mx) M (rowLse ok S mx) * rowO ok S V mx d

/-- The product of the gradient with the mixture's output. -/
def rowDelta : ℝ := ∑ d, ct d * mixO ok S V oa ob la lb mx M d

/-- The gradient of a score as the backward call forms it. -/
def rowDs (s : Fin n) : ℝ :=
  rowPM ok S (mixLse la lb (rowLse ok S mx) M) s * ((∑ d, V s d * ct d) - rowDelta ok S V ct oa ob la lb mx M)

/-- The gradient of the row's log-sum in the mixture. -/
def rowGl : ℝ :=
  mixW la lb (rowLse ok S mx) M (rowLse ok S mx)
    * ((∑ d, ct d * rowO ok S V mx d) - rowDelta ok S V ct oa ob la lb mx M)

/-- The product of the gradient with the mixture's output, by the products with each of the three. -/
theorem rowDelta_eq : rowDelta ok S V ct oa ob la lb mx M
    = mixW la lb (rowLse ok S mx) M la * (∑ d, ct d * oa d) + mixW la lb (rowLse ok S mx) M lb * (∑ d, ct d * ob d)
      + mixW la lb (rowLse ok S mx) M (rowLse ok S mx) * (∑ d, ct d * rowO ok S V mx d) := by
  unfold rowDelta mixO
  rw [Finset.mul_sum, Finset.mul_sum, Finset.mul_sum, ← Finset.sum_add_distrib, ← Finset.sum_add_distrib]
  exact Finset.sum_congr rfl fun d _ => by ring

/-- None of the row's numbers depends on the number that the mixture subtracts from the log-sums. -/
theorem rowDelta_shift : rowDelta ok S V ct oa ob la lb mx M = rowDelta ok S V ct oa ob la lb mx M' := by
  rw [rowDelta_eq, rowDelta_eq, mixW_shift la lb _ M M' la, mixW_shift la lb _ M M' lb,
    mixW_shift la lb _ M M' (rowLse ok S mx)]

/-- The weights less the mixture's log-sum do not depend on the number that the mixture subtracts. -/
theorem rowPM_shift {s₀ : Fin n} (h : ok s₀) (s : Fin n) :
    rowPM ok S (mixLse la lb (rowLse ok S mx) M) s = rowPM ok S (mixLse la lb (rowLse ok S mx) M') s := by
  rw [rowPM_eq ok S la lb mx M h, rowPM_eq ok S la lb mx M' h, mixW_shift la lb _ M M']

/-- A score's gradient does not depend on the number that the mixture subtracts. -/
theorem rowDs_shift {s₀ : Fin n} (h : ok s₀) (s : Fin n) :
    rowDs ok S V ct oa ob la lb mx M s = rowDs ok S V ct oa ob la lb mx M' s := by
  unfold rowDs
  rw [rowPM_shift ok S la lb mx M M' h, rowDelta_shift ok S V ct oa ob la lb mx M M']

/-- The chain rule through the softmax, its normalisation and the mixture gives the gradient of a score that the
    backward call forms. -/
theorem rowDs_chain {s₀ : Fin n} (h : ok s₀) (s : Fin n) :
    ((∑ d, (mixW la lb (rowLse ok S mx) M (rowLse ok S mx) * ct d / rowDen ok S mx) * V s d)
        + (rowGl ok S V ct oa ob la lb mx M / rowDen ok S mx
            + -(∑ d, mixW la lb (rowLse ok S mx) M (rowLse ok S mx) * ct d
                * (1 / (rowDen ok S mx * rowDen ok S mx)) * rowU ok S V mx d)))
      * rowP ok S mx s = rowDs ok S V ct oa ob la lb mx M s := by
  have hD := (rowDen_pos ok S mx h).ne'
  unfold rowDs
  rw [rowPM_eq ok S la lb mx M h]
  unfold rowGl
  set w := mixW la lb (rowLse ok S mx) M (rowLse ok S mx)
  set Dn := rowDen ok S mx
  set δ := rowDelta ok S V ct oa ob la lb mx M
  have e1 : (∑ d, (w * ct d / Dn) * V s d) = w / Dn * ∑ d, V s d * ct d := by
    rw [Finset.mul_sum]; exact Finset.sum_congr rfl fun d _ => by ring
  have e2 : (∑ d, w * ct d * (1 / (Dn * Dn)) * rowU ok S V mx d) = w / Dn * ∑ d, ct d * rowO ok S V mx d := by
    rw [Finset.mul_sum]
    refine Finset.sum_congr rfl fun d _ => ?_
    change w * ct d * (1 / (Dn * Dn)) * rowU ok S V mx d = w / Dn * (ct d * (rowU ok S V mx d / Dn))
    field_simp
  rw [e1, e2]
  ring

/-- The gradients of a row's scores sum to the gradient of its log-sum. -/
theorem sum_rowDs {s₀ : Fin n} (h : ok s₀) :
    ∑ s, rowDs ok S V ct oa ob la lb mx M s = rowGl ok S V ct oa ob la lb mx M := by
  have hD := (rowDen_pos ok S mx h).ne'
  unfold rowDs rowGl
  simp_rw [rowPM_eq ok S la lb mx M h, mul_sub, Finset.sum_sub_distrib]
  set w := mixW la lb (rowLse ok S mx) M (rowLse ok S mx)
  have e1 : (∑ s, w * (rowP ok S mx s / rowDen ok S mx) * ∑ d, V s d * ct d) = w * ∑ d, ct d * rowO ok S V mx d := by
    simp_rw [Finset.mul_sum]
    rw [Finset.sum_comm]
    refine Finset.sum_congr rfl fun d _ => ?_
    unfold rowO rowU
    rw [Finset.sum_div, Finset.mul_sum, Finset.mul_sum]
    exact Finset.sum_congr rfl fun s _ => by ring
  have e2 : (∑ s, w * (rowP ok S mx s / rowDen ok S mx) * rowDelta ok S V ct oa ob la lb mx M)
      = w * rowDelta ok S V ct oa ob la lb mx M := by
    rw [← Finset.sum_mul, ← Finset.mul_sum, ← Finset.sum_div]
    change w * (rowDen ok S mx / rowDen ok S mx) * _ = _
    rw [div_self hD, mul_one]
  rw [e1, e2]

end Row

end Cert.Attn

end
-- ==== Proof.Mask.lean ====
module

public import proofs.«01_k».proof.Proof.Gen.ReferenceIdeal.Read

@[expose] public section

noncomputable section

/-! Which keys a query attends: the mask that the reference computes on 32-bit words. -/

namespace Cert.Attn

open Idealize.ShloMosaic Idealize.ShloMosaic.TcCoe Idealize.ShloMosaic.ValueIdx
open Cert.ReferenceIdeal Cert.ReferenceIdeal.Read

/-- Query `t` attends key `s` of the pattern with dilation 16: the key is not later, and a multiple of 16 earlier. -/
def okk (t s : Fin 2048) : Prop := s.val ≤ t.val ∧ (t.val - s.val) % 16 = 0

instance (t s : Fin 2048) : Decidable (okk t s) := by unfold okk; infer_instance

/-- The printed remainder of a distance by 16: the machine's signed remainder, 16 added where the signs differ. -/
def remWord (x : BitVec 32) : BitVec 32 :=
  Scalar.select
    (IntOp.andi (IntOp.cmpi .ne (IntOp.cmpi .slt (IntOp.remsi .host x 16#32) 0#32) (IntOp.cmpi .slt 16#32 0#32))
      (IntOp.cmpi .ne (IntOp.remsi .host x 16#32) 0#32))
    (IntOp.addi (IntOp.remsi .host x 16#32) 16#32) (IntOp.remsi .host x 16#32)

/-- The printed mask as a function of the distance word. -/
def maskWord (x : BitVec 32) : BitVec 1 :=
  IntOp.andi (IntOp.andi (IntOp.cmpi .sge x 0#32) (IntOp.cmpi .sle x 2048#32)) (IntOp.cmpi .eq (remWord x) 0#32)

theorem maskWord_nonneg : ∀ k : Fin 2048, maskWord (BitVec.ofNat 32 k.val) = if k.val % 16 = 0 then 1#1 else 0#1 := by
  decide +kernel

theorem maskWord_neg : ∀ k : Fin 2048, k.val ≠ 0 → maskWord (0#32 - BitVec.ofNat 32 k.val) = 0#1 := by
  decide +kernel

/-- One where query `t` attends key `s`, zero elsewhere. -/
def okBit (t s : Fin 2048) : BitVec 1 := if okk t s then 1#1 else 0#1

/-- The mask word of the distance of two positions. -/
theorem maskWord_sub (t s : Fin 2048) :
    maskWord (IntOp.subi (BitVec.ofNat 32 t.val) (BitVec.ofNat 32 s.val)) = okBit t s := by
  unfold okBit
  have ht := t.isLt
  have hs := s.isLt
  by_cases h : s.val ≤ t.val
  · have e : IntOp.subi (BitVec.ofNat 32 t.val) (BitVec.ofNat 32 s.val) = BitVec.ofNat 32 (t.val - s.val) := by
      show BitVec.ofNat 32 t.val - BitVec.ofNat 32 s.val = _
      apply BitVec.eq_of_toNat_eq
      simp only [BitVec.toNat_sub, BitVec.toNat_ofNat]
      omega
    rw [e, maskWord_nonneg ⟨t.val - s.val, by omega⟩]
    simp only [okk, h, true_and]
  · have e : IntOp.subi (BitVec.ofNat 32 t.val) (BitVec.ofNat 32 s.val) = 0#32 - BitVec.ofNat 32 (s.val - t.val) := by
      show BitVec.ofNat 32 t.val - BitVec.ofNat 32 s.val = _
      apply BitVec.eq_of_toNat_eq
      simp only [BitVec.toNat_sub, BitVec.toNat_ofNat]
      omega
    rw [e, maskWord_neg ⟨s.val - t.val, by omega⟩ (by show s.val - t.val ≠ 0; omega), if_neg (fun hk => h hk.1)]

/-- The reference's mask at a query and a key. -/
theorem mask_apply (t s : Fin 2048) : val_main_v22 (F := Ideal) (ix2 t s) = okBit t s := by
  rw [← maskWord_sub]
  simp only [val_main_v22_apply, val_main_v18_apply, val_main_v15_apply, val_main_v17_apply, val_main_v14_apply,
    val_main_v16_apply, val_main_c_apply, val_main_c_0_apply, val_main_v21_apply, val_main_v20_apply,
    val_main_c_2_apply, val_main_v19_apply, val_main_call0_v12_apply, val_main_call0_v11_apply,
    val_main_call0_v6_apply, val_main_call0_v8_apply, val_main_call0_v10_apply, val_main_call0_v9_apply,
    val_main_call0_v14_apply, val_main_call0_v13_apply, val_main_call0_v5_apply, val_main_call0_v7_apply,
    val_main_call0_v4_apply, val_main_call0_v3_apply, val_main_call0_v2_apply, val_main_call0_v1_apply,
    val_main_call0_v0_apply, val_main_call0_c_apply, val_main_call0_c_0_apply, val_main_call0_c_1_apply,
    val_main_call0_c_2_apply, val_main_call0_c_3_apply, val_main_c_1_apply, val_main_v13_apply, val_main_v11_apply,
    val_main_v12_apply, val_main_v8_apply, val_main_v10_apply, val_main_v7_apply, val_main_v9_apply]
  rfl

end Cert.Attn

end
-- ==== Proof.RefRow.lean ====
module

public import proofs.«01_k».proof.Proof.Reals
public import proofs.«01_k».proof.Proof.Mask
public import Idealize.ShloMosaic.Lib.IdealHost
public import Idealize.ShloMosaic.Lib.Pipeline.Value

@[expose] public section

set_option maxRecDepth 16384

noncomputable section

/-! The reference's forward stages at real inputs: scores, softmax, the three log-sums and their mixture. -/

namespace Cert.Attn

open Idealize.ShloMosaic Idealize.ShloMosaic.TcCoe Idealize.ShloMosaic.ValueIdx
open Cert.ReferenceIdeal Cert.ReferenceIdeal.Gen Cert.ReferenceIdeal.Read
open scoped BigOperators

/-- An index of two axes, from its coordinates. -/
theorem ix2_of {n0 n1 : Nat} {j : (⟨2, ![n0, n1]⟩ : Shape).Idx} {a : Fin n0} {b : Fin n1}
    (h0 : (j 0).val = a.val) (h1 : (j 1).val = b.val) : j = ix2 a b := by
  rw [eq_ix2 j, Fin.ext h0, Fin.ext h1]; rfl

/-- An index of three axes, from its coordinates. -/
theorem ix3_of {n0 n1 n2 : Nat} {j : (⟨3, ![n0, n1, n2]⟩ : Shape).Idx} {a : Fin n0} {b : Fin n1} {c : Fin n2}
    (h0 : (j 0).val = a.val) (h1 : (j 1).val = b.val) (h2 : (j 2).val = c.val) : j = ix3 a b c := by
  rw [eq_ix3 j, Fin.ext h0, Fin.ext h1, Fin.ext h2]; rfl

/-- An index of four axes, from its coordinates. -/
theorem ix4_of {n0 n1 n2 n3 : Nat} {j : (⟨4, ![n0, n1, n2, n3]⟩ : Shape).Idx} {a : Fin n0} {b : Fin n1} {c : Fin n2}
    {d : Fin n3} (h0 : (j 0).val = a.val) (h1 : (j 1).val = b.val) (h2 : (j 2).val = c.val)
    (h3 : (j 3).val = d.val) : j = ix4 a b c d := by
  rw [eq_ix4 j, Fin.ext h0, Fin.ext h1, Fin.ext h2, Fin.ext h3]; rfl

/-- An array of real numbers as an array of the extended reals. -/
def co {s : Shape} (X : s.Idx → ℝ) : (⟨s, .f32⟩ : BufTy).Contents (Elt Ideal) := fun i => ((X i : ℝ) : EReal)

/-- The inputs of the claim as real numbers. -/
structure Inp where
  q : S2048x512.Idx → ℝ
  k : S2048x512.Idx → ℝ
  v : S2048x512.Idx → ℝ
  oa : S8x2048x64.Idx → ℝ
  la : S8x2048.Idx → ℝ
  ob : S8x2048x64.Idx → ℝ
  lb : S8x2048.Idx → ℝ
  ct : S2048x512.Idx → ℝ

/-- The column of a head's lane. -/
def hd (h : Fin 8) (d : Fin 64) : Fin 512 := ⟨h.val * 64 + d.val, by omega⟩

/-- The entry of head `h` at token `t` and lane `d`. -/
def tk (X : S2048x512.Idx → ℝ) (h : Fin 8) (t : Fin 2048) (d : Fin 64) : ℝ := X (ix2 t (hd h d))

variable (I : Inp)

namespace Inp

/-- A score. -/
def sc (h : Fin 8) (t s : Fin 2048) : ℝ := ∑ d, tk I.q h t d * tk I.k h s d

/-- A row's maximum. -/
def mx (h : Fin 8) (t : Fin 2048) : ℝ := EReal.toReal (val_main_v24 (F := Ideal) (co I.q) (co I.k) (ix2 h t))

/-- A row's unnormalised weights. -/
def Pr (h : Fin 8) (t s : Fin 2048) : ℝ := rowP (okk t) (I.sc h t) (I.mx h t) s

/-- A row's denominator. -/
def Dn (h : Fin 8) (t : Fin 2048) : ℝ := rowDen (okk t) (I.sc h t) (I.mx h t)

/-- A row's log-sum. -/
def Ls (h : Fin 8) (t : Fin 2048) : ℝ := rowLse (okk t) (I.sc h t) (I.mx h t)

/-- A row's unnormalised output. -/
def Un (h : Fin 8) (t : Fin 2048) (d : Fin 64) : ℝ := rowU (okk t) (I.sc h t) (tk I.v h) (I.mx h t) d

/-- The three log-sums. -/
def lk (n : Fin 3) (h : Fin 8) (t : Fin 2048) : ℝ :=
  match n with
  | ⟨0, _⟩ => I.la (ix2 h t)
  | ⟨1, _⟩ => I.lb (ix2 h t)
  | ⟨2, _⟩ => I.Ls h t

/-- The three outputs. -/
def ok (n : Fin 3) (h : Fin 8) (t : Fin 2048) (d : Fin 64) : ℝ :=
  match n with
  | ⟨0, _⟩ => I.oa (ix3 h t d)
  | ⟨1, _⟩ => I.ob (ix3 h t d)
  | ⟨2, _⟩ => I.Un h t d / I.Dn h t

/-- The largest of the three log-sums. -/
def mm (h : Fin 8) (t : Fin 2048) : ℝ :=
  EReal.toReal (val_main_v51 (F := Ideal) (co I.q) (co I.k) (co I.la) (co I.lb) (ix2 h t))

/-- The mixture's denominator. -/
def md (h : Fin 8) (t : Fin 2048) : ℝ := mixDen (I.la (ix2 h t)) (I.lb (ix2 h t)) (I.Ls h t) (I.mm h t)

end Inp

theorem okk_self (t : Fin 2048) : okk t t := ⟨le_refl _, by omega⟩

theorem Dn_pos (h : Fin 8) (t : Fin 2048) : 0 < I.Dn h t := rowDen_pos _ _ _ (okk_self t)

/-- A token's head entry of the queries. -/
theorem v1_at (X : S2048x512.Idx → ℝ) (h : Fin 8) (t : Fin 2048) (d : Fin 64) :
    val_main_v1 (F := Ideal) (co X) (ix3 h t d) = ((tk X h t d : ℝ) : EReal) := by
  rw [val_main_v1_apply, val_main_v0_apply]
  have e : idx_main_v0 (idx_main_v1 (ix3 h t d)) = ix2 t (hd h d) :=
    ix2_of (by show ((t.val * 8 + h.val) * 64 + d.val) / 512 = t.val; omega)
      (by show ((t.val * 8 + h.val) * 64 + d.val) % 512 = h.val * 64 + d.val; omega)
  rw [e]; rfl

/-- A token's head entry of the keys. -/
theorem v3_at (X : S2048x512.Idx → ℝ) (h : Fin 8) (t : Fin 2048) (d : Fin 64) :
    val_main_v3 (F := Ideal) (co X) (ix3 h t d) = ((tk X h t d : ℝ) : EReal) := v1_at X h t d

/-- A token's head entry of the values. -/
theorem v5_at (X : S2048x512.Idx → ℝ) (h : Fin 8) (t : Fin 2048) (d : Fin 64) :
    val_main_v5 (F := Ideal) (co X) (ix3 h t d) = ((tk X h t d : ℝ) : EReal) := v1_at X h t d

/-- A token's head entry of the gradient. -/
theorem v92_at (X : S2048x512.Idx → ℝ) (h : Fin 8) (t : Fin 2048) (d : Fin 64) :
    val_main_v92 (F := Ideal) (co X) (ix3 h t d) = ((tk X h t d : ℝ) : EReal) := v1_at X h t d

/-- A score. -/
theorem v6_at (h : Fin 8) (t s : Fin 2048) :
    val_main_v6 (F := Ideal) (co I.q) (co I.k) (ix3 h t s) = ((I.sc h t s : ℝ) : EReal) := by
  rw [val_main_v6_apply, Inp.sc, coe_sum]
  refine Finset.sum_congr rfl fun d _ => ?_
  rw [show lidx_main_v6 (ix3 h t s) d = ix3 h t d from ix3_of rfl rfl rfl,
    show ridx_main_v6 (ix3 h t s) d = ix3 h s d from ix3_of rfl rfl rfl, v1_at, v3_at, EReal.coe_mul]

/-- The mask at a head, a query and a key. -/
theorem v23_1_at (h : Fin 8) (t s : Fin 2048) : val_main_v23_1 (F := Ideal) (ix3 h t s) = okBit t s := by
  rw [val_main_v23_1_apply, show idx_main_v23_1 (ix3 h t s) = ix2 t s from ix2_of rfl rfl, mask_apply]

/-- The literal of the mask is `⊥`. -/
theorem ofBits_bot : (FloatOps.ofBits (F := Ideal) .f32 0xFF800000#32 : Ideal .f32) = (⊥ : EReal) := by
  show Ideal.ofBits .f32 0xFF800000#32 = ⊥
  simp [Ideal.ofBits, Ideal.ieee]

/-- A masked score. -/
theorem v23_0_at (h : Fin 8) (t s : Fin 2048) :
    val_main_v23_0 (F := Ideal) (co I.q) (co I.k) (ix3 h t s) = if okk t s then ((I.sc h t s : ℝ) : EReal) else ⊥ := by
  rw [val_main_v23_0_apply, v23_1_at, v6_at, val_main_call1_v2_apply, val_main_call1_v0_apply, val_main_cst_apply,
    ofBits_bot]
  unfold okBit
  split
  · rfl
  · rfl

/-- The reduced axis of the scores, an index at a time. -/
theorem lift_scores (r : S8x2048x2048.Reduces [2] S8x2048) (h : Fin 8) (t : Fin 2048) (s : Fin 2048) :
    r.lift (ix2 h t) s = ix3 h t s := by
  rw [eq_ix3 (r.lift (ix2 h t) s)]; rfl

/-- A row's maximum is the maximum of its masked scores. -/
theorem v24_fold (h : Fin 8) (t : Fin 2048) :
    val_main_v24 (F := Ideal) (co I.q) (co I.k) (ix2 h t)
      = (Finset.univ : Finset (Fin 2048)).fold max ⊥ fun s => if okk t s then ((I.sc h t s : ℝ) : EReal) else ⊥ := by
  unfold val_main_v24
  have hr : S8x2048x2048.Reduces [2] S8x2048 := by decide +kernel
  refine (Host.reduce_eq_fold_single (max : EReal → EReal → EReal) _ _ _ hr _ _).trans ?_
  rw [val_main_cst_3_apply, ofBits_bot]
  exact Finset.fold_congr fun s _ => by
    exact (congrArg (val_main_v23_0 (F := Ideal) (co I.q) (co I.k)) (lift_scores hr h t s)).trans (v23_0_at I h t s)

/-- A row's maximum is a real number. -/
theorem v24_at (h : Fin 8) (t : Fin 2048) :
    val_main_v24 (F := Ideal) (co I.q) (co I.k) (ix2 h t) = ((I.mx h t : ℝ) : EReal) := by
  obtain ⟨r, hr⟩ := fold_max_real (Finset.univ : Finset (Fin 2048))
    (fun s => if okk t s then ((I.sc h t s : ℝ) : EReal) else ⊥)
    (fun s _ => by split; exacts [EReal.coe_ne_top _, bot_ne_top])
    (Finset.mem_univ t) (by rw [if_pos (okk_self t)]; exact EReal.coe_ne_bot _)
  unfold Inp.mx
  rw [v24_fold, hr, EReal.toReal_coe]

/-- Some key of a row has its maximal score. -/
theorem v24_attained (h : Fin 8) (t : Fin 2048) :
    ∃ s, val_main_v23_0 (F := Ideal) (co I.q) (co I.k) (ix3 h t s)
      = val_main_v24 (F := Ideal) (co I.q) (co I.k) (ix2 h t) := by
  obtain ⟨s, _, hs⟩ := Finset.exists_mem_eq_sup (Finset.univ : Finset (Fin 2048)) ⟨t, Finset.mem_univ t⟩
    (fun s => if okk t s then ((I.sc h t s : ℝ) : EReal) else ⊥)
  exact ⟨s, by rw [v24_fold, v23_0_at]; exact hs.symm⟩

/-- An unnormalised weight. -/
theorem v33_at (h : Fin 8) (t s : Fin 2048) :
    val_main_v33 (F := Ideal) (co I.q) (co I.k) (ix3 h t s) = ((I.Pr h t s : ℝ) : EReal) := by
  rw [val_main_v33_apply, val_main_v32_apply, v23_0_at, val_main_v31_apply,
    show idx_main_v31 (ix3 h t s) = ix3 h t (0 : Fin 1) from ix3_of rfl rfl rfl, val_main_v30_apply,
    show idx_main_v30 (ix3 h t (0 : Fin 1)) = ix2 h t from ix2_of rfl rfl, v24_at]
  show Ideal.exp ((if okk t s then ((I.sc h t s : ℝ) : EReal) else ⊥) - ((I.mx h t : ℝ) : EReal)) = _
  unfold Inp.Pr rowP
  split
  · rw [← EReal.coe_sub, Ideal.exp_coe]
  · rw [EReal.bot_sub, Ideal.exp_bot]; rfl

/-- The literal zero. -/
theorem ofBits_zero : (FloatOps.ofBits (F := Ideal) .f32 0x00000000#32 : Ideal .f32) = (0 : EReal) :=
  Ideal.ofBits_zero_f32

/-- The literal one. -/
theorem ofBits_one : (FloatOps.ofBits (F := Ideal) .f32 0x3F800000#32 : Ideal .f32) = ((1 : ℝ) : EReal) :=
  Ideal.ofBits_one_f32

/-- A row's denominator. -/
theorem v34_at (h : Fin 8) (t : Fin 2048) :
    val_main_v34 (F := Ideal) (co I.q) (co I.k) (ix2 h t) = ((I.Dn h t : ℝ) : EReal) := by
  rw [val_main_v34_apply, val_main_cst_5_apply, ofBits_zero]
  refine (zero_add _).trans ?_
  rw [Inp.Dn, rowDen, coe_sum]
  refine Finset.sum_congr rfl fun s _ => ?_
  rw [show idx_main_v34 (ix2 h t) s = ix3 h t s from ix3_of rfl rfl rfl, v33_at]
  rfl

/-- A row's denominator, with a unit axis behind. -/
theorem v35_at (h : Fin 8) (t : Fin 2048) (u : Fin 1) :
    val_main_v35 (F := Ideal) (co I.q) (co I.k) (ix3 h t u) = ((I.Dn h t : ℝ) : EReal) := by
  rw [val_main_v35_apply, show idx_main_v35 (ix3 h t u) = ix2 h t from ix2_of rfl rfl, v34_at]

/-- A row's unnormalised output. -/
theorem v36_at (h : Fin 8) (t : Fin 2048) (d : Fin 64) :
    val_main_v36 (F := Ideal) (co I.q) (co I.k) (co I.v) (ix3 h t d) = ((I.Un h t d : ℝ) : EReal) := by
  rw [val_main_v36_apply, Inp.Un, rowU, coe_sum]
  refine Finset.sum_congr rfl fun s _ => ?_
  rw [show lidx_main_v36 (ix3 h t d) s = ix3 h t s from ix3_of rfl rfl rfl,
    show ridx_main_v36 (ix3 h t d) s = ix3 h s d from ix3_of rfl rfl rfl, v33_at, v5_at, EReal.coe_mul]
  rfl

/-- A row's output. -/
theorem v38_at (h : Fin 8) (t : Fin 2048) (d : Fin 64) :
    val_main_v38 (F := Ideal) (co I.q) (co I.k) (co I.v) (ix3 h t d) = ((I.Un h t d / I.Dn h t : ℝ) : EReal) := by
  rw [val_main_v38_apply, v36_at, val_main_v37_apply,
    show idx_main_v37 (ix3 h t d) = ix3 h t (0 : Fin 1) from ix3_of rfl rfl rfl, v35_at]
  exact div_real (Dn_pos I h t).ne'

/-- The reciprocal of the squared denominator. -/
theorem v41_at (h : Fin 8) (t : Fin 2048) (u : Fin 1) :
    val_main_v41 (F := Ideal) (co I.q) (co I.k) (ix3 h t u) = ((1 / (I.Dn h t * I.Dn h t) : ℝ) : EReal) := by
  rw [val_main_v41_apply, val_main_v40_apply, val_main_cst_6_apply, ofBits_one, val_main_v39_apply, v35_at]
  show Ideal.div _ ((I.Dn h t : EReal) * (I.Dn h t : EReal)) = _
  rw [← EReal.coe_mul]
  exact div_real (mul_pos (Dn_pos I h t) (Dn_pos I h t)).ne'

/-- A row's log-sum. -/
theorem v44_at (h : Fin 8) (t : Fin 2048) :
    val_main_v44 (F := Ideal) (co I.q) (co I.k) (ix2 h t) = ((I.Ls h t : ℝ) : EReal) := by
  rw [val_main_v44_apply, show idx_main_v44 (ix2 h t) = ix3 h t (0 : Fin 1) from
      ix3_of (by show (h.val * 2048 + t.val) / 2048 = h.val; omega)
        (by show (h.val * 2048 + t.val) / 1 % 2048 = t.val; omega) rfl,
    val_main_v43_apply, val_main_v30_apply,
    show idx_main_v30 (ix3 h t (0 : Fin 1)) = ix2 h t from ix2_of rfl rfl, v24_at, val_main_v42_apply, v35_at]
  show ((I.mx h t : ℝ) : EReal) + Ideal.log ((I.Dn h t : ℝ) : EReal) = _
  rw [log_real (Dn_pos I h t), ← EReal.coe_add]
  rfl

/-- Three arrays laid along a new first axis, read at an index. -/
theorem stack3_apply (x y z : S1x8x2048.Idx → EReal)
    (hc : Shape.Concatenates (([⟨S1x8x2048, x⟩, ⟨S1x8x2048, y⟩, ⟨S1x8x2048, z⟩] : List ((r : Shape) × (r.Idx → EReal))).map (·.1)) S3x8x2048 0) (n : Fin 3)
    (h : Fin 8) (t : Fin 2048) :
    concatenate S3x8x2048 0 [⟨S1x8x2048, x⟩, ⟨S1x8x2048, y⟩, ⟨S1x8x2048, z⟩] hc (ix3 n h t)
      = (match n with | ⟨0, _⟩ => x | ⟨1, _⟩ => y | ⟨2, _⟩ => z) (ix3 (0 : Fin 1) h t) := by
  match n with
  | ⟨0, _⟩ =>
    exact concatenate_apply_piece (t := S3x8x2048) (0 : Fin 3) [⟨S1x8x2048, x⟩, ⟨S1x8x2048, y⟩, ⟨S1x8x2048, z⟩] hc (ix3 (0 : Fin 3) h t) 0 (by simp)
      S1x8x2048 x rfl rfl 0 rfl (ix3 (0 : Fin 1) h t)
      (fun b hb => match b with
        | ⟨0, _⟩ => absurd rfl hb
        | ⟨1, _⟩ => rfl
        | ⟨2, _⟩ => rfl) rfl
  | ⟨1, _⟩ =>
    exact concatenate_apply_piece (t := S3x8x2048) (0 : Fin 3) [⟨S1x8x2048, x⟩, ⟨S1x8x2048, y⟩, ⟨S1x8x2048, z⟩] hc (ix3 (1 : Fin 3) h t) 1 (by simp)
      S1x8x2048 y rfl rfl 1 rfl (ix3 (0 : Fin 1) h t)
      (fun b hb => match b with
        | ⟨0, _⟩ => absurd rfl hb
        | ⟨1, _⟩ => rfl
        | ⟨2, _⟩ => rfl) rfl
  | ⟨2, _⟩ =>
    exact concatenate_apply_piece (t := S3x8x2048) (0 : Fin 3) [⟨S1x8x2048, x⟩, ⟨S1x8x2048, y⟩, ⟨S1x8x2048, z⟩] hc (ix3 (2 : Fin 3) h t) 2 (by simp)
      S1x8x2048 z rfl rfl 2 rfl (ix3 (0 : Fin 1) h t)
      (fun b hb => match b with
        | ⟨0, _⟩ => absurd rfl hb
        | ⟨1, _⟩ => rfl
        | ⟨2, _⟩ => rfl) rfl

/-- Three arrays laid along a new first axis, read at an index. -/
theorem stack4_apply (x y z : S1x8x2048x64.Idx → EReal)
    (hc : Shape.Concatenates (([⟨S1x8x2048x64, x⟩, ⟨S1x8x2048x64, y⟩, ⟨S1x8x2048x64, z⟩] : List ((r : Shape) × (r.Idx → EReal))).map (·.1)) S3x8x2048x64 0) (n : Fin 3)
    (h : Fin 8) (t : Fin 2048) (d : Fin 64) :
    concatenate S3x8x2048x64 0 [⟨S1x8x2048x64, x⟩, ⟨S1x8x2048x64, y⟩, ⟨S1x8x2048x64, z⟩] hc (ix4 n h t d)
      = (match n with | ⟨0, _⟩ => x | ⟨1, _⟩ => y | ⟨2, _⟩ => z) (ix4 (0 : Fin 1) h t d) := by
  match n with
  | ⟨0, _⟩ =>
    exact concatenate_apply_piece (t := S3x8x2048x64) (0 : Fin 4) [⟨S1x8x2048x64, x⟩, ⟨S1x8x2048x64, y⟩, ⟨S1x8x2048x64, z⟩] hc (ix4 (0 : Fin 3) h t d) 0 (by simp)
      S1x8x2048x64 x rfl rfl 0 rfl (ix4 (0 : Fin 1) h t d)
      (fun b hb => match b with
        | ⟨0, _⟩ => absurd rfl hb
        | ⟨1, _⟩ => rfl
        | ⟨2, _⟩ => rfl
        | ⟨3, _⟩ => rfl) rfl
  | ⟨1, _⟩ =>
    exact concatenate_apply_piece (t := S3x8x2048x64) (0 : Fin 4) [⟨S1x8x2048x64, x⟩, ⟨S1x8x2048x64, y⟩, ⟨S1x8x2048x64, z⟩] hc (ix4 (1 : Fin 3) h t d) 1 (by simp)
      S1x8x2048x64 y rfl rfl 1 rfl (ix4 (0 : Fin 1) h t d)
      (fun b hb => match b with
        | ⟨0, _⟩ => absurd rfl hb
        | ⟨1, _⟩ => rfl
        | ⟨2, _⟩ => rfl
        | ⟨3, _⟩ => rfl) rfl
  | ⟨2, _⟩ =>
    exact concatenate_apply_piece (t := S3x8x2048x64) (0 : Fin 4) [⟨S1x8x2048x64, x⟩, ⟨S1x8x2048x64, y⟩, ⟨S1x8x2048x64, z⟩] hc (ix4 (2 : Fin 3) h t d) 2 (by simp)
      S1x8x2048x64 z rfl rfl 2 rfl (ix4 (0 : Fin 1) h t d)
      (fun b hb => match b with
        | ⟨0, _⟩ => absurd rfl hb
        | ⟨1, _⟩ => rfl
        | ⟨2, _⟩ => rfl
        | ⟨3, _⟩ => rfl) rfl

/-- The stack of the three log-sums. -/
theorem v48_at (n : Fin 3) (h : Fin 8) (t : Fin 2048) :
    val_main_v48 (F := Ideal) (co I.q) (co I.k) (co I.la) (co I.lb) (ix3 n h t) = ((I.lk n h t : ℝ) : EReal) := by
  unfold val_main_v48
  have e47 : val_main_v47 (F := Ideal) (co I.q) (co I.k) (ix3 (0 : Fin 1) h t) = ((I.Ls h t : ℝ) : EReal) := by
    rw [val_main_v47_apply, show idx_main_v47 (ix3 (0 : Fin 1) h t) = ix2 h t from ix2_of rfl rfl, v44_at]
  have e45 : val_main_v45 (F := Ideal) (co I.la) (ix3 (0 : Fin 1) h t) = ((I.la (ix2 h t) : ℝ) : EReal) := by
    rw [val_main_v45_apply, show idx_main_v45 (ix3 (0 : Fin 1) h t) = ix2 h t from ix2_of rfl rfl]; rfl
  have e46 : val_main_v46 (F := Ideal) (co I.lb) (ix3 (0 : Fin 1) h t) = ((I.lb (ix2 h t) : ℝ) : EReal) := by
    rw [val_main_v46_apply, show idx_main_v46 (ix3 (0 : Fin 1) h t) = ix2 h t from ix2_of rfl rfl]; rfl
  rw [stack3_apply]
  match n with
  | ⟨0, _⟩ => exact e45
  | ⟨1, _⟩ => exact e46
  | ⟨2, _⟩ => exact e47

/-- The stack of the three outputs. -/
theorem v83_at (n : Fin 3) (h : Fin 8) (t : Fin 2048) (d : Fin 64) :
    val_main_v83 (F := Ideal) (co I.q) (co I.k) (co I.v) (co I.oa) (co I.ob) (ix4 n h t d)
      = ((I.ok n h t d : ℝ) : EReal) := by
  unfold val_main_v83
  have e82 : val_main_v82 (F := Ideal) (co I.q) (co I.k) (co I.v) (ix4 (0 : Fin 1) h t d)
      = ((I.Un h t d / I.Dn h t : ℝ) : EReal) := by
    rw [val_main_v82_apply, show idx_main_v82 (ix4 (0 : Fin 1) h t d) = ix3 h t d from ix3_of rfl rfl rfl, v38_at]
  have e80 : val_main_v80 (F := Ideal) (co I.oa) (ix4 (0 : Fin 1) h t d) = ((I.oa (ix3 h t d) : ℝ) : EReal) := by
    rw [val_main_v80_apply, show idx_main_v80 (ix4 (0 : Fin 1) h t d) = ix3 h t d from ix3_of rfl rfl rfl]; rfl
  have e81 : val_main_v81 (F := Ideal) (co I.ob) (ix4 (0 : Fin 1) h t d) = ((I.ob (ix3 h t d) : ℝ) : EReal) := by
    rw [val_main_v81_apply, show idx_main_v81 (ix4 (0 : Fin 1) h t d) = ix3 h t d from ix3_of rfl rfl rfl]; rfl
  rw [stack4_apply]
  match n with
  | ⟨0, _⟩ => exact e80
  | ⟨1, _⟩ => exact e81
  | ⟨2, _⟩ => exact e82

/-- The reduced axis of the stacked log-sums, an index at a time. -/
theorem lift_stack (r : S3x8x2048.Reduces [0] S8x2048) (h : Fin 8) (t : Fin 2048) (n : Fin 3) :
    r.lift (ix2 h t) n = ix3 n h t := by
  rw [eq_ix3 (r.lift (ix2 h t) n)]; rfl

/-- The largest of the three log-sums is a real number. -/
theorem v51_at (h : Fin 8) (t : Fin 2048) :
    val_main_v51 (F := Ideal) (co I.q) (co I.k) (co I.la) (co I.lb) (ix2 h t) = ((I.mm h t : ℝ) : EReal) := by
  have hf : val_main_v51 (F := Ideal) (co I.q) (co I.k) (co I.la) (co I.lb) (ix2 h t)
      = (Finset.univ : Finset (Fin 3)).fold max ⊥ fun n => ((I.lk n h t : ℝ) : EReal) := by
    unfold val_main_v51
    have hr : S3x8x2048.Reduces [0] S8x2048 := by decide +kernel
    refine (Host.reduce_eq_fold_single (max : EReal → EReal → EReal) _ _ _ hr _ _).trans ?_
    rw [val_main_cst_9_apply, ofBits_bot]
    exact Finset.fold_congr fun n _ => by
      exact (congrArg (val_main_v48 (F := Ideal) (co I.q) (co I.k) (co I.la) (co I.lb)) (lift_stack hr h t n)).trans
        (v48_at I n h t)
  obtain ⟨r, hr⟩ := fold_max_real (Finset.univ : Finset (Fin 3)) (fun n => ((I.lk n h t : ℝ) : EReal))
    (fun _ _ => EReal.coe_ne_top _) (Finset.mem_univ 0) (EReal.coe_ne_bot _)
  unfold Inp.mm
  rw [hf, hr, EReal.toReal_coe]

/-- An exponential of a log-sum in the mixture. -/
theorem v71_at (n : Fin 3) (h : Fin 8) (t : Fin 2048) :
    val_main_v71 (F := Ideal) (co I.q) (co I.k) (co I.la) (co I.lb) (ix3 n h t)
      = ((Real.exp (I.lk n h t - I.mm h t) : ℝ) : EReal) := by
  rw [val_main_v71_apply, val_main_v70_apply, v48_at, val_main_v69_apply,
    show idx_main_v69 (ix3 n h t) = ix3 (0 : Fin 1) h t from ix3_of rfl rfl rfl, val_main_v68_apply,
    show idx_main_v68 (ix3 (0 : Fin 1) h t) = ix2 h t from ix2_of rfl rfl, val_main_v58_apply, v51_at,
    val_main_v57_apply, val_main_cst_11_apply, ofBits_bot]
  show Ideal.exp (((I.lk n h t : ℝ) : EReal) - max ⊥ ((I.mm h t : ℝ) : EReal)) = _
  rw [max_eq_right bot_le, ← EReal.coe_sub, Ideal.exp_coe]

/-- The mixture's denominator. -/
theorem v73_at (u : Fin 1) (h : Fin 8) (t : Fin 2048) :
    val_main_v73 (F := Ideal) (co I.q) (co I.k) (co I.la) (co I.lb) (ix3 u h t) = ((I.md h t : ℝ) : EReal) := by
  rw [val_main_v73_apply, show idx_main_v73 (ix3 u h t) = ix2 h t from ix2_of rfl rfl, val_main_v72_apply,
    val_main_cst_17_apply, ofBits_zero]
  refine (zero_add _).trans ?_
  rw [Fin.sum_univ_three, show idx_main_v72 (ix2 h t) 0 = ix3 (0 : Fin 3) h t from ix3_of rfl rfl rfl,
    show idx_main_v72 (ix2 h t) 1 = ix3 (1 : Fin 3) h t from ix3_of rfl rfl rfl,
    show idx_main_v72 (ix2 h t) 2 = ix3 (2 : Fin 3) h t from ix3_of rfl rfl rfl, v71_at, v71_at, v71_at,
    ← EReal.coe_add, ← EReal.coe_add]
  rfl

theorem md_pos (h : Fin 8) (t : Fin 2048) : 0 < I.md h t := mixDen_pos _ _ _ _

/-- A weight of the mixture. -/
theorem v75_at (n : Fin 3) (h : Fin 8) (t : Fin 2048) :
    val_main_v75 (F := Ideal) (co I.q) (co I.k) (co I.la) (co I.lb) (ix3 n h t)
      = ((Real.exp (I.lk n h t - I.mm h t) / I.md h t : ℝ) : EReal) := by
  rw [val_main_v75_apply, v71_at, val_main_v74_apply,
    show idx_main_v74 (ix3 n h t) = ix3 (0 : Fin 1) h t from ix3_of rfl rfl rfl, v73_at]
  exact div_real (md_pos I h t).ne'

/-- The reciprocal of the mixture's squared denominator. -/
theorem v78_at (u : Fin 1) (h : Fin 8) (t : Fin 2048) :
    val_main_v78 (F := Ideal) (co I.q) (co I.k) (co I.la) (co I.lb) (ix3 u h t)
      = ((1 / (I.md h t * I.md h t) : ℝ) : EReal) := by
  rw [val_main_v78_apply, val_main_v77_apply, val_main_cst_18_apply, ofBits_one, val_main_v76_apply, v73_at]
  show Ideal.div _ ((I.md h t : EReal) * (I.md h t : EReal)) = _
  rw [← EReal.coe_mul]
  exact div_real (mul_pos (md_pos I h t) (md_pos I h t)).ne'

end Cert.Attn

end
-- ==== Proof.Block.lean ====
module

public import proofs.«01_k».proof.Proof.RefRow
public import proofs.«01_k».proof.Proof.Gen.KernelIdeal.Value
public import Idealize.ShloMosaic.Lib.Pipeline.ValueKit.Tiles
public import Idealize.ShloMosaic.Lib.Pipeline.ValueKit.Geometry

@[expose] public section

set_option maxRecDepth 16384

noncomputable section

/-! What one grid point computes: each of the 48 stored blocks is one function of a pair of heads' blocks. -/

namespace Cert.Attn

open Cert.KernelIdeal Cert.KernelIdeal.Gen Idealize.ShloMosaic Idealize.ShloMosaic.TcCoe Idealize.SL.Sem
open Idealize.ShloMosaic.ValueIdx

variable {F : FTy → Type} [FloatOps F] [Named F]

/-- The lanes of a pair's first head. -/
def lh : IVec S128x128 1 := cmpi .slt (iota .tc S128x128 32 [1] iota_S128x128_d1_w32) (broadcast S128x128 64#32)

/-- The lanes of a pair's second head. -/
def rh : IVec S128x128 1 := xori lh (constantI S128x128 1 1#1)

/-- The pairs of a key (row) and a query (column) in which the key is not later. -/
def tri : IVec S128x128 1 :=
  cmpi .sge (iota .tc S128x128 32 [1] iota_S128x128_d1_w32) (iota .tc S128x128 32 [0] iota_S128x128_d0_w32)

/-- A block with the other head's lanes cleared. -/
def half (m : IVec S128x128 1) (x : Vec F S128x128 .bf16) : FVec F S128x128 .bf16 :=
  select m (shapeCast S128x128 x shapeCasts_S128x128_S128x128) (broadcast S128x128 (Scalar.ofBits .bf16 0x0000#16))

/-- One row of a transposed block, repeated on every row. -/
def rowOf (n : Nat) (hn : S128x128.Slices ![n, 0] S1x128) (x : Vec F S128x128 .f32) : FVec F S128x128 .f32 :=
  broadcastTo S128x128 (extractStridedSlice S1x128 ![n, 0]
    (transpose S128x128 [1, 0] (shapeCast S128x128 x shapeCasts_S128x128_S128x128) transposes_S128x128_p1_0_S128x128) hn)
    broadcasts_S1x128_S128x128

/-- One head's scores: a row for each key, a column for each query. -/
def score (m : IVec S128x128 1) (q k : Vec F S128x128 .bf16) : FVec F S128x128 .f32 :=
  matmul (φ₁ := .bf16) (φ₂ := .bf16) dot_S128x128_S128x128_S128x128_1_1_0_0_n_n none
    (shapeCast S128x128 k shapeCasts_S128x128_S128x128) (half m q) (constant S128x128 .f32 0x00000000#32)

/-- One head's weights: a row for each key, a column for each query. -/
def prob (m : IVec S128x128 1) (n : Nat) (hn : S128x128.Slices ![n, 0] S1x128) (q k : Vec F S128x128 .bf16)
    (l : Vec F S128x128 .f32) : FVec F S128x128 .f32 :=
  exp (select tri (subf (score m q k) (rowOf n hn l))
    (broadcast S128x128 (Named.named κ "mask" 0xF149F2CA#32)))

/-- One head's gradients of the scores: a row for each key, a column for each query. -/
def dsc (m : IVec S128x128 1) (n : Nat) (hn : S128x128.Slices ![n, 0] S1x128) (q k v g : Vec F S128x128 .bf16)
    (dl l : Vec F S128x128 .f32) : FVec F S128x128 .bf16 :=
  truncf .bf16 (mulf (prob m n hn q k l) (subf (score m g v) (rowOf n hn dl)))
    bitsLt_bf16_f32

/-- The zero block that the sums of two heads start from. -/
def z32 : FVec F S128x128 .f32 := broadcast S128x128 (Scalar.ofBits .f32 0x00000000#32)

/-- A pair's gradient of the queries. -/
def dqF (n n' : Nat) (hn : S128x128.Slices ![n, 0] S1x128) (hn' : S128x128.Slices ![n', 0] S1x128)
    (q k v g : Vec F S128x128 .bf16) (dl l : Vec F S128x128 .f32) : FVec F S128x128 .bf16 :=
  truncf .bf16 (addf (addf z32 (matmul dot_S128x128_S128x128_S128x128_0_0_1_1_n_n none (dsc lh n hn q k v g dl l) (half lh k)
      (constant S128x128 .f32 0x00000000#32)))
    (matmul dot_S128x128_S128x128_S128x128_0_0_1_1_n_n none (dsc rh n' hn' q k v g dl l) (half rh k)
      (constant S128x128 .f32 0x00000000#32))) bitsLt_bf16_f32

/-- A pair's gradient of the keys. -/
def dkF (n n' : Nat) (hn : S128x128.Slices ![n, 0] S1x128) (hn' : S128x128.Slices ![n', 0] S1x128)
    (q k v g : Vec F S128x128 .bf16) (dl l : Vec F S128x128 .f32) : FVec F S128x128 .bf16 :=
  truncf .bf16 (addf (addf z32 (matmul dot_S128x128_S128x128_S128x128_1_0_0_1_n_n none (dsc lh n hn q k v g dl l) (half lh q)
      (constant S128x128 .f32 0x00000000#32)))
    (matmul dot_S128x128_S128x128_S128x128_1_0_0_1_n_n none (dsc rh n' hn' q k v g dl l) (half rh q)
      (constant S128x128 .f32 0x00000000#32))) bitsLt_bf16_f32

/-- A pair's gradient of the values. -/
def dvF (n n' : Nat) (hn : S128x128.Slices ![n, 0] S1x128) (hn' : S128x128.Slices ![n', 0] S1x128)
    (q k g : Vec F S128x128 .bf16) (l : Vec F S128x128 .f32) : FVec F S128x128 .bf16 :=
  truncf .bf16 (addf (addf z32 (matmul dot_S128x128_S128x128_S128x128_1_0_0_1_n_n none
      (truncf .bf16 (prob lh n hn q k l) bitsLt_bf16_f32) (half lh g) (constant S128x128 .f32 0x00000000#32)))
    (matmul dot_S128x128_S128x128_S128x128_1_0_0_1_n_n none (truncf .bf16 (prob rh n' hn' q k l) bitsLt_bf16_f32) (half rh g)
      (constant S128x128 .f32 0x00000000#32))) bitsLt_bf16_f32

/-- The `j`-th 128 columns of a block of 2048 columns. -/
def cut16 (x : Vec F S128x2048 .bf16) (j : Fin 16) : Vec F S128x128 .bf16 :=
  fun i => x (ix2 (n0 := 128) (n1 := 2048) (i 0) ⟨j.val * 128 + (i 1).val, by have : (i 1).val < 128 := (i 1).isLt; omega⟩)

/-- The 128 columns of a block of 512 columns that belong to the `j`-th pair. -/
def cut4 (x : Vec F S128x512 .f32) (j : Fin 16) : Vec F S128x128 .f32 :=
  fun i => x (ix2 (n0 := 128) (n1 := 512) (i 0) ⟨j.val / 4 * 128 + (i 1).val, by have : (i 1).val < 128 := (i 1).isLt; omega⟩)

/-- The rows of a pair's two heads lie inside the block. -/
theorem rowIn (j : Fin 16) : S128x128.Slices ![j.val % 4 * 32, 0] S1x128 := by
  revert j; decide +kernel

/-- The rows of a pair's two heads lie inside the block. -/
theorem rowIn' (j : Fin 16) : S128x128.Slices ![j.val % 4 * 32 + 16, 0] S1x128 := by
  revert j; decide +kernel

/-- The pair that a column of the block belongs to. -/
def pr (n : Fin 2048) : Fin 16 := ⟨n.val / 128, by omega⟩

/-- A column's place among its pair's 128. -/
def ln (n : Fin 2048) : Fin 128 := ⟨n.val % 128, by omega⟩

/-- A load of 128 columns is the cut at their pair. -/
theorem ld_cut16 (x : Vec F S128x2048 .bf16) (j : Fin 16)
    (inb : ∀ a, (![0, j.val * 128] : Fin 2 → Nat) a + (![128, 128] : Fin 2 → Nat) a ≤ S128x2048.size a) :
    View.ld x (Rect.unit (s := S128x2048) ![0, j.val * 128] ![128, 128] inb) = cut16 x j := by
  funext i
  refine View.ld_unit_apply_of x _ _ inb i _ fun a => ?_
  match a with
  | ⟨0, _⟩ => exact (Nat.zero_add _).symm
  | ⟨1, _⟩ => rfl

/-- A load of 128 columns of the rows' numbers is the cut at their pair. -/
theorem ld_cut4 (x : Vec F S128x512 .f32) (j : Fin 16)
    (inb : ∀ a, (![0, j.val / 4 * 128] : Fin 2 → Nat) a + (![128, 128] : Fin 2 → Nat) a ≤ S128x512.size a) :
    View.ld x (Rect.unit (s := S128x512) ![0, j.val / 4 * 128] ![128, 128] inb) = cut4 x j := by
  funext i
  refine View.ld_unit_apply_of x _ _ inb i _ fun a => ?_
  match a with
  | ⟨0, _⟩ => exact (Nat.zero_add _).symm
  | ⟨1, _⟩ => rfl

/-- A stored block of 128 columns, one of sixteen, holds at its place what the sixteen blocks hold together. -/
theorem piece_at (f : Fin 16 → Vec F S128x128 .bf16) (j : Fin 16)
    (inb : ∀ a, (![0, j.val * 128] : Fin 2 → Nat) a + (![128, 128] : Fin 2 → Nat) a ≤ S128x2048.size a)
    (x : S128x128.Idx) :
    f j x = f (pr ((Rect.unit (s := S128x2048) ![0, j.val * 128] ![128, 128] inb).emb x 1))
      (ix2 (n0 := 128) (n1 := 128) ((Rect.unit (s := S128x2048) ![0, j.val * 128] ![128, 128] inb).emb x 0)
        (ln ((Rect.unit (s := S128x2048) ![0, j.val * 128] ![128, 128] inb).emb x 1))) := by
  have h0 : ((Rect.unit (s := S128x2048) ![0, j.val * 128] ![128, 128] inb).emb x 0).val = (x 0).val :=
    by
    have := ValueKit.rect_emb_unit_val (s := S128x2048) ![0, j.val * 128] ![128, 128] inb x 0
    exact this.trans (Nat.zero_add _)
  have h1 : ((Rect.unit (s := S128x2048) ![0, j.val * 128] ![128, 128] inb).emb x 1).val = j.val * 128 + (x 1).val :=
    ValueKit.rect_emb_unit_val (s := S128x2048) ![0, j.val * 128] ![128, 128] inb x 1
  have hx : (x 1).val < 128 := (x 1).isLt
  have hp : pr ((Rect.unit (s := S128x2048) ![0, j.val * 128] ![128, 128] inb).emb x 1) = j := by
    apply Fin.ext
    show ((Rect.unit (s := S128x2048) ![0, j.val * 128] ![128, 128] inb).emb x 1).val / 128 = j.val
    omega
  rw [hp]
  refine congrArg (f j) (funext fun a => Fin.ext ?_)
  match a with
  | ⟨0, _⟩ => exact h0.symm
  | ⟨1, _⟩ =>
    show (x 1).val = ((Rect.unit (s := S128x2048) ![0, j.val * 128] ![128, 128] inb).emb x 1).val % 128
    omega

/-- A pair's gradient of the queries, from the point's blocks. -/
def pairQ (q k v g : Vec F S128x2048 .bf16) (dl l : Vec F S128x512 .f32) (j : Fin 16) : Vec F S128x128 .bf16 :=
  dqF (j.val % 4 * 32) (j.val % 4 * 32 + 16) (rowIn j) (rowIn' j) (cut16 q j) (cut16 k j) (cut16 v j) (cut16 g j)
    (cut4 dl j) (cut4 l j)

/-- A pair's gradient of the keys, from the point's blocks. -/
def pairK (q k v g : Vec F S128x2048 .bf16) (dl l : Vec F S128x512 .f32) (j : Fin 16) : Vec F S128x128 .bf16 :=
  dkF (j.val % 4 * 32) (j.val % 4 * 32 + 16) (rowIn j) (rowIn' j) (cut16 q j) (cut16 k j) (cut16 v j) (cut16 g j)
    (cut4 dl j) (cut4 l j)

/-- A pair's gradient of the values, from the point's blocks. -/
def pairV (q k g : Vec F S128x2048 .bf16) (l : Vec F S128x512 .f32) (j : Fin 16) : Vec F S128x128 .bf16 :=
  dvF (j.val % 4 * 32) (j.val % 4 * 32 + 16) (rowIn j) (rowIn' j) (cut16 q j) (cut16 k j) (cut16 g j) (cut4 l j)

/-- A stored block of the queries' gradient holds, at its place, its pair's gradient. -/
theorem pieceQ (q k v g : Vec F S128x2048 .bf16) (dl l : Vec F S128x512 .f32) (j : Fin 16)
    (inb : ∀ a, (![0, j.val * 128] : Fin 2 → Nat) a + (![128, 128] : Fin 2 → Nat) a ≤ S128x2048.size a)
    (inb' : ∀ a, (![0, j.val / 4 * 128] : Fin 2 → Nat) a + (![128, 128] : Fin 2 → Nat) a ≤ S128x512.size a)
    (w : Vec F S128x128 .bf16)
    (hw : w = dqF (j.val % 4 * 32) (j.val % 4 * 32 + 16) (rowIn j) (rowIn' j)
      (View.ld q (Rect.unit (s := S128x2048) ![0, j.val * 128] ![128, 128] inb))
      (View.ld k (Rect.unit (s := S128x2048) ![0, j.val * 128] ![128, 128] inb))
      (View.ld v (Rect.unit (s := S128x2048) ![0, j.val * 128] ![128, 128] inb))
      (View.ld g (Rect.unit (s := S128x2048) ![0, j.val * 128] ![128, 128] inb))
      (View.ld dl (Rect.unit (s := S128x512) ![0, j.val / 4 * 128] ![128, 128] inb'))
      (View.ld l (Rect.unit (s := S128x512) ![0, j.val / 4 * 128] ![128, 128] inb')))
    (x : S128x128.Idx) :
    w x = pairQ q k v g dl l (pr ((Rect.unit (s := S128x2048) ![0, j.val * 128] ![128, 128] inb).emb x 1))
      (ix2 (n0 := 128) (n1 := 128) ((Rect.unit (s := S128x2048) ![0, j.val * 128] ![128, 128] inb).emb x 0)
        (ln ((Rect.unit (s := S128x2048) ![0, j.val * 128] ![128, 128] inb).emb x 1))) := by
  refine Eq.trans (congrFun (hw.trans ?_) x) (piece_at (pairQ q k v g dl l) j inb x)
  simp only [ld_cut16, ld_cut4]
  rfl

/-- A stored block of the keys' gradient holds, at its place, its pair's gradient. -/
theorem pieceK (q k v g : Vec F S128x2048 .bf16) (dl l : Vec F S128x512 .f32) (j : Fin 16)
    (inb : ∀ a, (![0, j.val * 128] : Fin 2 → Nat) a + (![128, 128] : Fin 2 → Nat) a ≤ S128x2048.size a)
    (inb' : ∀ a, (![0, j.val / 4 * 128] : Fin 2 → Nat) a + (![128, 128] : Fin 2 → Nat) a ≤ S128x512.size a)
    (w : Vec F S128x128 .bf16)
    (hw : w = dkF (j.val % 4 * 32) (j.val % 4 * 32 + 16) (rowIn j) (rowIn' j)
      (View.ld q (Rect.unit (s := S128x2048) ![0, j.val * 128] ![128, 128] inb))
      (View.ld k (Rect.unit (s := S128x2048) ![0, j.val * 128] ![128, 128] inb))
      (View.ld v (Rect.unit (s := S128x2048) ![0, j.val * 128] ![128, 128] inb))
      (View.ld g (Rect.unit (s := S128x2048) ![0, j.val * 128] ![128, 128] inb))
      (View.ld dl (Rect.unit (s := S128x512) ![0, j.val / 4 * 128] ![128, 128] inb'))
      (View.ld l (Rect.unit (s := S128x512) ![0, j.val / 4 * 128] ![128, 128] inb')))
    (x : S128x128.Idx) :
    w x = pairK q k v g dl l (pr ((Rect.unit (s := S128x2048) ![0, j.val * 128] ![128, 128] inb).emb x 1))
      (ix2 (n0 := 128) (n1 := 128) ((Rect.unit (s := S128x2048) ![0, j.val * 128] ![128, 128] inb).emb x 0)
        (ln ((Rect.unit (s := S128x2048) ![0, j.val * 128] ![128, 128] inb).emb x 1))) := by
  refine Eq.trans (congrFun (hw.trans ?_) x) (piece_at (pairK q k v g dl l) j inb x)
  simp only [ld_cut16, ld_cut4]
  rfl

/-- A stored block of the values' gradient holds, at its place, its pair's gradient. -/
theorem pieceV (q k g : Vec F S128x2048 .bf16) (l : Vec F S128x512 .f32) (j : Fin 16)
    (inb : ∀ a, (![0, j.val * 128] : Fin 2 → Nat) a + (![128, 128] : Fin 2 → Nat) a ≤ S128x2048.size a)
    (inb' : ∀ a, (![0, j.val / 4 * 128] : Fin 2 → Nat) a + (![128, 128] : Fin 2 → Nat) a ≤ S128x512.size a)
    (w : Vec F S128x128 .bf16)
    (hw : w = dvF (j.val % 4 * 32) (j.val % 4 * 32 + 16) (rowIn j) (rowIn' j)
      (View.ld q (Rect.unit (s := S128x2048) ![0, j.val * 128] ![128, 128] inb))
      (View.ld k (Rect.unit (s := S128x2048) ![0, j.val * 128] ![128, 128] inb))
      (View.ld g (Rect.unit (s := S128x2048) ![0, j.val * 128] ![128, 128] inb))
      (View.ld l (Rect.unit (s := S128x512) ![0, j.val / 4 * 128] ![128, 128] inb')))
    (x : S128x128.Idx) :
    w x = pairV q k g l (pr ((Rect.unit (s := S128x2048) ![0, j.val * 128] ![128, 128] inb).emb x 1))
      (ix2 (n0 := 128) (n1 := 128) ((Rect.unit (s := S128x2048) ![0, j.val * 128] ![128, 128] inb).emb x 0)
        (ln ((Rect.unit (s := S128x2048) ![0, j.val * 128] ![128, 128] inb).emb x 1))) := by
  refine Eq.trans (congrFun (hw.trans ?_) x) (piece_at (pairV q k g l) j inb x)
  simp only [ld_cut16, ld_cut4]
  rfl

end Cert.Attn

end
-- ==== Proof.Pieces.lean ====
module

public import proofs.«01_k».proof.Proof.Block

@[expose] public section

set_option maxRecDepth 16384

noncomputable section

/-! A grid point's three output blocks, an element at a time. -/

namespace Cert.Attn

open Cert.KernelIdeal Cert.KernelIdeal.Gen Idealize.ShloMosaic Idealize.ShloMosaic.TcCoe Idealize.SL.Sem
open Idealize.ShloMosaic.ValueIdx

variable {F : FTy → Type} [FloatOps F] [Named F]

/-- What a point leaves in the block of the queries' gradient. -/
theorem out6_apply (c : Dev nD) (i : grid0.Coords) (arg1 : Memref sig .tc .vmem S128x2048 .bf16) (harg1 : arg1.IsWhole) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x512 .f32) (harg5 : arg5.IsWhole) (arg6 : Memref sig .tc .vmem S128x512 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x512 .f32) (harg10 : arg10.IsWhole) (arg11 : Memref sig .tc .vmem S128x512 .f32) (harg11 : arg11.IsWhole)
    (x0 x1 x2 x3 : Vec F S128x2048 .bf16) (x4 x5 : Vec F S128x512 .f32) (y : S128x2048.Idx) :
    out0_A_6 c i arg1 harg1 arg2 harg2 arg3 harg3 arg4 harg4 arg5 harg5 arg6 harg6 arg7 harg7 arg8 harg8 arg9 harg9 arg10 harg10 arg11 harg11 x0 x1 x2 x3 x4 x5 y = pairQ x0 x1 x2 x3 x4 x5 (pr (y 1)) (ix2 (n0 := 128) (n1 := 128) (y 0) (ln (y 1))) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 x0 x1 x2 x3 x4 x5)]
  refine View.canon_apply_of_pieces (fun y : S128x2048.Idx => pairQ x0 x1 x2 x3 x4 x5 (pr (y 1)) (ix2 (n0 := 128) (n1 := 128) (y 0) (ln (y 1))))
    _ ?_ y (cover0_A_6 c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  sl_unfold_words
  simp only [View.readAt_eq_ld, harg1.read_unread, harg2.read_unread, harg3.read_unread, harg4.read_unread,
    harg5.read_unread, harg6.read_unread]
  refine List.forall_mem_cons.mpr ⟨pieceQ x0 x1 x2 x3 x4 x5 15 inb_S128x2048_S128x128_0_1920 inb_S128x512_S128x128_0_384 _ rfl, ?_⟩
  refine List.forall_mem_cons.mpr ⟨pieceQ x0 x1 x2 x3 x4 x5 14 inb_S128x2048_S128x128_0_1792 inb_S128x512_S128x128_0_384 _ rfl, ?_⟩
  refine List.forall_mem_cons.mpr ⟨pieceQ x0 x1 x2 x3 x4 x5 13 inb_S128x2048_S128x128_0_1664 inb_S128x512_S128x128_0_384 _ rfl, ?_⟩
  refine List.forall_mem_cons.mpr ⟨pieceQ x0 x1 x2 x3 x4 x5 12 inb_S128x2048_S128x128_0_1536 inb_S128x512_S128x128_0_384 _ rfl, ?_⟩
  refine List.forall_mem_cons.mpr ⟨pieceQ x0 x1 x2 x3 x4 x5 11 inb_S128x2048_S128x128_0_1408 inb_S128x512_S128x128_0_256 _ rfl, ?_⟩
  refine List.forall_mem_cons.mpr ⟨pieceQ x0 x1 x2 x3 x4 x5 10 inb_S128x2048_S128x128_0_1280 inb_S128x512_S128x128_0_256 _ rfl, ?_⟩
  refine List.forall_mem_cons.mpr ⟨pieceQ x0 x1 x2 x3 x4 x5 9 inb_S128x2048_S128x128_0_1152 inb_S128x512_S128x128_0_256 _ rfl, ?_⟩
  refine List.forall_mem_cons.mpr ⟨pieceQ x0 x1 x2 x3 x4 x5 8 inb_S128x2048_S128x128_0_1024 inb_S128x512_S128x128_0_256 _ rfl, ?_⟩
  refine List.forall_mem_cons.mpr ⟨pieceQ x0 x1 x2 x3 x4 x5 7 inb_S128x2048_S128x128_0_896 inb_S128x512_S128x128_0_128 _ rfl, ?_⟩
  refine List.forall_mem_cons.mpr ⟨pieceQ x0 x1 x2 x3 x4 x5 6 inb_S128x2048_S128x128_0_768 inb_S128x512_S128x128_0_128 _ rfl, ?_⟩
  refine List.forall_mem_cons.mpr ⟨pieceQ x0 x1 x2 x3 x4 x5 5 inb_S128x2048_S128x128_0_640 inb_S128x512_S128x128_0_128 _ rfl, ?_⟩
  refine List.forall_mem_cons.mpr ⟨pieceQ x0 x1 x2 x3 x4 x5 4 inb_S128x2048_S128x128_0_512 inb_S128x512_S128x128_0_128 _ rfl, ?_⟩
  refine List.forall_mem_cons.mpr ⟨pieceQ x0 x1 x2 x3 x4 x5 3 inb_S128x2048_S128x128_0_384 inb_S128x512_S128x128_0_0 _ rfl, ?_⟩
  refine List.forall_mem_cons.mpr ⟨pieceQ x0 x1 x2 x3 x4 x5 2 inb_S128x2048_S128x128_0_256 inb_S128x512_S128x128_0_0 _ rfl, ?_⟩
  refine List.forall_mem_cons.mpr ⟨pieceQ x0 x1 x2 x3 x4 x5 1 inb_S128x2048_S128x128_0_128 inb_S128x512_S128x128_0_0 _ rfl, ?_⟩
  refine List.forall_mem_cons.mpr ⟨pieceQ x0 x1 x2 x3 x4 x5 0 inb_S128x2048_S128x128_0_0 inb_S128x512_S128x128_0_0 _ rfl, ?_⟩
  exact fun p hp => absurd hp List.not_mem_nil

/-- What a point leaves in the block of the keys' gradient. -/
theorem out7_apply (c : Dev nD) (i : grid0.Coords) (arg1 : Memref sig .tc .vmem S128x2048 .bf16) (harg1 : arg1.IsWhole) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x512 .f32) (harg5 : arg5.IsWhole) (arg6 : Memref sig .tc .vmem S128x512 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x512 .f32) (harg10 : arg10.IsWhole) (arg11 : Memref sig .tc .vmem S128x512 .f32) (harg11 : arg11.IsWhole)
    (x0 x1 x2 x3 : Vec F S128x2048 .bf16) (x4 x5 : Vec F S128x512 .f32) (y : S128x2048.Idx) :
    out0_A_7 c i arg1 harg1 arg2 harg2 arg3 harg3 arg4 harg4 arg5 harg5 arg6 harg6 arg7 harg7 arg8 harg8 arg9 harg9 arg10 harg10 arg11 harg11 x0 x1 x2 x3 x4 x5 y = pairK x0 x1 x2 x3 x4 x5 (pr (y 1)) (ix2 (n0 := 128) (n1 := 128) (y 0) (ln (y 1))) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5)]
  refine View.canon_apply_of_pieces (fun y : S128x2048.Idx => pairK x0 x1 x2 x3 x4 x5 (pr (y 1)) (ix2 (n0 := 128) (n1 := 128) (y 0) (ln (y 1))))
    _ ?_ y (cover0_A_7 c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  sl_unfold_words
  simp only [View.readAt_eq_ld, harg1.read_unread, harg2.read_unread, harg3.read_unread, harg4.read_unread,
    harg5.read_unread, harg6.read_unread]
  refine List.forall_mem_cons.mpr ⟨pieceK x0 x1 x2 x3 x4 x5 15 inb_S128x2048_S128x128_0_1920 inb_S128x512_S128x128_0_384 _ rfl, ?_⟩
  refine List.forall_mem_cons.mpr ⟨pieceK x0 x1 x2 x3 x4 x5 14 inb_S128x2048_S128x128_0_1792 inb_S128x512_S128x128_0_384 _ rfl, ?_⟩
  refine List.forall_mem_cons.mpr ⟨pieceK x0 x1 x2 x3 x4 x5 13 inb_S128x2048_S128x128_0_1664 inb_S128x512_S128x128_0_384 _ rfl, ?_⟩
  refine List.forall_mem_cons.mpr ⟨pieceK x0 x1 x2 x3 x4 x5 12 inb_S128x2048_S128x128_0_1536 inb_S128x512_S128x128_0_384 _ rfl, ?_⟩
  refine List.forall_mem_cons.mpr ⟨pieceK x0 x1 x2 x3 x4 x5 11 inb_S128x2048_S128x128_0_1408 inb_S128x512_S128x128_0_256 _ rfl, ?_⟩
  refine List.forall_mem_cons.mpr ⟨pieceK x0 x1 x2 x3 x4 x5 10 inb_S128x2048_S128x128_0_1280 inb_S128x512_S128x128_0_256 _ rfl, ?_⟩
  refine List.forall_mem_cons.mpr ⟨pieceK x0 x1 x2 x3 x4 x5 9 inb_S128x2048_S128x128_0_1152 inb_S128x512_S128x128_0_256 _ rfl, ?_⟩
  refine List.forall_mem_cons.mpr ⟨pieceK x0 x1 x2 x3 x4 x5 8 inb_S128x2048_S128x128_0_1024 inb_S128x512_S128x128_0_256 _ rfl, ?_⟩
  refine List.forall_mem_cons.mpr ⟨pieceK x0 x1 x2 x3 x4 x5 7 inb_S128x2048_S128x128_0_896 inb_S128x512_S128x128_0_128 _ rfl, ?_⟩
  refine List.forall_mem_cons.mpr ⟨pieceK x0 x1 x2 x3 x4 x5 6 inb_S128x2048_S128x128_0_768 inb_S128x512_S128x128_0_128 _ rfl, ?_⟩
  refine List.forall_mem_cons.mpr ⟨pieceK x0 x1 x2 x3 x4 x5 5 inb_S128x2048_S128x128_0_640 inb_S128x512_S128x128_0_128 _ rfl, ?_⟩
  refine List.forall_mem_cons.mpr ⟨pieceK x0 x1 x2 x3 x4 x5 4 inb_S128x2048_S128x128_0_512 inb_S128x512_S128x128_0_128 _ rfl, ?_⟩
  refine List.forall_mem_cons.mpr ⟨pieceK x0 x1 x2 x3 x4 x5 3 inb_S128x2048_S128x128_0_384 inb_S128x512_S128x128_0_0 _ rfl, ?_⟩
  refine List.forall_mem_cons.mpr ⟨pieceK x0 x1 x2 x3 x4 x5 2 inb_S128x2048_S128x128_0_256 inb_S128x512_S128x128_0_0 _ rfl, ?_⟩
  refine List.forall_mem_cons.mpr ⟨pieceK x0 x1 x2 x3 x4 x5 1 inb_S128x2048_S128x128_0_128 inb_S128x512_S128x128_0_0 _ rfl, ?_⟩
  refine List.forall_mem_cons.mpr ⟨pieceK x0 x1 x2 x3 x4 x5 0 inb_S128x2048_S128x128_0_0 inb_S128x512_S128x128_0_0 _ rfl, ?_⟩
  exact fun p hp => absurd hp List.not_mem_nil

/-- What a point leaves in the block of the values' gradient. -/
theorem out8_apply (c : Dev nD) (i : grid0.Coords) (arg1 : Memref sig .tc .vmem S128x2048 .bf16) (harg1 : arg1.IsWhole) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x512 .f32) (harg5 : arg5.IsWhole) (arg6 : Memref sig .tc .vmem S128x512 .f32) (harg6 : arg6.IsWhole) (arg7 : Memref sig .tc .vmem S128x2048 .bf16) (harg7 : arg7.IsWhole) (arg8 : Memref sig .tc .vmem S128x2048 .bf16) (harg8 : arg8.IsWhole) (arg9 : Memref sig .tc .vmem S128x2048 .bf16) (harg9 : arg9.IsWhole) (arg10 : Memref sig .tc .vmem S128x512 .f32) (harg10 : arg10.IsWhole) (arg11 : Memref sig .tc .vmem S128x512 .f32) (harg11 : arg11.IsWhole)
    (x0 x1 x2 x3 : Vec F S128x2048 .bf16) (x4 x5 : Vec F S128x512 .f32) (y : S128x2048.Idx) :
    out0_A_8 c i arg1 harg1 arg2 harg2 arg3 harg3 arg4 harg4 arg5 harg5 arg6 harg6 arg7 harg7 arg8 harg8 arg9 harg9 arg10 harg10 arg11 harg11 x0 x1 x2 x3 x4 x5 y = pairV x0 x1 x3 x5 (pr (y 1)) (ix2 (n0 := 128) (n1 := 128) (y 0) (ln (y 1))) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5)]
  refine View.canon_apply_of_pieces (fun y : S128x2048.Idx => pairV x0 x1 x3 x5 (pr (y 1)) (ix2 (n0 := 128) (n1 := 128) (y 0) (ln (y 1))))
    _ ?_ y (cover0_A_8 c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  sl_unfold_words
  simp only [View.readAt_eq_ld, harg1.read_unread, harg2.read_unread, harg3.read_unread, harg4.read_unread,
    harg5.read_unread, harg6.read_unread]
  refine List.forall_mem_cons.mpr ⟨pieceV x0 x1 x3 x5 15 inb_S128x2048_S128x128_0_1920 inb_S128x512_S128x128_0_384 _ rfl, ?_⟩
  refine List.forall_mem_cons.mpr ⟨pieceV x0 x1 x3 x5 14 inb_S128x2048_S128x128_0_1792 inb_S128x512_S128x128_0_384 _ rfl, ?_⟩
  refine List.forall_mem_cons.mpr ⟨pieceV x0 x1 x3 x5 13 inb_S128x2048_S128x128_0_1664 inb_S128x512_S128x128_0_384 _ rfl, ?_⟩
  refine List.forall_mem_cons.mpr ⟨pieceV x0 x1 x3 x5 12 inb_S128x2048_S128x128_0_1536 inb_S128x512_S128x128_0_384 _ rfl, ?_⟩
  refine List.forall_mem_cons.mpr ⟨pieceV x0 x1 x3 x5 11 inb_S128x2048_S128x128_0_1408 inb_S128x512_S128x128_0_256 _ rfl, ?_⟩
  refine List.forall_mem_cons.mpr ⟨pieceV x0 x1 x3 x5 10 inb_S128x2048_S128x128_0_1280 inb_S128x512_S128x128_0_256 _ rfl, ?_⟩
  refine List.forall_mem_cons.mpr ⟨pieceV x0 x1 x3 x5 9 inb_S128x2048_S128x128_0_1152 inb_S128x512_S128x128_0_256 _ rfl, ?_⟩
  refine List.forall_mem_cons.mpr ⟨pieceV x0 x1 x3 x5 8 inb_S128x2048_S128x128_0_1024 inb_S128x512_S128x128_0_256 _ rfl, ?_⟩
  refine List.forall_mem_cons.mpr ⟨pieceV x0 x1 x3 x5 7 inb_S128x2048_S128x128_0_896 inb_S128x512_S128x128_0_128 _ rfl, ?_⟩
  refine List.forall_mem_cons.mpr ⟨pieceV x0 x1 x3 x5 6 inb_S128x2048_S128x128_0_768 inb_S128x512_S128x128_0_128 _ rfl, ?_⟩
  refine List.forall_mem_cons.mpr ⟨pieceV x0 x1 x3 x5 5 inb_S128x2048_S128x128_0_640 inb_S128x512_S128x128_0_128 _ rfl, ?_⟩
  refine List.forall_mem_cons.mpr ⟨pieceV x0 x1 x3 x5 4 inb_S128x2048_S128x128_0_512 inb_S128x512_S128x128_0_128 _ rfl, ?_⟩
  refine List.forall_mem_cons.mpr ⟨pieceV x0 x1 x3 x5 3 inb_S128x2048_S128x128_0_384 inb_S128x512_S128x128_0_0 _ rfl, ?_⟩
  refine List.forall_mem_cons.mpr ⟨pieceV x0 x1 x3 x5 2 inb_S128x2048_S128x128_0_256 inb_S128x512_S128x128_0_0 _ rfl, ?_⟩
  refine List.forall_mem_cons.mpr ⟨pieceV x0 x1 x3 x5 1 inb_S128x2048_S128x128_0_128 inb_S128x512_S128x128_0_0 _ rfl, ?_⟩
  refine List.forall_mem_cons.mpr ⟨pieceV x0 x1 x3 x5 0 inb_S128x2048_S128x128_0_0 inb_S128x512_S128x128_0_0 _ rfl, ?_⟩
  exact fun p hp => absurd hp List.not_mem_nil

end Cert.Attn

end
-- ==== Proof.BlockVal.lean ====
module

public import proofs.«01_k».proof.Proof.Block
public import Idealize.ShloMosaic.Lib.Pointwise

@[expose] public section

set_option maxRecDepth 16384

noncomputable section

/-! The values of a pair's blocks over the real numbers. -/

namespace Cert.Attn

open Cert.KernelIdeal Cert.KernelIdeal.Gen Idealize.ShloMosaic.TcCoe Idealize.SL.Sem
open Idealize.ShloMosaic hiding ix2 ix3 ix4
open Idealize.ShloMosaic.ValueIdx
open scoped BigOperators

/-- A pair's two sets of lanes. -/
def hm (e : Fin 2) : IVec S128x128 1 := if e = 0 then lh else rh

/-- The first head's lanes are those below 64. -/
theorem lh_at (a c : Fin 128) : lh (ix2 (n0 := 128) (n1 := 128) a c) = if c.val < 64 then 1#1 else 0#1 := by
  have h : ∀ c : Fin 128, Scalar.cmpi .slt (BitVec.ofNat 32 c.val) 64#32 = if c.val < 64 then 1#1 else 0#1 := by decide +kernel
  refine Eq.trans ?_ (h c)
  unfold lh
  pointwise
  rfl

/-- The second head's lanes are those from 64 on. -/
theorem rh_at (a c : Fin 128) : rh (ix2 (n0 := 128) (n1 := 128) a c) = if c.val < 64 then 0#1 else 1#1 := by
  have h : rh (ix2 (n0 := 128) (n1 := 128) a c) = Scalar.xori (lh (ix2 (n0 := 128) (n1 := 128) a c)) 1#1 := rfl
  rw [h, lh_at]
  split <;> rfl

/-- A head's lanes are its 64. -/
theorem hm_at (e : Fin 2) (a c : Fin 128) :
    hm e (ix2 (n0 := 128) (n1 := 128) a c) = if c.val / 64 = e.val then 1#1 else 0#1 := by
  unfold hm
  match e with
  | 0 =>
    refine (lh_at a c).trans ?_
    by_cases hc : c.val < 64
    · rw [if_pos hc, if_pos (show c.val / 64 = ((0 : Fin 2) : ℕ) by simp only [Fin.val_zero, Fin.val_one]; omega)]
    · rw [if_neg hc, if_neg (show ¬ c.val / 64 = ((0 : Fin 2) : ℕ) by simp only [Fin.val_zero, Fin.val_one]; omega)]
  | 1 =>
    refine (rh_at a c).trans ?_
    by_cases hc : c.val < 64
    · rw [if_pos hc, if_neg (show ¬ c.val / 64 = ((1 : Fin 2) : ℕ) by simp only [Fin.val_zero, Fin.val_one]; omega)]
    · rw [if_neg hc, if_pos (show c.val / 64 = ((1 : Fin 2) : ℕ) by simp only [Fin.val_zero, Fin.val_one]; omega)]

/-- A key counts when it is not later than the query. -/
theorem tri_at (s t : Fin 128) : tri (ix2 (n0 := 128) (n1 := 128) s t) = if s.val ≤ t.val then 1#1 else 0#1 := by
  have h : ∀ s t : Fin 128, Scalar.cmpi .sge (BitVec.ofNat 32 t.val) (BitVec.ofNat 32 s.val) = if s.val ≤ t.val then 1#1 else 0#1 := by
    decide +kernel
  refine Eq.trans ?_ (h s t)
  unfold tri
  pointwise
  rfl

/-- A product contracting both last axes. -/
theorem mmT_at (x y : FVec Ideal S128x128 .bf16) (a b : Fin 128) :
    matmul dot_S128x128_S128x128_S128x128_1_1_0_0_n_n none x y (constant S128x128 .f32 0x00000000#32)
      (ix2 (n0 := 128) (n1 := 128) a b) = ∑ k : Fin 128, (x (ix2 a k) : EReal) * y (ix2 b k) := by
  pointwise
  rfl

/-- A product contracting both first axes. -/
theorem mmL_at (x y : FVec Ideal S128x128 .bf16) (a b : Fin 128) :
    matmul dot_S128x128_S128x128_S128x128_0_0_1_1_n_n none x y (constant S128x128 .f32 0x00000000#32)
      (ix2 (n0 := 128) (n1 := 128) a b) = ∑ k : Fin 128, (x (ix2 k a) : EReal) * y (ix2 k b) := by
  pointwise
  rfl

/-- A plain product. -/
theorem mmN_at (x y : FVec Ideal S128x128 .bf16) (a b : Fin 128) :
    matmul dot_S128x128_S128x128_S128x128_1_0_0_1_n_n none x y (constant S128x128 .f32 0x00000000#32)
      (ix2 (n0 := 128) (n1 := 128) a b) = ∑ k : Fin 128, (x (ix2 a k) : EReal) * y (ix2 k b) := by
  pointwise
  rfl

/-- A row of the transposed block is a column of the block. -/
theorem rowOf_at (n : Nat) (hn : S128x128.Slices ![n, 0] S1x128) (hl : n < 128) (x : Vec Ideal S128x128 .f32) (s t : Fin 128) :
    rowOf n hn x (ix2 (n0 := 128) (n1 := 128) s t) = x (ix2 (n0 := 128) (n1 := 128) t ⟨n, hl⟩) := by
  unfold rowOf
  rw [shapeCast_self]
  pointwise
  rfl

/-- A block of real numbers with the other head's lanes cleared. -/
theorem half_at (e : Fin 2) (x : Vec Ideal S128x128 .bf16) (X : Fin 128 → Fin 128 → ℝ)
    (hx : ∀ a c, x (ix2 a c) = ((X a c : ℝ) : EReal)) (a c : Fin 128) :
    half (hm e) x (ix2 (n0 := 128) (n1 := 128) a c) = ((if c.val / 64 = e.val then X a c else 0 : ℝ) : EReal) := by
  unfold half
  rw [shapeCast_self, select_apply, hm_at]
  split
  · exact hx a c
  · show (Ideal.ofBits .bf16 0x0000#16 : EReal) = _
    simp [Ideal.ofBits, Ideal.ieee]

/-- One head's scores: a key, a query. -/
def bS (e : Fin 2) (Q K : Fin 128 → Fin 128 → ℝ) (s t : Fin 128) : ℝ :=
  ∑ c : Fin 128, K s c * (if c.val / 64 = e.val then Q t c else 0)

/-- One head's weights: a key, a query. -/
def bP (e : Fin 2) (Q K : Fin 128 → Fin 128 → ℝ) (L : Fin 128 → ℝ) (s t : Fin 128) : ℝ :=
  if s.val ≤ t.val then Real.exp (bS e Q K s t - L t) else 0

/-- One head's gradients of the scores: a key, a query. -/
def bD (e : Fin 2) (Q K V G : Fin 128 → Fin 128 → ℝ) (D L : Fin 128 → ℝ) (s t : Fin 128) : ℝ :=
  bP e Q K L s t * (bS e G V s t - D t)

/-- One head's scores over the real numbers. -/
theorem score_at (e : Fin 2) (q k : Vec Ideal S128x128 .bf16) (Q K : Fin 128 → Fin 128 → ℝ)
    (hq : ∀ a c, q (ix2 a c) = ((Q a c : ℝ) : EReal)) (hk : ∀ a c, k (ix2 a c) = ((K a c : ℝ) : EReal)) (s t : Fin 128) :
    score (hm e) q k (ix2 (n0 := 128) (n1 := 128) s t) = ((bS e Q K s t : ℝ) : EReal) := by
  unfold score
  rw [mmT_at, shapeCast_self]
  unfold bS
  rw [coe_sum]
  refine Finset.sum_congr rfl fun c _ => ?_
  rw [half_at e q Q hq, EReal.coe_mul]
  exact congrArg (· * _) (hk s c)

/-- One head's weights over the real numbers. -/
theorem prob_at (e : Fin 2) (n : Nat) (hn : S128x128.Slices ![n, 0] S1x128) (hl : n < 128) (q k : Vec Ideal S128x128 .bf16)
    (l : Vec Ideal S128x128 .f32) (Q K : Fin 128 → Fin 128 → ℝ) (L : Fin 128 → ℝ)
    (hq : ∀ a c, q (ix2 a c) = ((Q a c : ℝ) : EReal)) (hk : ∀ a c, k (ix2 a c) = ((K a c : ℝ) : EReal))
    (hL : ∀ t, l (ix2 t ⟨n, hl⟩) = ((L t : ℝ) : EReal)) (s t : Fin 128) :
    prob (hm e) n hn q k l (ix2 (n0 := 128) (n1 := 128) s t) = ((bP e Q K L s t : ℝ) : EReal) := by
  have hs : subf (score (hm e) q k) (rowOf n hn l)
      (ix2 (n0 := 128) (n1 := 128) s t) = ((bS e Q K s t - L t : ℝ) : EReal) := by
    refine (congrArg₂ (fun x y : EReal => x - y) (score_at e q k Q K hq hk s t) ((rowOf_at n hn hl l s t).trans (hL t))).trans ?_
    exact (EReal.coe_sub _ _).symm
  have hm' : (Named.named (F := Ideal) κ "mask" (φ := .f32) 0xF149F2CA#32 : EReal) = ⊥ :=
    IdealRules.named_const.ideal_named_scalar _ _ _ _ rfl
  unfold prob bP
  show Ideal.exp (Scalar.select (tri (ix2 s t)) _ _) = _
  rw [tri_at]
  by_cases h : s.val ≤ t.val
  · rw [if_pos h, if_pos h]
    exact (congrArg Ideal.exp hs).trans (Ideal.exp_coe _)
  · rw [if_neg h, if_neg h]
    exact (congrArg Ideal.exp hm').trans Ideal.exp_bot

/-- One head's gradients of the scores over the real numbers. -/
theorem dsc_at (e : Fin 2) (n : Nat) (hn : S128x128.Slices ![n, 0] S1x128) (hl : n < 128) (q k v g : Vec Ideal S128x128 .bf16)
    (dl l : Vec Ideal S128x128 .f32) (Q K V G : Fin 128 → Fin 128 → ℝ) (D L : Fin 128 → ℝ)
    (hq : ∀ a c, q (ix2 a c) = ((Q a c : ℝ) : EReal)) (hk : ∀ a c, k (ix2 a c) = ((K a c : ℝ) : EReal))
    (hv : ∀ a c, v (ix2 a c) = ((V a c : ℝ) : EReal)) (hg : ∀ a c, g (ix2 a c) = ((G a c : ℝ) : EReal))
    (hD : ∀ t, dl (ix2 t ⟨n, hl⟩) = ((D t : ℝ) : EReal))
    (hL : ∀ t, l (ix2 t ⟨n, hl⟩) = ((L t : ℝ) : EReal)) (s t : Fin 128) :
    dsc (hm e) n hn q k v g dl l (ix2 (n0 := 128) (n1 := 128) s t) = ((bD e Q K V G D L s t : ℝ) : EReal) := by
  unfold bD
  rw [EReal.coe_mul, EReal.coe_sub]
  exact congrArg₂ (fun x y : EReal => x * y) (prob_at e n hn hl q k l Q K L hq hk hL s t)
    (congrArg₂ (fun x y : EReal => x - y) (score_at e g v G V hg hv s t) ((rowOf_at n hn hl dl s t).trans (hD t)))

/-- Of the two heads' sums only that of a lane's own head stays. -/
theorem sum_two (A : Fin 2 → Fin 128 → ℝ) (X : Fin 128 → ℝ) (c : Fin 128) :
    (0 + ∑ s, A 0 s * (if c.val / 64 = ((0 : Fin 2) : ℕ) then X s else 0))
      + ∑ s, A 1 s * (if c.val / 64 = ((1 : Fin 2) : ℕ) then X s else 0)
      = ∑ s, A ⟨c.val / 64, by omega⟩ s * X s := by
  have hc : c.val / 64 = 0 ∨ c.val / 64 = 1 := by omega
  rcases hc with h | h
  · have e : (⟨c.val / 64, by omega⟩ : Fin 2) = 0 := Fin.ext h
    rw [e]
    simp [h]
  · have e : (⟨c.val / 64, by omega⟩ : Fin 2) = 1 := Fin.ext h
    rw [e]
    simp [h]

/-- The zero that the sums start from. -/
theorem z32_at (i : S128x128.Idx) : (z32 (F := Ideal) i : EReal) = ((0 : ℝ) : EReal) := by
  show (Ideal.ofBits .f32 0x00000000#32 : EReal) = _
  simp [Ideal.ofBits, Ideal.ieee]

/-- A pair's gradient of the queries over the real numbers. -/
theorem dqF_at (n : Fin 2 → Nat) (hn : ∀ e, S128x128.Slices ![n e, 0] S1x128) (hl : ∀ e, n e < 128)
    (q k v g : Vec Ideal S128x128 .bf16) (dl l : Vec Ideal S128x128 .f32) (Q K V G : Fin 128 → Fin 128 → ℝ) (D L : Fin 2 → Fin 128 → ℝ)
    (hq : ∀ a c, q (ix2 a c) = ((Q a c : ℝ) : EReal)) (hk : ∀ a c, k (ix2 a c) = ((K a c : ℝ) : EReal))
    (hv : ∀ a c, v (ix2 a c) = ((V a c : ℝ) : EReal)) (hg : ∀ a c, g (ix2 a c) = ((G a c : ℝ) : EReal))
    (hD : ∀ e t, dl (ix2 t ⟨n e, hl e⟩) = ((D e t : ℝ) : EReal))
    (hL : ∀ e t, l (ix2 t ⟨n e, hl e⟩) = ((L e t : ℝ) : EReal)) (a c : Fin 128) :
    dqF (n 0) (n 1) (hn 0) (hn 1) q k v g dl l (ix2 (n0 := 128) (n1 := 128) a c)
      = ((∑ s, bD ⟨c.val / 64, by omega⟩ Q K V G (D ⟨c.val / 64, by omega⟩) (L ⟨c.val / 64, by omega⟩) s a * K s c : ℝ) : EReal) := by
  have one : ∀ e : Fin 2, (matmul dot_S128x128_S128x128_S128x128_0_0_1_1_n_n none (dsc (hm e) (n e) (hn e) q k v g dl l) (half (hm e) k)
      (constant S128x128 .f32 0x00000000#32) (ix2 (n0 := 128) (n1 := 128) a c) : EReal)
      = ((∑ s, bD e Q K V G (D e) (L e) s a * (if c.val / 64 = e.val then K s c else 0) : ℝ) : EReal) := by
    intro e
    rw [mmL_at, coe_sum]
    refine Finset.sum_congr rfl fun s _ => ?_
    rw [half_at e k K hk, dsc_at e (n e) (hn e) (hl e) q k v g dl l Q K V G (D e) (L e) hq hk hv hg (hD e) (hL e), EReal.coe_mul]
  rw [← sum_two (fun e s => bD e Q K V G (D e) (L e) s a) (fun s => K s c) c, EReal.coe_add, EReal.coe_add, ← z32_at (ix2 a c)]
  exact congrArg₂ (fun x y : EReal => x + y) (congrArg (fun x : EReal => z32 (F := Ideal) (ix2 a c) + x) (one 0)) (one 1)

/-- A pair's gradient of the keys over the real numbers. -/
theorem dkF_at (n : Fin 2 → Nat) (hn : ∀ e, S128x128.Slices ![n e, 0] S1x128) (hl : ∀ e, n e < 128)
    (q k v g : Vec Ideal S128x128 .bf16) (dl l : Vec Ideal S128x128 .f32) (Q K V G : Fin 128 → Fin 128 → ℝ) (D L : Fin 2 → Fin 128 → ℝ)
    (hq : ∀ a c, q (ix2 a c) = ((Q a c : ℝ) : EReal)) (hk : ∀ a c, k (ix2 a c) = ((K a c : ℝ) : EReal))
    (hv : ∀ a c, v (ix2 a c) = ((V a c : ℝ) : EReal)) (hg : ∀ a c, g (ix2 a c) = ((G a c : ℝ) : EReal))
    (hD : ∀ e t, dl (ix2 t ⟨n e, hl e⟩) = ((D e t : ℝ) : EReal))
    (hL : ∀ e t, l (ix2 t ⟨n e, hl e⟩) = ((L e t : ℝ) : EReal)) (a c : Fin 128) :
    dkF (n 0) (n 1) (hn 0) (hn 1) q k v g dl l (ix2 (n0 := 128) (n1 := 128) a c)
      = ((∑ t, bD ⟨c.val / 64, by omega⟩ Q K V G (D ⟨c.val / 64, by omega⟩) (L ⟨c.val / 64, by omega⟩) a t * Q t c : ℝ) : EReal) := by
  have one : ∀ e : Fin 2, (matmul dot_S128x128_S128x128_S128x128_1_0_0_1_n_n none (dsc (hm e) (n e) (hn e) q k v g dl l) (half (hm e) q)
      (constant S128x128 .f32 0x00000000#32) (ix2 (n0 := 128) (n1 := 128) a c) : EReal)
      = ((∑ t, bD e Q K V G (D e) (L e) a t * (if c.val / 64 = e.val then Q t c else 0) : ℝ) : EReal) := by
    intro e
    rw [mmN_at, coe_sum]
    refine Finset.sum_congr rfl fun s _ => ?_
    rw [half_at e q Q hq, dsc_at e (n e) (hn e) (hl e) q k v g dl l Q K V G (D e) (L e) hq hk hv hg (hD e) (hL e), EReal.coe_mul]
  rw [← sum_two (fun e t => bD e Q K V G (D e) (L e) a t) (fun t => Q t c) c, EReal.coe_add, EReal.coe_add, ← z32_at (ix2 a c)]
  exact congrArg₂ (fun x y : EReal => x + y) (congrArg (fun x : EReal => z32 (F := Ideal) (ix2 a c) + x) (one 0)) (one 1)

/-- A pair's gradient of the values over the real numbers. -/
theorem dvF_at (n : Fin 2 → Nat) (hn : ∀ e, S128x128.Slices ![n e, 0] S1x128) (hl : ∀ e, n e < 128)
    (q k g : Vec Ideal S128x128 .bf16) (l : Vec Ideal S128x128 .f32) (Q K G : Fin 128 → Fin 128 → ℝ) (L : Fin 2 → Fin 128 → ℝ)
    (hq : ∀ a c, q (ix2 a c) = ((Q a c : ℝ) : EReal)) (hk : ∀ a c, k (ix2 a c) = ((K a c : ℝ) : EReal))
    (hg : ∀ a c, g (ix2 a c) = ((G a c : ℝ) : EReal))
    (hL : ∀ e t, l (ix2 t ⟨n e, hl e⟩) = ((L e t : ℝ) : EReal)) (a c : Fin 128) :
    dvF (n 0) (n 1) (hn 0) (hn 1) q k g l (ix2 (n0 := 128) (n1 := 128) a c)
      = ((∑ t, bP ⟨c.val / 64, by omega⟩ Q K (L ⟨c.val / 64, by omega⟩) a t * G t c : ℝ) : EReal) := by
  have one : ∀ e : Fin 2, (matmul dot_S128x128_S128x128_S128x128_1_0_0_1_n_n none
      (truncf .bf16 (prob (hm e) (n e) (hn e) q k l) bitsLt_bf16_f32) (half (hm e) g)
      (constant S128x128 .f32 0x00000000#32) (ix2 (n0 := 128) (n1 := 128) a c) : EReal)
      = ((∑ t, bP e Q K (L e) a t * (if c.val / 64 = e.val then G t c else 0) : ℝ) : EReal) := by
    intro e
    rw [mmN_at, coe_sum]
    refine Finset.sum_congr rfl fun s _ => ?_
    rw [half_at e g G hg, EReal.coe_mul]
    exact congrArg (· * _) (prob_at e (n e) (hn e) (hl e) q k l Q K (L e) hq hk (hL e) a s)
  rw [← sum_two (fun e t => bP e Q K (L e) a t) (fun t => G t c) c, EReal.coe_add, EReal.coe_add, ← z32_at (ix2 a c)]
  exact congrArg₂ (fun x y : EReal => x + y) (congrArg (fun x : EReal => z32 (F := Ideal) (ix2 a c) + x) (one 0)) (one 1)

end Cert.Attn

end
-- ==== Proof.RefGrad.lean ====
module

public import proofs.«01_k».proof.Proof.RefRow

@[expose] public section

set_option maxRecDepth 16384

noncomputable section

/-! The reference's backward stages at real inputs: the gradients of the scores, and of queries, keys and values. -/

namespace Cert.Attn

open Idealize.ShloMosaic Idealize.ShloMosaic.TcCoe Idealize.ShloMosaic.ValueIdx
open Cert.ReferenceIdeal Cert.ReferenceIdeal.Gen Cert.ReferenceIdeal.Read
open scoped BigOperators

variable (I : Inp)

namespace Inp

/-- A weight of the mixture. -/
def wt (n : Fin 3) (h : Fin 8) (t : Fin 2048) : ℝ := Real.exp (I.lk n h t - I.mm h t) / I.md h t

/-- The product of the gradient with one of the three outputs. -/
def gp (n : Fin 3) (h : Fin 8) (t : Fin 2048) : ℝ := ∑ d, tk I.ct h t d * I.ok n h t d

/-- The gradient of a row's log-sum. -/
def Gl (h : Fin 8) (t : Fin 2048) : ℝ :=
  rowGl (okk t) (I.sc h t) (tk I.v h) (tk I.ct h t) (fun d => I.oa (ix3 h t d)) (fun d => I.ob (ix3 h t d))
    (I.la (ix2 h t)) (I.lb (ix2 h t)) (I.mx h t) (I.mm h t)

/-- The gradient of a score. -/
def Ds (h : Fin 8) (t s : Fin 2048) : ℝ :=
  rowDs (okk t) (I.sc h t) (tk I.v h) (tk I.ct h t) (fun d => I.oa (ix3 h t d)) (fun d => I.ob (ix3 h t d))
    (I.la (ix2 h t)) (I.lb (ix2 h t)) (I.mx h t) (I.mm h t) s

/-- A weight of the mixture at a key. -/
def Pm (h : Fin 8) (t s : Fin 2048) : ℝ :=
  rowPM (okk t) (I.sc h t) (mixLse (I.la (ix2 h t)) (I.lb (ix2 h t)) (rowLse (okk t) (I.sc h t) (I.mx h t)) (I.mm h t)) s

end Inp

/-- A gradient times a weight of the mixture. -/
theorem v95_at (n : Fin 3) (h : Fin 8) (t : Fin 2048) (d : Fin 64) :
    val_main_v95 (F := Ideal) (co I.q) (co I.k) (co I.la) (co I.lb) (co I.ct) (ix4 n h t d)
      = ((I.wt n h t * tk I.ct h t d : ℝ) : EReal) := by
  rw [val_main_v95_apply, val_main_v94_apply,
    show idx_main_v94 (ix4 n h t d) = ix4 n h t (0 : Fin 1) from ix4_of rfl rfl rfl rfl, val_main_v79_apply,
    show idx_main_v79 (ix4 n h t (0 : Fin 1)) = ix3 n h t from ix3_of rfl rfl rfl, v75_at, val_main_v93_apply,
    show idx_main_v93 (ix4 n h t d) = ix3 h t d from ix3_of rfl rfl rfl, v92_at]
  exact (EReal.coe_mul _ _).symm

/-- The gradient of the third output. -/
theorem v104_at (h : Fin 8) (t : Fin 2048) (d : Fin 64) :
    val_main_v104 (F := Ideal) (co I.q) (co I.k) (co I.la) (co I.lb) (co I.ct) (ix3 h t d)
      = ((I.wt 2 h t * tk I.ct h t d : ℝ) : EReal) := by
  rw [val_main_v104_apply, show idx_main_v104 (ix3 h t d) = ix4 (0 : Fin 1) h t d from
      ix4_of rfl (by show ((h.val * 2048 + t.val) * 64 + d.val) / 131072 % 8 = h.val; omega)
        (by show ((h.val * 2048 + t.val) * 64 + d.val) / 64 % 2048 = t.val; omega)
        (by show ((h.val * 2048 + t.val) * 64 + d.val) % 64 = d.val; omega),
    val_main_v103_apply, show idx_main_v103 (ix4 (0 : Fin 1) h t d) = ix4 (2 : Fin 3) h t d from
      ix4_of rfl rfl rfl rfl, v95_at]

/-- The product of the gradient with one of the three outputs. -/
theorem v97_at (n : Fin 3) (h : Fin 8) (t : Fin 2048) :
    val_main_v97 (F := Ideal) (co I.q) (co I.k) (co I.v) (co I.oa) (co I.ob) (co I.ct) (ix3 n h t)
      = ((I.gp n h t : ℝ) : EReal) := by
  rw [val_main_v97_apply, val_main_cst_22_apply, ofBits_zero]
  refine (zero_add _).trans ?_
  rw [Inp.gp, coe_sum]
  refine Finset.sum_congr rfl fun d _ => ?_
  rw [show idx_main_v97 (ix3 n h t) d = ix4 n h t d from ix4_of rfl rfl rfl rfl, val_main_v96_apply,
    val_main_v93_apply, show idx_main_v93 (ix4 n h t d) = ix3 h t d from ix3_of rfl rfl rfl, v92_at, v83_at]
  exact (EReal.coe_mul _ _).symm

/-- The same product, carried through a unit axis. -/
theorem v105_at (n : Fin 3) (h : Fin 8) (t : Fin 2048) :
    val_main_v105 (F := Ideal) (co I.q) (co I.k) (co I.v) (co I.oa) (co I.ob) (co I.ct) (ix3 n h t)
      = ((I.gp n h t : ℝ) : EReal) := by
  rw [val_main_v105_apply, val_main_cst_23_apply, ofBits_zero]
  refine (zero_add _).trans ?_
  rw [Fin.sum_univ_one, show idx_main_v105 (ix3 n h t) 0 = ix4 n h t (0 : Fin 1) from ix4_of rfl rfl rfl rfl,
    val_main_v98_apply, show idx_main_v98 (ix4 n h t (0 : Fin 1)) = ix3 n h t from
      ix3_of (by show (((n.val * 8 + h.val) * 2048 + t.val) * 1 + 0) / 16384 = n.val; omega)
        (by show (((n.val * 8 + h.val) * 2048 + t.val) * 1 + 0) / 2048 % 8 = h.val; omega)
        (by show (((n.val * 8 + h.val) * 2048 + t.val) * 1 + 0) % 2048 = t.val; omega), v97_at]

/-- The weighted sum of the three products. -/
theorem v109_at (h : Fin 8) (t : Fin 2048) :
    val_main_v109 (F := Ideal) (co I.q) (co I.k) (co I.v) (co I.oa) (co I.la) (co I.ob) (co I.lb) (co I.ct) (ix2 h t)
      = ((∑ n : Fin 3, I.gp n h t * (1 / (I.md h t * I.md h t)) * Real.exp (I.lk n h t - I.mm h t) : ℝ) : EReal) := by
  rw [val_main_v109_apply, val_main_cst_24_apply, ofBits_zero]
  refine (zero_add _).trans ?_
  rw [coe_sum]
  refine Finset.sum_congr rfl fun n _ => ?_
  rw [show idx_main_v109 (ix2 h t) n = ix3 n h t from ix3_of rfl rfl rfl, val_main_v108_apply, val_main_v107_apply,
    v105_at, val_main_v106_apply, show idx_main_v106 (ix3 n h t) = ix3 (0 : Fin 1) h t from ix3_of rfl rfl rfl,
    v78_at, v71_at, EReal.coe_mul, EReal.coe_mul]
  rfl

/-- The gradient of a log-sum in the mixture, over the reals. -/
theorem Gl_eq (h : Fin 8) (t : Fin 2048) :
    (I.gp 2 h t / I.md h t
        + -(∑ n : Fin 3, I.gp n h t * (1 / (I.md h t * I.md h t)) * Real.exp (I.lk n h t - I.mm h t)))
      * Real.exp (I.lk 2 h t - I.mm h t) = I.Gl h t := by
  have hm := (md_pos I h t).ne'
  unfold Inp.Gl rowGl
  rw [rowDelta_eq, Fin.sum_univ_three]
  unfold mixW
  change (I.gp 2 h t / I.md h t + -(_ + _ + _)) * Real.exp (I.lk 2 h t - I.mm h t)
    = Real.exp (I.lk 2 h t - I.mm h t) / I.md h t
      * (I.gp 2 h t - (Real.exp (I.lk 0 h t - I.mm h t) / I.md h t * I.gp 0 h t
        + Real.exp (I.lk 1 h t - I.mm h t) / I.md h t * I.gp 1 h t
        + Real.exp (I.lk 2 h t - I.mm h t) / I.md h t * I.gp 2 h t))
  field_simp
  ring

/-- The gradient of a row's log-sum. -/
theorem v124_at (h : Fin 8) (t : Fin 2048) (u : Fin 1) :
    val_main_v124 (F := Ideal) (co I.q) (co I.k) (co I.v) (co I.oa) (co I.la) (co I.ob) (co I.lb) (co I.ct) (ix3 h t u)
      = ((I.Gl h t : ℝ) : EReal) := by
  rw [val_main_v124_apply, show idx_main_v124 (ix3 h t u) = ix2 h t from
      ix2_of rfl rfl,
    val_main_v123_apply, show idx_main_v123 (ix2 h t) = ix3 (0 : Fin 1) h t from
      ix3_of rfl (by show (h.val * 2048 + t.val) / 2048 % 8 = h.val; omega)
        (by show (h.val * 2048 + t.val) % 2048 = t.val; omega),
    val_main_v122_apply, show idx_main_v122 (ix3 (0 : Fin 1) h t) = ix3 (2 : Fin 3) h t from ix3_of rfl rfl rfl,
    val_main_v117_apply, val_main_v116_apply, val_main_v113_apply, v105_at, val_main_v112_apply,
    show idx_main_v112 (ix3 (2 : Fin 3) h t) = ix3 (0 : Fin 1) h t from ix3_of rfl rfl rfl, v73_at,
    val_main_v115_apply, show idx_main_v115 (ix3 (2 : Fin 3) h t) = ix2 h t from ix2_of rfl rfl,
    val_main_v114_apply, val_main_cst_25_apply, ofBits_zero, Fin.sum_univ_one,
    show idx_main_v114 (ix2 h t) 0 = ix3 (0 : Fin 1) h t from ix3_of rfl rfl rfl, val_main_v111_apply,
    val_main_v110_apply, show idx_main_v110 (ix3 (0 : Fin 1) h t) = ix2 h t from
      ix2_of (by show ((0 * 8 + h.val) * 2048 + t.val) / 2048 = h.val; omega)
        (by show ((0 * 8 + h.val) * 2048 + t.val) % 2048 = t.val; omega), v109_at, v71_at]
  rw [← Gl_eq, EReal.coe_mul, EReal.coe_add, EReal.coe_neg, ← div_real (md_pos I h t).ne']
  congr 2
  exact zero_add _

/-- The gradient of a row's denominator. -/
theorem v132_at (h : Fin 8) (t : Fin 2048) (u : Fin 1) :
    val_main_v132 (F := Ideal) (co I.q) (co I.k) (co I.v) (co I.oa) (co I.la) (co I.ob) (co I.lb) (co I.ct) (ix3 h t u)
      = ((I.Gl h t / I.Dn h t
          + -(∑ d, I.wt 2 h t * tk I.ct h t d * (1 / (I.Dn h t * I.Dn h t)) * I.Un h t d) : ℝ) : EReal) := by
  rw [val_main_v132_apply, val_main_v125_apply, v124_at, v35_at, val_main_v131_apply, val_main_v130_apply,
    show idx_main_v130 (ix3 h t u) = ix2 h t from
      ix2_of (by show ((h.val * 2048 + t.val) * 1 + u.val) / 2048 = h.val; omega)
        (by show ((h.val * 2048 + t.val) * 1 + u.val) % 2048 = t.val; omega), val_main_v129_apply, val_main_cst_26_apply,
    ofBits_zero, EReal.coe_add, EReal.coe_neg, coe_sum, ← div_real (Dn_pos I h t).ne']
  have e : ∀ d : Fin 64, val_main_v128 (F := Ideal) (co I.q) (co I.k) (co I.v) (co I.la) (co I.lb) (co I.ct)
      (idx_main_v129 (ix2 h t) d)
      = ((I.wt 2 h t * tk I.ct h t d * (1 / (I.Dn h t * I.Dn h t)) * I.Un h t d : ℝ) : EReal) := fun d => by
    rw [show idx_main_v129 (ix2 h t) d = ix3 h t d from ix3_of rfl rfl rfl, val_main_v128_apply, val_main_v127_apply,
      v104_at, val_main_v126_apply, show idx_main_v126 (ix3 h t d) = ix3 h t (0 : Fin 1) from ix3_of rfl rfl rfl,
      v41_at, v36_at, EReal.coe_mul _ (I.Un h t d), EReal.coe_mul _ (1 / (I.Dn h t * I.Dn h t))]
    rfl
  show Ideal.div _ _ + -((0 : EReal) + _) = _
  rw [zero_add]
  exact congrArg₂ (· + ·) rfl (congrArg Neg.neg (Finset.sum_congr rfl fun d _ => e d))

/-- The gradient of the third output over the row's denominator. -/
theorem v134_at (h : Fin 8) (t : Fin 2048) (d : Fin 64) :
    val_main_v134 (F := Ideal) (co I.q) (co I.k) (co I.la) (co I.lb) (co I.ct) (ix3 h t d)
      = ((I.wt 2 h t * tk I.ct h t d / I.Dn h t : ℝ) : EReal) := by
  rw [val_main_v134_apply, v104_at, val_main_v133_apply,
    show idx_main_v133 (ix3 h t d) = ix3 h t (0 : Fin 1) from ix3_of rfl rfl rfl, v35_at]
  exact div_real (Dn_pos I h t).ne'

/-- The gradient of a score. -/
theorem v141_at (h : Fin 8) (t s : Fin 2048) :
    val_main_v141 (F := Ideal) (co I.q) (co I.k) (co I.v) (co I.oa) (co I.la) (co I.ob) (co I.lb) (co I.ct) (ix3 h t s)
      = ((I.Ds h t s : ℝ) : EReal) := by
  rw [val_main_v141_apply, val_main_v140_apply, v33_at, val_main_v139_apply,
    show idx_main_v139 (ix3 h t s) = ix2 h t from ix2_of rfl rfl, val_main_v138_apply, val_main_cst_27_apply,
    ofBits_zero, Fin.sum_univ_one, show idx_main_v138 (ix2 h t) 0 = ix3 h t (0 : Fin 1) from ix3_of rfl rfl rfl,
    v132_at, val_main_v137_apply]
  have e : (∑ d : Fin 64, val_main_v134 (F := Ideal) (co I.q) (co I.k) (co I.la) (co I.lb) (co I.ct)
        (lidx_main_v137 (ix3 h t s) d) * val_main_v5 (F := Ideal) (co I.v) (ridx_main_v137 (ix3 h t s) d))
      = ((∑ d, (I.wt 2 h t * tk I.ct h t d / I.Dn h t) * tk I.v h s d : ℝ) : EReal) := by
    rw [coe_sum]
    refine Finset.sum_congr rfl fun d _ => ?_
    rw [show lidx_main_v137 (ix3 h t s) d = ix3 h t d from ix3_of rfl rfl rfl,
      show ridx_main_v137 (ix3 h t s) d = ix3 h s d from ix3_of rfl rfl rfl, v134_at, v5_at, EReal.coe_mul]
  rw [e]
  show (_ + ((0 : EReal) + _)) * _ = _
  rw [zero_add, ← EReal.coe_add, ← EReal.coe_mul]
  exact congrArg _ (rowDs_chain (okk t) (I.sc h t) (tk I.v h) (tk I.ct h t) (fun d => I.oa (ix3 h t d))
    (fun d => I.ob (ix3 h t d)) (I.la (ix2 h t)) (I.lb (ix2 h t)) (I.mx h t) (I.mm h t) (okk_self t) s)

/-- The gradients of a row's scores and of its log-sum cancel at the row's maximum. -/
theorem v145_at (h : Fin 8) (t : Fin 2048) (u : Fin 1) :
    val_main_v145 (F := Ideal) (co I.q) (co I.k) (co I.v) (co I.oa) (co I.la) (co I.ob) (co I.lb) (co I.ct) (ix3 h t u)
      = (0 : EReal) := by
  rw [val_main_v145_apply, v124_at, val_main_v144_apply,
    show idx_main_v144 (ix3 h t u) = ix2 h t from
      ix2_of (by show ((h.val * 2048 + t.val) * 1 + u.val) / 2048 = h.val; omega)
        (by show ((h.val * 2048 + t.val) * 1 + u.val) % 2048 = t.val; omega), val_main_v143_apply, val_main_cst_28_apply,
    ofBits_zero]
  have e : (∑ s : Fin 2048, val_main_v142 (F := Ideal) (co I.q) (co I.k) (co I.v) (co I.oa) (co I.la) (co I.ob)
        (co I.lb) (co I.ct) (idx_main_v143 (ix2 h t) s)) = ((-(I.Gl h t) : ℝ) : EReal) := by
    have e' : -(I.Gl h t) = ∑ s, -(I.Ds h t s) := by
      rw [Finset.sum_neg_distrib]
      exact congrArg Neg.neg (sum_rowDs (okk t) (I.sc h t) (tk I.v h) (tk I.ct h t) (fun d => I.oa (ix3 h t d))
        (fun d => I.ob (ix3 h t d)) (I.la (ix2 h t)) (I.lb (ix2 h t)) (I.mx h t) (I.mm h t) (okk_self t)).symm
    rw [e', coe_sum]
    refine Finset.sum_congr rfl fun s _ => ?_
    rw [show idx_main_v143 (ix2 h t) s = ix3 h t s from ix3_of rfl rfl rfl, val_main_v142_apply, v141_at, EReal.coe_neg]
    rfl
  rw [e]
  show ((I.Gl h t : ℝ) : EReal) + ((0 : EReal) + _) = 0
  rw [zero_add, ← EReal.coe_add, add_neg_cancel, EReal.coe_zero]

/-- The number of keys with a row's maximal score is a nonzero real number. -/
theorem v29_at (h : Fin 8) (t : Fin 2048) :
    ∃ r : ℝ, r ≠ 0 ∧ val_main_v29 (F := Ideal) (co I.q) (co I.k) (ix2 h t) = ((r : ℝ) : EReal) := by
  have key : ∀ s : Fin 2048, val_main_v28 (F := Ideal) (co I.q) (co I.k) (idx_main_v29 (ix2 h t) s)
      = (((Ideal.cmp .oeq (val_main_v23_0 (F := Ideal) (co I.q) (co I.k) (ix3 h t s))
          (val_main_v24 (F := Ideal) (co I.q) (co I.k) (ix2 h t))).toNat : ℝ) : EReal) := fun s => by
    rw [show idx_main_v29 (ix2 h t) s = ix3 h t s from ix3_of rfl rfl rfl, val_main_v28_apply, val_main_v27_apply,
      val_main_v26_apply, show idx_main_v26 (ix3 h t s) = ix3 h t (0 : Fin 1) from ix3_of rfl rfl rfl,
      val_main_v25_apply, show idx_main_v25 (ix3 h t (0 : Fin 1)) = ix2 h t from
        ix2_of (by show ((h.val * 2048 + t.val) * 1 + 0) / 2048 = h.val; omega)
          (by show ((h.val * 2048 + t.val) * 1 + 0) % 2048 = t.val; omega)]
    rfl
  refine ⟨∑ s : Fin 2048, ((Ideal.cmp .oeq (val_main_v23_0 (F := Ideal) (co I.q) (co I.k) (ix3 h t s))
          (val_main_v24 (F := Ideal) (co I.q) (co I.k) (ix2 h t))).toNat : ℝ), ?_, ?_⟩
  · obtain ⟨s, hs⟩ := v24_attained I h t
    apply ne_of_gt
    refine Finset.sum_pos' (fun _ _ => Nat.cast_nonneg _) ⟨s, Finset.mem_univ s, ?_⟩
    rw [hs]
    simp [Ideal.cmp]
  · rw [val_main_v29_apply, val_main_cst_4_apply, ofBits_zero, coe_sum]
    exact (zero_add _).trans (Finset.sum_congr rfl fun s _ => key s)

/-- The gradient that reaches a row's maximum is zero. -/
theorem v147_at (h : Fin 8) (t : Fin 2048) :
    val_main_v147 (F := Ideal) (co I.q) (co I.k) (co I.v) (co I.oa) (co I.la) (co I.ob) (co I.lb) (co I.ct) (ix2 h t)
      = (0 : EReal) := by
  obtain ⟨r, hr, e⟩ := v29_at I h t
  rw [val_main_v147_apply, e, val_main_v146_apply, val_main_cst_29_apply, ofBits_zero, Fin.sum_univ_one,
    show idx_main_v146 (ix2 h t) 0 = ix3 h t (0 : Fin 1) from ix3_of rfl rfl rfl, v145_at]
  show Ideal.div ((0 : EReal) + 0) _ = 0
  rw [zero_add]
  exact div_zero_left (fun h0 => hr (EReal.coe_eq_zero.mp h0))

/-- The gradient of a score before the mask's scale. -/
theorem v150_at (h : Fin 8) (t s : Fin 2048) :
    val_main_v150 (F := Ideal) (co I.q) (co I.k) (co I.v) (co I.oa) (co I.la) (co I.ob) (co I.lb) (co I.ct) (ix3 h t s)
      = ((I.Ds h t s : ℝ) : EReal) := by
  rw [val_main_v150_apply, v141_at, val_main_v149_apply, val_main_v148_apply,
    show idx_main_v148 (ix3 h t s) = ix2 h t from ix2_of rfl rfl, v147_at]
  show ((I.Ds h t s : ℝ) : EReal) + (0 : EReal) * _ = _
  rw [zero_mul, add_zero]

/-- The gradient of a score through the mask. -/
theorem v151_at (h : Fin 8) (t s : Fin 2048) :
    val_main_v151 (F := Ideal) (co I.q) (co I.k) (co I.v) (co I.oa) (co I.la) (co I.ob) (co I.lb) (co I.ct) (ix3 h t s)
      = ((I.Ds h t s : ℝ) : EReal) := by
  rw [val_main_v151_apply, v150_at, v23_1_at, val_main_call2_v0_apply, val_main_call2_cst_apply, ofBits_zero]
  unfold okBit
  split
  · rfl
  · next hk =>
    unfold Inp.Ds rowDs rowPM
    rw [if_neg hk, zero_mul]
    rfl

namespace Inp

/-- The gradient of the queries. -/
def dq (h : Fin 8) (t : Fin 2048) (d : Fin 64) : ℝ := ∑ s, I.Ds h t s * tk I.k h s d

/-- The gradient of the keys. -/
def dk (h : Fin 8) (s : Fin 2048) (d : Fin 64) : ℝ := ∑ t, I.Ds h t s * tk I.q h t d

/-- The gradient of the values. -/
def dv (h : Fin 8) (s : Fin 2048) (d : Fin 64) : ℝ := ∑ t, I.Pm h t s * tk I.ct h t d

end Inp

/-- The gradient of the queries. -/
theorem v153_at (h : Fin 8) (t : Fin 2048) (d : Fin 64) :
    val_main_v153 (F := Ideal) (co I.q) (co I.k) (co I.v) (co I.oa) (co I.la) (co I.ob) (co I.lb) (co I.ct) (ix3 h t d)
      = ((I.dq h t d : ℝ) : EReal) := by
  rw [val_main_v153_apply, Inp.dq, coe_sum]
  refine Finset.sum_congr rfl fun s _ => ?_
  rw [show lidx_main_v153 (ix3 h t d) s = ix3 h t s from ix3_of rfl rfl rfl,
    show ridx_main_v153 (ix3 h t d) s = ix3 h s d from ix3_of rfl rfl rfl, v151_at, v3_at, EReal.coe_mul]

/-- The gradient of the keys. -/
theorem v152_at (h : Fin 8) (s : Fin 2048) (d : Fin 64) :
    val_main_v152 (F := Ideal) (co I.q) (co I.k) (co I.v) (co I.oa) (co I.la) (co I.ob) (co I.lb) (co I.ct) (ix3 h s d)
      = ((I.dk h s d : ℝ) : EReal) := by
  rw [val_main_v152_apply, Inp.dk, coe_sum]
  refine Finset.sum_congr rfl fun t _ => ?_
  rw [show lidx_main_v152 (ix3 h s d) t = ix3 h t s from ix3_of rfl rfl rfl,
    show ridx_main_v152 (ix3 h s d) t = ix3 h t d from ix3_of rfl rfl rfl, v151_at, v1_at, EReal.coe_mul]

/-- The gradient of the values. -/
theorem v136_at (h : Fin 8) (s : Fin 2048) (d : Fin 64) :
    val_main_v136 (F := Ideal) (co I.q) (co I.k) (co I.la) (co I.lb) (co I.ct) (ix3 h s d)
      = ((I.dv h s d : ℝ) : EReal) := by
  rw [val_main_v136_apply, show idx_main_v136 (ix3 h s d) = ix3 h d s from ix3_of rfl rfl rfl, val_main_v135_apply,
    Inp.dv, coe_sum]
  refine Finset.sum_congr rfl fun t _ => ?_
  rw [show lidx_main_v135 (ix3 h d s) t = ix3 h t d from ix3_of rfl rfl rfl,
    show ridx_main_v135 (ix3 h d s) t = ix3 h t s from ix3_of rfl rfl rfl, v134_at, v33_at, ← EReal.coe_mul]
  refine congrArg _ ?_
  have e : I.Pm h t s = I.wt 2 h t * (I.Pr h t s / I.Dn h t) :=
    rowPM_eq (okk t) (I.sc h t) (I.la (ix2 h t)) (I.lb (ix2 h t)) (I.mx h t) (I.mm h t) (okk_self t) s
  rw [e]
  ring

/-- The token of a row and a column of the blocks' view: 16 tokens lie side by side, 512 columns each. -/
def vt (l : Fin 128) (c : Fin 8192) : Fin 2048 := ⟨l.val * 16 + c.val / 512, by omega⟩

/-- The head of a column of the blocks' view. -/
def vh (c : Fin 8192) : Fin 8 := ⟨c.val % 512 / 64, by omega⟩

/-- The lane of a column of the blocks' view. -/
def vd (c : Fin 8192) : Fin 64 := ⟨c.val % 64, by omega⟩

/-- The reference's gradient of the queries in the blocks' view. -/
theorem v161_at (l : Fin 128) (c : Fin 8192) :
    val_main_v161 (F := Ideal) (co I.q) (co I.k) (co I.v) (co I.oa) (co I.la) (co I.ob) (co I.lb) (co I.ct) (ix2 l c)
      = ((I.dq (vh c) (vt l c) (vd c) : ℝ) : EReal) := by
  rw [val_main_v161_apply, val_main_v160_apply, val_main_v159_apply, val_main_v158_apply,
    show idx_main_v158 (idx_main_v159 (idx_main_v160 (ix2 l c))) = ix3 (vh c) (vt l c) (vd c) from
      ix3_of
        (by show ((l.val * 8192 + c.val) / 512 * 512 + (l.val * 8192 + c.val) % 512) / 64 % 8 = c.val % 512 / 64; omega)
        (by show ((l.val * 8192 + c.val) / 512 * 512 + (l.val * 8192 + c.val) % 512) / 512 = l.val * 16 + c.val / 512; omega)
        (by show ((l.val * 8192 + c.val) / 512 * 512 + (l.val * 8192 + c.val) % 512) % 64 = c.val % 64; omega),
    v153_at]
  rfl

/-- The reference's gradient of the keys in the blocks' view. -/
theorem v163_at (l : Fin 128) (c : Fin 8192) :
    val_main_v163 (F := Ideal) (co I.q) (co I.k) (co I.v) (co I.oa) (co I.la) (co I.ob) (co I.lb) (co I.ct) (ix2 l c)
      = ((I.dk (vh c) (vt l c) (vd c) : ℝ) : EReal) := by
  rw [val_main_v163_apply, val_main_v162_apply, val_main_v157_apply, val_main_v156_apply,
    show idx_main_v156 (idx_main_v157 (idx_main_v162 (ix2 l c))) = ix3 (vh c) (vt l c) (vd c) from
      ix3_of
        (by show ((l.val * 8192 + c.val) / 512 * 512 + (l.val * 8192 + c.val) % 512) / 64 % 8 = c.val % 512 / 64; omega)
        (by show ((l.val * 8192 + c.val) / 512 * 512 + (l.val * 8192 + c.val) % 512) / 512 = l.val * 16 + c.val / 512; omega)
        (by show ((l.val * 8192 + c.val) / 512 * 512 + (l.val * 8192 + c.val) % 512) % 64 = c.val % 64; omega),
    v152_at]
  rfl

/-- The reference's gradient of the values in the blocks' view. -/
theorem v165_at (l : Fin 128) (c : Fin 8192) :
    val_main_v165 (F := Ideal) (co I.q) (co I.k) (co I.la) (co I.lb) (co I.ct) (ix2 l c)
      = ((I.dv (vh c) (vt l c) (vd c) : ℝ) : EReal) := by
  rw [val_main_v165_apply, val_main_v164_apply, val_main_v155_apply, val_main_v154_apply,
    show idx_main_v154 (idx_main_v155 (idx_main_v164 (ix2 l c))) = ix3 (vh c) (vt l c) (vd c) from
      ix3_of
        (by show ((l.val * 8192 + c.val) / 512 * 512 + (l.val * 8192 + c.val) % 512) / 64 % 8 = c.val % 512 / 64; omega)
        (by show ((l.val * 8192 + c.val) / 512 * 512 + (l.val * 8192 + c.val) % 512) / 512 = l.val * 16 + c.val / 512; omega)
        (by show ((l.val * 8192 + c.val) / 512 * 512 + (l.val * 8192 + c.val) % 512) % 64 = c.val % 64; omega),
    v136_at]
  rfl

end Cert.Attn

end
-- ==== Proof.PointVal.lean ====
module

public import proofs.«01_k».proof.Proof.BlockVal
public import proofs.«01_k».proof.Proof.RefGrad

@[expose] public section

set_option maxRecDepth 16384

noncomputable section

/-! One pair of heads at one residue of the tokens: the sums over 128 tokens of a block are the rows' whole sums. -/

namespace Cert.Attn

open Idealize.ShloMosaic.TcCoe Idealize.SL.Sem
open Idealize.ShloMosaic hiding ix2 ix3 ix4
open Idealize.ShloMosaic.ValueIdx
open scoped BigOperators

/-- A product over 128 lanes with the other head's cleared is a product over the head's 64. -/
theorem sum_lanes (e : Fin 2) (X Y : Fin 128 → ℝ) :
    (∑ c : Fin 128, X c * (if c.val / 64 = e.val then Y c else 0))
      = ∑ d : Fin 64, X ⟨e.val * 64 + d.val, by omega⟩ * Y ⟨e.val * 64 + d.val, by omega⟩ := by
  symm
  refine Finset.sum_of_injOn (fun d : Fin 64 => (⟨e.val * 64 + d.val, by omega⟩ : Fin 128)) ?_ ?_ ?_ ?_
  · intro a _ b _ h
    have := congrArg Fin.val h
    apply Fin.ext
    simp only at this
    omega
  · intro a _; exact Finset.mem_coe.mpr (Finset.mem_univ _)
  · intro c _ hc
    rw [if_neg, mul_zero]
    intro h
    exact hc ⟨⟨c.val % 64, by omega⟩, Finset.mem_coe.mpr (Finset.mem_univ _), Fin.ext (by show e.val * 64 + c.val % 64 = c.val; omega)⟩
  · intro d _
    rw [if_pos]
    show (e.val * 64 + d.val) / 64 = e.val
    omega

/-- A block's token. -/
def tt (r : Fin 16) (a : Fin 128) : Fin 2048 := ⟨a.val * 16 + r.val, by omega⟩

/-- A sum over all tokens of a function that vanishes off one residue is the sum over the residue's block. -/
theorem sum_tokens (r : Fin 16) (f : Fin 2048 → ℝ) (hf : ∀ s : Fin 2048, s.val % 16 ≠ r.val → f s = 0) :
    ∑ s, f s = ∑ a, f (tt r a) := by
  symm
  refine Finset.sum_of_injOn (tt r) ?_ ?_ ?_ ?_
  · intro a _ b _ h
    have : a.val * 16 + r.val = b.val * 16 + r.val := congrArg Fin.val h
    exact Fin.ext (by omega)
  · intro a _; exact Finset.mem_coe.mpr (Finset.mem_univ _)
  · intro s _ hs
    apply hf
    intro h
    exact hs ⟨⟨s.val / 16, by omega⟩, Finset.mem_coe.mpr (Finset.mem_univ _), Fin.ext (by show s.val / 16 * 16 + r.val = s.val; omega)⟩
  · intro a _; rfl

/-- Of one residue's tokens the allowed keys are those not later than the query. -/
theorem okk_tt (r : Fin 16) (a s : Fin 128) : okk (tt r a) (tt r s) ↔ s.val ≤ a.val := by
  unfold okk tt
  constructor
  · rintro ⟨h, _⟩
    have h' : s.val * 16 + r.val ≤ a.val * 16 + r.val := h
    omega
  · intro h
    refine ⟨?_, ?_⟩
    · show s.val * 16 + r.val ≤ a.val * 16 + r.val
      omega
    · show (a.val * 16 + r.val - (s.val * 16 + r.val)) % 16 = 0
      omega

/-- An allowed key has its query's residue. -/
theorem okk_mod {t s : Fin 2048} (h : okk t s) : s.val % 16 = t.val % 16 := by
  obtain ⟨h1, h2⟩ := h
  have h1' : s.val ≤ t.val := h1
  have h2' : (t.val - s.val) % 16 = 0 := h2
  omega

variable (I : Inp)

/-- The largest of a row's three log-sums, as the call's host line takes it. -/
def Inp.kM (h : Fin 8) (t : Fin 2048) : ℝ := max (max (I.la (ix2 h t)) (I.lb (ix2 h t))) (I.Ls h t)

/-- A row's log-sum in the mixture. -/
def Inp.kL (h : Fin 8) (t : Fin 2048) : ℝ := mixLse (I.la (ix2 h t)) (I.lb (ix2 h t)) (I.Ls h t) (I.kM h t)

/-- A row's product of the gradient with the mixture. -/
def Inp.kD (h : Fin 8) (t : Fin 2048) : ℝ :=
  rowDelta (okk t) (I.sc h t) (tk I.v h) (tk I.ct h t) (fun d => I.oa (ix3 h t d)) (fun d => I.ob (ix3 h t d))
    (I.la (ix2 h t)) (I.lb (ix2 h t)) (I.mx h t) (I.kM h t)

/-- A head of a pair. -/
def hh (p : Fin 4) (e : Fin 2) : Fin 8 := ⟨p.val * 2 + e.val, by omega⟩

/-- A pair's block of the rows. -/
def blkR (X : Cert.ReferenceIdeal.S2048x512.Idx → ℝ) (r : Fin 16) (p : Fin 4) (a c : Fin 128) : ℝ :=
  tk X (hh p ⟨c.val / 64, by omega⟩) (tt r a) ⟨c.val % 64, by omega⟩

theorem blkR_lane (X : Cert.ReferenceIdeal.S2048x512.Idx → ℝ) (r : Fin 16) (p : Fin 4) (e : Fin 2) (a : Fin 128) (d : Fin 64) :
    blkR X r p a ⟨e.val * 64 + d.val, by omega⟩ = tk X (hh p e) (tt r a) d := by
  unfold blkR
  have h1 : (⟨(e.val * 64 + d.val) / 64, by omega⟩ : Fin 2) = e := Fin.ext (by show (e.val * 64 + d.val) / 64 = e.val; omega)
  have h2 : (⟨(e.val * 64 + d.val) % 64, by omega⟩ : Fin 64) = d := Fin.ext (by show (e.val * 64 + d.val) % 64 = d.val; omega)
  rw [h1, h2]

/-- A block's products are the rows' products. -/
theorem bS_eq (X Y : Cert.ReferenceIdeal.S2048x512.Idx → ℝ) (r : Fin 16) (p : Fin 4) (e : Fin 2) (s t : Fin 128) :
    bS e (blkR X r p) (blkR Y r p) s t = ∑ d, tk Y (hh p e) (tt r s) d * tk X (hh p e) (tt r t) d := by
  unfold bS
  rw [sum_lanes]
  exact Finset.sum_congr rfl fun d _ => by rw [blkR_lane, blkR_lane]

/-- A block's weights are the rows' weights. -/
theorem bP_eq (r : Fin 16) (p : Fin 4) (e : Fin 2) (s t : Fin 128) :
    bP e (blkR I.q r p) (blkR I.k r p) (fun a => I.kL (hh p e) (tt r a)) s t = I.Pm (hh p e) (tt r t) (tt r s) := by
  have h : bP e (blkR I.q r p) (blkR I.k r p) (fun a => I.kL (hh p e) (tt r a)) s t
      = rowPM (okk (tt r t)) (I.sc (hh p e) (tt r t)) (I.kL (hh p e) (tt r t)) (tt r s) := by
    unfold bP rowPM
    simp only [okk_tt]
    rw [bS_eq]
    have : (∑ d, tk I.k (hh p e) (tt r s) d * tk I.q (hh p e) (tt r t) d) = I.sc (hh p e) (tt r t) (tt r s) :=
      Finset.sum_congr rfl fun d _ => mul_comm _ _
    rw [this]
  rw [h]
  exact rowPM_shift _ _ _ _ _ _ _ (okk_self _) _

/-- A block's gradients of the scores are the rows'. -/
theorem bD_eq (r : Fin 16) (p : Fin 4) (e : Fin 2) (s t : Fin 128) :
    bD e (blkR I.q r p) (blkR I.k r p) (blkR I.v r p) (blkR I.ct r p) (fun a => I.kD (hh p e) (tt r a))
      (fun a => I.kL (hh p e) (tt r a)) s t = I.Ds (hh p e) (tt r t) (tt r s) := by
  unfold bD
  rw [bP_eq, bS_eq]
  unfold Inp.Ds rowDs Inp.Pm Inp.kD
  beta_reduce
  rw [rowDelta_shift _ _ _ _ _ _ _ _ _ (I.kM (hh p e) (tt r t)) (I.mm (hh p e) (tt r t))]

/-- A row's gradient of a score vanishes off the query's residue. -/
theorem Ds_off (h : Fin 8) {t s : Fin 2048} (hts : s.val % 16 ≠ t.val % 16) : I.Ds h t s = 0 := by
  unfold Inp.Ds rowDs rowPM
  rw [if_neg fun hk => hts (okk_mod hk), zero_mul]

/-- A row's weight vanishes off the query's residue. -/
theorem Pm_off (h : Fin 8) {t s : Fin 2048} (hts : s.val % 16 ≠ t.val % 16) : I.Pm h t s = 0 := by
  unfold Inp.Pm rowPM
  rw [if_neg fun hk => hts (okk_mod hk)]

/-- A block's token has its residue. -/
theorem tt_mod (r : Fin 16) (a : Fin 128) : (tt r a).val % 16 = r.val := by
  show (a.val * 16 + r.val) % 16 = r.val
  omega

/-- A block's gradient of the queries is the rows'. -/
theorem dq_eq (r : Fin 16) (p : Fin 4) (a c : Fin 128) :
    (∑ s, bD ⟨c.val / 64, by omega⟩ (blkR I.q r p) (blkR I.k r p) (blkR I.v r p) (blkR I.ct r p)
        (fun a => I.kD (hh p ⟨c.val / 64, by omega⟩) (tt r a)) (fun a => I.kL (hh p ⟨c.val / 64, by omega⟩) (tt r a)) s a
      * blkR I.k r p s c) = I.dq (hh p ⟨c.val / 64, by omega⟩) (tt r a) ⟨c.val % 64, by omega⟩ := by
  unfold Inp.dq
  rw [sum_tokens r _ fun s hs => by rw [Ds_off I _ (by rw [tt_mod]; exact hs), zero_mul]]
  exact Finset.sum_congr rfl fun s _ => by rw [bD_eq]; rfl

/-- A block's gradient of the keys is the rows'. -/
theorem dk_eq (r : Fin 16) (p : Fin 4) (a c : Fin 128) :
    (∑ t, bD ⟨c.val / 64, by omega⟩ (blkR I.q r p) (blkR I.k r p) (blkR I.v r p) (blkR I.ct r p)
        (fun a => I.kD (hh p ⟨c.val / 64, by omega⟩) (tt r a)) (fun a => I.kL (hh p ⟨c.val / 64, by omega⟩) (tt r a)) a t
      * blkR I.q r p t c) = I.dk (hh p ⟨c.val / 64, by omega⟩) (tt r a) ⟨c.val % 64, by omega⟩ := by
  unfold Inp.dk
  rw [sum_tokens r _ fun t ht => by rw [Ds_off I _ (by rw [tt_mod]; exact fun e => ht e.symm), zero_mul]]
  exact Finset.sum_congr rfl fun s _ => by rw [bD_eq]; rfl

/-- A block's gradient of the values is the rows'. -/
theorem dv_eq (r : Fin 16) (p : Fin 4) (a c : Fin 128) :
    (∑ t, bP ⟨c.val / 64, by omega⟩ (blkR I.q r p) (blkR I.k r p)
        (fun a => I.kL (hh p ⟨c.val / 64, by omega⟩) (tt r a)) a t
      * blkR I.ct r p t c) = I.dv (hh p ⟨c.val / 64, by omega⟩) (tt r a) ⟨c.val % 64, by omega⟩ := by
  unfold Inp.dv
  rw [sum_tokens r _ fun t ht => by rw [Pm_off I _ (by rw [tt_mod]; exact fun e => ht e.symm), zero_mul]]
  exact Finset.sum_congr rfl fun s _ => by rw [bP_eq]; rfl

end Cert.Attn

end
-- ==== Proof.HostRead.lean ====
module

public import proofs.«01_k».proof.Proof.RefGrad
public import proofs.«01_k».proof.Proof.Gen.KernelIdeal.Value
public import Idealize.ShloMosaic.Lib.StableHlo.Run

@[expose] public section

set_option maxRecDepth 16384

noncomputable section

/-! The host operations before the region, read in windows: each value is the reference's own stage, or a named one. -/

namespace Cert.Attn.Host

open Cert.KernelIdeal Cert.KernelIdeal.Gen Idealize.ShloMosaic Idealize.ShloMosaic.TcCoe Idealize.SL.Sem
open Idealize.ShloMosaic.StableHlo
open Cert.ReferenceIdeal.Read

variable {F : FTy → Type} [FloatOps F]

/-- The operations from the rows' maxima to the rows' outputs and log-sums. -/
abbrev opsE : List (HloOp τ sig (Elt F)) := hostOps0_4.take 15

/-- The operations that mix the three outputs and log-sums, and the rows' products with the gradient. -/
abbrev opsF : List (HloOp τ sig (Elt F)) := (hostOps0_4.drop 15).take 31

/-- The operations that lay out the kernel's inputs. -/
abbrev opsG : List (HloOp τ sig (Elt F)) := hostOps0_4.drop 46

/-- The largest of three log-sums. -/
def mH (la lb ls : Vec F S8x2048 .f32) : FVec F S8x2048 .f32 := maximumf (maximumf la lb) ls

/-- The exponential of a log-sum less the largest. -/
def eH (l la lb ls : Vec F S8x2048 .f32) : FVec F S8x2048 .f32 := Host.exp (subf l (mH la lb ls))

/-- The mixture's denominator. -/
def denH (la lb ls : Vec F S8x2048 .f32) : FVec F S8x2048 .f32 :=
  addf (addf (eH la la lb ls) (eH lb la lb ls)) (eH ls la lb ls)

/-- The mixture's log-sum. -/
def lseH (la lb ls : Vec F S8x2048 .f32) : FVec F S8x2048 .f32 := addf (mH la lb ls) (Host.log (denH la lb ls))

/-- One output of the mixture times its weight. -/
def termH (l la lb ls : Vec F S8x2048 .f32) (o : Vec F S8x2048x64 .f32) : FVec F S8x2048x64 .f32 :=
  mulf (broadcastInDim S8x2048x64 ![0, 1, 2] bcast_S8x2048x1_S8x2048x64_0_1_2
    (broadcastInDim S8x2048x1 ![0, 1] bcast_S8x2048_S8x2048x1_0_1 (Host.divf (eH l la lb ls) (denH la lb ls)))) o

/-- The rows' products of the gradient with the mixture. -/
def deltaH (oa : Vec F S8x2048x64 .f32) (la : Vec F S8x2048 .f32) (ob : Vec F S8x2048x64 .f32) (lb : Vec F S8x2048 .f32)
    (o : Vec F S8x2048x64 .f32) (ls : Vec F S8x2048 .f32) (g : Vec F S8x2048x64 .f32) : FVec F S8x2048 .f32 :=
  Host.reduceAdd (mulf g (addf (addf (termH la la lb ls oa) (termH lb la lb ls ob)) (termH ls la lb ls o)))
    (constant S_ .f32 0x00000000#32) reducesTo_S8x2048x64_S8x2048_d2 h_S_

/-- A number for each row of each head, laid out as the kernel reads it. -/
def layH (x : Vec F S8x2048 .f32) : FVec F S128x2048 .f32 :=
  shapeCast S128x2048 (shapeCast S2048x128 (broadcastInDim S2048x8x16 ![0, 1] bcast_S2048x8_S2048x8x16_0_1
    (transpose S2048x8 [1, 0] x transposes_S8x2048_S2048x8_1_0)) shapeCasts_S2048x8x16_S2048x128) shapeCasts_S2048x128_S128x2048

/-- A row of every head for each token, laid out as the kernel reads it. -/
def viewH (x : Vec F S2048x512 .f32) : FVec F S128x8192 .bf16 :=
  truncf .bf16 (shapeCast S128x8192 x shapeCasts_S2048x512_S128x8192) bitsLt_bf16_f32

/-- The buffers after the operations up to window A. -/
def wA (V0 : Valuation τ sig (Elt F)) : Valuation τ sig (Elt F) := after hostOps0 (V0)

/-- The buffers after the operations up to window B. -/
def wB (V0 : Valuation τ sig (Elt F)) : Valuation τ sig (Elt F) := after hostOps0_1 (wA V0)

/-- The buffers after the operations up to window C. -/
def wC (V0 : Valuation τ sig (Elt F)) : Valuation τ sig (Elt F) := after hostOps0_2 (wB V0)

/-- The buffers after the operations up to window D. -/
def wD (V0 : Valuation τ sig (Elt F)) : Valuation τ sig (Elt F) := after hostOps0_3 (wC V0)

/-- The buffers after the operations up to window E. -/
def wE (V0 : Valuation τ sig (Elt F)) : Valuation τ sig (Elt F) := after opsE (wD V0)

/-- The buffers after the operations up to window F. -/
def wF (V0 : Valuation τ sig (Elt F)) : Valuation τ sig (Elt F) := after opsF (wE V0)

/-- The buffers after the operations up to window G. -/
def wG (V0 : Valuation τ sig (Elt F)) : Valuation τ sig (Elt F) := after opsG (wF V0)

theorem wA_arg0 (V0 : Valuation τ sig (Elt F)) : wA V0 (no_index (Proc.devRef .tc main_arg0)) = V0 (Proc.devRef .tc main_arg0) := by
  unfold wA
  simp only [hostOps0, hostOps0_4, List.take, List.drop, TRef.binary, TRef.nullary, TRef.ternary, TRef.unary, TRef.toBuf, TRef.ofBuf, cast_eq]
  after_results_simp
  first | rfl | skip

theorem wA_arg1 (V0 : Valuation τ sig (Elt F)) : wA V0 (no_index (Proc.devRef .tc main_arg1)) = V0 (Proc.devRef .tc main_arg1) := by
  unfold wA
  simp only [hostOps0, hostOps0_4, List.take, List.drop, TRef.binary, TRef.nullary, TRef.ternary, TRef.unary, TRef.toBuf, TRef.ofBuf, cast_eq]
  after_results_simp
  first | rfl | skip

theorem wA_arg2 (V0 : Valuation τ sig (Elt F)) : wA V0 (no_index (Proc.devRef .tc main_arg2)) = V0 (Proc.devRef .tc main_arg2) := by
  unfold wA
  simp only [hostOps0, hostOps0_4, List.take, List.drop, TRef.binary, TRef.nullary, TRef.ternary, TRef.unary, TRef.toBuf, TRef.ofBuf, cast_eq]
  after_results_simp
  first | rfl | skip

theorem wA_arg3 (V0 : Valuation τ sig (Elt F)) : wA V0 (no_index (Proc.devRef .tc main_arg3)) = V0 (Proc.devRef .tc main_arg3) := by
  unfold wA
  simp only [hostOps0, hostOps0_4, List.take, List.drop, TRef.binary, TRef.nullary, TRef.ternary, TRef.unary, TRef.toBuf, TRef.ofBuf, cast_eq]
  after_results_simp
  first | rfl | skip

theorem wA_arg4 (V0 : Valuation τ sig (Elt F)) : wA V0 (no_index (Proc.devRef .tc main_arg4)) = V0 (Proc.devRef .tc main_arg4) := by
  unfold wA
  simp only [hostOps0, hostOps0_4, List.take, List.drop, TRef.binary, TRef.nullary, TRef.ternary, TRef.unary, TRef.toBuf, TRef.ofBuf, cast_eq]
  after_results_simp
  first | rfl | skip

theorem wA_arg5 (V0 : Valuation τ sig (Elt F)) : wA V0 (no_index (Proc.devRef .tc main_arg5)) = V0 (Proc.devRef .tc main_arg5) := by
  unfold wA
  simp only [hostOps0, hostOps0_4, List.take, List.drop, TRef.binary, TRef.nullary, TRef.ternary, TRef.unary, TRef.toBuf, TRef.ofBuf, cast_eq]
  after_results_simp
  first | rfl | skip

theorem wA_arg6 (V0 : Valuation τ sig (Elt F)) : wA V0 (no_index (Proc.devRef .tc main_arg6)) = V0 (Proc.devRef .tc main_arg6) := by
  unfold wA
  simp only [hostOps0, hostOps0_4, List.take, List.drop, TRef.binary, TRef.nullary, TRef.ternary, TRef.unary, TRef.toBuf, TRef.ofBuf, cast_eq]
  after_results_simp
  first | rfl | skip

theorem wA_arg7 (V0 : Valuation τ sig (Elt F)) : wA V0 (no_index (Proc.devRef .tc main_arg7)) = V0 (Proc.devRef .tc main_arg7) := by
  unfold wA
  simp only [hostOps0, hostOps0_4, List.take, List.drop, TRef.binary, TRef.nullary, TRef.ternary, TRef.unary, TRef.toBuf, TRef.ofBuf, cast_eq]
  after_results_simp
  first | rfl | skip

theorem wA_v5 (V0 : Valuation τ sig (Elt F)) : wA V0 (no_index (Proc.devRef .tc main_v5)) = val_main_v5 (F := F) (V0 (Proc.devRef .tc main_arg2)) := by
  unfold wA
  simp only [hostOps0, hostOps0_4, List.take, List.drop, TRef.binary, TRef.nullary, TRef.ternary, TRef.unary, TRef.toBuf, TRef.ofBuf, cast_eq]
  after_results_simp
  first | rfl | skip

theorem wA_v6 (V0 : Valuation τ sig (Elt F)) : wA V0 (no_index (Proc.devRef .tc main_v6)) = val_main_v6 (F := F) (V0 (Proc.devRef .tc main_arg0)) (V0 (Proc.devRef .tc main_arg1)) := by
  unfold wA
  simp only [hostOps0, hostOps0_4, List.take, List.drop, TRef.binary, TRef.nullary, TRef.ternary, TRef.unary, TRef.toBuf, TRef.ofBuf, cast_eq]
  after_results_simp
  first | rfl | skip

theorem wA_v13 (V0 : Valuation τ sig (Elt F)) : wA V0 (no_index (Proc.devRef .tc main_v13)) = val_main_v13 (F := F) := by
  unfold wA
  simp only [hostOps0, hostOps0_4, List.take, List.drop, TRef.binary, TRef.nullary, TRef.ternary, TRef.unary, TRef.toBuf, TRef.ofBuf, cast_eq]
  after_results_simp
  first | rfl | skip

theorem wA_v18 (V0 : Valuation τ sig (Elt F)) : wA V0 (no_index (Proc.devRef .tc main_v18)) = val_main_v18 (F := F) := by
  unfold wA
  simp only [hostOps0, hostOps0_4, List.take, List.drop, TRef.binary, TRef.nullary, TRef.ternary, TRef.unary, TRef.toBuf, TRef.ofBuf, cast_eq]
  after_results_simp
  first | rfl | skip

theorem wA_c_1 (V0 : Valuation τ sig (Elt F)) : wA V0 (no_index (Proc.devRef .tc main_c_1)) = constantI S_ 32 16#32 := by
  unfold wA
  simp only [hostOps0, hostOps0_4, List.take, List.drop, TRef.binary, TRef.nullary, TRef.ternary, TRef.unary, TRef.toBuf, TRef.ofBuf, cast_eq]
  after_results_simp
  first | rfl | skip

theorem wB_arg0 (V0 : Valuation τ sig (Elt F)) : wB V0 (no_index (Proc.devRef .tc main_arg0)) = V0 (Proc.devRef .tc main_arg0) := by
  unfold wB
  simp only [hostOps0_1, hostOps0_4, List.take, List.drop, TRef.binary, TRef.nullary, TRef.ternary, TRef.unary, TRef.toBuf, TRef.ofBuf, cast_eq]
  after_results_simp
  simp only [wA_arg0] <;> rfl

theorem wB_arg1 (V0 : Valuation τ sig (Elt F)) : wB V0 (no_index (Proc.devRef .tc main_arg1)) = V0 (Proc.devRef .tc main_arg1) := by
  unfold wB
  simp only [hostOps0_1, hostOps0_4, List.take, List.drop, TRef.binary, TRef.nullary, TRef.ternary, TRef.unary, TRef.toBuf, TRef.ofBuf, cast_eq]
  after_results_simp
  simp only [wA_arg1] <;> rfl

theorem wB_arg2 (V0 : Valuation τ sig (Elt F)) : wB V0 (no_index (Proc.devRef .tc main_arg2)) = V0 (Proc.devRef .tc main_arg2) := by
  unfold wB
  simp only [hostOps0_1, hostOps0_4, List.take, List.drop, TRef.binary, TRef.nullary, TRef.ternary, TRef.unary, TRef.toBuf, TRef.ofBuf, cast_eq]
  after_results_simp
  simp only [wA_arg2] <;> rfl

theorem wB_arg3 (V0 : Valuation τ sig (Elt F)) : wB V0 (no_index (Proc.devRef .tc main_arg3)) = V0 (Proc.devRef .tc main_arg3) := by
  unfold wB
  simp only [hostOps0_1, hostOps0_4, List.take, List.drop, TRef.binary, TRef.nullary, TRef.ternary, TRef.unary, TRef.toBuf, TRef.ofBuf, cast_eq]
  after_results_simp
  simp only [wA_arg3] <;> rfl

theorem wB_arg4 (V0 : Valuation τ sig (Elt F)) : wB V0 (no_index (Proc.devRef .tc main_arg4)) = V0 (Proc.devRef .tc main_arg4) := by
  unfold wB
  simp only [hostOps0_1, hostOps0_4, List.take, List.drop, TRef.binary, TRef.nullary, TRef.ternary, TRef.unary, TRef.toBuf, TRef.ofBuf, cast_eq]
  after_results_simp
  simp only [wA_arg4] <;> rfl

theorem wB_arg5 (V0 : Valuation τ sig (Elt F)) : wB V0 (no_index (Proc.devRef .tc main_arg5)) = V0 (Proc.devRef .tc main_arg5) := by
  unfold wB
  simp only [hostOps0_1, hostOps0_4, List.take, List.drop, TRef.binary, TRef.nullary, TRef.ternary, TRef.unary, TRef.toBuf, TRef.ofBuf, cast_eq]
  after_results_simp
  simp only [wA_arg5] <;> rfl

theorem wB_arg6 (V0 : Valuation τ sig (Elt F)) : wB V0 (no_index (Proc.devRef .tc main_arg6)) = V0 (Proc.devRef .tc main_arg6) := by
  unfold wB
  simp only [hostOps0_1, hostOps0_4, List.take, List.drop, TRef.binary, TRef.nullary, TRef.ternary, TRef.unary, TRef.toBuf, TRef.ofBuf, cast_eq]
  after_results_simp
  simp only [wA_arg6] <;> rfl

theorem wB_arg7 (V0 : Valuation τ sig (Elt F)) : wB V0 (no_index (Proc.devRef .tc main_arg7)) = V0 (Proc.devRef .tc main_arg7) := by
  unfold wB
  simp only [hostOps0_1, hostOps0_4, List.take, List.drop, TRef.binary, TRef.nullary, TRef.ternary, TRef.unary, TRef.toBuf, TRef.ofBuf, cast_eq]
  after_results_simp
  simp only [wA_arg7] <;> rfl

theorem wB_v5 (V0 : Valuation τ sig (Elt F)) : wB V0 (no_index (Proc.devRef .tc main_v5)) = val_main_v5 (F := F) (V0 (Proc.devRef .tc main_arg2)) := by
  unfold wB
  simp only [hostOps0_1, hostOps0_4, List.take, List.drop, TRef.binary, TRef.nullary, TRef.ternary, TRef.unary, TRef.toBuf, TRef.ofBuf, cast_eq]
  after_results_simp
  simp only [wA_v5] <;> rfl

theorem wB_v6 (V0 : Valuation τ sig (Elt F)) : wB V0 (no_index (Proc.devRef .tc main_v6)) = val_main_v6 (F := F) (V0 (Proc.devRef .tc main_arg0)) (V0 (Proc.devRef .tc main_arg1)) := by
  unfold wB
  simp only [hostOps0_1, hostOps0_4, List.take, List.drop, TRef.binary, TRef.nullary, TRef.ternary, TRef.unary, TRef.toBuf, TRef.ofBuf, cast_eq]
  after_results_simp
  simp only [wA_v6] <;> rfl

theorem wB_v18 (V0 : Valuation τ sig (Elt F)) : wB V0 (no_index (Proc.devRef .tc main_v18)) = val_main_v18 (F := F) := by
  unfold wB
  simp only [hostOps0_1, hostOps0_4, List.take, List.drop, TRef.binary, TRef.nullary, TRef.ternary, TRef.unary, TRef.toBuf, TRef.ofBuf, cast_eq]
  after_results_simp
  simp only [wA_v18] <;> rfl

theorem wB_v19 (V0 : Valuation τ sig (Elt F)) : wB V0 (no_index (Proc.devRef .tc main_v19)) = val_main_v19 (F := F) := by
  unfold wB
  simp only [hostOps0_1, hostOps0_4, List.take, List.drop, TRef.binary, TRef.nullary, TRef.ternary, TRef.unary, TRef.toBuf, TRef.ofBuf, cast_eq]
  after_results_simp
  simp only [wA_v13, wA_c_1] <;> rfl

theorem wC_arg0 (V0 : Valuation τ sig (Elt F)) : wC V0 (no_index (Proc.devRef .tc main_arg0)) = V0 (Proc.devRef .tc main_arg0) := by
  unfold wC
  simp only [hostOps0_2, hostOps0_4, List.take, List.drop, TRef.binary, TRef.nullary, TRef.ternary, TRef.unary, TRef.toBuf, TRef.ofBuf, cast_eq]
  after_results_simp
  simp only [wB_arg0] <;> rfl

theorem wC_arg1 (V0 : Valuation τ sig (Elt F)) : wC V0 (no_index (Proc.devRef .tc main_arg1)) = V0 (Proc.devRef .tc main_arg1) := by
  unfold wC
  simp only [hostOps0_2, hostOps0_4, List.take, List.drop, TRef.binary, TRef.nullary, TRef.ternary, TRef.unary, TRef.toBuf, TRef.ofBuf, cast_eq]
  after_results_simp
  simp only [wB_arg1] <;> rfl

theorem wC_arg2 (V0 : Valuation τ sig (Elt F)) : wC V0 (no_index (Proc.devRef .tc main_arg2)) = V0 (Proc.devRef .tc main_arg2) := by
  unfold wC
  simp only [hostOps0_2, hostOps0_4, List.take, List.drop, TRef.binary, TRef.nullary, TRef.ternary, TRef.unary, TRef.toBuf, TRef.ofBuf, cast_eq]
  after_results_simp
  simp only [wB_arg2] <;> rfl

theorem wC_arg3 (V0 : Valuation τ sig (Elt F)) : wC V0 (no_index (Proc.devRef .tc main_arg3)) = V0 (Proc.devRef .tc main_arg3) := by
  unfold wC
  simp only [hostOps0_2, hostOps0_4, List.take, List.drop, TRef.binary, TRef.nullary, TRef.ternary, TRef.unary, TRef.toBuf, TRef.ofBuf, cast_eq]
  after_results_simp
  simp only [wB_arg3] <;> rfl

theorem wC_arg4 (V0 : Valuation τ sig (Elt F)) : wC V0 (no_index (Proc.devRef .tc main_arg4)) = V0 (Proc.devRef .tc main_arg4) := by
  unfold wC
  simp only [hostOps0_2, hostOps0_4, List.take, List.drop, TRef.binary, TRef.nullary, TRef.ternary, TRef.unary, TRef.toBuf, TRef.ofBuf, cast_eq]
  after_results_simp
  simp only [wB_arg4] <;> rfl

theorem wC_arg5 (V0 : Valuation τ sig (Elt F)) : wC V0 (no_index (Proc.devRef .tc main_arg5)) = V0 (Proc.devRef .tc main_arg5) := by
  unfold wC
  simp only [hostOps0_2, hostOps0_4, List.take, List.drop, TRef.binary, TRef.nullary, TRef.ternary, TRef.unary, TRef.toBuf, TRef.ofBuf, cast_eq]
  after_results_simp
  simp only [wB_arg5] <;> rfl

theorem wC_arg6 (V0 : Valuation τ sig (Elt F)) : wC V0 (no_index (Proc.devRef .tc main_arg6)) = V0 (Proc.devRef .tc main_arg6) := by
  unfold wC
  simp only [hostOps0_2, hostOps0_4, List.take, List.drop, TRef.binary, TRef.nullary, TRef.ternary, TRef.unary, TRef.toBuf, TRef.ofBuf, cast_eq]
  after_results_simp
  simp only [wB_arg6] <;> rfl

theorem wC_arg7 (V0 : Valuation τ sig (Elt F)) : wC V0 (no_index (Proc.devRef .tc main_arg7)) = V0 (Proc.devRef .tc main_arg7) := by
  unfold wC
  simp only [hostOps0_2, hostOps0_4, List.take, List.drop, TRef.binary, TRef.nullary, TRef.ternary, TRef.unary, TRef.toBuf, TRef.ofBuf, cast_eq]
  after_results_simp
  simp only [wB_arg7] <;> rfl

theorem wC_v5 (V0 : Valuation τ sig (Elt F)) : wC V0 (no_index (Proc.devRef .tc main_v5)) = val_main_v5 (F := F) (V0 (Proc.devRef .tc main_arg2)) := by
  unfold wC
  simp only [hostOps0_2, hostOps0_4, List.take, List.drop, TRef.binary, TRef.nullary, TRef.ternary, TRef.unary, TRef.toBuf, TRef.ofBuf, cast_eq]
  after_results_simp
  simp only [wB_v5] <;> rfl

theorem wC_v6 (V0 : Valuation τ sig (Elt F)) : wC V0 (no_index (Proc.devRef .tc main_v6)) = val_main_v6 (F := F) (V0 (Proc.devRef .tc main_arg0)) (V0 (Proc.devRef .tc main_arg1)) := by
  unfold wC
  simp only [hostOps0_2, hostOps0_4, List.take, List.drop, TRef.binary, TRef.nullary, TRef.ternary, TRef.unary, TRef.toBuf, TRef.ofBuf, cast_eq]
  after_results_simp
  simp only [wB_v6] <;> rfl

theorem wC_v22 (V0 : Valuation τ sig (Elt F)) : wC V0 (no_index (Proc.devRef .tc main_v22)) = val_main_v22 (F := F) := by
  unfold wC
  simp only [hostOps0_2, hostOps0_4, List.take, List.drop, TRef.binary, TRef.nullary, TRef.ternary, TRef.unary, TRef.toBuf, TRef.ofBuf, cast_eq]
  after_results_simp
  simp only [wB_v18, wB_v19] <;> rfl

theorem wC_cst (V0 : Valuation τ sig (Elt F)) : wC V0 (no_index (Proc.devRef .tc main_cst)) = constant S_ .f32 0xFF800000#32 := by
  unfold wC
  simp only [hostOps0_2, hostOps0_4, List.take, List.drop, TRef.binary, TRef.nullary, TRef.ternary, TRef.unary, TRef.toBuf, TRef.ofBuf, cast_eq]
  after_results_simp
  first | rfl | skip

theorem wD_arg0 (V0 : Valuation τ sig (Elt F)) : wD V0 (no_index (Proc.devRef .tc main_arg0)) = V0 (Proc.devRef .tc main_arg0) := by
  unfold wD
  simp only [hostOps0_3, hostOps0_4, List.take, List.drop, TRef.binary, TRef.nullary, TRef.ternary, TRef.unary, TRef.toBuf, TRef.ofBuf, cast_eq]
  after_results_simp
  simp only [wC_arg0] <;> rfl

theorem wD_arg1 (V0 : Valuation τ sig (Elt F)) : wD V0 (no_index (Proc.devRef .tc main_arg1)) = V0 (Proc.devRef .tc main_arg1) := by
  unfold wD
  simp only [hostOps0_3, hostOps0_4, List.take, List.drop, TRef.binary, TRef.nullary, TRef.ternary, TRef.unary, TRef.toBuf, TRef.ofBuf, cast_eq]
  after_results_simp
  simp only [wC_arg1] <;> rfl

theorem wD_arg2 (V0 : Valuation τ sig (Elt F)) : wD V0 (no_index (Proc.devRef .tc main_arg2)) = V0 (Proc.devRef .tc main_arg2) := by
  unfold wD
  simp only [hostOps0_3, hostOps0_4, List.take, List.drop, TRef.binary, TRef.nullary, TRef.ternary, TRef.unary, TRef.toBuf, TRef.ofBuf, cast_eq]
  after_results_simp
  simp only [wC_arg2] <;> rfl

theorem wD_arg3 (V0 : Valuation τ sig (Elt F)) : wD V0 (no_index (Proc.devRef .tc main_arg3)) = V0 (Proc.devRef .tc main_arg3) := by
  unfold wD
  simp only [hostOps0_3, hostOps0_4, List.take, List.drop, TRef.binary, TRef.nullary, TRef.ternary, TRef.unary, TRef.toBuf, TRef.ofBuf, cast_eq]
  after_results_simp
  simp only [wC_arg3] <;> rfl

theorem wD_arg4 (V0 : Valuation τ sig (Elt F)) : wD V0 (no_index (Proc.devRef .tc main_arg4)) = V0 (Proc.devRef .tc main_arg4) := by
  unfold wD
  simp only [hostOps0_3, hostOps0_4, List.take, List.drop, TRef.binary, TRef.nullary, TRef.ternary, TRef.unary, TRef.toBuf, TRef.ofBuf, cast_eq]
  after_results_simp
  simp only [wC_arg4] <;> rfl

theorem wD_arg5 (V0 : Valuation τ sig (Elt F)) : wD V0 (no_index (Proc.devRef .tc main_arg5)) = V0 (Proc.devRef .tc main_arg5) := by
  unfold wD
  simp only [hostOps0_3, hostOps0_4, List.take, List.drop, TRef.binary, TRef.nullary, TRef.ternary, TRef.unary, TRef.toBuf, TRef.ofBuf, cast_eq]
  after_results_simp
  simp only [wC_arg5] <;> rfl

theorem wD_arg6 (V0 : Valuation τ sig (Elt F)) : wD V0 (no_index (Proc.devRef .tc main_arg6)) = V0 (Proc.devRef .tc main_arg6) := by
  unfold wD
  simp only [hostOps0_3, hostOps0_4, List.take, List.drop, TRef.binary, TRef.nullary, TRef.ternary, TRef.unary, TRef.toBuf, TRef.ofBuf, cast_eq]
  after_results_simp
  simp only [wC_arg6] <;> rfl

theorem wD_arg7 (V0 : Valuation τ sig (Elt F)) : wD V0 (no_index (Proc.devRef .tc main_arg7)) = V0 (Proc.devRef .tc main_arg7) := by
  unfold wD
  simp only [hostOps0_3, hostOps0_4, List.take, List.drop, TRef.binary, TRef.nullary, TRef.ternary, TRef.unary, TRef.toBuf, TRef.ofBuf, cast_eq]
  after_results_simp
  simp only [wC_arg7] <;> rfl

theorem wD_v5 (V0 : Valuation τ sig (Elt F)) : wD V0 (no_index (Proc.devRef .tc main_v5)) = val_main_v5 (F := F) (V0 (Proc.devRef .tc main_arg2)) := by
  unfold wD
  simp only [hostOps0_3, hostOps0_4, List.take, List.drop, TRef.binary, TRef.nullary, TRef.ternary, TRef.unary, TRef.toBuf, TRef.ofBuf, cast_eq]
  after_results_simp
  simp only [wC_v5] <;> rfl

theorem wD_v23 (V0 : Valuation τ sig (Elt F)) : wD V0 (no_index (Proc.devRef .tc main_v23)) = val_main_v23_0 (F := F) (V0 (Proc.devRef .tc main_arg0)) (V0 (Proc.devRef .tc main_arg1)) := by
  unfold wD
  simp only [hostOps0_3, hostOps0_4, List.take, List.drop, TRef.binary, TRef.nullary, TRef.ternary, TRef.unary, TRef.toBuf, TRef.ofBuf, cast_eq]
  after_results_simp
  simp only [wC_v22, wC_v6, wC_cst] <;> rfl

theorem wE_arg0 (V0 : Valuation τ sig (Elt F)) : wE V0 (no_index (Proc.devRef .tc main_arg0)) = V0 (Proc.devRef .tc main_arg0) := by
  unfold wE
  simp only [opsE, hostOps0_4, List.take, List.drop, TRef.binary, TRef.nullary, TRef.ternary, TRef.unary, TRef.toBuf, TRef.ofBuf, cast_eq]
  after_results_simp
  simp only [wD_arg0] <;> rfl

theorem wE_arg1 (V0 : Valuation τ sig (Elt F)) : wE V0 (no_index (Proc.devRef .tc main_arg1)) = V0 (Proc.devRef .tc main_arg1) := by
  unfold wE
  simp only [opsE, hostOps0_4, List.take, List.drop, TRef.binary, TRef.nullary, TRef.ternary, TRef.unary, TRef.toBuf, TRef.ofBuf, cast_eq]
  after_results_simp
  simp only [wD_arg1] <;> rfl

theorem wE_arg2 (V0 : Valuation τ sig (Elt F)) : wE V0 (no_index (Proc.devRef .tc main_arg2)) = V0 (Proc.devRef .tc main_arg2) := by
  unfold wE
  simp only [opsE, hostOps0_4, List.take, List.drop, TRef.binary, TRef.nullary, TRef.ternary, TRef.unary, TRef.toBuf, TRef.ofBuf, cast_eq]
  after_results_simp
  simp only [wD_arg2] <;> rfl

theorem wE_arg3 (V0 : Valuation τ sig (Elt F)) : wE V0 (no_index (Proc.devRef .tc main_arg3)) = V0 (Proc.devRef .tc main_arg3) := by
  unfold wE
  simp only [opsE, hostOps0_4, List.take, List.drop, TRef.binary, TRef.nullary, TRef.ternary, TRef.unary, TRef.toBuf, TRef.ofBuf, cast_eq]
  after_results_simp
  simp only [wD_arg3] <;> rfl

theorem wE_arg4 (V0 : Valuation τ sig (Elt F)) : wE V0 (no_index (Proc.devRef .tc main_arg4)) = V0 (Proc.devRef .tc main_arg4) := by
  unfold wE
  simp only [opsE, hostOps0_4, List.take, List.drop, TRef.binary, TRef.nullary, TRef.ternary, TRef.unary, TRef.toBuf, TRef.ofBuf, cast_eq]
  after_results_simp
  simp only [wD_arg4] <;> rfl

theorem wE_arg5 (V0 : Valuation τ sig (Elt F)) : wE V0 (no_index (Proc.devRef .tc main_arg5)) = V0 (Proc.devRef .tc main_arg5) := by
  unfold wE
  simp only [opsE, hostOps0_4, List.take, List.drop, TRef.binary, TRef.nullary, TRef.ternary, TRef.unary, TRef.toBuf, TRef.ofBuf, cast_eq]
  after_results_simp
  simp only [wD_arg5] <;> rfl

theorem wE_arg6 (V0 : Valuation τ sig (Elt F)) : wE V0 (no_index (Proc.devRef .tc main_arg6)) = V0 (Proc.devRef .tc main_arg6) := by
  unfold wE
  simp only [opsE, hostOps0_4, List.take, List.drop, TRef.binary, TRef.nullary, TRef.ternary, TRef.unary, TRef.toBuf, TRef.ofBuf, cast_eq]
  after_results_simp
  simp only [wD_arg6] <;> rfl

theorem wE_arg7 (V0 : Valuation τ sig (Elt F)) : wE V0 (no_index (Proc.devRef .tc main_arg7)) = V0 (Proc.devRef .tc main_arg7) := by
  unfold wE
  simp only [opsE, hostOps0_4, List.take, List.drop, TRef.binary, TRef.nullary, TRef.ternary, TRef.unary, TRef.toBuf, TRef.ofBuf, cast_eq]
  after_results_simp
  simp only [wD_arg7] <;> rfl

theorem wE_v33 (V0 : Valuation τ sig (Elt F)) : wE V0 (no_index (Proc.devRef .tc main_v33)) = val_main_v38 (F := F) (V0 (Proc.devRef .tc main_arg0)) (V0 (Proc.devRef .tc main_arg1)) (V0 (Proc.devRef .tc main_arg2)) := by
  unfold wE
  simp only [opsE, hostOps0_4, List.take, List.drop, TRef.binary, TRef.nullary, TRef.ternary, TRef.unary, TRef.toBuf, TRef.ofBuf, cast_eq]
  after_results_simp
  simp only [wD_v23, wD_v5] <;> rfl

theorem wE_v36 (V0 : Valuation τ sig (Elt F)) : wE V0 (no_index (Proc.devRef .tc main_v36)) = val_main_v44 (F := F) (V0 (Proc.devRef .tc main_arg0)) (V0 (Proc.devRef .tc main_arg1)) := by
  unfold wE
  simp only [opsE, hostOps0_4, List.take, List.drop, TRef.binary, TRef.nullary, TRef.ternary, TRef.unary, TRef.toBuf, TRef.ofBuf, cast_eq]
  after_results_simp
  simp only [wD_v23] <;> rfl

theorem wF_arg0 (V0 : Valuation τ sig (Elt F)) : wF V0 (no_index (Proc.devRef .tc main_arg0)) = V0 (Proc.devRef .tc main_arg0) := by
  unfold wF
  simp only [opsF, hostOps0_4, List.take, List.drop, TRef.binary, TRef.nullary, TRef.ternary, TRef.unary, TRef.toBuf, TRef.ofBuf, cast_eq]
  after_results_simp
  simp only [wE_arg0] <;> rfl

theorem wF_arg1 (V0 : Valuation τ sig (Elt F)) : wF V0 (no_index (Proc.devRef .tc main_arg1)) = V0 (Proc.devRef .tc main_arg1) := by
  unfold wF
  simp only [opsF, hostOps0_4, List.take, List.drop, TRef.binary, TRef.nullary, TRef.ternary, TRef.unary, TRef.toBuf, TRef.ofBuf, cast_eq]
  after_results_simp
  simp only [wE_arg1] <;> rfl

theorem wF_arg2 (V0 : Valuation τ sig (Elt F)) : wF V0 (no_index (Proc.devRef .tc main_arg2)) = V0 (Proc.devRef .tc main_arg2) := by
  unfold wF
  simp only [opsF, hostOps0_4, List.take, List.drop, TRef.binary, TRef.nullary, TRef.ternary, TRef.unary, TRef.toBuf, TRef.ofBuf, cast_eq]
  after_results_simp
  simp only [wE_arg2] <;> rfl

theorem wF_arg7 (V0 : Valuation τ sig (Elt F)) : wF V0 (no_index (Proc.devRef .tc main_arg7)) = V0 (Proc.devRef .tc main_arg7) := by
  unfold wF
  simp only [opsF, hostOps0_4, List.take, List.drop, TRef.binary, TRef.nullary, TRef.ternary, TRef.unary, TRef.toBuf, TRef.ofBuf, cast_eq]
  after_results_simp
  simp only [wE_arg7] <;> rfl

theorem wF_v48 (V0 : Valuation τ sig (Elt F)) : wF V0 (no_index (Proc.devRef .tc main_v48)) = lseH (V0 (Proc.devRef .tc main_arg4)) (V0 (Proc.devRef .tc main_arg6)) (val_main_v44 (F := F) (V0 (Proc.devRef .tc main_arg0)) (V0 (Proc.devRef .tc main_arg1))) := by
  unfold wF
  simp only [opsF, hostOps0_4, List.take, List.drop, TRef.binary, TRef.nullary, TRef.ternary, TRef.unary, TRef.toBuf, TRef.ofBuf, cast_eq]
  after_results_simp
  simp only [wE_arg4, wE_arg6, wE_v36] <;> rfl

theorem wF_v66 (V0 : Valuation τ sig (Elt F)) : wF V0 (no_index (Proc.devRef .tc main_v66)) = deltaH (V0 (Proc.devRef .tc main_arg3)) (V0 (Proc.devRef .tc main_arg4)) (V0 (Proc.devRef .tc main_arg5)) (V0 (Proc.devRef .tc main_arg6)) (val_main_v38 (F := F) (V0 (Proc.devRef .tc main_arg0)) (V0 (Proc.devRef .tc main_arg1)) (V0 (Proc.devRef .tc main_arg2))) (val_main_v44 (F := F) (V0 (Proc.devRef .tc main_arg0)) (V0 (Proc.devRef .tc main_arg1))) (val_main_v1 (F := F) (V0 (Proc.devRef .tc main_arg7))) := by
  unfold wF
  simp only [opsF, hostOps0_4, List.take, List.drop, TRef.binary, TRef.nullary, TRef.ternary, TRef.unary, TRef.toBuf, TRef.ofBuf, cast_eq]
  after_results_simp
  simp only [wE_arg3, wE_arg4, wE_arg5, wE_arg6, wE_arg7, wE_v36, wE_v33] <;> rfl

theorem wG_v68 (V0 : Valuation τ sig (Elt F)) : wG V0 (no_index (Proc.devRef .tc main_v68)) = viewH (V0 (Proc.devRef .tc main_arg0)) := by
  unfold wG
  simp only [opsG, hostOps0_4, List.take, List.drop, TRef.binary, TRef.nullary, TRef.ternary, TRef.unary, TRef.toBuf, TRef.ofBuf, cast_eq]
  after_results_simp
  simp only [wF_arg0] <;> rfl

theorem wG_v70 (V0 : Valuation τ sig (Elt F)) : wG V0 (no_index (Proc.devRef .tc main_v70)) = viewH (V0 (Proc.devRef .tc main_arg1)) := by
  unfold wG
  simp only [opsG, hostOps0_4, List.take, List.drop, TRef.binary, TRef.nullary, TRef.ternary, TRef.unary, TRef.toBuf, TRef.ofBuf, cast_eq]
  after_results_simp
  simp only [wF_arg1] <;> rfl

theorem wG_v72 (V0 : Valuation τ sig (Elt F)) : wG V0 (no_index (Proc.devRef .tc main_v72)) = viewH (V0 (Proc.devRef .tc main_arg2)) := by
  unfold wG
  simp only [opsG, hostOps0_4, List.take, List.drop, TRef.binary, TRef.nullary, TRef.ternary, TRef.unary, TRef.toBuf, TRef.ofBuf, cast_eq]
  after_results_simp
  simp only [wF_arg2] <;> rfl

theorem wG_v74 (V0 : Valuation τ sig (Elt F)) : wG V0 (no_index (Proc.devRef .tc main_v74)) = viewH (V0 (Proc.devRef .tc main_arg7)) := by
  unfold wG
  simp only [opsG, hostOps0_4, List.take, List.drop, TRef.binary, TRef.nullary, TRef.ternary, TRef.unary, TRef.toBuf, TRef.ofBuf, cast_eq]
  after_results_simp
  simp only [wF_arg7] <;> rfl

theorem wG_v78 (V0 : Valuation τ sig (Elt F)) : wG V0 (no_index (Proc.devRef .tc main_v78)) = layH (deltaH (V0 (Proc.devRef .tc main_arg3)) (V0 (Proc.devRef .tc main_arg4)) (V0 (Proc.devRef .tc main_arg5)) (V0 (Proc.devRef .tc main_arg6)) (val_main_v38 (F := F) (V0 (Proc.devRef .tc main_arg0)) (V0 (Proc.devRef .tc main_arg1)) (V0 (Proc.devRef .tc main_arg2))) (val_main_v44 (F := F) (V0 (Proc.devRef .tc main_arg0)) (V0 (Proc.devRef .tc main_arg1))) (val_main_v1 (F := F) (V0 (Proc.devRef .tc main_arg7)))) := by
  unfold wG
  simp only [opsG, hostOps0_4, List.take, List.drop, TRef.binary, TRef.nullary, TRef.ternary, TRef.unary, TRef.toBuf, TRef.ofBuf, cast_eq]
  after_results_simp
  simp only [wF_v66] <;> rfl

theorem wG_v82 (V0 : Valuation τ sig (Elt F)) : wG V0 (no_index (Proc.devRef .tc main_v82)) = layH (lseH (V0 (Proc.devRef .tc main_arg4)) (V0 (Proc.devRef .tc main_arg6)) (val_main_v44 (F := F) (V0 (Proc.devRef .tc main_arg0)) (V0 (Proc.devRef .tc main_arg1)))) := by
  unfold wG
  simp only [opsG, hostOps0_4, List.take, List.drop, TRef.binary, TRef.nullary, TRef.ternary, TRef.unary, TRef.toBuf, TRef.ofBuf, cast_eq]
  after_results_simp
  simp only [wF_v48] <;> rfl

/-- The last stretch of operations is its three windows. -/
theorem ops4_eq : (hostOps0_4 : List (HloOp τ sig (Elt F))) = opsE ++ (opsF ++ opsG) := rfl

/-- What the region finds is what the last window leaves. -/
theorem V_eq [Named F] (m : (ℓ : Loc nD τ sig) → Buf (Elt F) ℓ) (c : Dev nD) (b : Ref sig .tc) :
    V m c b = wG (fun b => m (c, b)) (Proc.devRef .tc b) := by
  have h : after (hostOps0 ++ (hostOps0_1 ++ (hostOps0_2 ++ (hostOps0_3 ++ hostOps0_4)))) (fun b => m (c, b))
      = wG (F := F) (fun b => m (c, b)) := by
    rw [ops4_eq, after_append, after_append, after_append, after_append, after_append, after_append]
    rfl
  exact congrFun h (Proc.devRef .tc b)

end Cert.Attn.Host

end
-- ==== Proof.HostVal.lean ====
module

public import proofs.«01_k».proof.Proof.HostRead
public import Idealize.ShloMosaic.Lib.Pointwise

@[expose] public section

set_option maxRecDepth 16384

noncomputable section

/-! The kernel's inputs over the real numbers: the views of the rows, the mixture's log-sums and the rows' products. -/

namespace Cert.Attn.Host

open Cert.KernelIdeal Cert.KernelIdeal.Gen Idealize.ShloMosaic.TcCoe Idealize.SL.Sem
open Idealize.ShloMosaic hiding ix2 ix3 ix4
open Idealize.ShloMosaic.ValueIdx
open Cert.ReferenceIdeal.Read
open scoped BigOperators

/-- The view of the rows at an index. -/
theorem viewH_at (x : Vec Ideal S2048x512 .f32) (l : Fin 128) (c : Fin 8192) :
    viewH x (ix2 (n0 := 128) (n1 := 8192) l c)
      = x (ix2 (n0 := 2048) (n1 := 512) (vt l c) ⟨c.val % 512, by omega⟩) := by
  unfold viewH
  pointwise
  refine congrArg x (ix2_of rfl rfl)

/-- The layout of a number for each row at an index. -/
theorem layH_at (x : Vec Ideal S8x2048 .f32) (l : Fin 128) (n : Fin 2048) :
    layH x (ix2 (n0 := 128) (n1 := 2048) l n)
      = x (ix2 (n0 := 8) (n1 := 2048) ⟨n.val % 128 / 16, by omega⟩ ⟨l.val * 16 + n.val / 128, by omega⟩) := by
  unfold layH
  pointwise
  refine congrArg x (ix2_of ?_ rfl)
  show n.val / 16 % 8 = n.val % 128 / 16
  omega

variable (la lb ls : Vec Ideal S8x2048 .f32) (oa ob o g : Vec Ideal S8x2048x64 .f32)
variable (h : Fin 8) (t : Fin 2048) (a b c : ℝ)
variable (ha : la (ix2 h t) = ((a : ℝ) : EReal)) (hb : lb (ix2 h t) = ((b : ℝ) : EReal)) (hc : ls (ix2 h t) = ((c : ℝ) : EReal))

include ha hb hc

/-- The largest of three real log-sums. -/
theorem mH_at : mH la lb ls (ix2 (n0 := 8) (n1 := 2048) h t) = ((max (max a b) c : ℝ) : EReal) := by
  show max (max (la (ix2 h t)) (lb (ix2 h t))) (ls (ix2 h t)) = _
  rw [ha, hb, hc]
  have hm : ∀ x y : ℝ, ((max x y : ℝ) : EReal) = max (x : EReal) (y : EReal) := fun x y => EReal.coe_strictMono.monotone.map_max
  rw [hm, hm]

/-- An exponential of a real log-sum less the largest. -/
theorem eH_at (l : Vec Ideal S8x2048 .f32) (r : ℝ) (hl : l (ix2 h t) = ((r : ℝ) : EReal)) :
    eH l la lb ls (ix2 (n0 := 8) (n1 := 2048) h t) = ((Real.exp (r - max (max a b) c) : ℝ) : EReal) := by
  show Ideal.exp (l (ix2 h t) - mH la lb ls (ix2 h t)) = _
  rw [hl, mH_at la lb ls h t a b c ha hb hc, ← EReal.coe_sub, Ideal.exp_coe]

/-- The mixture's denominator of three real log-sums. -/
theorem denH_at : denH la lb ls (ix2 (n0 := 8) (n1 := 2048) h t) = ((mixDen a b c (max (max a b) c) : ℝ) : EReal) := by
  show (eH la la lb ls (ix2 h t) + eH lb la lb ls (ix2 h t) + eH ls la lb ls (ix2 h t) : EReal) = _
  rw [eH_at la lb ls h t a b c ha hb hc la a ha, eH_at la lb ls h t a b c ha hb hc lb b hb,
    eH_at la lb ls h t a b c ha hb hc ls c hc, ← EReal.coe_add, ← EReal.coe_add]
  rfl

/-- The mixture's log-sum of three real log-sums. -/
theorem lseH_at : lseH la lb ls (ix2 (n0 := 8) (n1 := 2048) h t) = ((mixLse a b c (max (max a b) c) : ℝ) : EReal) := by
  show (mH la lb ls (ix2 h t) + Ideal.log (denH la lb ls (ix2 h t)) : EReal) = _
  rw [mH_at la lb ls h t a b c ha hb hc, denH_at la lb ls h t a b c ha hb hc, log_real (mixDen_pos _ _ _ _), ← EReal.coe_add]
  rfl

/-- One output of the mixture times its weight. -/
theorem termH_at (l : Vec Ideal S8x2048 .f32) (r : ℝ) (hl : l (ix2 h t) = ((r : ℝ) : EReal)) (d : Fin 64) (y : ℝ)
    (ho : o (ix3 h t d) = ((y : ℝ) : EReal)) :
    termH l la lb ls o (ix3 (n0 := 8) (n1 := 2048) (n2 := 64) h t d) = ((mixW a b c (max (max a b) c) r * y : ℝ) : EReal) := by
  have e : termH l la lb ls o (ix3 (n0 := 8) (n1 := 2048) (n2 := 64) h t d)
      = (Ideal.div (eH l la lb ls (ix2 h t)) (denH la lb ls (ix2 h t)) * o (ix3 h t d) : EReal) := by
    unfold termH
    pointwise
    rfl
  rw [e, eH_at la lb ls h t a b c ha hb hc l r hl, denH_at la lb ls h t a b c ha hb hc, div_real (mixDen_pos _ _ _ _).ne', ho,
    ← EReal.coe_mul]
  rfl

/-- A row's product of the gradient with the mixture. -/
theorem deltaH_at (A B C G : Fin 64 → ℝ) (hA : ∀ d, oa (ix3 h t d) = ((A d : ℝ) : EReal))
    (hB : ∀ d, ob (ix3 h t d) = ((B d : ℝ) : EReal)) (hC : ∀ d, o (ix3 h t d) = ((C d : ℝ) : EReal))
    (hG : ∀ d, g (ix3 h t d) = ((G d : ℝ) : EReal)) :
    deltaH oa la ob lb o ls g (ix2 (n0 := 8) (n1 := 2048) h t)
      = ((∑ d, G d * (mixW a b c (max (max a b) c) a * A d + mixW a b c (max (max a b) c) b * B d
          + mixW a b c (max (max a b) c) c * C d) : ℝ) : EReal) := by
  have e : deltaH oa la ob lb o ls g (ix2 (n0 := 8) (n1 := 2048) h t)
      = ∑ d : Fin 64, (g (ix3 h t d) * (termH la la lb ls oa (ix3 h t d) + termH lb la lb ls ob (ix3 h t d)
        + termH ls la lb ls o (ix3 h t d)) : EReal) := by
    unfold deltaH
    pointwise
    rfl
  rw [e, coe_sum]
  refine Finset.sum_congr rfl fun d _ => ?_
  rw [termH_at la lb ls oa h t a b c ha hb hc la a ha d (A d) (hA d), termH_at la lb ls ob h t a b c ha hb hc lb b hb d (B d) (hB d),
    termH_at la lb ls o h t a b c ha hb hc ls c hc d (C d) (hC d), hG, ← EReal.coe_add,
    ← EReal.coe_add, ← EReal.coe_mul]

end Cert.Attn.Host

end
-- ==== Proof.Arrays.lean ====
module

public import proofs.«01_k».proof.Proof.Pieces
public import proofs.«01_k».proof.Proof.PointVal
public import proofs.«01_k».proof.Proof.HostVal

@[expose] public section

set_option maxRecDepth 16384

noncomputable section

/-! The region's result arrays at real inputs: every block of every point, element by element. -/

namespace Cert.Attn

open Cert.KernelIdeal Cert.KernelIdeal.Gen Idealize.ShloMosaic.TcCoe Idealize.SL.Sem
open Idealize.ShloMosaic hiding ix2 ix3 ix4
open Idealize.ShloMosaic.ValueIdx
open scoped BigOperators

variable (m : (ℓ : Loc nD τ sig) → Buf (Elt Ideal) ℓ) (I : Inp) (c : Dev nD)

/-- The launch contents of one device's arguments are the real inputs. -/
structure Inputs : Prop where
  h0 : m ((c : Thread nD τ).loc main_arg0) = co I.q
  h1 : m ((c : Thread nD τ).loc main_arg1) = co I.k
  h2 : m ((c : Thread nD τ).loc main_arg2) = co I.v
  h3 : m ((c : Thread nD τ).loc main_arg3) = co I.oa
  h4 : m ((c : Thread nD τ).loc main_arg4) = co I.la
  h5 : m ((c : Thread nD τ).loc main_arg5) = co I.ob
  h6 : m ((c : Thread nD τ).loc main_arg6) = co I.lb
  h7 : m ((c : Thread nD τ).loc main_arg7) = co I.ct

variable {m I c} (H : Inputs m I c)
include H

/-- The region finds the queries in the blocks' view. -/
theorem V68_at (l : Fin 128) (n : Fin 8192) : V m c main_v68 (ix2 l n) = ((I.q (ix2 (vt l n) ⟨n.val % 512, by omega⟩) : ℝ) : EReal) := by
  rw [Host.V_eq, Host.wG_v68]
  refine (Host.viewH_at _ l n).trans ?_
  exact congrFun H.h0 _

/-- The region finds the keys in the blocks' view. -/
theorem V70_at (l : Fin 128) (n : Fin 8192) : V m c main_v70 (ix2 l n) = ((I.k (ix2 (vt l n) ⟨n.val % 512, by omega⟩) : ℝ) : EReal) := by
  rw [Host.V_eq, Host.wG_v70]
  refine (Host.viewH_at _ l n).trans ?_
  exact congrFun H.h1 _

/-- The region finds the values in the blocks' view. -/
theorem V72_at (l : Fin 128) (n : Fin 8192) : V m c main_v72 (ix2 l n) = ((I.v (ix2 (vt l n) ⟨n.val % 512, by omega⟩) : ℝ) : EReal) := by
  rw [Host.V_eq, Host.wG_v72]
  refine (Host.viewH_at _ l n).trans ?_
  exact congrFun H.h2 _

/-- The region finds the gradient in the blocks' view. -/
theorem V74_at (l : Fin 128) (n : Fin 8192) : V m c main_v74 (ix2 l n) = ((I.ct (ix2 (vt l n) ⟨n.val % 512, by omega⟩) : ℝ) : EReal) := by
  rw [Host.V_eq, Host.wG_v74]
  refine (Host.viewH_at _ l n).trans ?_
  exact congrFun H.h7 _

/-- The region finds the mixture's log-sums. -/
theorem V82_at (l : Fin 128) (n : Fin 2048) : V m c main_v82 (ix2 l n)
    = ((I.kL ⟨n.val % 128 / 16, by omega⟩ ⟨l.val * 16 + n.val / 128, by omega⟩ : ℝ) : EReal) := by
  rw [Host.V_eq, Host.wG_v82]
  refine (Host.layH_at _ l n).trans ?_
  refine Host.lseH_at _ _ _ _ _ _ _ _ (congrFun H.h4 _) (congrFun H.h6 _) ?_
  refine Eq.trans ?_ (v44_at I _ _)
  exact congrFun (congrArg₂ (Cert.ReferenceIdeal.Read.val_main_v44 (F := Ideal)) H.h0 H.h1) _

/-- The region finds the rows' products. -/
theorem V78_at (l : Fin 128) (n : Fin 2048) : V m c main_v78 (ix2 l n)
    = ((I.kD ⟨n.val % 128 / 16, by omega⟩ ⟨l.val * 16 + n.val / 128, by omega⟩ : ℝ) : EReal) := by
  rw [Host.V_eq, Host.wG_v78]
  refine (Host.layH_at _ l n).trans ?_
  have hC : ∀ h t, Cert.ReferenceIdeal.Read.val_main_v44 (F := Ideal) (m (c, Proc.tc.devRef main_arg0)) (m (c, Proc.tc.devRef main_arg1)) (ix2 h t) = ((I.Ls h t : ℝ) : EReal) := fun h t =>
    Eq.trans (congrFun (congrArg₂ (Cert.ReferenceIdeal.Read.val_main_v44 (F := Ideal)) H.h0 H.h1) _) (v44_at I h t)
  have hV : ∀ h t d, Cert.ReferenceIdeal.Read.val_main_v38 (F := Ideal) (m (c, Proc.tc.devRef main_arg0)) (m (c, Proc.tc.devRef main_arg1)) (m (c, Proc.tc.devRef main_arg2)) (ix3 h t d) = _ := fun h t d =>
    Eq.trans (congrFun (congr (congrArg₂ (Cert.ReferenceIdeal.Read.val_main_v38 (F := Ideal)) H.h0 H.h1) H.h2) _) (v38_at I h t d)
  have hG : ∀ h t d, Cert.ReferenceIdeal.Read.val_main_v1 (F := Ideal) (m (c, Proc.tc.devRef main_arg7)) (ix3 h t d) = _ := fun h t d =>
    Eq.trans (congrFun (congrArg (Cert.ReferenceIdeal.Read.val_main_v1 (F := Ideal)) H.h7) _) (v1_at I.ct h t d)
  exact Host.deltaH_at _ _ _ _ _ _ _ _ _ _ _ _ (congrFun H.h4 _) (congrFun H.h6 _) (hC _ _) _ _ _ _
    (fun d => congrFun H.h3 _) (fun d => congrFun H.h5 _) (fun d => hV _ _ d) (fun d => hG _ _ d)

end Cert.Attn

end
-- ==== Proof.Points.lean ====
module

public import proofs.«01_k».proof.Proof.Arrays

@[expose] public section

set_option maxRecDepth 16384

noncomputable section

/-! A grid point's blocks at real inputs, and the three arrays the region leaves. -/

namespace Cert.Attn

open Cert.KernelIdeal Cert.KernelIdeal.Gen Idealize.ShloMosaic.TcCoe Idealize.SL.Sem
open Idealize.ShloMosaic hiding ix2 ix3 ix4
open Idealize.ShloMosaic.ValueIdx
open scoped BigOperators

variable {m : (ℓ : Loc nD τ sig) → Buf (Elt Ideal) ℓ} {I : Inp} {c : Dev nD}

theorem ind0 : ∀ t : Fin cfg0.N, win0_0.index t = ![0, t.val] := (by decide +kernel : ∀ t : Fin grid0.N, _)
theorem ind1 : ∀ t : Fin cfg0.N, win0_1.index t = ![0, t.val] := (by decide +kernel : ∀ t : Fin grid0.N, _)
theorem ind2 : ∀ t : Fin cfg0.N, win0_2.index t = ![0, t.val] := (by decide +kernel : ∀ t : Fin grid0.N, _)
theorem ind3 : ∀ t : Fin cfg0.N, win0_3.index t = ![0, t.val] := (by decide +kernel : ∀ t : Fin grid0.N, _)
theorem ind4 : ∀ t : Fin cfg0.N, win0_4.index t = ![0, t.val] := (by decide +kernel : ∀ t : Fin grid0.N, _)
theorem ind5 : ∀ t : Fin cfg0.N, win0_5.index t = ![0, t.val] := (by decide +kernel : ∀ t : Fin grid0.N, _)
theorem ind6 : ∀ t : Fin cfg0.N, win0_6.index t = ![0, t.val] := (by decide +kernel : ∀ t : Fin grid0.N, _)
theorem ind7 : ∀ t : Fin cfg0.N, win0_7.index t = ![0, t.val] := (by decide +kernel : ∀ t : Fin grid0.N, _)
theorem ind8 : ∀ t : Fin cfg0.N, win0_8.index t = ![0, t.val] := (by decide +kernel : ∀ t : Fin grid0.N, _)

theorem N4 (t : Fin cfg0.N) : t.val < 4 := lt_of_lt_of_eq t.isLt (by decide +kernel)

/-- The residue a pair's rows belong to. -/
def res (t : Fin cfg0.N) (j : Fin 16) : Fin 16 := ⟨t.val * 4 + j.val / 4, by have := N4 t; omega⟩

/-- The pair among the four of its residue. -/
def pp (j : Fin 16) : Fin 4 := ⟨j.val % 4, by omega⟩

/-- A column of a point's block in the whole array. -/
def gc (t : Fin cfg0.N) (n : Fin 2048) : Fin 8192 := ⟨t.val * 2048 + n.val, by have := N4 t; omega⟩

/-- A column of a point's narrow block in the whole array. -/
def gc' (t : Fin cfg0.N) (n : Fin 512) : Fin 2048 := ⟨t.val * 512 + n.val, by have := N4 t; omega⟩

/-- A pair's rows in a matrix of the blocks' view are the residue's tokens at the pair's heads. -/
theorem view_blk (X : Cert.ReferenceIdeal.S2048x512.Idx → ℝ) (t : Fin cfg0.N) (j : Fin 16) (a k : Fin 128) (h : j.val * 128 + k.val < 2048) :
    X (ix2 (vt a (gc t ⟨j.val * 128 + k.val, h⟩)) ⟨(gc t ⟨j.val * 128 + k.val, h⟩).val % 512, by omega⟩) = blkR X (res t j) (pp j) a k := by
  have := N4 t
  unfold blkR tk
  refine congrArg X (congrArg₂ ix2 (Fin.ext ?_) (Fin.ext ?_))
  · show a.val * 16 + (t.val * 2048 + (j.val * 128 + k.val)) / 512 = a.val * 16 + (t.val * 4 + j.val / 4)
    omega
  · show (t.val * 2048 + (j.val * 128 + k.val)) % 512 = (j.val % 4 * 2 + k.val / 64) * 64 + k.val % 64
    omega

section
variable (H : Inputs m I c)
include H

/-- A pair's rows of the queries. -/
theorem cut0_at (t : Fin cfg0.N) (j : Fin 16) (a k : Fin 128) :
    cut16 (F := Ideal) (iblk m c 0 t) j (ix2 a k) = ((blkR I.q (res t j) (pp j) a k : ℝ) : EReal) := by
  have h : j.val * 128 + k.val < 2048 := by omega
  refine Eq.trans ?_ ((V68_at H a (gc t ⟨j.val * 128 + k.val, h⟩)).trans (congrArg _ (view_blk I.q t j a k h)))
  unfold cut16
  blk_simp [iblk, ind0]
  refine congrArg (V m c main_v68) ?_
  funext x
  match x with
  | 0 => apply Fin.ext; blk_simp [ind0]; simp; rfl
  | 1 => apply Fin.ext; blk_simp [ind0]; rfl

/-- A pair's rows of the keys. -/
theorem cut1_at (t : Fin cfg0.N) (j : Fin 16) (a k : Fin 128) :
    cut16 (F := Ideal) (iblk m c 1 t) j (ix2 a k) = ((blkR I.k (res t j) (pp j) a k : ℝ) : EReal) := by
  have h : j.val * 128 + k.val < 2048 := by omega
  refine Eq.trans ?_ ((V70_at H a (gc t ⟨j.val * 128 + k.val, h⟩)).trans (congrArg _ (view_blk I.k t j a k h)))
  unfold cut16
  blk_simp [iblk, ind1]
  refine congrArg (V m c main_v70) ?_
  funext x
  match x with
  | 0 => apply Fin.ext; blk_simp [ind1]; simp; rfl
  | 1 => apply Fin.ext; blk_simp [ind1]; rfl

/-- A pair's rows of the values. -/
theorem cut2_at (t : Fin cfg0.N) (j : Fin 16) (a k : Fin 128) :
    cut16 (F := Ideal) (iblk m c 2 t) j (ix2 a k) = ((blkR I.v (res t j) (pp j) a k : ℝ) : EReal) := by
  have h : j.val * 128 + k.val < 2048 := by omega
  refine Eq.trans ?_ ((V72_at H a (gc t ⟨j.val * 128 + k.val, h⟩)).trans (congrArg _ (view_blk I.v t j a k h)))
  unfold cut16
  blk_simp [iblk, ind2]
  refine congrArg (V m c main_v72) ?_
  funext x
  match x with
  | 0 => apply Fin.ext; blk_simp [ind2]; simp; rfl
  | 1 => apply Fin.ext; blk_simp [ind2]; rfl

/-- A pair's rows of the gradient. -/
theorem cut3_at (t : Fin cfg0.N) (j : Fin 16) (a k : Fin 128) :
    cut16 (F := Ideal) (iblk m c 3 t) j (ix2 a k) = ((blkR I.ct (res t j) (pp j) a k : ℝ) : EReal) := by
  have h : j.val * 128 + k.val < 2048 := by omega
  refine Eq.trans ?_ ((V74_at H a (gc t ⟨j.val * 128 + k.val, h⟩)).trans (congrArg _ (view_blk I.ct t j a k h)))
  unfold cut16
  blk_simp [iblk, ind3]
  refine congrArg (V m c main_v74) ?_
  funext x
  match x with
  | 0 => apply Fin.ext; blk_simp [ind3]; simp; rfl
  | 1 => apply Fin.ext; blk_simp [ind3]; rfl

end

/-- A head's place among a pair's rows of the log-sums. -/
def nn (j : Fin 16) : Fin 2 → Nat := ![j.val % 4 * 32, j.val % 4 * 32 + 16]

theorem nn_eq (j : Fin 16) (e : Fin 2) : nn j e = j.val % 4 * 32 + 16 * e.val := by
  match e with
  | 0 => rfl
  | 1 => rfl

theorem nn_lt (j : Fin 16) (e : Fin 2) : nn j e < 128 := by rw [nn_eq]; omega

theorem nn_in (j : Fin 16) (e : Fin 2) : S128x128.Slices ![nn j e, 0] S1x128 := by
  match e with
  | 0 => exact rowIn j
  | 1 => exact rowIn' j

section
variable (H : Inputs m I c)
include H

/-- A head's row of the products. -/
theorem cut4_at (t : Fin cfg0.N) (j : Fin 16) (e : Fin 2) (a : Fin 128) :
    cut4 (F := Ideal) (iblk m c 4 t) j (ix2 a ⟨nn j e, nn_lt j e⟩) = ((I.kD (hh (pp j) e) (tt (res t j) a) : ℝ) : EReal) := by
  have hn := nn_eq j e
  have hN := N4 t
  have h : j.val / 4 * 128 + nn j e < 512 := by omega
  refine Eq.trans ?_ ((V78_at H a (gc' t ⟨j.val / 4 * 128 + nn j e, h⟩)).trans (congrArg _ (congrArg₂ I.kD (Fin.ext ?_) (Fin.ext ?_))))
  · unfold cut4
    blk_simp [iblk, ind4]
    refine congrArg (V m c main_v78) ?_
    funext x
    match x with
    | 0 => apply Fin.ext; blk_simp [ind4]; simp; rfl
    | 1 => apply Fin.ext; blk_simp [ind4]; rfl
  · show (t.val * 512 + (j.val / 4 * 128 + nn j e)) % 128 / 16 = j.val % 4 * 2 + e.val
    omega
  · show a.val * 16 + (t.val * 512 + (j.val / 4 * 128 + nn j e)) / 128 = a.val * 16 + (t.val * 4 + j.val / 4)
    omega

/-- A head's row of the log-sums. -/
theorem cut5_at (t : Fin cfg0.N) (j : Fin 16) (e : Fin 2) (a : Fin 128) :
    cut4 (F := Ideal) (iblk m c 5 t) j (ix2 a ⟨nn j e, nn_lt j e⟩) = ((I.kL (hh (pp j) e) (tt (res t j) a) : ℝ) : EReal) := by
  have hn := nn_eq j e
  have hN := N4 t
  have h : j.val / 4 * 128 + nn j e < 512 := by omega
  refine Eq.trans ?_ ((V82_at H a (gc' t ⟨j.val / 4 * 128 + nn j e, h⟩)).trans (congrArg _ (congrArg₂ I.kL (Fin.ext ?_) (Fin.ext ?_))))
  · unfold cut4
    blk_simp [iblk, ind5]
    refine congrArg (V m c main_v82) ?_
    funext x
    match x with
    | 0 => apply Fin.ext; blk_simp [ind5]; simp; rfl
    | 1 => apply Fin.ext; blk_simp [ind5]; rfl
  · show (t.val * 512 + (j.val / 4 * 128 + nn j e)) % 128 / 16 = j.val % 4 * 2 + e.val
    omega
  · show a.val * 16 + (t.val * 512 + (j.val / 4 * 128 + nn j e)) / 128 = a.val * 16 + (t.val * 4 + j.val / 4)
    omega

/-- A pair's gradient of the queries is the reference's. -/
theorem pairQ_at (t : Fin cfg0.N) (j : Fin 16) (a k : Fin 128) :
    pairQ (F := Ideal) (iblk m c 0 t) (iblk m c 1 t) (iblk m c 2 t) (iblk m c 3 t) (iblk m c 4 t) (iblk m c 5 t) j (ix2 a k)
      = ((I.dq (hh (pp j) ⟨k.val / 64, by omega⟩) (tt (res t j) a) ⟨k.val % 64, by omega⟩ : ℝ) : EReal) := by
  unfold pairQ
  exact (dqF_at (nn j) (nn_in j) (nn_lt j) _ _ _ _ _ _ _ _ _ _ _ _ (cut0_at H t j) (cut1_at H t j) (cut2_at H t j)
    (cut3_at H t j) (cut4_at H t j) (cut5_at H t j) a k).trans (congrArg _ (dq_eq I (res t j) (pp j) a k))

/-- A pair's gradient of the keys is the reference's. -/
theorem pairK_at (t : Fin cfg0.N) (j : Fin 16) (a k : Fin 128) :
    pairK (F := Ideal) (iblk m c 0 t) (iblk m c 1 t) (iblk m c 2 t) (iblk m c 3 t) (iblk m c 4 t) (iblk m c 5 t) j (ix2 a k)
      = ((I.dk (hh (pp j) ⟨k.val / 64, by omega⟩) (tt (res t j) a) ⟨k.val % 64, by omega⟩ : ℝ) : EReal) := by
  unfold pairK
  exact (dkF_at (nn j) (nn_in j) (nn_lt j) _ _ _ _ _ _ _ _ _ _ _ _ (cut0_at H t j) (cut1_at H t j) (cut2_at H t j)
    (cut3_at H t j) (cut4_at H t j) (cut5_at H t j) a k).trans (congrArg _ (dk_eq I (res t j) (pp j) a k))

/-- A pair's gradient of the values is the reference's. -/
theorem pairV_at (t : Fin cfg0.N) (j : Fin 16) (a k : Fin 128) :
    pairV (F := Ideal) (iblk m c 0 t) (iblk m c 1 t) (iblk m c 3 t) (iblk m c 5 t) j (ix2 a k)
      = ((I.dv (hh (pp j) ⟨k.val / 64, by omega⟩) (tt (res t j) a) ⟨k.val % 64, by omega⟩ : ℝ) : EReal) := by
  unfold pairV
  exact (dvF_at (nn j) (nn_in j) (nn_lt j) _ _ _ _ _ _ _ _ (cut0_at H t j) (cut1_at H t j)
    (cut3_at H t j) (cut5_at H t j) a k).trans (congrArg _ (dv_eq I (res t j) (pp j) a k))

end

/-- A pair's place, as the place of its column in the whole array. -/
theorem place (f : Fin 8 → Fin 2048 → Fin 64 → ℝ) (t : Fin cfg0.N) (a : Fin 128) (n : Fin 2048) :
    f (hh (pp (pr n)) ⟨(ln n).val / 64, by omega⟩) (tt (res t (pr n)) a) ⟨(ln n).val % 64, by omega⟩
      = f (vh (gc t n)) (vt a (gc t n)) (vd (gc t n)) := by
  have := N4 t
  have h1 : hh (pp (pr n)) ⟨(ln n).val / 64, by omega⟩ = vh (gc t n) := Fin.ext (by
    show n.val / 128 % 4 * 2 + n.val % 128 / 64 = (t.val * 2048 + n.val) % 512 / 64
    omega)
  have h2 : tt (res t (pr n)) a = vt a (gc t n) := Fin.ext (by
    show a.val * 16 + (t.val * 4 + n.val / 128 / 4) = a.val * 16 + (t.val * 2048 + n.val) / 512
    omega)
  have h3 : (⟨(ln n).val % 64, by omega⟩ : Fin 64) = vd (gc t n) := Fin.ext (by
    show n.val % 128 % 64 = (t.val * 2048 + n.val) % 64
    omega)
  rw [h1, h2, h3]

/-- A gradient in the blocks' view. -/
def gv (f : Fin 8 → Fin 2048 → Fin 64 → ℝ) : S128x8192.Idx → EReal := fun i =>
  ((f (vh ⟨(i 1).val, (i 1).isLt⟩) (vt ⟨(i 0).val, (i 0).isLt⟩ ⟨(i 1).val, (i 1).isLt⟩) (vd ⟨(i 1).val, (i 1).isLt⟩) : ℝ) : EReal)

theorem gv_at (f : Fin 8 → Fin 2048 → Fin 64 → ℝ) (t : Fin cfg0.N) (a : Fin 128) (n : Fin 2048) (i : S128x8192.Idx)
    (h0 : (i 0).val = a.val) (h1 : (i 1).val = t.val * 2048 + n.val) :
    gv f i = ((f (vh (gc t n)) (vt a (gc t n)) (vd (gc t n)) : ℝ) : EReal) := by
  have e0 : (⟨(i 0).val, (i 0).isLt⟩ : Fin 128) = a := Fin.ext h0
  have e1 : (⟨(i 1).val, (i 1).isLt⟩ : Fin 8192) = gc t n := Fin.ext h1
  unfold gv
  rw [e0, e1]

section
variable (H : Inputs m I c)
include H

/-- The region leaves the gradient of the queries. -/
theorem arr6 : (dats m 0 c).arrAt 6 cfg0.N = gv I.dq := by
  refine (dats m 0 c).arrAt_eq_of_covers 6 _ (by decide +kernel) fun t hf y => ?_
  blk_simp
  rw [after0_6]
  simp only [outsAt0]
  rw [out6_apply]
  refine (pairQ_at H t (pr (y 1)) (y 0) (ln (y 1))).trans ?_
  refine (congrArg _ (place I.dq t (y 0) (y 1))).trans (gv_at I.dq t (y 0) (y 1) _ ?_ ?_).symm
  · blk_simp [ind6]
  · blk_simp [ind6]

/-- The region leaves the gradient of the keys. -/
theorem arr7 : (dats m 0 c).arrAt 7 cfg0.N = gv I.dk := by
  refine (dats m 0 c).arrAt_eq_of_covers 7 _ (by decide +kernel) fun t hf y => ?_
  blk_simp
  rw [after0_7]
  simp only [outsAt0]
  rw [out7_apply]
  refine (pairK_at H t (pr (y 1)) (y 0) (ln (y 1))).trans ?_
  refine (congrArg _ (place I.dk t (y 0) (y 1))).trans (gv_at I.dk t (y 0) (y 1) _ ?_ ?_).symm
  · blk_simp [ind7]
  · blk_simp [ind7]

/-- The region leaves the gradient of the values. -/
theorem arr8 : (dats m 0 c).arrAt 8 cfg0.N = gv I.dv := by
  refine (dats m 0 c).arrAt_eq_of_covers 8 _ (by decide +kernel) fun t hf y => ?_
  blk_simp
  rw [after0_8]
  simp only [outsAt0]
  rw [out8_apply]
  refine (pairV_at H t (pr (y 1)) (y 0) (ln (y 1))).trans ?_
  refine (congrArg _ (place I.dv t (y 0) (y 1))).trans (gv_at I.dv t (y 0) (y 1) _ ?_ ?_).symm
  · blk_simp [ind8]
  · blk_simp [ind8]

end

end Cert.Attn

end
-- ==== Proof.Finite.lean ====
module

public import proofs.«01_k».proof.Pre_finite
public import Idealize.ShloMosaic.Lib.Pointwise
public import Idealize.ShloMosaic.Lib.ReduceAll
public import Idealize.ShloMosaic.Adequacy

@[expose] public section

set_option maxRecDepth 16384

noncomputable section

/-! What the precondition says: every entry of every argument is a real number. -/

namespace Cert.Attn

open Cert.Pre_finite
open Idealize.ShloMosaic hiding ix2 ix3 ix4
open Idealize.ShloMosaic.ValueIdx

/-- The side conditions of the precondition's operations. -/
theorem preFacts : Cert.Pre_finite.Facts where
  bcast_S_S2048x512 := by decide +kernel
  reducesTo_S2048x512_S_d0_1 := by decide +kernel
  h_S_ := by decide +kernel
  bcast_S_S8x2048x64 := by decide +kernel
  reducesTo_S8x2048x64_S_d0_1_2 := by decide +kernel
  bcast_S_S8x2048 := by decide +kernel
  reducesTo_S8x2048_S_d0_1 := by decide +kernel
  bcast_S_S1 := by decide +kernel
  concatenates_S1_S1_S1_S1_S1_S1_S1_S1_S8_d0 := by decide +kernel

/-- The index of a scalar. -/
def o : S_.Idx := fun x => x.elim0

instance : Subsingleton S_.Idx := ⟨fun a b => funext fun x => x.elim0⟩

/-- An extended real whose absolute value lies below the top is a real number. -/
theorem real_of_abs (x : EReal) (h : FloatOps.cmpf (F := Ideal) (φ := .f32) .olt (FloatOps.absf (F := Ideal) (φ := .f32) x)
    (FloatOps.ofBits (F := Ideal) .f32 0x7F800000#32) = 1#1) : ((x.toReal : ℝ) : EReal) = x := by
  induction x with
  | bot => exfalso; revert h; simp [FloatOps.cmpf, Ideal.cmp, FloatOps.absf, FloatOps.ofBits, Ideal.ofBits, Ideal.ieee]
  | coe x => rfl
  | top => exfalso; revert h; simp [FloatOps.cmpf, Ideal.cmp, FloatOps.absf, FloatOps.ofBits, Ideal.ofBits, Ideal.ieee]

/-- An array all of whose absolute values lie below the top holds real numbers. -/
theorem real_of_all {s : Shape} {axes : List (Fin s.rank)} (x : FVec Ideal s .f32) (top : FVec Ideal s .f32) (init : IVec S_ 1)
    (h : s.ReducesTo axes S_) (hu : 0 < S_.numel) (htop : top = fun _ => FloatOps.ofBits (F := Ideal) .f32 0x7F800000#32) (j : S_.Idx)
    (e : Host.reduce IntOp.andi (cmpf .olt (Host.absf x) top) init h hu j = 1#1) (i : s.Idx) :
    ((EReal.toReal (x i) : ℝ) : EReal) = x i := by
  subst htop
  exact real_of_abs _ (Host.reduce_andi_all _ _ _ _ _ e i)

/-- Eight bits stacked are all one when their stack is. -/
theorem stack_one (x0 x1 x2 x3 x4 x5 x6 x7 : IVec S_ 1) (hb : S_.BroadcastsInDim S1 (![] : Fin 0 → Fin S1.rank))
    (hc : Shape.Concatenates [S1, S1, S1, S1, S1, S1, S1, S1] S8 0)
    (h : concatenate S8 0 [⟨S1, broadcastInDim S1 ![] hb x0⟩, ⟨S1, broadcastInDim S1 ![] hb x1⟩, ⟨S1, broadcastInDim S1 ![] hb x2⟩,
      ⟨S1, broadcastInDim S1 ![] hb x3⟩, ⟨S1, broadcastInDim S1 ![] hb x4⟩, ⟨S1, broadcastInDim S1 ![] hb x5⟩,
      ⟨S1, broadcastInDim S1 ![] hb x6⟩, ⟨S1, broadcastInDim S1 ![] hb x7⟩] hc = fun _ => 1#1) :
    x0 o = 1#1 ∧ x1 o = 1#1 ∧ x2 o = 1#1 ∧ x3 o = 1#1
      ∧ x4 o = 1#1 ∧ x5 o = 1#1 ∧ x6 o = 1#1 ∧ x7 o = 1#1 := by
  have e : ∀ (x : IVec S_ 1) (i : S_.Idx), x i = x o := fun x i => congrArg x (Subsingleton.elim _ _)
  have h0 := congrFun h (ix1 (n0 := 8) 0)
  have h1 := congrFun h (ix1 (n0 := 8) 1)
  have h2 := congrFun h (ix1 (n0 := 8) 2)
  have h3 := congrFun h (ix1 (n0 := 8) 3)
  have h4 := congrFun h (ix1 (n0 := 8) 4)
  have h5 := congrFun h (ix1 (n0 := 8) 5)
  have h6 := congrFun h (ix1 (n0 := 8) 6)
  have h7 := congrFun h (ix1 (n0 := 8) 7)
  pointwise at h0 h1 h2 h3 h4 h5 h6 h7
  exact ⟨(e _ _).symm.trans h0, (e _ _).symm.trans h1, (e _ _).symm.trans h2, (e _ _).symm.trans h3,
    (e _ _).symm.trans h4, (e _ _).symm.trans h5, (e _ _).symm.trans h6, (e _ _).symm.trans h7⟩

/-- The precondition makes every entry of every argument a real number. -/
theorem all_real [Cert.Pre_finite.Facts] (q k v : FVec Ideal S2048x512 .f32) (oa : FVec Ideal S8x2048x64 .f32) (la : FVec Ideal S8x2048 .f32)
    (ob : FVec Ideal S8x2048x64 .f32) (lb : FVec Ideal S8x2048 .f32) (ct : FVec Ideal S2048x512 .f32)
    (h : Cert.Pre_finite.fn (F := Ideal) q k v oa la ob lb ct = fun _ => 1#1) :
    (∀ i, ((EReal.toReal (q i) : ℝ) : EReal) = q i) ∧ (∀ i, ((EReal.toReal (k i) : ℝ) : EReal) = k i)
      ∧ (∀ i, ((EReal.toReal (v i) : ℝ) : EReal) = v i) ∧ (∀ i, ((EReal.toReal (oa i) : ℝ) : EReal) = oa i)
      ∧ (∀ i, ((EReal.toReal (la i) : ℝ) : EReal) = la i) ∧ (∀ i, ((EReal.toReal (ob i) : ℝ) : EReal) = ob i)
      ∧ (∀ i, ((EReal.toReal (lb i) : ℝ) : EReal) = lb i) ∧ (∀ i, ((EReal.toReal (ct i) : ℝ) : EReal) = ct i) := by
  unfold Cert.Pre_finite.fn Cert.Pre_finite.fn_part1 Cert.Pre_finite.fn_part2 at h
  dsimp only at h
  obtain ⟨h0, h1, h2, h3, h4, h5, h6, h7⟩ := stack_one _ _ _ _ _ _ _ _ _ _ h
  exact ⟨real_of_all _ _ _ _ _ rfl _ h0, real_of_all _ _ _ _ _ rfl _ h1, real_of_all _ _ _ _ _ rfl _ h2,
    real_of_all _ _ _ _ _ rfl _ h3, real_of_all _ _ _ _ _ rfl _ h4, real_of_all _ _ _ _ _ rfl _ h5,
    real_of_all _ _ _ _ _ rfl _ h6, real_of_all _ _ _ _ _ rfl _ h7⟩

end Cert.Attn

end
-- ==== Proof.Algebraic.lean ====
module

public import proofs.«01_k».proof.Defs
public import proofs.«01_k».proof.Proof.Points
public import proofs.«01_k».proof.Proof.Finite
public import Idealize.ShloMosaic.Lib.Quiescent

@[expose] public section

set_option maxRecDepth 16384

noncomputable section

/-! The claims about the idealized kernel and the reference, assembled. -/

namespace Cert.Attn

open Idealize.ShloMosaic.TcCoe Idealize.SL.Sem
open Idealize.ShloMosaic hiding ix2 ix3 ix4
open Idealize.ShloMosaic.ValueIdx

/-- An index of two axes is its coordinates. -/
theorem idx2_eq (i : Cert.ReferenceIdeal.S128x8192.Idx) : i = ix2 (n0 := 128) (n1 := 8192) ⟨(i 0).val, (i 0).isLt⟩ ⟨(i 1).val, (i 1).isLt⟩ := by
  funext x
  match x with
  | 0 => rfl
  | 1 => rfl

/-- The reference's three results at real inputs. -/
theorem ref_q (I : Inp) : Cert.ReferenceIdeal.Read.val_main_v161 (F := Ideal) (co I.q) (co I.k) (co I.v) (co I.oa) (co I.la) (co I.ob) (co I.lb) (co I.ct) = gv I.dq := by
  funext i
  exact (congrArg _ (idx2_eq i)).trans (v161_at I _ _)

theorem ref_k (I : Inp) : Cert.ReferenceIdeal.Read.val_main_v163 (F := Ideal) (co I.q) (co I.k) (co I.v) (co I.oa) (co I.la) (co I.ob) (co I.lb) (co I.ct) = gv I.dk := by
  funext i
  exact (congrArg _ (idx2_eq i)).trans (v163_at I _ _)

theorem ref_v (I : Inp) : Cert.ReferenceIdeal.Read.val_main_v165 (F := Ideal) (co I.q) (co I.k) (co I.la) (co I.lb) (co I.ct) = gv I.dv := by
  funext i
  exact (congrArg _ (idx2_eq i)).trans (v165_at I _ _)

/-- One device's arguments as real numbers. -/
def inp (m : (ℓ : Loc Cert.KernelIdeal.nD Cert.KernelIdeal.τ Cert.KernelIdeal.sig) → Buf (Elt Ideal) ℓ) (c : Dev Cert.KernelIdeal.nD) : Inp where
  q i := EReal.toReal (m ((c.tc : Thread Cert.KernelIdeal.nD Cert.KernelIdeal.τ).loc Cert.KernelIdeal.main_arg0) i)
  k i := EReal.toReal (m ((c.tc : Thread Cert.KernelIdeal.nD Cert.KernelIdeal.τ).loc Cert.KernelIdeal.main_arg1) i)
  v i := EReal.toReal (m ((c.tc : Thread Cert.KernelIdeal.nD Cert.KernelIdeal.τ).loc Cert.KernelIdeal.main_arg2) i)
  oa i := EReal.toReal (m ((c.tc : Thread Cert.KernelIdeal.nD Cert.KernelIdeal.τ).loc Cert.KernelIdeal.main_arg3) i)
  la i := EReal.toReal (m ((c.tc : Thread Cert.KernelIdeal.nD Cert.KernelIdeal.τ).loc Cert.KernelIdeal.main_arg4) i)
  ob i := EReal.toReal (m ((c.tc : Thread Cert.KernelIdeal.nD Cert.KernelIdeal.τ).loc Cert.KernelIdeal.main_arg5) i)
  lb i := EReal.toReal (m ((c.tc : Thread Cert.KernelIdeal.nD Cert.KernelIdeal.τ).loc Cert.KernelIdeal.main_arg6) i)
  ct i := EReal.toReal (m ((c.tc : Thread Cert.KernelIdeal.nD Cert.KernelIdeal.τ).loc Cert.KernelIdeal.main_arg7) i)

/-- Under the precondition one device's arguments are the real inputs. -/
theorem inputs [Cert.Pre_finite.Facts] (m : (ℓ : Loc Cert.KernelIdeal.nD Cert.KernelIdeal.τ Cert.KernelIdeal.sig) → Buf (Elt Ideal) ℓ)
    (h : Cert.Pre_KernelIdeal_finite m) (c : Dev Cert.KernelIdeal.nD) : Inputs m (inp m c) c := by
  obtain ⟨h0, h1, h2, h3, h4, h5, h6, h7⟩ := all_real _ _ _ _ _ _ _ _ (h c)
  exact ⟨funext fun i => (h0 i).symm, funext fun i => (h1 i).symm, funext fun i => (h2 i).symm, funext fun i => (h3 i).symm,
    funext fun i => (h4 i).symm, funext fun i => (h5 i).symm, funext fun i => (h6 i).symm, funext fun i => (h7 i).symm⟩

/-- The reference's frame. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The idealized kernel computes the reference's gradients on finite inputs. -/
theorem algebraic [Cert.Pre_finite.Facts] : Cert.algebraic_KernelIdeal_ReferenceIdeal_pre_finite := by
  intro m g m' g' hpre hargs
  refine ⟨fun c => gv (inp m c).dq, fun c => gv (inp m c).dk, fun c => gv (inp m c).dv, ?_, ?_⟩
  · refine (θ_run Cert.KernelIdeal.defs _ _).mono (fun r h c => ?_) (Cert.KernelIdeal.Value.run_blocks (F := Ideal) m g)
    have H := inputs m hpre c
    exact ⟨(h c).1.trans (arr6 H), (h c).2.1.trans (arr7 H), (h c).2.2.1.trans (arr8 H), (h c).2.2.2⟩
  · refine (θ_run Cert.ReferenceIdeal.defs _ _).mono (fun r h c => ?_) (Cert.ReferenceIdeal.Value.run (F := Ideal) m' g')
    have H := inputs m hpre c
    obtain ⟨a0, a1, a2, a3, a4, a5, a6, a7⟩ := hargs c
    have e0 := a0.trans H.h0
    have e1 := a1.trans H.h1
    have e2 := a2.trans H.h2
    have e3 := a3.trans H.h3
    have e4 := a4.trans H.h4
    have e5 := a5.trans H.h5
    have e6 := a6.trans H.h6
    have e7 := a7.trans H.h7
    refine ⟨((h c).1.trans (Cert.ReferenceIdeal.Read.val_main_v161_eq (StableHlo.launchContents m' c))).trans (Eq.trans ?_ (ref_q _)),
      ((h c).2.1.trans (Cert.ReferenceIdeal.Read.val_main_v163_eq (StableHlo.launchContents m' c))).trans (Eq.trans ?_ (ref_k _)),
      ((h c).2.2.1.trans (Cert.ReferenceIdeal.Read.val_main_v165_eq (StableHlo.launchContents m' c))).trans (Eq.trans ?_ (ref_v _)), (h c).2.2.2⟩
    · exact congr (congr (congr (congr (congr (congr (congrArg₂ (Cert.ReferenceIdeal.Read.val_main_v161 (F := Ideal)) e0 e1) e2) e3) e4) e5) e6) e7
    · exact congr (congr (congr (congr (congr (congr (congrArg₂ (Cert.ReferenceIdeal.Read.val_main_v163 (F := Ideal)) e0 e1) e2) e3) e4) e5) e6) e7
    · exact congr (congr (congr (congrArg₂ (Cert.ReferenceIdeal.Read.val_main_v165 (F := Ideal)) e0 e1) e4) e6) e7

end Cert.Attn

end
-- ==== Proof.FfnRun.lean ====
module

public import proofs.«01_k».proof.Proof.Gen.Kernel2Ideal.Frame

@[expose] public section

set_option maxRecDepth 16384

noncomputable section

/-! The three kernels' run: every buffer that outlives it holds what the last of the boundaries says. -/

namespace Cert.Ffn

open Cert.Kernel2Ideal Cert.Kernel2Ideal.Gen
open Idealize.ShloMosaic Idealize.ShloMosaic.TcCoe Idealize.ShloMosaic.Tactic Idealize.ShloMosaic.Rounds
open Idealize.SL Idealize.SL.RA Idealize.SL.BI Idealize.SL.BI.BIBase Idealize.SL.BI.Laws Idealize.SL.ProofMode Idealize.SL.Sem
open scoped Idealize.SL.BI

variable {F : FTy → Type} [FloatOps F] (m : (ℓ : Loc nD τ sig) → Buf (Elt F) ℓ) (ρ : Dev nD → PrngReg)

/-- The state that the run's assertions speak of. -/
abbrev World : Type := MT nD τ sig Unit (Elt F) ℕ (UR sig nD τ) ℕ

/-- What the run starts from beside the memory: the tokens of the pipelines' transfers. -/
abbrev tokens : UR sig nD τ := initOf (Pipeline.cells cfgs cellOf_inj) (Pipeline.launchToks cfgs cellOf_inj)

/-- The tokens are the pipelines' own. -/
theorem tokens_own : (ownU tokens : sProp (World (F := F))) ⊢ BI.own (emb₁ tokens) := .rfl

/-- Nothing is owed on any device. -/
theorem none_owed : (BI.emp : sProp (World (F := F))) ⊢ bigSep Finset.univ (fun _ : Dev nD => (BI.emp : sProp (World (F := F)))) := by
  rw [BI.bigSep_emp_const]

set_option backward.isDefEq.respectTransparency.types false in
/-- The run ends with every buffer at its contents after the third kernel. -/
theorem ends : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := tokens)
    (hu₀ := by
      iintro Hu; imodintro
      isplitl [Hu]
      · iapply (tokens_own (F := F)); iexact Hu
      iapply (none_owed (F := F)); iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- A result or argument array at the end of the run. -/
theorem ends_at {r : Ref sig .tc} {μ : (ℓ : Loc nD τ sig) → Buf (Elt F) ℓ} {c : Dev nD}
    (h : ∀ b ∈ Pipeline.ucRefs τ sig, μ (((c : Thread nD τ)).1, b) = W4 m ρ c b)
    (hr : ¬ (Proc.devRef .tc r : DevRef τ sig).isScoped) : μ ((c.tc : Thread nD τ).loc r) = W4 m ρ c (Proc.devRef .tc r) :=
  h _ (mem_uc r hr)

end Cert.Ffn

end
-- ==== Proof.FfnReals.lean ====
module

public import proofs.«01_k».proof.Proof.Reals

@[expose] public section

set_option maxRecDepth 16384

noncomputable section

/-! The feed-forward block of one token and its gradient, over the real numbers. -/

namespace Cert.Ffn

open Idealize.ShloMosaic
open scoped BigOperators

/-- The activations of one token. -/
abbrev Row := Fin 1024 → ℝ

/-- A weight, a row for each hidden unit. -/
abbrev Mat := Fin 2816 → Fin 1024 → ℝ

/-- The constant added to a mean square. -/
def eps : ℝ := EReal.toReal (Ideal.ofBits .f32 0x358637BD#32)

/-- The constant added to a mean square is the literal's value, a positive number. -/
theorem eps_spec : Ideal.ofBits .f32 0x358637BD#32 = ((eps : ℝ) : EReal) ∧ 0 < eps := by
  have h : Ideal.ofBits .f32 0x358637BD#32 = (((8796093 : ℝ) * (2 : ℝ) ^ (-43 : ℤ) : ℝ) : EReal) := by
    simp [Ideal.ofBits, Ideal.ieee]
  unfold eps
  rw [h]
  exact ⟨by rw [EReal.toReal_coe], by rw [EReal.toReal_coe]; positivity⟩

/-- A token's mean square. -/
def ms (x : Row) : ℝ := (∑ j, x j * x j) / 1024 + eps

theorem ms_pos (x : Row) : 0 < ms x :=
  add_pos_of_nonneg_of_pos (div_nonneg (Finset.sum_nonneg fun j _ => mul_self_nonneg (x j)) (by norm_num)) eps_spec.2

/-- The reciprocal of a token's root mean square. -/
def rs (x : Row) : ℝ := (Real.sqrt (ms x))⁻¹

/-- A token over its root mean square. -/
def hat (x : Row) : Row := fun j => x j * rs x

/-- The gradient of a token from that of its normalised and scaled values. -/
def bwd (x g d : Row) : Row := fun j => rs x * (d j * g j - hat x j * ((∑ l, d l * g l * hat x l) / 1024))

/-- The logistic function. -/
def sg (z : ℝ) : ℝ := 1 / (1 + Real.exp (0 - z))

/-- The square of the reciprocal root is the reciprocal. -/
theorem rs_sq (x : Row) : rs x * rs x = (ms x)⁻¹ := by
  unfold rs
  rw [← mul_inv, Real.mul_self_sqrt (ms_pos x).le]

/-- The gradient through the mean square, term by term, is the closed form. -/
theorem bwd_terms (x g d : Row) (n : Fin 1024) :
    d n * g n * rs x + x n * ((∑ l, x l * (d l * g l)) * (-(1 / 2) * (rs x / ms x)) / 1024)
      + (∑ l, x l * (d l * g l)) * (-(1 / 2) * (rs x / ms x)) / 1024 * x n = bwd x g d n := by
  unfold bwd hat
  have h : ∑ l, d l * g l * (x l * rs x) = (∑ l, x l * (d l * g l)) * rs x := by
    rw [Finset.sum_mul]
    exact Finset.sum_congr rfl fun l _ => by ring
  rw [h, div_eq_mul_inv (rs x) (ms x), ← rs_sq]
  ring

/-- The weights and gains of the block. -/
structure Par where
  gate : Mat
  up : Mat
  down : Mat
  pre : Row
  post : Row

namespace Par

variable (N : Par) (x t : Row)

/-- The normalised input. -/
def nh : Row := fun j => hat x j * N.pre j

/-- The gate before its activation. -/
def ga (k : Fin 2816) : ℝ := ∑ j, N.nh x j * N.gate k j

/-- The other factor of the hidden units. -/
def ua (k : Fin 2816) : ℝ := ∑ j, N.nh x j * N.up k j

/-- The hidden units. -/
def ac (k : Fin 2816) : ℝ := N.ga x k * sg (N.ga x k) * N.ua x k

/-- The block's output before its normalisation. -/
def fo : Row := fun n => ∑ k, N.ac x k * N.down k n

/-- The output less the target. -/
def er : Row := fun n => x n + hat (N.fo x) n * N.post n - t n

/-- The gradient of the output. -/
def dO : Row := fun n => N.er x t n * (1 / 1024)

/-- The gradient of the block's output before its normalisation. -/
def df : Row := bwd (N.fo x) N.post (N.dO x t)

/-- The gradient of a hidden unit. -/
def da (k : Fin 2816) : ℝ := ∑ n, N.df x t n * N.down k n

/-- The gradient of the other factor. -/
def du (k : Fin 2816) : ℝ := N.da x t k * (N.ga x k * sg (N.ga x k))

/-- The gradient of the gate. -/
def dg (k : Fin 2816) : ℝ := N.da x t k * N.ua x k * (sg (N.ga x k) * (1 + N.ga x k * (1 - sg (N.ga x k))))

/-- The gradient of the normalised input. -/
def dh : Row := fun j => (∑ k, N.dg x t k * N.gate k j) + ∑ k, N.du x t k * N.up k j

/-- The gradient of the input. -/
def dx : Row := fun j => N.dO x t j + bwd x N.pre (N.dh x t) j

end Par

/-- The hidden units of the first chunk. -/
def c0 (k : Fin 1024) : Fin 2816 := ⟨k.val, by omega⟩

/-- The hidden units of the second chunk. -/
def c1 (k : Fin 1024) : Fin 2816 := ⟨1024 + k.val, by omega⟩

/-- The hidden units of the third chunk. -/
def c2 (k : Fin 768) : Fin 2816 := ⟨2048 + k.val, by omega⟩

/-- A sum over the hidden units, a chunk at a time. -/
theorem sum_chunks (f : Fin 2816 → ℝ) : (∑ k, f (c0 k)) + (∑ k, f (c1 k)) + (∑ k, f (c2 k)) = ∑ k, f k := by
  have h1 := Fin.sum_univ_add (a := 1024) (b := 1792) f
  have h2 := Fin.sum_univ_add (a := 1024) (b := 768) fun k => f (Fin.natAdd 1024 k)
  refine Eq.symm (h1.trans ?_)
  rw [add_assoc]
  refine congrArg₂ (· + ·) rfl (h2.trans (congrArg₂ (· + ·) rfl (Finset.sum_congr rfl fun k _ => congrArg f (Fin.ext ?_))))
  show 1024 + (1024 + k.val) = 2048 + k.val
  omega

end Cert.Ffn
-- ==== Proof.FfnOps.lean ====
module

public import proofs.«01_k».proof.Proof.FfnReals
public import proofs.«01_k».proof.Proof.Gen.Kernel2Ideal.Skeleton
public import Idealize.ShloMosaic.Lib.Pointwise

@[expose] public section

set_option maxRecDepth 16384

noncomputable section

/-! Blocks of real numbers under the operations of the kernel's body. -/

namespace Cert.Ffn

open Cert.Kernel2Ideal Cert.Kernel2Ideal.Gen Idealize.ShloMosaic.TcCoe Idealize.SL.Sem
open Idealize.ShloMosaic hiding ix2 ix3 ix4
open Idealize.ShloMosaic.ValueIdx
open Cert.Attn (coe_sum div_real)
open scoped BigOperators

/-- A block holds the given real numbers. -/
def IsR {n0 n1 : Nat} {φ : FTy} (v : FVec Ideal ⟨2, ![n0, n1]⟩ φ) (X : Fin n0 → Fin n1 → ℝ) : Prop :=
  ∀ i j, (v (ix2 i j) : EReal) = ((X i j : ℝ) : EReal)

namespace IsR

variable {n0 n1 : Nat} {φ : FTy} {v w : FVec Ideal ⟨2, ![n0, n1]⟩ φ} {X Y : Fin n0 → Fin n1 → ℝ}

/-- A block of equal numbers. -/
theorem of_eq (h : IsR v X) (e : ∀ i j, X i j = Y i j) : IsR v Y := fun i j => (h i j).trans (by rw [e])

/-- A product of blocks. -/
theorem mul (h : IsR v X) (k : IsR w Y) : IsR (mulf v w) fun i j => X i j * Y i j := fun i j =>
  (congrArg₂ (fun a b : EReal => a * b) (h i j) (k i j)).trans (EReal.coe_mul _ _).symm

/-- A sum of blocks. -/
theorem add (h : IsR v X) (k : IsR w Y) : IsR (addf v w) fun i j => X i j + Y i j := fun i j =>
  (congrArg₂ (fun a b : EReal => a + b) (h i j) (k i j)).trans (EReal.coe_add _ _).symm

/-- A difference of blocks. -/
theorem sub (h : IsR v X) (k : IsR w Y) : IsR (subf v w) fun i j => X i j - Y i j := fun i j =>
  (congrArg₂ (fun a b : EReal => a - b) (h i j) (k i j)).trans (EReal.coe_sub _ _).symm

/-- A quotient of blocks. -/
theorem div (h : IsR v X) (k : IsR w Y) (hY : ∀ i j, Y i j ≠ 0) : IsR (divf v w) fun i j => X i j / Y i j := fun i j =>
  (congrArg₂ Ideal.div (h i j) (k i j)).trans (div_real (hY i j))

/-- An exponential of a block. -/
theorem exp (h : IsR v X) : IsR (Idealize.ShloMosaic.exp v) fun i j => Real.exp (X i j) := fun i j =>
  (congrArg Ideal.exp (h i j)).trans (Ideal.exp_coe _)

/-- A reciprocal root of a block. -/
theorem rsqrt (h : IsR v X) (hX : ∀ i j, 0 < X i j) : IsR (Idealize.ShloMosaic.rsqrt v) fun i j => (Real.sqrt (X i j))⁻¹ := fun i j =>
  (congrArg Ideal.rsqrt (h i j)).trans (by rw [Ideal.rsqrt_coe, if_neg (hX i j).not_gt, if_neg (hX i j).ne'])

/-- A narrower format keeps the numbers. -/
theorem trunc {ψ : FTy} {hb} (h : IsR v X) : IsR (truncf (F := Ideal) ψ v hb) X := h

/-- A cast to the same shape keeps the block. -/
theorem cast {hs} (h : IsR v X) : IsR (shapeCast ⟨2, ![n0, n1]⟩ v hs) X := by rw [shapeCast_self]; exact h

/-- One number everywhere. -/
theorem const {c : Ideal φ} {r : ℝ} (h : (c : EReal) = ((r : ℝ) : EReal)) :
    IsR (broadcast ⟨2, ![n0, n1]⟩ c : FVec Ideal ⟨2, ![n0, n1]⟩ φ) fun _ _ => r := fun _ _ => h

end IsR

/-- The literal 0. -/
theorem lit0 : (Scalar.ofBits (F := Ideal) .f32 0x00000000#32 : EReal) = ((0 : ℝ) : EReal) := Ideal.ofBits_zero_f32
/-- The literal 1. -/
theorem lit1 : (Scalar.ofBits (F := Ideal) .f32 0x3F800000#32 : EReal) = ((1 : ℝ) : EReal) := Ideal.ofBits_one_f32
/-- The literal 1024. -/
theorem lit1024 : (Scalar.ofBits (F := Ideal) .f32 0x44800000#32 : EReal) = ((1024 : ℝ) : EReal) := by
  show Ideal.ofBits .f32 0x44800000#32 = _
  simp [Ideal.ofBits, Ideal.ieee]
  rw [← EReal.coe_mul]
  exact congrArg _ (by norm_num)
/-- The literal 1/1024. -/
theorem litInv : (Scalar.ofBits (F := Ideal) .f32 0x3A800000#32 : EReal) = ((1 / 1024 : ℝ) : EReal) := by
  show Ideal.ofBits .f32 0x3A800000#32 = _
  simp [Ideal.ofBits, Ideal.ieee]
  rw [← EReal.coe_mul]
  exact congrArg _ (by norm_num)
/-- The literal added to a mean square. -/
theorem litEps : (Scalar.ofBits (F := Ideal) .f32 0x358637BD#32 : EReal) = ((eps : ℝ) : EReal) := eps_spec.1

/-- A column repeated along the rows. -/
theorem IsR.alongRows {v : FVec Ideal S256x1 .f32} {X : Fin 256 → Fin 1 → ℝ} (h : IsR v X) :
    IsR (broadcastTo S256x1024 v broadcasts_S256x1_S256x1024) fun i _ => X i 0 := fun i j => by
  refine Eq.trans ?_ (h i 0)
  pointwise
  rfl

/-- A row repeated down the columns. -/
theorem IsR.downCols {v : FVec Ideal S1x1024 .f32} {X : Fin 1 → Fin 1024 → ℝ} (h : IsR v X) :
    IsR (broadcastTo S256x1024 v broadcasts_S1x1024_S256x1024) fun _ j => X 0 j := fun i j => by
  refine Eq.trans ?_ (h 0 j)
  pointwise
  rfl

/-- The sums of the rows. -/
theorem IsR.sumRows {v : FVec Ideal S256x1024 .f32} {X : Fin 256 → Fin 1024 → ℝ} (h : IsR v X) {h1 h2 h3 h4} :
    IsR (shapeCast S256x1 (multiReduction (F := Ideal) .add [1] S256 v 0x00000000#32 h1 h2 h3) h4) fun i _ => ∑ j, X i j :=
  fun i j => by
  refine Eq.trans ?_ (coe_sum _ _).symm
  refine Eq.trans ?_ (Finset.sum_congr rfl fun j _ => h i j)
  pointwise
  rfl

/-- The sums of the columns. -/
theorem IsR.sumCols {v : FVec Ideal S256x1024 .f32} {X : Fin 256 → Fin 1024 → ℝ} (h : IsR v X) {h1 h2 h3 h4} :
    IsR (shapeCast S1x1024 (multiReduction (F := Ideal) .add [0] S1024 v 0x00000000#32 h1 h2 h3) h4) fun _ j => ∑ i, X i j :=
  fun i j => by
  refine Eq.trans ?_ (coe_sum _ _).symm
  refine Eq.trans ?_ (Finset.sum_congr rfl fun i _ => h i j)
  pointwise
  rfl

/-- A sum of products of real numbers. -/
theorem sum_mul_real {n : Nat} {f g : Fin n → EReal} {F G : Fin n → ℝ} (hf : ∀ k, f k = ((F k : ℝ) : EReal))
    (hg : ∀ k, g k = ((G k : ℝ) : EReal)) : (∑ k, f k * g k) = ((∑ k, F k * G k : ℝ) : EReal) := by
  rw [coe_sum]
  exact Finset.sum_congr rfl fun k _ => by rw [hf, hg, EReal.coe_mul]

/-- A product with 1024 rows of a weight, along the model's axis. -/
theorem IsR.nt1024 {v : FVec Ideal S256x1024 .bf16} {w : FVec Ideal S1024x1024 .bf16} {X : Fin 256 → Fin 1024 → ℝ}
    {W : Fin 1024 → Fin 1024 → ℝ} (h : IsR v X) (k : IsR w W) :
    IsR (matmul dot_S256x1024_S1024x1024_S256x1024_1_1_0_0_n_n none v w (constant S256x1024 .f32 0x00000000#32))
      fun i j => ∑ l, X i l * W j l := fun i j => by
  refine Eq.trans ?_ (sum_mul_real (h i) (k j))
  pointwise
  rfl

/-- A product with 768 rows of a weight, along the model's axis. -/
theorem IsR.nt768 {v : FVec Ideal S256x1024 .bf16} {w : FVec Ideal S768x1024 .bf16} {X : Fin 256 → Fin 1024 → ℝ}
    {W : Fin 768 → Fin 1024 → ℝ} (h : IsR v X) (k : IsR w W) :
    IsR (matmul dot_S256x1024_S768x1024_S256x768_1_1_0_0_n_n none v w (constant S256x768 .f32 0x00000000#32))
      fun i j => ∑ l, X i l * W j l := fun i j => by
  refine Eq.trans ?_ (sum_mul_real (h i) (k j))
  pointwise
  rfl

/-- A product with 1024 rows of a weight, along the hidden units. -/
theorem IsR.nn1024 {v : FVec Ideal S256x1024 .bf16} {w : FVec Ideal S1024x1024 .bf16} {X : Fin 256 → Fin 1024 → ℝ}
    {W : Fin 1024 → Fin 1024 → ℝ} (h : IsR v X) (k : IsR w W) :
    IsR (matmul dot_S256x1024_S1024x1024_S256x1024_1_0_0_1_n_n none v w (constant S256x1024 .f32 0x00000000#32))
      fun i j => ∑ l, X i l * W l j := fun i j => by
  refine Eq.trans ?_ (sum_mul_real (h i) fun l => k l j)
  pointwise
  rfl

/-- A product with 768 rows of a weight, along the hidden units. -/
theorem IsR.nn768 {v : FVec Ideal S256x768 .bf16} {w : FVec Ideal S768x1024 .bf16} {X : Fin 256 → Fin 768 → ℝ}
    {W : Fin 768 → Fin 1024 → ℝ} (h : IsR v X) (k : IsR w W) :
    IsR (matmul dot_S256x768_S768x1024_S256x1024_1_0_0_1_n_n none v w (constant S256x1024 .f32 0x00000000#32))
      fun i j => ∑ l, X i l * W l j := fun i j => by
  refine Eq.trans ?_ (sum_mul_real (h i) fun l => k l j)
  pointwise
  rfl

/-- A gradient of a weight: 256 columns of one factor against the other, along the tokens. -/
theorem IsR.tn {v : FVec Ideal S2048x256 .bf16} {w : FVec Ideal S2048x1024 .bf16} {X : Fin 2048 → Fin 256 → ℝ}
    {W : Fin 2048 → Fin 1024 → ℝ} (h : IsR v X) (k : IsR w W) :
    IsR (matmul dot_S2048x256_S2048x1024_S256x1024_0_0_1_1_n_n none v w (constant S256x1024 .f32 0x00000000#32))
      fun i j => ∑ l, X l i * W l j := fun i j => by
  refine Eq.trans ?_ (sum_mul_real (fun l => h l i) fun l => k l j)
  pointwise
  rfl

end Cert.Ffn
-- ==== Proof.FfnPay.lean ====
module

public import proofs.«01_k».proof.Proof.FfnOps

@[expose] public section

set_option maxRecDepth 16384

noncomputable section

/-! The values of the body of the feed-forward kernel over the real numbers, one at a time. -/

namespace Cert.Ffn

open Cert.Kernel2Ideal Cert.Kernel2Ideal.Gen Idealize.ShloMosaic.TcCoe Idealize.SL.Sem
open Idealize.ShloMosaic hiding ix2 ix3 ix4
open Idealize.ShloMosaic.ValueIdx
open scoped BigOperators

/-- The logistic function, as the body spells it. -/
theorem IsR.logistic {n0 n1 : Nat} {v : FVec Ideal ⟨2, ![n0, n1]⟩ .f32} {X : Fin n0 → Fin n1 → ℝ} (h : IsR v X) :
    IsR (divf (broadcast ⟨2, ![n0, n1]⟩ (Scalar.ofBits .f32 0x3F800000#32))
      (addf (broadcast ⟨2, ![n0, n1]⟩ (Scalar.ofBits .f32 0x3F800000#32))
        (Idealize.ShloMosaic.exp (subf (broadcast ⟨2, ![n0, n1]⟩ (Scalar.ofBits .f32 0x00000000#32)) v)))) fun i j => sg (X i j) :=
  (IsR.const lit1).div ((IsR.const lit1).add ((IsR.const lit0).sub h).exp) fun _ _ => (add_pos one_pos (Real.exp_pos _)).ne'

variable {X T : Fin 256 → Row} {p q : Row}
variable {v3 v117 : Vec Ideal S256x1024 .f32} {v4 v6 : Vec Ideal S1x1024 .f32}

/-! ## The input's normalisation -/

theorem pay7_at (h : IsR (φ := .f32) v4 fun _ => p) : IsR (k0_pay7 v4) fun _ => p := h.cast

theorem pay8_at (h : IsR (φ := .f32) v6 fun _ => p) : IsR (k0_pay8 v6) fun _ => p := h.cast

/-- The reciprocals of the rows' root mean squares. -/
theorem pay9_at (h : IsR (φ := .f32) v3 X) : IsR (k0_pay9 v3) fun i _ => rs (X i) :=
  (((h.mul h).sumRows.div (IsR.const lit1024) fun _ _ => by norm_num).add (IsR.const litEps)).rsqrt fun i _ => ms_pos (X i)

/-- The rows over their root mean squares. -/
theorem pay10_at (h : IsR (φ := .f32) v3 X) : IsR (k0_pay10 v3) fun i => hat (X i) := h.mul (pay9_at h).alongRows

/-- The normalised input. -/
theorem pay11_at (h : IsR (φ := .f32) v3 X) (hp : IsR (φ := .f32) v4 fun _ => p) :
    IsR (k0_pay11 v3 v4) fun i j => hat (X i) j * p j := ((pay10_at h).mul (pay7_at hp).downCols).trunc

/-! ## The forward chunks -/

section
variable {H : Fin 256 → Row} {W : Fin 1024 → Fin 1024 → ℝ} {v20 : FVec Ideal S256x1024 .bf16} {w : Vec Ideal S1024x1024 .bf16}

theorem pay13_at (h : IsR (k0_pay11 v3 v4) H) (k : IsR (φ := .bf16) w W) :
    IsR (k0_pay13 v3 v4 w) fun i j => ∑ l, H i l * W j l := h.nt1024 k.cast

theorem pay14_at (h : IsR (k0_pay11 v3 v4) H) (k : IsR (φ := .bf16) w W) :
    IsR (k0_pay14 v3 v4 w) fun i j => ∑ l, H i l * W j l := h.nt1024 k.cast

theorem pay19_at (h : IsR v20 H) (k : IsR (φ := .bf16) w W) :
    IsR (k0_pay19 v20 w) fun i j => ∑ l, H i l * W j l := h.nt1024 k.cast

theorem pay20_at (h : IsR v20 H) (k : IsR (φ := .bf16) w W) :
    IsR (k0_pay20 v20 w) fun i j => ∑ l, H i l * W j l := h.nt1024 k.cast

variable {G U P : Fin 256 → Fin 1024 → ℝ} {g u f : FVec Ideal S256x1024 .f32}

/-- The hidden units of the first chunk. -/
theorem pay17_at (h : IsR g G) (k : IsR u U) : IsR (k0_pay17 g u) fun i j => G i j * sg (G i j) * U i j :=
  ((h.mul h.logistic).mul k).trunc

theorem pay18_at (hf : IsR f P) (h : IsR g G) (k : IsR u U) (hw : IsR (φ := .bf16) w W) :
    IsR (k0_pay18 f g u w) fun i n => P i n + ∑ l, G i l * sg (G i l) * U i l * W l n :=
  hf.add ((pay17_at h k).nn1024 hw.cast)

variable {z : Vec Ideal S1024x1024 .bf16}

/-- The hidden units of the second chunk. -/
theorem pay24_at (h : IsR (k0_pay19 v20 z) G) (k : IsR u U) :
    IsR (k0_pay24 (k0_pay19 v20 z) u (k0_pay23 v20 z) (Scalar.ofBits .f32 0x3F800000#32)) fun i j => G i j * sg (G i j) * U i j :=
  ((h.mul h.logistic).mul k).trunc

theorem pay25_at (hf : IsR f P) (h : IsR (k0_pay19 v20 z) G) (k : IsR u U) (hw : IsR (φ := .bf16) w W) :
    IsR (k0_pay25 f (k0_pay19 v20 z) u (k0_pay23 v20 z) (Scalar.ofBits .f32 0x3F800000#32) w)
      fun i n => P i n + ∑ l, G i l * sg (G i l) * U i l * W l n :=
  hf.add ((pay24_at h k).nn1024 hw.cast)

end

section
variable {H : Fin 256 → Row} {W W' : Fin 768 → Fin 1024 → ℝ} {v20 : FVec Ideal S256x1024 .bf16} {w w' : Vec Ideal S768x1024 .bf16}

theorem pay26_at (h : IsR v20 H) (k : IsR (φ := .bf16) w W) :
    IsR (k0_pay26 v20 w) fun i j => ∑ l, H i l * W j l := h.nt768 k.cast

theorem pay27_at (h : IsR v20 H) (k : IsR (φ := .bf16) w W) :
    IsR (k0_pay27 v20 w) fun i j => ∑ l, H i l * W j l := h.nt768 k.cast

variable {G U : Fin 256 → Fin 768 → ℝ}

/-- The hidden units of the third chunk. -/
theorem pay30_at (h : IsR (k0_pay26 v20 w) G) (k : IsR (k0_pay27 v20 w') U) :
    IsR (k0_pay30 v20 w w') fun i j => G i j * sg (G i j) * U i j := ((h.mul h.logistic).mul k).trunc

variable {f : FVec Ideal S256x1024 .f32} {P : Fin 256 → Row} {a : FVec Ideal S256x768 .bf16} {A : Fin 256 → Fin 768 → ℝ}

theorem pay31_at (hf : IsR f P) (h : IsR a A) (k : IsR (φ := .bf16) w W) :
    IsR (k0_pay31 f a w) fun i n => P i n + ∑ l, A i l * W l n := hf.add (h.nn768 k.cast)

end

/-! ## The output's normalisation and the loss -/

section
variable {f : FVec Ideal S256x1024 .f32} {a : FVec Ideal S256x768 .bf16} {w : Vec Ideal S768x1024 .bf16} {Fo : Fin 256 → Row}
variable {v7 : FVec Ideal S1x1024 .f32}

theorem pay32_at (h : IsR (k0_pay31 f a w) Fo) : IsR (k0_pay32 f a w) fun i _ => rs (Fo i) :=
  (((h.mul h).sumRows.div (IsR.const lit1024) fun _ _ => by norm_num).add (IsR.const litEps)).rsqrt fun i _ => ms_pos (Fo i)

theorem pay33_at (h : IsR (k0_pay31 f a w) Fo) : IsR (k0_pay33 f a w) fun i => hat (Fo i) := h.mul (pay32_at h).alongRows

/-- The output less the target. -/
theorem pay34_at (hx : IsR (φ := .f32) v3 X) (hq : IsR v7 fun _ => q) (h : IsR (k0_pay31 f a w) Fo) (ht : IsR (φ := .f32) v117 T) :
    IsR (k0_pay34 v3 v7 f a w v117) fun i n => X i n + hat (Fo i) n * q n - T i n :=
  (hx.add ((pay33_at h).mul hq.downCols)).sub ht

variable {E D : Fin 256 → Row} {l : Vec Ideal S1x1024 .f32} {L : Row}

/-- The columns' losses, added up. -/
theorem pay35_at (h : IsR (k0_pay34 v3 v7 f a w v117) E) (hl : IsR (φ := .f32) l fun _ => L) :
    IsR (k0_pay35 v3 v7 f a w v117 l) fun _ n => L n + ∑ i, E i n * E i n := hl.cast.add (h.mul h).sumCols

/-- The gradient of the output. -/
theorem pay36_at (h : IsR (k0_pay34 v3 v7 f a w v117) E) :
    IsR (k0_pay36 v3 v7 f a w v117) fun i n => E i n * (1 / 1024) := h.mul (IsR.const litInv)

/-- The gradient before the output's normalisation. -/
theorem pay37_at (hq : IsR v7 fun _ => q) (h : IsR (k0_pay31 f a w) Fo) (hd : IsR (k0_pay36 v3 v7 f a w v117) D) :
    IsR (k0_pay37 v3 v7 f a w v117) fun i => bwd (Fo i) q (D i) :=
  have hg := hd.mul hq.downCols
  have hh := pay33_at h
  (pay32_at h).alongRows.mul (hg.sub (hh.mul ((hg.mul hh).sumRows.div (IsR.const lit1024) fun _ _ => by norm_num).alongRows))

/-- The gradient of the output's gain, from one point. -/
theorem pay38_at (h : IsR (k0_pay31 f a w) Fo) (hd : IsR (k0_pay36 v3 v7 f a w v117) D) :
    IsR (k0_pay38 v3 v7 f a w v117) fun _ n => ∑ i, D i n * hat (Fo i) n := (hd.mul (pay33_at h)).sumCols

theorem pay39_at {v : FVec Ideal S1x1024 .f32} {V : Row} (h : IsR v fun _ => V) (hl : IsR (φ := .f32) l fun _ => L) :
    IsR (k0_pay39 v l) fun _ n => L n + V n := hl.cast.add h

end

/-! ## The backward chunks -/

section
variable {d : FVec Ideal S256x1024 .f32} {b : FVec Ideal S256x1024 .bf16} {D G U : Fin 256 → Row} {W : Fin 1024 → Fin 1024 → ℝ}
variable {w : Vec Ideal S1024x1024 .bf16} {g u : Vec Ideal S256x1024 .f32}

/-- The gradient of the other factor, first chunk. -/
theorem pay44_at (h : IsR d D) (k : IsR (φ := .bf16) w W) (hg : IsR (φ := .f32) g G) :
    IsR (k0_pay44 d w g) fun i j => (∑ n, D i n * W j n) * (G i j * sg (G i j)) :=
  ((h.trunc.nt1024 k.cast).mul (hg.mul hg.logistic)).trunc

/-- The gradient of the gate, first chunk. -/
theorem pay45_at (h : IsR d D) (k : IsR (φ := .bf16) w W) (hg : IsR (φ := .f32) g G) (hu : IsR (φ := .f32) u U) :
    IsR (k0_pay45 d w g u) fun i j => (∑ n, D i n * W j n) * U i j * (sg (G i j) * (1 + G i j * (1 - sg (G i j)))) :=
  (((h.trunc.nt1024 k.cast).mul hu).mul
    (hg.logistic.mul ((IsR.const lit1).add (hg.mul ((IsR.const lit1).sub hg.logistic))))).trunc

/-- The gradient of the other factor, second chunk. -/
theorem pay49_at (h : IsR b D) (k : IsR (φ := .bf16) w W) (hg : IsR (φ := .f32) g G) :
    IsR (k0_pay49 b w g) fun i j => (∑ n, D i n * W j n) * (G i j * sg (G i j)) :=
  ((h.nt1024 k.cast).mul (hg.mul hg.logistic)).trunc

/-- The gradient of the gate, second chunk. -/
theorem pay50_at (h : IsR b D) (k : IsR (φ := .bf16) w W) (hg : IsR (φ := .f32) g G) (hu : IsR (φ := .f32) u U) :
    IsR (k0_pay50 b w g u) fun i j => (∑ n, D i n * W j n) * U i j * (sg (G i j) * (1 + G i j * (1 - sg (G i j)))) :=
  (((h.nt1024 k.cast).mul hu).mul
    (hg.logistic.mul ((IsR.const lit1).add (hg.mul ((IsR.const lit1).sub hg.logistic))))).trunc

variable {f : FVec Ideal S256x1024 .f32} {P : Fin 256 → Row} {x y : FVec Ideal S256x1024 .bf16} {Dg Du : Fin 256 → Row}
variable {w' : Vec Ideal S1024x1024 .bf16} {W' : Fin 1024 → Fin 1024 → ℝ}

theorem pay46_at (hf : IsR f P) (hu : IsR x Du) (hg : IsR y Dg) (k : IsR (φ := .bf16) w W) (k' : IsR (φ := .bf16) w' W') :
    IsR (k0_pay46 f x y w w') fun i n => P i n + (∑ l, Dg i l * W l n) + ∑ l, Du i l * W' l n :=
  (hf.add (hg.nn1024 k.cast)).add (hu.nn1024 k'.cast)

theorem pay52_at (hf : IsR f P) (hu : IsR x Du) (hg : IsR y Dg) (k : IsR (φ := .bf16) w W) (k' : IsR (φ := .bf16) w' W') :
    IsR (k0_pay52 f x y (k0_pay51 w) w') fun i n => P i n + (∑ l, Dg i l * W l n) + ∑ l, Du i l * W' l n :=
  (hf.add (hg.nn1024 k.cast)).add (hu.nn1024 k'.cast)

end

section
variable {b : FVec Ideal S256x1024 .bf16} {D : Fin 256 → Row} {G U : Fin 256 → Fin 768 → ℝ} {W W' : Fin 768 → Fin 1024 → ℝ}
variable {w w' : Vec Ideal S768x1024 .bf16} {g u : Vec Ideal S256x768 .f32}

/-- The gradient of the other factor, third chunk. -/
theorem pay55_at (h : IsR b D) (k : IsR (φ := .bf16) w W) (hg : IsR (φ := .f32) g G) :
    IsR (k0_pay55 b w g) fun i j => (∑ n, D i n * W j n) * (G i j * sg (G i j)) :=
  ((h.nt768 k.cast).mul (hg.mul hg.logistic)).trunc

/-- The gradient of the gate, third chunk. -/
theorem pay56_at (h : IsR b D) (k : IsR (φ := .bf16) w W) (hg : IsR (φ := .f32) g G) (hu : IsR (φ := .f32) u U) :
    IsR (k0_pay56 b w g u) fun i j => (∑ n, D i n * W j n) * U i j * (sg (G i j) * (1 + G i j * (1 - sg (G i j)))) :=
  (((h.nt768 k.cast).mul hu).mul
    (hg.logistic.mul ((IsR.const lit1).add (hg.mul ((IsR.const lit1).sub hg.logistic))))).trunc

variable {Dg Du : Fin 256 → Fin 768 → ℝ}

theorem pay57_at (h : IsR (k0_pay56 b w g u) Dg) (k : IsR (φ := .bf16) w' W') :
    IsR (k0_pay57 b w g u w') fun i n => ∑ l, Dg i l * W' l n := h.nn768 k.cast

variable {f e : FVec Ideal S256x1024 .f32} {P Q : Fin 256 → Row} {x : FVec Ideal S256x768 .bf16}

theorem pay1_at (hf : IsR f P) (hx : IsR x Du) (he : IsR e Q) (k : IsR (φ := .bf16) w W) :
    IsR (k0_pay1 f x e w) fun i n => P i n + Q i n + ∑ l, Du i l * W l n := (hf.add he).add (hx.nn768 k.cast)

variable {H Xh O : Fin 256 → Row} {v17 v127 : FVec Ideal S256x1024 .f32} {l : Vec Ideal S1x1024 .f32} {L : Row}
variable {v5 : FVec Ideal S1x1024 .f32} {v15 : FVec Ideal S256x1 .f32}

/-- The gradient of the input's gain, added up. -/
theorem pay2_at (h : IsR (k0_pay1 f x e w) H) (hx : IsR v17 Xh) (hl : IsR (φ := .f32) l fun _ => L) :
    IsR (k0_pay2 v17 f x e w l) fun _ n => L n + ∑ i, H i n * Xh i n := hl.cast.add (h.mul hx).sumCols

/-- The gradient of the input. -/
theorem pay3_at (h : IsR (k0_pay1 f x e w) H) (hx : IsR v17 fun i => hat (X i)) (hr : IsR v15 fun i _ => rs (X i))
    (hp : IsR v5 fun _ => p) (ho : IsR v127 O) :
    IsR (k0_pay3 v5 v15 v17 v127 f x e w) fun i n => O i n + bwd (X i) p (H i) n :=
  have hg := h.mul hp.downCols
  ho.add (hr.alongRows.mul (hg.sub (hx.mul ((hg.mul hx).sumRows.div (IsR.const lit1024) fun _ _ => by norm_num).alongRows)))

end

end Cert.Ffn
-- ==== Proof.FfnChain.lean ====
module

public import proofs.«01_k».proof.Proof.FfnPay
public import Idealize.ShloMosaic.Lib.Pipeline.ValueKit.Tiles

@[expose] public section

set_option maxRecDepth 16384

noncomputable section

/-! What one point of the feed-forward kernel computes from its seven blocks, over the real numbers. -/

namespace Cert.Ffn

open Cert.Kernel2Ideal Cert.Kernel2Ideal.Gen Idealize.ShloMosaic.TcCoe Idealize.SL.Sem
open Idealize.ShloMosaic hiding ix2 ix3 ix4
open Idealize.ShloMosaic.ValueIdx
open scoped BigOperators

/-- A load through a rectangle of a block, an element at a time. -/
theorem ld_at {n0 n1 m0 m1 a b : Nat} {e : EltTy} (x : Vec Ideal ⟨2, ![n0, n1]⟩ e)
    (inb : ∀ k, (![a, b] : Fin 2 → Nat) k + (![m0, m1] : Fin 2 → Nat) k ≤ (⟨2, ![n0, n1]⟩ : Shape).size k)
    (f : Fin m0 → Fin n0) (g : Fin m1 → Fin n1) (hf : ∀ i, (f i).val = a + i.val) (hg : ∀ j, (g j).val = b + j.val) (i : Fin m0) (j : Fin m1) :
    View.ld (Val := Elt Ideal) x (Rect.unit (s := ⟨2, ![n0, n1]⟩) ![a, b] ![m0, m1] inb) (ix2 (n0 := m0) (n1 := m1) i j) = x (ix2 (f i) (g j)) :=
  View.ld_unit_apply_of x _ _ inb _ (ix2 (f i) (g j)) fun k => match k with
    | ⟨0, _⟩ => hf i
    | ⟨1, _⟩ => hg j

/-- The seven blocks a point reads. -/
structure Ins where
  x0 : Vec Ideal S256x1024 .f32
  x1 : Vec Ideal S256x1024 .f32
  x2 : Vec Ideal S2816x1024 .bf16
  x3 : Vec Ideal S2816x1024 .bf16
  x4 : Vec Ideal S2816x1024 .bf16
  x5 : Vec Ideal S1x1024 .f32
  x6 : Vec Ideal S1x1024 .f32

/-- The blocks hold these real numbers: rows of the input and of the target, and the parameters. -/
structure Ins.Holds (I : Ins) (N : Par) (X T : Fin 256 → Row) : Prop where
  h0 : IsR (φ := .f32) I.x0 X
  h1 : IsR (φ := .f32) I.x1 T
  h2 : IsR (φ := .bf16) I.x2 N.gate
  h3 : IsR (φ := .bf16) I.x3 N.up
  h4 : IsR (φ := .bf16) I.x4 N.down
  h5 : IsR (φ := .f32) I.x5 fun _ => N.pre
  h6 : IsR (φ := .f32) I.x6 fun _ => N.post

namespace Ins

variable (I : Ins)

/-- The input's block, as it is loaded. -/
def a0 : Vec Ideal S256x1024 .f32 := View.ld I.x0 (Rect.unit ![0, 0] ![256, 1024] inb_S256x1024_S256x1024_0_0)
/-- The target's block, as it is loaded. -/
def a1 : Vec Ideal S256x1024 .f32 := View.ld I.x1 (Rect.unit ![0, 0] ![256, 1024] inb_S256x1024_S256x1024_0_0)
/-- The input's gain, as it is loaded. -/
def a5 : Vec Ideal S1x1024 .f32 := View.ld I.x5 (Rect.unit ![0, 0] ![1, 1024] inb_S1x1024_S1x1024_0_0)
/-- The output's gain, as it is loaded. -/
def a6 : Vec Ideal S1x1024 .f32 := View.ld I.x6 (Rect.unit ![0, 0] ![1, 1024] inb_S1x1024_S1x1024_0_0)

/-- The first chunk of a weight. -/
def w0 (x : Vec Ideal S2816x1024 .bf16) : Vec Ideal S1024x1024 .bf16 := View.ld x (Rect.unit ![0, 0] ![1024, 1024] inb_S2816x1024_S1024x1024_0_0)
/-- The second chunk of a weight. -/
def w1 (x : Vec Ideal S2816x1024 .bf16) : Vec Ideal S1024x1024 .bf16 := View.ld x (Rect.unit ![1024, 0] ![1024, 1024] inb_S2816x1024_S1024x1024_1024_0)
/-- The third chunk of a weight. -/
def w2 (x : Vec Ideal S2816x1024 .bf16) : Vec Ideal S768x1024 .bf16 := View.ld x (Rect.unit ![2048, 0] ![768, 1024] inb_S2816x1024_S768x1024_2048_0)

/-- The normalised input. -/
def bH := k0_pay11 I.a0 I.a5
def bG0 := k0_pay13 I.a0 I.a5 (w0 I.x2)
def bU0 := k0_pay14 I.a0 I.a5 (w0 I.x3)
def bF0 := k0_pay18 (k0_pay12 (F := Ideal)) I.bG0 I.bU0 (w0 I.x4)
def bG1 := k0_pay19 I.bH (w1 I.x2)
def bU1 := k0_pay20 I.bH (w1 I.x3)
def bF1 := k0_pay25 I.bF0 I.bG1 I.bU1 (k0_pay23 I.bH (w1 I.x2)) (Scalar.ofBits .f32 0x3F800000#32) (w1 I.x4)
def bA2 := k0_pay30 I.bH (w2 I.x2) (w2 I.x3)
def bQ := k0_pay8 I.a6
def bDO := k0_pay36 I.a0 I.bQ I.bF1 I.bA2 (w2 I.x4) I.a1
def bDF := k0_pay37 I.a0 I.bQ I.bF1 I.bA2 (w2 I.x4) I.a1
def sG0 := k0_pay15 I.a0 I.a5 (w0 I.x2)
def sU0 := k0_pay16 I.bU0
def sG1 := k0_pay21 I.bH (w1 I.x2)
def sU1 := k0_pay22 I.bH (w1 I.x3)
def sG2 := k0_pay28 I.bH (w2 I.x2)
def sU2 := k0_pay29 I.bH (w2 I.x3)
def bDG0 := k0_pay45 I.bDF (w0 I.x4) I.sG0 I.sU0
def bDU0 := k0_pay44 I.bDF (w0 I.x4) I.sG0
def bDB := k0_pay40 I.bDF
def bDG1 := k0_pay50 I.bDB (w1 I.x4) I.sG1 I.sU1
def bDU1 := k0_pay49 I.bDB (w1 I.x4) I.sG1
def bH0 := k0_pay46 (k0_pay41 (F := Ideal)) I.bDU0 I.bDG0 (w0 I.x2) (w0 I.x3)
def bH1 := k0_pay52 I.bH0 I.bDU1 I.bDG1 (k0_pay51 (w1 I.x2)) (w1 I.x3)
def bDG2 := k0_pay56 I.bDB (w2 I.x4) I.sG2 I.sU2
def bDU2 := k0_pay55 I.bDB (w2 I.x4) I.sG2
def bE := k0_pay57 I.bDB (w2 I.x4) I.sG2 I.sU2 (w2 I.x2)
/-- The hidden units, first chunk. -/
def bA0 := k0_pay17 I.bG0 I.bU0
/-- The hidden units, second chunk. -/
def bA1 := k0_pay24 I.bG1 I.bU1 (k0_pay23 I.bH (w1 I.x2)) (Scalar.ofBits .f32 0x3F800000#32)
/-- The gradient of the input. -/
def bDX := k0_pay3 (k0_pay7 I.a5) (k0_pay9 I.a0) (k0_pay10 I.a0) I.bDO I.bH1 I.bDU2 I.bE (w2 I.x3)
/-- The columns' losses after the point, from those before. -/
def bL (l : Vec Ideal S1x1024 .f32) := k0_pay35 I.a0 I.bQ I.bF1 I.bA2 (w2 I.x4) I.a1 l
/-- The gradient of the input's gain after the point, from that before. -/
def bP (l : Vec Ideal S1x1024 .f32) := k0_pay2 (k0_pay10 I.a0) I.bH1 I.bDU2 I.bE (w2 I.x3) l
/-- The gradient of the output's gain after the point, from that before. -/
def bO (l : Vec Ideal S1x1024 .f32) := k0_pay39 (k0_pay38 I.a0 I.bQ I.bF1 I.bA2 (w2 I.x4) I.a1) l

end Ins

namespace Ins.Holds

variable {I : Ins} {N : Par} {X T : Fin 256 → Row} (h : I.Holds N X T)
include h

theorem a0 : IsR (φ := .f32) I.a0 X := fun i j => (ld_at I.x0 _ (fun i => i) (fun j => j) (fun _ => (Nat.zero_add _).symm) (fun _ => (Nat.zero_add _).symm) i j).trans (h.h0 i j)
theorem a1 : IsR (φ := .f32) I.a1 T := fun i j => (ld_at I.x1 _ (fun i => i) (fun j => j) (fun _ => (Nat.zero_add _).symm) (fun _ => (Nat.zero_add _).symm) i j).trans (h.h1 i j)
theorem a5 : IsR (φ := .f32) I.a5 fun _ => N.pre :=
  fun i j => (ld_at I.x5 _ (fun i => i) (fun j => j) (fun _ => (Nat.zero_add _).symm) (fun _ => (Nat.zero_add _).symm) i j).trans (h.h5 i j)
theorem a6 : IsR (φ := .f32) I.a6 fun _ => N.post :=
  fun i j => (ld_at I.x6 _ (fun i => i) (fun j => j) (fun _ => (Nat.zero_add _).symm) (fun _ => (Nat.zero_add _).symm) i j).trans (h.h6 i j)

omit h in
theorem w0 {x : Vec Ideal S2816x1024 .bf16} {W : Mat} (k : IsR (φ := .bf16) x W) : IsR (φ := .bf16) (Ins.w0 x) fun i j => W (c0 i) j :=
  fun i j => (ld_at x _ c0 (fun j => j) (fun _ => (Nat.zero_add _).symm) (fun _ => (Nat.zero_add _).symm) i j).trans (k _ j)
omit h in
theorem w1 {x : Vec Ideal S2816x1024 .bf16} {W : Mat} (k : IsR (φ := .bf16) x W) : IsR (φ := .bf16) (Ins.w1 x) fun i j => W (c1 i) j :=
  fun i j => (ld_at x _ c1 (fun j => j) (fun _ => rfl) (fun _ => (Nat.zero_add _).symm) i j).trans (k _ j)
omit h in
theorem w2 {x : Vec Ideal S2816x1024 .bf16} {W : Mat} (k : IsR (φ := .bf16) x W) : IsR (φ := .bf16) (Ins.w2 x) fun i j => W (c2 i) j :=
  fun i j => (ld_at x _ c2 (fun j => j) (fun _ => rfl) (fun _ => (Nat.zero_add _).symm) i j).trans (k _ j)

/-- The normalised input. -/
theorem bH : IsR I.bH fun i => N.nh (X i) := pay11_at h.a0 h.a5
theorem bG0 : IsR I.bG0 fun i j => N.ga (X i) (c0 j) := pay13_at h.bH (w0 h.h2)
theorem bU0 : IsR I.bU0 fun i j => N.ua (X i) (c0 j) := pay14_at h.bH (w0 h.h3)
theorem bA0 : IsR I.bA0 fun i j => N.ac (X i) (c0 j) := pay17_at h.bG0 h.bU0
theorem bF0 : IsR I.bF0 fun i n => 0 + ∑ k, N.ac (X i) (c0 k) * N.down (c0 k) n :=
  pay18_at (IsR.const lit0) h.bG0 h.bU0 (w0 h.h4)
theorem bG1 : IsR I.bG1 fun i j => N.ga (X i) (c1 j) := pay19_at h.bH (w1 h.h2)
theorem bU1 : IsR I.bU1 fun i j => N.ua (X i) (c1 j) := pay20_at h.bH (w1 h.h3)
theorem bA1 : IsR I.bA1 fun i j => N.ac (X i) (c1 j) := pay24_at h.bG1 h.bU1
theorem bF1 : IsR I.bF1 fun i n => 0 + (∑ k, N.ac (X i) (c0 k) * N.down (c0 k) n) + ∑ k, N.ac (X i) (c1 k) * N.down (c1 k) n :=
  pay25_at h.bF0 h.bG1 h.bU1 (w1 h.h4)
theorem sG2 : IsR (φ := .f32) I.sG2 fun i j => N.ga (X i) (c2 j) := (pay26_at h.bH (w2 h.h2)).cast
theorem sU2 : IsR (φ := .f32) I.sU2 fun i j => N.ua (X i) (c2 j) := (pay27_at h.bH (w2 h.h3)).cast
theorem bA2 : IsR I.bA2 fun i j => N.ac (X i) (c2 j) := pay30_at (pay26_at h.bH (w2 h.h2)) (pay27_at h.bH (w2 h.h3))
/-- The block's output before its normalisation. -/
theorem fo : IsR (k0_pay31 I.bF1 I.bA2 (Ins.w2 I.x4)) fun i => N.fo (X i) :=
  (pay31_at h.bF1 h.bA2 (w2 h.h4)).of_eq fun i n => by
    rw [zero_add]; exact sum_chunks fun k => N.ac (X i) k * N.down k n
theorem bQ : IsR I.bQ fun _ => N.post := pay8_at h.a6
/-- The output less the target. -/
theorem er : IsR (k0_pay34 I.a0 I.bQ I.bF1 I.bA2 (Ins.w2 I.x4) I.a1) fun i => N.er (X i) (T i) := pay34_at h.a0 h.bQ h.fo h.a1
theorem bDO : IsR I.bDO fun i => N.dO (X i) (T i) := pay36_at h.er
theorem bDF : IsR I.bDF fun i => N.df (X i) (T i) := pay37_at h.bQ h.fo h.bDO
theorem bDB : IsR I.bDB fun i => N.df (X i) (T i) := h.bDF.trunc
theorem sG0 : IsR (φ := .f32) I.sG0 fun i j => N.ga (X i) (c0 j) := h.bG0.cast
theorem sU0 : IsR (φ := .f32) I.sU0 fun i j => N.ua (X i) (c0 j) := h.bU0.cast
theorem sG1 : IsR (φ := .f32) I.sG1 fun i j => N.ga (X i) (c1 j) := h.bG1.cast
theorem sU1 : IsR (φ := .f32) I.sU1 fun i j => N.ua (X i) (c1 j) := h.bU1.cast
theorem bDG0 : IsR I.bDG0 fun i j => N.dg (X i) (T i) (c0 j) := pay45_at h.bDF (w0 h.h4) h.sG0 h.sU0
theorem bDU0 : IsR I.bDU0 fun i j => N.du (X i) (T i) (c0 j) := pay44_at h.bDF (w0 h.h4) h.sG0
theorem bDG1 : IsR I.bDG1 fun i j => N.dg (X i) (T i) (c1 j) := pay50_at h.bDB (w1 h.h4) h.sG1 h.sU1
theorem bDU1 : IsR I.bDU1 fun i j => N.du (X i) (T i) (c1 j) := pay49_at h.bDB (w1 h.h4) h.sG1
theorem bDG2 : IsR I.bDG2 fun i j => N.dg (X i) (T i) (c2 j) := pay56_at h.bDB (w2 h.h4) h.sG2 h.sU2
theorem bDU2 : IsR I.bDU2 fun i j => N.du (X i) (T i) (c2 j) := pay55_at h.bDB (w2 h.h4) h.sG2
theorem bH0 : IsR I.bH0 fun i n => 0 + (∑ k, N.dg (X i) (T i) (c0 k) * N.gate (c0 k) n) + ∑ k, N.du (X i) (T i) (c0 k) * N.up (c0 k) n :=
  pay46_at (IsR.const lit0) h.bDU0 h.bDG0 (w0 h.h2) (w0 h.h3)
theorem bH1 : IsR I.bH1 fun i n => 0 + (∑ k, N.dg (X i) (T i) (c0 k) * N.gate (c0 k) n) + (∑ k, N.du (X i) (T i) (c0 k) * N.up (c0 k) n)
    + (∑ k, N.dg (X i) (T i) (c1 k) * N.gate (c1 k) n) + ∑ k, N.du (X i) (T i) (c1 k) * N.up (c1 k) n :=
  pay52_at h.bH0 h.bDU1 h.bDG1 (w1 h.h2) (w1 h.h3)
theorem bE : IsR I.bE fun i n => ∑ k, N.dg (X i) (T i) (c2 k) * N.gate (c2 k) n := pay57_at h.bDG2 (w2 h.h2)
/-- The gradient of the normalised input. -/
theorem dh : IsR (k0_pay1 I.bH1 I.bDU2 I.bE (Ins.w2 I.x3)) fun i => N.dh (X i) (T i) :=
  (pay1_at h.bH1 h.bDU2 h.bE (w2 h.h3)).of_eq fun i n => by
    show _ = (∑ k, N.dg (X i) (T i) k * N.gate k n) + ∑ k, N.du (X i) (T i) k * N.up k n
    rw [← sum_chunks fun k => N.dg (X i) (T i) k * N.gate k n, ← sum_chunks fun k => N.du (X i) (T i) k * N.up k n]
    ring
/-- The gradient of the input. -/
theorem bDX : IsR I.bDX fun i => N.dx (X i) (T i) := pay3_at h.dh (pay10_at h.a0) (pay9_at h.a0) (pay7_at h.a5) h.bDO

variable {l : Vec Ideal S1x1024 .f32} {L : Row} (k : IsR (φ := .f32) l fun _ => L)
include k

/-- The columns' losses, added up. -/
theorem bL : IsR (I.bL l) fun _ n => L n + ∑ i, N.er (X i) (T i) n * N.er (X i) (T i) n := pay35_at h.er k
/-- The gradient of the input's gain, added up. -/
theorem bP : IsR (I.bP l) fun _ n => L n + ∑ i, N.dh (X i) (T i) n * hat (X i) n := pay2_at h.dh (pay10_at h.a0) k
/-- The gradient of the output's gain, added up. -/
theorem bO : IsR (I.bO l) fun _ n => L n + ∑ i, N.dO (X i) (T i) n * hat (N.fo (X i)) n := pay39_at (pay38_at h.fo h.bDO) k

end Ins.Holds

end Cert.Ffn
-- ==== Proof.FfnPieces.lean ====
module

public import proofs.«01_k».proof.Proof.FfnChain
public import proofs.«01_k».proof.Proof.Gen.Kernel2Ideal.Frame.Region0
public import Idealize.ShloMosaic.Lib.Pipeline.ReadBack

@[expose] public section

set_option maxRecDepth 16384

noncomputable section

/-! The blocks that one point of the feed-forward kernel leaves: at the first point, and at a later one. -/

namespace Cert.Ffn

open Cert.Kernel2Ideal Cert.Kernel2Ideal.Gen Idealize.ShloMosaic.TcCoe Idealize.SL.Sem
open Idealize.ShloMosaic hiding ix2 ix3 ix4
open Idealize.ShloMosaic.ValueIdx
open scoped BigOperators

variable (c : Dev nD) (i : grid0.Coords)
  (arg1 : Memref sig .tc .vmem S256x1024 .f32) (harg1 : arg1.IsWhole) (arg2 : Memref sig .tc .vmem S256x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S256x2816 .bf16) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S256x1024 .bf16) (harg12 : arg12.IsWhole) (arg13 : Memref sig .tc .vmem S256x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S256x2816 .f32) (harg17 : arg17.IsWhole) (arg18 : Memref sig .tc .vmem S256x2816 .f32) (harg18 : arg18.IsWhole)
variable (x0 x1 : Vec Ideal S256x1024 .f32) (x2 x3 x4 : Vec Ideal S2816x1024 .bf16) (x5 x6 l13 l14 l15 : Vec Ideal S1x1024 .f32)

/-- A stored piece of a block that is to hold the real numbers `Y`. -/
theorem piece_at {n0 n1 m0 m1 a b : Nat} {φ : FTy} {w : FVec Ideal ⟨2, ![m0, m1]⟩ φ} {Y : Fin n0 → Fin n1 → ℝ} (f : Fin m0 → Fin n0) (g : Fin m1 → Fin n1)
    (h : IsR w fun i j => Y (f i) (g j)) (inb : ∀ k, (![a, b] : Fin 2 → Nat) k + (![m0, m1] : Fin 2 → Nat) k ≤ (⟨2, ![n0, n1]⟩ : Shape).size k)
    (hf : ∀ i, (f i).val = a + i.val) (hg : ∀ j, (g j).val = b + j.val) (x : (Rect.unit (s := ⟨2, ![n0, n1]⟩) ![a, b] ![m0, m1] inb).shape.Idx) :
    w x = ((Y ((Rect.unit (s := ⟨2, ![n0, n1]⟩) ![a, b] ![m0, m1] inb).emb x 0) ((Rect.unit (s := ⟨2, ![n0, n1]⟩) ![a, b] ![m0, m1] inb).emb x 1) : ℝ) : EReal) := by
  have e0 : (Rect.unit (s := ⟨2, ![n0, n1]⟩) ![a, b] ![m0, m1] inb).emb x 0 = f (x 0) :=
    Fin.ext ((Rect.idx_unit_val (s := ⟨2, ![n0, n1]⟩) ![a, b] ![m0, m1] inb x 0).trans (hf (x 0)).symm)
  have e1 : (Rect.unit (s := ⟨2, ![n0, n1]⟩) ![a, b] ![m0, m1] inb).emb x 1 = g (x 1) :=
    Fin.ext ((Rect.idx_unit_val (s := ⟨2, ![n0, n1]⟩) ![a, b] ![m0, m1] inb x 1).trans (hg (x 1)).symm)
  rw [e0, e1]
  have ex : (x : (⟨2, ![m0, m1]⟩ : Shape).Idx) = ix2 (n0 := m0) (n1 := m1) (x 0) (x 1) := funext fun k => match k with
    | ⟨0, _⟩ => rfl
    | ⟨1, _⟩ => rfl
  exact (congrArg w ex).trans (h (x 0) (x 1))

/-- A block whose last store wrote all of it. -/
theorem head_at {n0 n1 : Nat} {e : EltTy} (G : (⟨2, ![n0, n1]⟩ : Shape).Idx → Elt Ideal e)
    (inb : ∀ k, (![0, 0] : Fin 2 → Nat) k + (![n0, n1] : Fin 2 → Nat) k ≤ (⟨2, ![n0, n1]⟩ : Shape).size k)
    (w : (Rect.unit (s := ⟨2, ![n0, n1]⟩) ![0, 0] ![n0, n1] inb).shape.Idx → Elt Ideal e) (L : List (View.Piece (Elt Ideal) ⟨2, ![n0, n1]⟩ e))
    (hw : ∀ x, w x = G ((Rect.unit (s := ⟨2, ![n0, n1]⟩) ![0, 0] ![n0, n1] inb).emb x)) (y : (⟨2, ![n0, n1]⟩ : Shape).Idx) :
    View.canon (⟨Rect.unit (s := ⟨2, ![n0, n1]⟩) ![0, 0] ![n0, n1] inb, w⟩ :: L) y = G y := by
  have e : (Rect.unit (s := ⟨2, ![n0, n1]⟩) ![0, 0] ![n0, n1] inb).emb y = y := funext fun k => Fin.ext (match k with
    | ⟨0, _⟩ => (Rect.idx_unit_val (s := ⟨2, ![n0, n1]⟩) ![0, 0] ![n0, n1] inb y 0).trans (Nat.zero_add _)
    | ⟨1, _⟩ => (Rect.idx_unit_val (s := ⟨2, ![n0, n1]⟩) ![0, 0] ![n0, n1] inb y 1).trans (Nat.zero_add _))
  have h := (View.canon_cons_emb (Rect.unit (s := ⟨2, ![n0, n1]⟩) ![0, 0] ![n0, n1] inb) w L y).trans (hw y)
  rw [e] at h
  exact h

variable {N : Par} {X T : Fin 256 → Row} {L13 L14 L15 : Row}
variable (h : (⟨x0, x1, x2, x3, x4, x5, x6⟩ : Ins).Holds N X T)
include h

/-- The first point's block of the normalised input. -/
theorem outA7 (hA : cond0_0 i) :
    IsR (φ := .bf16) (out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6) fun i => N.nh (X i) := by
  intro a b
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6)]
  refine View.canon_apply_of_pieces (fun y : S256x1024.Idx => (((fun i => N.nh (X i) : Fin 256 → Fin 1024 → ℝ) (y 0) (y 1) : ℝ) : EReal))
    _ ?_ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6 _)
  unfold kernelRun0_A
  dsimp only
  sl_unfold_words
  simp (disch := decide) only [View.readAt_eq_ld, harg1.read_unread, harg2.read_unread, harg3.read_unread, harg4.read_unread, harg5.read_unread, harg6.read_unread, harg7.read_unread,
    ↓ View.readCov_skip, ↓ View.readCov_cons_toLoadRect]
  refine List.forall_mem_cons.mpr ⟨piece_at (Y := fun i => N.nh (X i)) (fun i => i) (fun j => j) h.bH inb_S256x1024_S256x1024_0_0 (fun _ => (Nat.zero_add _).symm) (fun _ => (Nat.zero_add _).symm), ?_⟩
  exact fun p hp => absurd hp List.not_mem_nil

/-- The first point's block of the hidden units. -/
theorem outA8 (hA : cond0_0 i) :
    IsR (φ := .bf16) (out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6) fun i => N.ac (X i) := by
  intro a b
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6)]
  refine View.canon_apply_of_pieces (fun y : S256x2816.Idx => (((fun i => N.ac (X i) : Fin 256 → Fin 2816 → ℝ) (y 0) (y 1) : ℝ) : EReal))
    _ ?_ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6 _)
  unfold kernelRun0_A
  dsimp only
  sl_unfold_words
  simp (disch := decide) only [View.readAt_eq_ld, harg1.read_unread, harg2.read_unread, harg3.read_unread, harg4.read_unread, harg5.read_unread, harg6.read_unread, harg7.read_unread,
    ↓ View.readCov_skip, ↓ View.readCov_cons_toLoadRect]
  refine List.forall_mem_cons.mpr ⟨piece_at (Y := fun i => N.ac (X i)) (fun i => i) c2 h.bA2 inb_S256x2816_S256x768_0_2048 (fun _ => (Nat.zero_add _).symm) (fun _ => rfl), ?_⟩
  refine List.forall_mem_cons.mpr ⟨piece_at (Y := fun i => N.ac (X i)) (fun i => i) c1 h.bA1 inb_S256x2816_S256x1024_0_1024 (fun _ => (Nat.zero_add _).symm) (fun _ => rfl), ?_⟩
  refine List.forall_mem_cons.mpr ⟨piece_at (Y := fun i => N.ac (X i)) (fun i => i) c0 h.bA0 inb_S256x2816_S256x1024_0_0 (fun _ => (Nat.zero_add _).symm) (fun _ => (Nat.zero_add _).symm), ?_⟩
  exact fun p hp => absurd hp List.not_mem_nil

/-- The first point's block of the gate's gradient. -/
theorem outA9 (hA : cond0_0 i) :
    IsR (φ := .bf16) (out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6) fun i => N.dg (X i) (T i) := by
  intro a b
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6)]
  refine View.canon_apply_of_pieces (fun y : S256x2816.Idx => (((fun i => N.dg (X i) (T i) : Fin 256 → Fin 2816 → ℝ) (y 0) (y 1) : ℝ) : EReal))
    _ ?_ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6 _)
  unfold kernelRun0_A
  dsimp only
  sl_unfold_words
  simp (disch := decide) only [View.readAt_eq_ld, harg1.read_unread, harg2.read_unread, harg3.read_unread, harg4.read_unread, harg5.read_unread, harg6.read_unread, harg7.read_unread,
    ↓ View.readCov_skip, ↓ View.readCov_cons_toLoadRect]
  refine List.forall_mem_cons.mpr ⟨piece_at (Y := fun i => N.dg (X i) (T i)) (fun i => i) c2 h.bDG2 inb_S256x2816_S256x768_0_2048 (fun _ => (Nat.zero_add _).symm) (fun _ => rfl), ?_⟩
  refine List.forall_mem_cons.mpr ⟨piece_at (Y := fun i => N.dg (X i) (T i)) (fun i => i) c1 h.bDG1 inb_S256x2816_S256x1024_0_1024 (fun _ => (Nat.zero_add _).symm) (fun _ => rfl), ?_⟩
  refine List.forall_mem_cons.mpr ⟨piece_at (Y := fun i => N.dg (X i) (T i)) (fun i => i) c0 h.bDG0 inb_S256x2816_S256x1024_0_0 (fun _ => (Nat.zero_add _).symm) (fun _ => (Nat.zero_add _).symm), ?_⟩
  exact fun p hp => absurd hp List.not_mem_nil

/-- The first point's block of the other factor's gradient. -/
theorem outA10 (hA : cond0_0 i) :
    IsR (φ := .bf16) (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6) fun i => N.du (X i) (T i) := by
  intro a b
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6)]
  refine View.canon_apply_of_pieces (fun y : S256x2816.Idx => (((fun i => N.du (X i) (T i) : Fin 256 → Fin 2816 → ℝ) (y 0) (y 1) : ℝ) : EReal))
    _ ?_ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6 _)
  unfold kernelRun0_A
  dsimp only
  sl_unfold_words
  simp (disch := decide) only [View.readAt_eq_ld, harg1.read_unread, harg2.read_unread, harg3.read_unread, harg4.read_unread, harg5.read_unread, harg6.read_unread, harg7.read_unread,
    ↓ View.readCov_skip, ↓ View.readCov_cons_toLoadRect]
  refine List.forall_mem_cons.mpr ⟨piece_at (Y := fun i => N.du (X i) (T i)) (fun i => i) c2 h.bDU2 inb_S256x2816_S256x768_0_2048 (fun _ => (Nat.zero_add _).symm) (fun _ => rfl), ?_⟩
  refine List.forall_mem_cons.mpr ⟨piece_at (Y := fun i => N.du (X i) (T i)) (fun i => i) c1 h.bDU1 inb_S256x2816_S256x1024_0_1024 (fun _ => (Nat.zero_add _).symm) (fun _ => rfl), ?_⟩
  refine List.forall_mem_cons.mpr ⟨piece_at (Y := fun i => N.du (X i) (T i)) (fun i => i) c0 h.bDU0 inb_S256x2816_S256x1024_0_0 (fun _ => (Nat.zero_add _).symm) (fun _ => (Nat.zero_add _).symm), ?_⟩
  exact fun p hp => absurd hp List.not_mem_nil

/-- The first point's block of the gradient before the output's normalisation. -/
theorem outA11 (hA : cond0_0 i) :
    IsR (φ := .bf16) (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6) fun i => N.df (X i) (T i) := by
  intro a b
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6)]
  refine View.canon_apply_of_pieces (fun y : S256x1024.Idx => (((fun i => N.df (X i) (T i) : Fin 256 → Fin 1024 → ℝ) (y 0) (y 1) : ℝ) : EReal))
    _ ?_ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6 _)
  unfold kernelRun0_A
  dsimp only
  sl_unfold_words
  simp (disch := decide) only [View.readAt_eq_ld, harg1.read_unread, harg2.read_unread, harg3.read_unread, harg4.read_unread, harg5.read_unread, harg6.read_unread, harg7.read_unread,
    ↓ View.readCov_skip, ↓ View.readCov_cons_toLoadRect]
  refine List.forall_mem_cons.mpr ⟨piece_at (Y := fun i => N.df (X i) (T i)) (fun i => i) (fun j => j) h.bDB inb_S256x1024_S256x1024_0_0 (fun _ => (Nat.zero_add _).symm) (fun _ => (Nat.zero_add _).symm), ?_⟩
  exact fun p hp => absurd hp List.not_mem_nil

/-- The first point's block of the input's gradient. -/
theorem outA12 (hA : cond0_0 i) :
    IsR (φ := .f32) (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6) fun i => N.dx (X i) (T i) := by
  intro a b
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6)]
  refine View.canon_apply_of_pieces (fun y : S256x1024.Idx => (((fun i => N.dx (X i) (T i) : Fin 256 → Fin 1024 → ℝ) (y 0) (y 1) : ℝ) : EReal))
    _ ?_ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6 _)
  unfold kernelRun0_A
  dsimp only
  sl_unfold_words
  simp (disch := decide) only [View.readAt_eq_ld, harg1.read_unread, harg2.read_unread, harg3.read_unread, harg4.read_unread, harg5.read_unread, harg6.read_unread, harg7.read_unread,
    ↓ View.readCov_skip, ↓ View.readCov_cons_toLoadRect]
  refine List.forall_mem_cons.mpr ⟨piece_at (Y := fun i => N.dx (X i) (T i)) (fun i => i) (fun j => j) h.bDX inb_S256x1024_S256x1024_0_0 (fun _ => (Nat.zero_add _).symm) (fun _ => (Nat.zero_add _).symm), ?_⟩
  exact fun p hp => absurd hp List.not_mem_nil

/-- The first point's block of the columns' losses. -/
theorem outA13 (hA : cond0_0 i) :
    IsR (φ := .f32) (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6) fun _ n => 0 + ∑ i, N.er (X i) (T i) n * N.er (X i) (T i) n := by
  intro a b
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6)]
  unfold kernelRun0_A
  dsimp only
  sl_unfold_words
  simp (disch := decide) only [View.readAt_eq_ld, harg1.read_unread, harg2.read_unread, harg3.read_unread, harg4.read_unread, harg5.read_unread, harg6.read_unread, harg7.read_unread,
    ↓ View.readCov_skip, ↓ View.readCov_cons_toLoadRect]
  refine head_at (e := .f32) (fun y : S1x1024.Idx => (((fun _ n => 0 + ∑ i, N.er (X i) (T i) n * N.er (X i) (T i) n : Fin 1 → Fin 1024 → ℝ) (y 0) (y 1) : ℝ) : EReal)) inb_S1x1024_S1x1024_0_0 _ _ ?_ _
  exact piece_at (Y := fun _ n => 0 + ∑ i, N.er (X i) (T i) n * N.er (X i) (T i) n) (fun i => i) (fun j => j) (h.bL (l := k0_pay4 (F := Ideal)) (L := fun _ => 0) (IsR.const lit0)) inb_S1x1024_S1x1024_0_0 (fun _ => (Nat.zero_add _).symm) (fun _ => (Nat.zero_add _).symm)

/-- The first point's block of the gradient of the input's gain. -/
theorem outA14 (hA : cond0_0 i) :
    IsR (φ := .f32) (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6) fun _ n => 0 + ∑ i, N.dh (X i) (T i) n * hat (X i) n := by
  intro a b
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6)]
  unfold kernelRun0_A
  dsimp only
  sl_unfold_words
  simp (disch := decide) only [View.readAt_eq_ld, harg1.read_unread, harg2.read_unread, harg3.read_unread, harg4.read_unread, harg5.read_unread, harg6.read_unread, harg7.read_unread,
    ↓ View.readCov_skip, ↓ View.readCov_cons_toLoadRect]
  refine head_at (e := .f32) (fun y : S1x1024.Idx => (((fun _ n => 0 + ∑ i, N.dh (X i) (T i) n * hat (X i) n : Fin 1 → Fin 1024 → ℝ) (y 0) (y 1) : ℝ) : EReal)) inb_S1x1024_S1x1024_0_0 _ _ ?_ _
  exact piece_at (Y := fun _ n => 0 + ∑ i, N.dh (X i) (T i) n * hat (X i) n) (fun i => i) (fun j => j) (h.bP (l := k0_pay5 (F := Ideal)) (L := fun _ => 0) (IsR.const lit0)) inb_S1x1024_S1x1024_0_0 (fun _ => (Nat.zero_add _).symm) (fun _ => (Nat.zero_add _).symm)

/-- The first point's block of the gradient of the output's gain. -/
theorem outA15 (hA : cond0_0 i) :
    IsR (φ := .f32) (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6) fun _ n => 0 + ∑ i, N.dO (X i) (T i) n * hat (N.fo (X i)) n := by
  intro a b
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hA x0 x1 x2 x3 x4 x5 x6)]
  unfold kernelRun0_A
  dsimp only
  sl_unfold_words
  simp (disch := decide) only [View.readAt_eq_ld, harg1.read_unread, harg2.read_unread, harg3.read_unread, harg4.read_unread, harg5.read_unread, harg6.read_unread, harg7.read_unread,
    ↓ View.readCov_skip, ↓ View.readCov_cons_toLoadRect]
  refine head_at (e := .f32) (fun y : S1x1024.Idx => (((fun _ n => 0 + ∑ i, N.dO (X i) (T i) n * hat (N.fo (X i)) n : Fin 1 → Fin 1024 → ℝ) (y 0) (y 1) : ℝ) : EReal)) inb_S1x1024_S1x1024_0_0 _ _ ?_ _
  exact piece_at (Y := fun _ n => 0 + ∑ i, N.dO (X i) (T i) n * hat (N.fo (X i)) n) (fun i => i) (fun j => j) (h.bO (l := k0_pay6 (F := Ideal)) (L := fun _ => 0) (IsR.const lit0)) inb_S1x1024_S1x1024_0_0 (fun _ => (Nat.zero_add _).symm) (fun _ => (Nat.zero_add _).symm)

/-- A later point's block of the normalised input. -/
theorem outB7 (hB : ¬cond0_0 i) :
    IsR (φ := .bf16) (out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15) fun i => N.nh (X i) := by
  intro a b
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15)]
  refine View.canon_apply_of_pieces (fun y : S256x1024.Idx => (((fun i => N.nh (X i) : Fin 256 → Fin 1024 → ℝ) (y 0) (y 1) : ℝ) : EReal))
    _ ?_ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15 _)
  unfold kernelRun0_B
  dsimp only
  sl_unfold_words
  simp (disch := decide) only [View.readAt_eq_ld, harg1.read_unread, harg2.read_unread, harg3.read_unread, harg4.read_unread, harg5.read_unread, harg6.read_unread, harg7.read_unread, harg14.read_unread, harg15.read_unread, harg16.read_unread,
    ↓ View.readCov_skip, ↓ View.readCov_cons_toLoadRect]
  refine List.forall_mem_cons.mpr ⟨piece_at (Y := fun i => N.nh (X i)) (fun i => i) (fun j => j) h.bH inb_S256x1024_S256x1024_0_0 (fun _ => (Nat.zero_add _).symm) (fun _ => (Nat.zero_add _).symm), ?_⟩
  exact fun p hp => absurd hp List.not_mem_nil

/-- A later point's block of the hidden units. -/
theorem outB8 (hB : ¬cond0_0 i) :
    IsR (φ := .bf16) (out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15) fun i => N.ac (X i) := by
  intro a b
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15)]
  refine View.canon_apply_of_pieces (fun y : S256x2816.Idx => (((fun i => N.ac (X i) : Fin 256 → Fin 2816 → ℝ) (y 0) (y 1) : ℝ) : EReal))
    _ ?_ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15 _)
  unfold kernelRun0_B
  dsimp only
  sl_unfold_words
  simp (disch := decide) only [View.readAt_eq_ld, harg1.read_unread, harg2.read_unread, harg3.read_unread, harg4.read_unread, harg5.read_unread, harg6.read_unread, harg7.read_unread, harg14.read_unread, harg15.read_unread, harg16.read_unread,
    ↓ View.readCov_skip, ↓ View.readCov_cons_toLoadRect]
  refine List.forall_mem_cons.mpr ⟨piece_at (Y := fun i => N.ac (X i)) (fun i => i) c2 h.bA2 inb_S256x2816_S256x768_0_2048 (fun _ => (Nat.zero_add _).symm) (fun _ => rfl), ?_⟩
  refine List.forall_mem_cons.mpr ⟨piece_at (Y := fun i => N.ac (X i)) (fun i => i) c1 h.bA1 inb_S256x2816_S256x1024_0_1024 (fun _ => (Nat.zero_add _).symm) (fun _ => rfl), ?_⟩
  refine List.forall_mem_cons.mpr ⟨piece_at (Y := fun i => N.ac (X i)) (fun i => i) c0 h.bA0 inb_S256x2816_S256x1024_0_0 (fun _ => (Nat.zero_add _).symm) (fun _ => (Nat.zero_add _).symm), ?_⟩
  exact fun p hp => absurd hp List.not_mem_nil

/-- A later point's block of the gate's gradient. -/
theorem outB9 (hB : ¬cond0_0 i) :
    IsR (φ := .bf16) (out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15) fun i => N.dg (X i) (T i) := by
  intro a b
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15)]
  refine View.canon_apply_of_pieces (fun y : S256x2816.Idx => (((fun i => N.dg (X i) (T i) : Fin 256 → Fin 2816 → ℝ) (y 0) (y 1) : ℝ) : EReal))
    _ ?_ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15 _)
  unfold kernelRun0_B
  dsimp only
  sl_unfold_words
  simp (disch := decide) only [View.readAt_eq_ld, harg1.read_unread, harg2.read_unread, harg3.read_unread, harg4.read_unread, harg5.read_unread, harg6.read_unread, harg7.read_unread, harg14.read_unread, harg15.read_unread, harg16.read_unread,
    ↓ View.readCov_skip, ↓ View.readCov_cons_toLoadRect]
  refine List.forall_mem_cons.mpr ⟨piece_at (Y := fun i => N.dg (X i) (T i)) (fun i => i) c2 h.bDG2 inb_S256x2816_S256x768_0_2048 (fun _ => (Nat.zero_add _).symm) (fun _ => rfl), ?_⟩
  refine List.forall_mem_cons.mpr ⟨piece_at (Y := fun i => N.dg (X i) (T i)) (fun i => i) c1 h.bDG1 inb_S256x2816_S256x1024_0_1024 (fun _ => (Nat.zero_add _).symm) (fun _ => rfl), ?_⟩
  refine List.forall_mem_cons.mpr ⟨piece_at (Y := fun i => N.dg (X i) (T i)) (fun i => i) c0 h.bDG0 inb_S256x2816_S256x1024_0_0 (fun _ => (Nat.zero_add _).symm) (fun _ => (Nat.zero_add _).symm), ?_⟩
  exact fun p hp => absurd hp List.not_mem_nil

/-- A later point's block of the other factor's gradient. -/
theorem outB10 (hB : ¬cond0_0 i) :
    IsR (φ := .bf16) (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15) fun i => N.du (X i) (T i) := by
  intro a b
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15)]
  refine View.canon_apply_of_pieces (fun y : S256x2816.Idx => (((fun i => N.du (X i) (T i) : Fin 256 → Fin 2816 → ℝ) (y 0) (y 1) : ℝ) : EReal))
    _ ?_ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15 _)
  unfold kernelRun0_B
  dsimp only
  sl_unfold_words
  simp (disch := decide) only [View.readAt_eq_ld, harg1.read_unread, harg2.read_unread, harg3.read_unread, harg4.read_unread, harg5.read_unread, harg6.read_unread, harg7.read_unread, harg14.read_unread, harg15.read_unread, harg16.read_unread,
    ↓ View.readCov_skip, ↓ View.readCov_cons_toLoadRect]
  refine List.forall_mem_cons.mpr ⟨piece_at (Y := fun i => N.du (X i) (T i)) (fun i => i) c2 h.bDU2 inb_S256x2816_S256x768_0_2048 (fun _ => (Nat.zero_add _).symm) (fun _ => rfl), ?_⟩
  refine List.forall_mem_cons.mpr ⟨piece_at (Y := fun i => N.du (X i) (T i)) (fun i => i) c1 h.bDU1 inb_S256x2816_S256x1024_0_1024 (fun _ => (Nat.zero_add _).symm) (fun _ => rfl), ?_⟩
  refine List.forall_mem_cons.mpr ⟨piece_at (Y := fun i => N.du (X i) (T i)) (fun i => i) c0 h.bDU0 inb_S256x2816_S256x1024_0_0 (fun _ => (Nat.zero_add _).symm) (fun _ => (Nat.zero_add _).symm), ?_⟩
  exact fun p hp => absurd hp List.not_mem_nil

/-- A later point's block of the gradient before the output's normalisation. -/
theorem outB11 (hB : ¬cond0_0 i) :
    IsR (φ := .bf16) (out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15) fun i => N.df (X i) (T i) := by
  intro a b
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15)]
  refine View.canon_apply_of_pieces (fun y : S256x1024.Idx => (((fun i => N.df (X i) (T i) : Fin 256 → Fin 1024 → ℝ) (y 0) (y 1) : ℝ) : EReal))
    _ ?_ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15 _)
  unfold kernelRun0_B
  dsimp only
  sl_unfold_words
  simp (disch := decide) only [View.readAt_eq_ld, harg1.read_unread, harg2.read_unread, harg3.read_unread, harg4.read_unread, harg5.read_unread, harg6.read_unread, harg7.read_unread, harg14.read_unread, harg15.read_unread, harg16.read_unread,
    ↓ View.readCov_skip, ↓ View.readCov_cons_toLoadRect]
  refine List.forall_mem_cons.mpr ⟨piece_at (Y := fun i => N.df (X i) (T i)) (fun i => i) (fun j => j) h.bDB inb_S256x1024_S256x1024_0_0 (fun _ => (Nat.zero_add _).symm) (fun _ => (Nat.zero_add _).symm), ?_⟩
  exact fun p hp => absurd hp List.not_mem_nil

/-- A later point's block of the input's gradient. -/
theorem outB12 (hB : ¬cond0_0 i) :
    IsR (φ := .f32) (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15) fun i => N.dx (X i) (T i) := by
  intro a b
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15)]
  refine View.canon_apply_of_pieces (fun y : S256x1024.Idx => (((fun i => N.dx (X i) (T i) : Fin 256 → Fin 1024 → ℝ) (y 0) (y 1) : ℝ) : EReal))
    _ ?_ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15 _)
  unfold kernelRun0_B
  dsimp only
  sl_unfold_words
  simp (disch := decide) only [View.readAt_eq_ld, harg1.read_unread, harg2.read_unread, harg3.read_unread, harg4.read_unread, harg5.read_unread, harg6.read_unread, harg7.read_unread, harg14.read_unread, harg15.read_unread, harg16.read_unread,
    ↓ View.readCov_skip, ↓ View.readCov_cons_toLoadRect]
  refine List.forall_mem_cons.mpr ⟨piece_at (Y := fun i => N.dx (X i) (T i)) (fun i => i) (fun j => j) h.bDX inb_S256x1024_S256x1024_0_0 (fun _ => (Nat.zero_add _).symm) (fun _ => (Nat.zero_add _).symm), ?_⟩
  exact fun p hp => absurd hp List.not_mem_nil

/-- A later point's block of the columns' losses. -/
theorem outB13 (hB : ¬cond0_0 i) (hl : IsR (φ := .f32) l13 fun _ => L13) :
    IsR (φ := .f32) (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15) fun _ n => L13 n + ∑ i, N.er (X i) (T i) n * N.er (X i) (T i) n := by
  intro a b
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15)]
  refine View.canon_apply_of_pieces (fun y : S1x1024.Idx => (((fun _ n => L13 n + ∑ i, N.er (X i) (T i) n * N.er (X i) (T i) n : Fin 1 → Fin 1024 → ℝ) (y 0) (y 1) : ℝ) : EReal))
    _ ?_ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15 _)
  unfold kernelRun0_B
  dsimp only
  sl_unfold_words
  simp (disch := decide) only [View.readAt_eq_ld, harg1.read_unread, harg2.read_unread, harg3.read_unread, harg4.read_unread, harg5.read_unread, harg6.read_unread, harg7.read_unread, harg14.read_unread, harg15.read_unread, harg16.read_unread,
    ↓ View.readCov_skip, ↓ View.readCov_cons_toLoadRect]
  refine List.forall_mem_cons.mpr ⟨piece_at (Y := fun _ n => L13 n + ∑ i, N.er (X i) (T i) n * N.er (X i) (T i) n) (fun i => i) (fun j => j) (h.bL (l := View.ld l13 (Rect.unit ![0, 0] ![1, 1024] inb_S1x1024_S1x1024_0_0)) (fun i j => (ld_at l13 _ (fun i => i) (fun j => j) (fun _ => (Nat.zero_add _).symm) (fun _ => (Nat.zero_add _).symm) i j).trans (hl i j))) inb_S1x1024_S1x1024_0_0 (fun _ => (Nat.zero_add _).symm) (fun _ => (Nat.zero_add _).symm), ?_⟩
  exact fun p hp => absurd hp List.not_mem_nil

/-- A later point's block of the gradient of the input's gain. -/
theorem outB14 (hB : ¬cond0_0 i) (hl : IsR (φ := .f32) l14 fun _ => L14) :
    IsR (φ := .f32) (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15) fun _ n => L14 n + ∑ i, N.dh (X i) (T i) n * hat (X i) n := by
  intro a b
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15)]
  refine View.canon_apply_of_pieces (fun y : S1x1024.Idx => (((fun _ n => L14 n + ∑ i, N.dh (X i) (T i) n * hat (X i) n : Fin 1 → Fin 1024 → ℝ) (y 0) (y 1) : ℝ) : EReal))
    _ ?_ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15 _)
  unfold kernelRun0_B
  dsimp only
  sl_unfold_words
  simp (disch := decide) only [View.readAt_eq_ld, harg1.read_unread, harg2.read_unread, harg3.read_unread, harg4.read_unread, harg5.read_unread, harg6.read_unread, harg7.read_unread, harg14.read_unread, harg15.read_unread, harg16.read_unread,
    ↓ View.readCov_skip, ↓ View.readCov_cons_toLoadRect]
  refine List.forall_mem_cons.mpr ⟨piece_at (Y := fun _ n => L14 n + ∑ i, N.dh (X i) (T i) n * hat (X i) n) (fun i => i) (fun j => j) (h.bP (l := View.ld l14 (Rect.unit ![0, 0] ![1, 1024] inb_S1x1024_S1x1024_0_0)) (fun i j => (ld_at l14 _ (fun i => i) (fun j => j) (fun _ => (Nat.zero_add _).symm) (fun _ => (Nat.zero_add _).symm) i j).trans (hl i j))) inb_S1x1024_S1x1024_0_0 (fun _ => (Nat.zero_add _).symm) (fun _ => (Nat.zero_add _).symm), ?_⟩
  exact fun p hp => absurd hp List.not_mem_nil

/-- A later point's block of the gradient of the output's gain. -/
theorem outB15 (hB : ¬cond0_0 i) (hl : IsR (φ := .f32) l15 fun _ => L15) :
    IsR (φ := .f32) (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15) fun _ n => L15 n + ∑ i, N.dO (X i) (T i) n * hat (N.fo (X i)) n := by
  intro a b
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15)]
  refine View.canon_apply_of_pieces (fun y : S1x1024.Idx => (((fun _ n => L15 n + ∑ i, N.dO (X i) (T i) n * hat (N.fo (X i)) n : Fin 1 → Fin 1024 → ℝ) (y 0) (y 1) : ℝ) : EReal))
    _ ?_ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hB x0 x1 x2 x3 x4 x5 x6 l13 l14 l15 _)
  unfold kernelRun0_B
  dsimp only
  sl_unfold_words
  simp (disch := decide) only [View.readAt_eq_ld, harg1.read_unread, harg2.read_unread, harg3.read_unread, harg4.read_unread, harg5.read_unread, harg6.read_unread, harg7.read_unread, harg14.read_unread, harg15.read_unread, harg16.read_unread,
    ↓ View.readCov_skip, ↓ View.readCov_cons_toLoadRect]
  refine List.forall_mem_cons.mpr ⟨piece_at (Y := fun _ n => L15 n + ∑ i, N.dO (X i) (T i) n * hat (N.fo (X i)) n) (fun i => i) (fun j => j) (h.bO (l := View.ld l15 (Rect.unit ![0, 0] ![1, 1024] inb_S1x1024_S1x1024_0_0)) (fun i j => (ld_at l15 _ (fun i => i) (fun j => j) (fun _ => (Nat.zero_add _).symm) (fun _ => (Nat.zero_add _).symm) i j).trans (hl i j))) inb_S1x1024_S1x1024_0_0 (fun _ => (Nat.zero_add _).symm) (fun _ => (Nat.zero_add _).symm), ?_⟩
  exact fun p hp => absurd hp List.not_mem_nil

end Cert.Ffn
-- ==== Proof.FfnRegion0.lean ====
module

public import proofs.«01_k».proof.Proof.FfnPieces
public import Idealize.ShloMosaic.Lib.Pipeline.ValueKit

@[expose] public section

set_option maxRecDepth 16384

noncomputable section

/-! The arrays that the feed-forward kernel leaves, from arrays of real numbers. -/

namespace Cert.Ffn

open Cert.Kernel2Ideal Cert.Kernel2Ideal.Gen Idealize.ShloMosaic.TcCoe Idealize.SL.Sem
open Idealize.ShloMosaic hiding ix2 ix3 ix4
open Idealize.ShloMosaic.ValueIdx
open scoped BigOperators

/-- A block's row among all rows. -/
def row (t : Fin 8) (i : Fin 256) : Fin 2048 := ⟨t.val * 256 + i.val, by omega⟩

/-- The sum over the rows of the first `n` blocks. -/
def upto (f : Fin 2048 → ℝ) (n : ℕ) : ℝ := ∑ k ∈ Finset.range (n * 256), if h : k < 2048 then f ⟨k, h⟩ else 0

/-- One block more. -/
theorem upto_succ (f : Fin 2048 → ℝ) (t : Fin 8) : upto f (t.val + 1) = upto f t.val + ∑ i, f (row t i) := by
  unfold upto
  rw [add_mul, one_mul, Finset.sum_range_add, Finset.sum_range (n := 256)]
  refine congrArg₂ (· + ·) rfl (Finset.sum_congr rfl fun i _ => ?_)
  exact dif_pos _

theorem upto_zero (f : Fin 2048 → ℝ) : upto f 0 = 0 := rfl

/-- All blocks are all rows. -/
theorem upto_all (f : Fin 2048 → ℝ) : upto f 8 = ∑ i, f i := by
  unfold upto
  rw [show 8 * 256 = 2048 from rfl, Finset.sum_range]
  exact Finset.sum_congr rfl fun i _ => dif_pos i.isLt

theorem fnd0 : ∀ t : Fin cfg0.N, win0_0.index t = ![t.val, 0] := (by decide +kernel : ∀ t : Fin grid0.N, _)
theorem fnd1 : ∀ t : Fin cfg0.N, win0_1.index t = ![t.val, 0] := (by decide +kernel : ∀ t : Fin grid0.N, _)
theorem fnd2 : ∀ t : Fin cfg0.N, win0_2.index t = ![0, 0] := (by decide +kernel : ∀ t : Fin grid0.N, _)
theorem fnd3 : ∀ t : Fin cfg0.N, win0_3.index t = ![0, 0] := (by decide +kernel : ∀ t : Fin grid0.N, _)
theorem fnd4 : ∀ t : Fin cfg0.N, win0_4.index t = ![0, 0] := (by decide +kernel : ∀ t : Fin grid0.N, _)
theorem fnd5 : ∀ t : Fin cfg0.N, win0_5.index t = ![0, 0] := (by decide +kernel : ∀ t : Fin grid0.N, _)
theorem fnd6 : ∀ t : Fin cfg0.N, win0_6.index t = ![0, 0] := (by decide +kernel : ∀ t : Fin grid0.N, _)
theorem fnd7 : ∀ t : Fin cfg0.N, win0_7.index t = ![t.val, 0] := (by decide +kernel : ∀ t : Fin grid0.N, _)
theorem fnd8 : ∀ t : Fin cfg0.N, win0_8.index t = ![t.val, 0] := (by decide +kernel : ∀ t : Fin grid0.N, _)
theorem fnd9 : ∀ t : Fin cfg0.N, win0_9.index t = ![t.val, 0] := (by decide +kernel : ∀ t : Fin grid0.N, _)
theorem fnd10 : ∀ t : Fin cfg0.N, win0_10.index t = ![t.val, 0] := (by decide +kernel : ∀ t : Fin grid0.N, _)
theorem fnd11 : ∀ t : Fin cfg0.N, win0_11.index t = ![t.val, 0] := (by decide +kernel : ∀ t : Fin grid0.N, _)
theorem fnd12 : ∀ t : Fin cfg0.N, win0_12.index t = ![t.val, 0] := (by decide +kernel : ∀ t : Fin grid0.N, _)
theorem fnd13 : ∀ t : Fin cfg0.N, win0_13.index t = ![0, 0] := (by decide +kernel : ∀ t : Fin grid0.N, _)
theorem fnd14 : ∀ t : Fin cfg0.N, win0_14.index t = ![0, 0] := (by decide +kernel : ∀ t : Fin grid0.N, _)
theorem fnd15 : ∀ t : Fin cfg0.N, win0_15.index t = ![0, 0] := (by decide +kernel : ∀ t : Fin grid0.N, _)
theorem last13 : ∀ t : Fin cfg0.N, win0_13.flush t = true → t.val = 7 := (by decide +kernel : ∀ t : Fin grid0.N, _)
theorem last14 : ∀ t : Fin cfg0.N, win0_14.flush t = true → t.val = 7 := (by decide +kernel : ∀ t : Fin grid0.N, _)
theorem last15 : ∀ t : Fin cfg0.N, win0_15.flush t = true → t.val = 7 := (by decide +kernel : ∀ t : Fin grid0.N, _)

variable (V : (c : Dev nD) → (b : Ref sig .tc) → Buf (Elt Ideal) ((c : Thread nD τ).loc b)) (c : Dev nD)

/-- The arrays that the region finds hold these real numbers. -/
structure Found0 (N : Par) (X T : Fin 2048 → Row) : Prop where
  h0 : IsR (n0 := 2048) (n1 := 1024) (φ := .f32) (V c main_arg0) X
  h1 : IsR (n0 := 2048) (n1 := 1024) (φ := .f32) (V c main_arg1) T
  h2 : IsR (n0 := 2816) (n1 := 1024) (φ := .bf16) (V c main_v2) N.gate
  h3 : IsR (n0 := 2816) (n1 := 1024) (φ := .bf16) (V c main_v3) N.up
  h4 : IsR (n0 := 2816) (n1 := 1024) (φ := .bf16) (V c main_v4) N.down
  h5 : IsR (n0 := 1) (n1 := 1024) (φ := .f32) (V c main_v5) fun _ => N.pre
  h6 : IsR (n0 := 1) (n1 := 1024) (φ := .f32) (V c main_v6) fun _ => N.post

variable {V c} {N : Par} {X T : Fin 2048 → Row} (H : Found0 V c N X T)
include H

/-- A point's blocks hold its rows and the parameters. -/
theorem Found0.holds (t : Fin cfg0.N) :
    (⟨iblk0 V c 0 t, iblk0 V c 1 t, iblk0 V c 2 t, iblk0 V c 3 t, iblk0 V c 4 t, iblk0 V c 5 t, iblk0 V c 6 t⟩ : Ins).Holds N
      (fun i => X (row t i)) fun i => T (row t i) where
  h0 := fun i j => by
    refine Eq.trans ?_ (H.h0 (row t i) j)
    blk_simp [iblk0, fnd0]
    refine congrArg (V c main_arg0) ?_
    funext x
    match x with
    | 0 => apply Fin.ext; blk_simp [fnd0] <;> rfl
    | 1 => apply Fin.ext; blk_simp [fnd0] <;> rfl
  h1 := fun i j => by
    refine Eq.trans ?_ (H.h1 (row t i) j)
    blk_simp [iblk0, fnd1]
    refine congrArg (V c main_arg1) ?_
    funext x
    match x with
    | 0 => apply Fin.ext; blk_simp [fnd1] <;> rfl
    | 1 => apply Fin.ext; blk_simp [fnd1] <;> rfl
  h2 := fun i j => by
    refine Eq.trans ?_ (H.h2 i j)
    blk_simp [iblk0, fnd2]
    refine congrArg (V c main_v2) ?_
    funext x
    match x with
    | 0 => apply Fin.ext; blk_simp [fnd2] <;> rfl
    | 1 => apply Fin.ext; blk_simp [fnd2] <;> rfl
  h3 := fun i j => by
    refine Eq.trans ?_ (H.h3 i j)
    blk_simp [iblk0, fnd3]
    refine congrArg (V c main_v3) ?_
    funext x
    match x with
    | 0 => apply Fin.ext; blk_simp [fnd3] <;> rfl
    | 1 => apply Fin.ext; blk_simp [fnd3] <;> rfl
  h4 := fun i j => by
    refine Eq.trans ?_ (H.h4 i j)
    blk_simp [iblk0, fnd4]
    refine congrArg (V c main_v4) ?_
    funext x
    match x with
    | 0 => apply Fin.ext; blk_simp [fnd4] <;> rfl
    | 1 => apply Fin.ext; blk_simp [fnd4] <;> rfl
  h5 := fun i j => by
    refine Eq.trans ?_ (H.h5 i j)
    blk_simp [iblk0, fnd5]
    refine congrArg (V c main_v5) ?_
    funext x
    match x with
    | 0 => apply Fin.ext; blk_simp [fnd5] <;> rfl
    | 1 => apply Fin.ext; blk_simp [fnd5] <;> rfl
  h6 := fun i j => by
    refine Eq.trans ?_ (H.h6 i j)
    blk_simp [iblk0, fnd6]
    refine congrArg (V c main_v6) ?_
    funext x
    match x with
    | 0 => apply Fin.ext; blk_simp [fnd6] <;> rfl
    | 1 => apply Fin.ext; blk_simp [fnd6] <;> rfl

end Cert.Ffn
-- ==== Proof.FfnArrays.lean ====
module

public import proofs.«01_k».proof.Proof.FfnRegion0
public import Idealize.ShloMosaic.Lib.Pipeline.ValueKit

@[expose] public section

set_option maxRecDepth 16384

noncomputable section

/-! The arrays that the feed-forward kernel leaves. -/

namespace Cert.Ffn

open Cert.Kernel2Ideal Cert.Kernel2Ideal.Gen Idealize.ShloMosaic.TcCoe Idealize.SL.Sem
open Idealize.ShloMosaic hiding ix2 ix3 ix4
open Idealize.ShloMosaic.ValueIdx
open scoped BigOperators

variable {V : (c : Dev nD) → (b : Ref sig .tc) → Buf (Elt Ideal) ((c : Thread nD τ).loc b)} {c : Dev nD} {N : Par} {X T : Fin 2048 → Row} (H : Found0 V c N X T)
include H

omit H in
/-- An equal array holds the same real numbers. -/
theorem IsR.via {n0 n1 : Nat} {φ : FTy} {v w : FVec Ideal ⟨2, ![n0, n1]⟩ φ} {Y : Fin n0 → Fin n1 → ℝ} (e : v = w) (h : IsR w Y) : IsR v Y := e ▸ h

omit H in
/-- Real numbers held at indices that are those named. -/
theorem IsR.at {n0 n1 : Nat} {φ : FTy} {v : FVec Ideal ⟨2, ![n0, n1]⟩ φ} {Y : Fin n0 → Fin n1 → ℝ} (h : IsR v Y) (y : (⟨2, ![n0, n1]⟩ : Shape).Idx) {r : ℝ}
    (e : Y (y 0) (y 1) = r) : v y = (r : EReal) := by
  rw [← e, ← h (y 0) (y 1)]
  exact congrArg v (funext fun k => match k with
    | ⟨0, _⟩ => rfl
    | ⟨1, _⟩ => rfl)

/-- A point's block of the normalised input. -/
theorem at7 (t : Fin cfg0.N) : IsR (n0 := 256) (n1 := 1024) (φ := .bf16) (outsAt0 V c t.val t.isLt).1 fun i => N.nh (X (row t i)) := by
  by_cases h0 : t.val % 8 = 0
  · refine IsR.via (congrArg (fun o => o.1) (outsAt0_A V c t h0)) ?_
    dsimp only
    have h := H.holds t
    apply outA7 (h := h)
  · refine IsR.via (congrArg (fun o => o.1) (outsAt0_B V c t h0)) ?_
    dsimp only
    have h := H.holds t
    apply outB7 (h := h)

/-- The array of the normalised input. -/
theorem arr7 : IsR (n0 := 2048) (n1 := 1024) (φ := .bf16) ((dat0 V c).arrAt 7 cfg0.N) fun i => N.nh (X i) := by
  have e : (dat0 V c).arrAt 7 cfg0.N = fun y : (⟨2, ![2048, 1024]⟩ : Shape).Idx => (((N.nh (X (y 0))) (y 1) : ℝ) : EReal) := by
    refine (dat0 V c).arrAt_eq_of_covers 7 _ (by decide +kernel) fun t hf y => ?_
    have e0 : (win0_7.blk t).view.emb y 0 = row t (y 0) := by
      apply Fin.ext; blk_simp [fnd7] <;> rfl
    have e1 : (win0_7.blk t).view.emb y 1 = y 1 := by
      apply Fin.ext; blk_simp [fnd7]
    rw [after0_7]
    refine (at7 H t).at _ ?_
    exact congr ((congrArg (fun i => N.nh (X i)) e0).symm) e1.symm
  rw [e]
  exact fun i j => rfl

/-- A point's block of the hidden units. -/
theorem at8 (t : Fin cfg0.N) : IsR (n0 := 256) (n1 := 2816) (φ := .bf16) (outsAt0 V c t.val t.isLt).2.1 fun i => N.ac (X (row t i)) := by
  by_cases h0 : t.val % 8 = 0
  · refine IsR.via (congrArg (fun o => o.2.1) (outsAt0_A V c t h0)) ?_
    dsimp only
    have h := H.holds t
    apply outA8 (h := h)
  · refine IsR.via (congrArg (fun o => o.2.1) (outsAt0_B V c t h0)) ?_
    dsimp only
    have h := H.holds t
    apply outB8 (h := h)

/-- The array of the hidden units. -/
theorem arr8 : IsR (n0 := 2048) (n1 := 2816) (φ := .bf16) ((dat0 V c).arrAt 8 cfg0.N) fun i => N.ac (X i) := by
  have e : (dat0 V c).arrAt 8 cfg0.N = fun y : (⟨2, ![2048, 2816]⟩ : Shape).Idx => (((N.ac (X (y 0))) (y 1) : ℝ) : EReal) := by
    refine (dat0 V c).arrAt_eq_of_covers 8 _ (by decide +kernel) fun t hf y => ?_
    have e0 : (win0_8.blk t).view.emb y 0 = row t (y 0) := by
      apply Fin.ext; blk_simp [fnd8] <;> rfl
    have e1 : (win0_8.blk t).view.emb y 1 = y 1 := by
      apply Fin.ext; blk_simp [fnd8]
    rw [after0_8]
    refine (at8 H t).at _ ?_
    exact congr ((congrArg (fun i => N.ac (X i)) e0).symm) e1.symm
  rw [e]
  exact fun i j => rfl

/-- A point's block of the gate's gradient. -/
theorem at9 (t : Fin cfg0.N) : IsR (n0 := 256) (n1 := 2816) (φ := .bf16) (outsAt0 V c t.val t.isLt).2.2.1 fun i => N.dg (X (row t i)) (T (row t i)) := by
  by_cases h0 : t.val % 8 = 0
  · refine IsR.via (congrArg (fun o => o.2.2.1) (outsAt0_A V c t h0)) ?_
    dsimp only
    have h := H.holds t
    apply outA9 (h := h)
  · refine IsR.via (congrArg (fun o => o.2.2.1) (outsAt0_B V c t h0)) ?_
    dsimp only
    have h := H.holds t
    apply outB9 (h := h)

/-- The array of the gate's gradient. -/
theorem arr9 : IsR (n0 := 2048) (n1 := 2816) (φ := .bf16) ((dat0 V c).arrAt 9 cfg0.N) fun i => N.dg (X i) (T i) := by
  have e : (dat0 V c).arrAt 9 cfg0.N = fun y : (⟨2, ![2048, 2816]⟩ : Shape).Idx => (((N.dg (X (y 0)) (T (y 0))) (y 1) : ℝ) : EReal) := by
    refine (dat0 V c).arrAt_eq_of_covers 9 _ (by decide +kernel) fun t hf y => ?_
    have e0 : (win0_9.blk t).view.emb y 0 = row t (y 0) := by
      apply Fin.ext; blk_simp [fnd9] <;> rfl
    have e1 : (win0_9.blk t).view.emb y 1 = y 1 := by
      apply Fin.ext; blk_simp [fnd9]
    rw [after0_9]
    refine (at9 H t).at _ ?_
    exact congr ((congrArg (fun i => N.dg (X i) (T i)) e0).symm) e1.symm
  rw [e]
  exact fun i j => rfl

/-- A point's block of the other factor's gradient. -/
theorem at10 (t : Fin cfg0.N) : IsR (n0 := 256) (n1 := 2816) (φ := .bf16) (outsAt0 V c t.val t.isLt).2.2.2.1 fun i => N.du (X (row t i)) (T (row t i)) := by
  by_cases h0 : t.val % 8 = 0
  · refine IsR.via (congrArg (fun o => o.2.2.2.1) (outsAt0_A V c t h0)) ?_
    dsimp only
    have h := H.holds t
    apply outA10 (h := h)
  · refine IsR.via (congrArg (fun o => o.2.2.2.1) (outsAt0_B V c t h0)) ?_
    dsimp only
    have h := H.holds t
    apply outB10 (h := h)

/-- The array of the other factor's gradient. -/
theorem arr10 : IsR (n0 := 2048) (n1 := 2816) (φ := .bf16) ((dat0 V c).arrAt 10 cfg0.N) fun i => N.du (X i) (T i) := by
  have e : (dat0 V c).arrAt 10 cfg0.N = fun y : (⟨2, ![2048, 2816]⟩ : Shape).Idx => (((N.du (X (y 0)) (T (y 0))) (y 1) : ℝ) : EReal) := by
    refine (dat0 V c).arrAt_eq_of_covers 10 _ (by decide +kernel) fun t hf y => ?_
    have e0 : (win0_10.blk t).view.emb y 0 = row t (y 0) := by
      apply Fin.ext; blk_simp [fnd10] <;> rfl
    have e1 : (win0_10.blk t).view.emb y 1 = y 1 := by
      apply Fin.ext; blk_simp [fnd10]
    rw [after0_10]
    refine (at10 H t).at _ ?_
    exact congr ((congrArg (fun i => N.du (X i) (T i)) e0).symm) e1.symm
  rw [e]
  exact fun i j => rfl

/-- A point's block of the gradient before the output's normalisation. -/
theorem at11 (t : Fin cfg0.N) : IsR (n0 := 256) (n1 := 1024) (φ := .bf16) (outsAt0 V c t.val t.isLt).2.2.2.2.1 fun i => N.df (X (row t i)) (T (row t i)) := by
  by_cases h0 : t.val % 8 = 0
  · refine IsR.via (congrArg (fun o => o.2.2.2.2.1) (outsAt0_A V c t h0)) ?_
    dsimp only
    have h := H.holds t
    apply outA11 (h := h)
  · refine IsR.via (congrArg (fun o => o.2.2.2.2.1) (outsAt0_B V c t h0)) ?_
    dsimp only
    have h := H.holds t
    apply outB11 (h := h)

/-- The array of the gradient before the output's normalisation. -/
theorem arr11 : IsR (n0 := 2048) (n1 := 1024) (φ := .bf16) ((dat0 V c).arrAt 11 cfg0.N) fun i => N.df (X i) (T i) := by
  have e : (dat0 V c).arrAt 11 cfg0.N = fun y : (⟨2, ![2048, 1024]⟩ : Shape).Idx => (((N.df (X (y 0)) (T (y 0))) (y 1) : ℝ) : EReal) := by
    refine (dat0 V c).arrAt_eq_of_covers 11 _ (by decide +kernel) fun t hf y => ?_
    have e0 : (win0_11.blk t).view.emb y 0 = row t (y 0) := by
      apply Fin.ext; blk_simp [fnd11] <;> rfl
    have e1 : (win0_11.blk t).view.emb y 1 = y 1 := by
      apply Fin.ext; blk_simp [fnd11]
    rw [after0_11]
    refine (at11 H t).at _ ?_
    exact congr ((congrArg (fun i => N.df (X i) (T i)) e0).symm) e1.symm
  rw [e]
  exact fun i j => rfl

/-- A point's block of the input's gradient. -/
theorem at12 (t : Fin cfg0.N) : IsR (n0 := 256) (n1 := 1024) (φ := .f32) (outsAt0 V c t.val t.isLt).2.2.2.2.2.1 fun i => N.dx (X (row t i)) (T (row t i)) := by
  by_cases h0 : t.val % 8 = 0
  · refine IsR.via (congrArg (fun o => o.2.2.2.2.2.1) (outsAt0_A V c t h0)) ?_
    dsimp only
    have h := H.holds t
    apply outA12 (h := h)
  · refine IsR.via (congrArg (fun o => o.2.2.2.2.2.1) (outsAt0_B V c t h0)) ?_
    dsimp only
    have h := H.holds t
    apply outB12 (h := h)

/-- The array of the input's gradient. -/
theorem arr12 : IsR (n0 := 2048) (n1 := 1024) (φ := .f32) ((dat0 V c).arrAt 12 cfg0.N) fun i => N.dx (X i) (T i) := by
  have e : (dat0 V c).arrAt 12 cfg0.N = fun y : (⟨2, ![2048, 1024]⟩ : Shape).Idx => (((N.dx (X (y 0)) (T (y 0))) (y 1) : ℝ) : EReal) := by
    refine (dat0 V c).arrAt_eq_of_covers 12 _ (by decide +kernel) fun t hf y => ?_
    have e0 : (win0_12.blk t).view.emb y 0 = row t (y 0) := by
      apply Fin.ext; blk_simp [fnd12] <;> rfl
    have e1 : (win0_12.blk t).view.emb y 1 = y 1 := by
      apply Fin.ext; blk_simp [fnd12]
    rw [after0_12]
    refine (at12 H t).at _ ?_
    exact congr ((congrArg (fun i => N.dx (X i) (T i)) e0).symm) e1.symm
  rw [e]
  exact fun i j => rfl

/-- The first point's sum for the columns' losses. -/
theorem first13 (t : Fin cfg0.N) (h0 : t.val % 8 = 0) : IsR (n0 := 1) (n1 := 1024) (φ := .f32) (outsAt0 V c t.val t.isLt).2.2.2.2.2.2.1
    fun _ j => 0 + ∑ i, N.er (X (row t i)) (T (row t i)) j * N.er (X (row t i)) (T (row t i)) j := by
  refine IsR.via (congrArg (fun o => o.2.2.2.2.2.2.1) (outsAt0_A V c t h0)) ?_
  dsimp only
  have h := H.holds t
  apply outA13 (h := h)

/-- A later point's sum for the columns' losses. -/
theorem next13 (t : Fin cfg0.N) (h0 : ¬t.val % 8 = 0) {L : Row}
    (hl : IsR (n0 := 1) (n1 := 1024) (φ := .f32) (outsAt0 V c (t.val - 1) (Nat.lt_of_le_of_lt (Nat.sub_le _ _) t.isLt)).2.2.2.2.2.2.1 fun _ => L) :
    IsR (n0 := 1) (n1 := 1024) (φ := .f32) (outsAt0 V c t.val t.isLt).2.2.2.2.2.2.1 fun _ j => L j + ∑ i, N.er (X (row t i)) (T (row t i)) j * N.er (X (row t i)) (T (row t i)) j := by
  refine IsR.via (congrArg (fun o => o.2.2.2.2.2.2.1) (outsAt0_B V c t h0)) ?_
  dsimp only
  have h := H.holds t
  apply outB13 (h := h) (hl := hl)

/-- The columns' losses, after a number of points. -/
theorem at13 : ∀ (n : ℕ) (hn : n < 8), IsR (n0 := 1) (n1 := 1024) (φ := .f32) (outsAt0 V c n hn).2.2.2.2.2.2.1 fun _ j => upto (fun r => N.er (X r) (T r) j * N.er (X r) (T r) j) (n + 1)
  | 0, hn => (first13 H ⟨0, hn⟩ rfl).of_eq fun _ j => (congrArg (· + _) (upto_zero (fun r => N.er (X r) (T r) j * N.er (X r) (T r) j))).symm.trans (upto_succ (fun r => N.er (X r) (T r) j * N.er (X r) (T r) j) ⟨0, hn⟩).symm
  | n + 1, hn => (next13 H ⟨n + 1, hn⟩ (by show ¬(n + 1) % 8 = 0; omega) (at13 n (Nat.lt_of_succ_lt hn))).of_eq fun _ j => (upto_succ (fun r => N.er (X r) (T r) j * N.er (X r) (T r) j) ⟨n + 1, hn⟩).symm

/-- The array of the columns' losses. -/
theorem arr13 : IsR (n0 := 1) (n1 := 1024) (φ := .f32) ((dat0 V c).arrAt 13 cfg0.N) fun _ j => ∑ i, N.er (X i) (T i) j * N.er (X i) (T i) j := by
  have e : (dat0 V c).arrAt 13 cfg0.N = fun y : (⟨2, ![1, 1024]⟩ : Shape).Idx => (((fun j => ∑ i, N.er (X i) (T i) j * N.er (X i) (T i) j) (y 1) : ℝ) : EReal) := by
    refine (dat0 V c).arrAt_eq_of_covers 13 _ (by decide +kernel) fun t hf y => ?_
    have ht : t.val = 7 := last13 t hf
    have e1 : (win0_13.blk t).view.emb y 1 = y 1 := by
      apply Fin.ext; blk_simp [fnd13]
    rw [after0_13]
    refine (at13 H t.val t.isLt).at _ ?_
    refine Eq.trans ?_ (congrArg (fun j => ∑ i, N.er (X i) (T i) j * N.er (X i) (T i) j) e1.symm)
    exact (congrArg (fun n => upto _ (n + 1)) ht).trans (upto_all _)
  rw [e]
  exact fun i j => rfl

/-- The first point's sum for the gradient of the input's gain. -/
theorem first14 (t : Fin cfg0.N) (h0 : t.val % 8 = 0) : IsR (n0 := 1) (n1 := 1024) (φ := .f32) (outsAt0 V c t.val t.isLt).2.2.2.2.2.2.2.1
    fun _ j => 0 + ∑ i, N.dh (X (row t i)) (T (row t i)) j * hat (X (row t i)) j := by
  refine IsR.via (congrArg (fun o => o.2.2.2.2.2.2.2.1) (outsAt0_A V c t h0)) ?_
  dsimp only
  have h := H.holds t
  apply outA14 (h := h)

/-- A later point's sum for the gradient of the input's gain. -/
theorem next14 (t : Fin cfg0.N) (h0 : ¬t.val % 8 = 0) {L : Row}
    (hl : IsR (n0 := 1) (n1 := 1024) (φ := .f32) (outsAt0 V c (t.val - 1) (Nat.lt_of_le_of_lt (Nat.sub_le _ _) t.isLt)).2.2.2.2.2.2.2.1 fun _ => L) :
    IsR (n0 := 1) (n1 := 1024) (φ := .f32) (outsAt0 V c t.val t.isLt).2.2.2.2.2.2.2.1 fun _ j => L j + ∑ i, N.dh (X (row t i)) (T (row t i)) j * hat (X (row t i)) j := by
  refine IsR.via (congrArg (fun o => o.2.2.2.2.2.2.2.1) (outsAt0_B V c t h0)) ?_
  dsimp only
  have h := H.holds t
  apply outB14 (h := h) (hl := hl)

/-- The gradient of the input's gain, after a number of points. -/
theorem at14 : ∀ (n : ℕ) (hn : n < 8), IsR (n0 := 1) (n1 := 1024) (φ := .f32) (outsAt0 V c n hn).2.2.2.2.2.2.2.1 fun _ j => upto (fun r => N.dh (X r) (T r) j * hat (X r) j) (n + 1)
  | 0, hn => (first14 H ⟨0, hn⟩ rfl).of_eq fun _ j => (congrArg (· + _) (upto_zero (fun r => N.dh (X r) (T r) j * hat (X r) j))).symm.trans (upto_succ (fun r => N.dh (X r) (T r) j * hat (X r) j) ⟨0, hn⟩).symm
  | n + 1, hn => (next14 H ⟨n + 1, hn⟩ (by show ¬(n + 1) % 8 = 0; omega) (at14 n (Nat.lt_of_succ_lt hn))).of_eq fun _ j => (upto_succ (fun r => N.dh (X r) (T r) j * hat (X r) j) ⟨n + 1, hn⟩).symm

/-- The array of the gradient of the input's gain. -/
theorem arr14 : IsR (n0 := 1) (n1 := 1024) (φ := .f32) ((dat0 V c).arrAt 14 cfg0.N) fun _ j => ∑ i, N.dh (X i) (T i) j * hat (X i) j := by
  have e : (dat0 V c).arrAt 14 cfg0.N = fun y : (⟨2, ![1, 1024]⟩ : Shape).Idx => (((fun j => ∑ i, N.dh (X i) (T i) j * hat (X i) j) (y 1) : ℝ) : EReal) := by
    refine (dat0 V c).arrAt_eq_of_covers 14 _ (by decide +kernel) fun t hf y => ?_
    have ht : t.val = 7 := last14 t hf
    have e1 : (win0_14.blk t).view.emb y 1 = y 1 := by
      apply Fin.ext; blk_simp [fnd14]
    rw [after0_14]
    refine (at14 H t.val t.isLt).at _ ?_
    refine Eq.trans ?_ (congrArg (fun j => ∑ i, N.dh (X i) (T i) j * hat (X i) j) e1.symm)
    exact (congrArg (fun n => upto _ (n + 1)) ht).trans (upto_all _)
  rw [e]
  exact fun i j => rfl

/-- The first point's sum for the gradient of the output's gain. -/
theorem first15 (t : Fin cfg0.N) (h0 : t.val % 8 = 0) : IsR (n0 := 1) (n1 := 1024) (φ := .f32) (outsAt0 V c t.val t.isLt).2.2.2.2.2.2.2.2
    fun _ j => 0 + ∑ i, N.dO (X (row t i)) (T (row t i)) j * hat (N.fo (X (row t i))) j := by
  refine IsR.via (congrArg (fun o => o.2.2.2.2.2.2.2.2) (outsAt0_A V c t h0)) ?_
  dsimp only
  have h := H.holds t
  apply outA15 (h := h)

/-- A later point's sum for the gradient of the output's gain. -/
theorem next15 (t : Fin cfg0.N) (h0 : ¬t.val % 8 = 0) {L : Row}
    (hl : IsR (n0 := 1) (n1 := 1024) (φ := .f32) (outsAt0 V c (t.val - 1) (Nat.lt_of_le_of_lt (Nat.sub_le _ _) t.isLt)).2.2.2.2.2.2.2.2 fun _ => L) :
    IsR (n0 := 1) (n1 := 1024) (φ := .f32) (outsAt0 V c t.val t.isLt).2.2.2.2.2.2.2.2 fun _ j => L j + ∑ i, N.dO (X (row t i)) (T (row t i)) j * hat (N.fo (X (row t i))) j := by
  refine IsR.via (congrArg (fun o => o.2.2.2.2.2.2.2.2) (outsAt0_B V c t h0)) ?_
  dsimp only
  have h := H.holds t
  apply outB15 (h := h) (hl := hl)

/-- The gradient of the output's gain, after a number of points. -/
theorem at15 : ∀ (n : ℕ) (hn : n < 8), IsR (n0 := 1) (n1 := 1024) (φ := .f32) (outsAt0 V c n hn).2.2.2.2.2.2.2.2 fun _ j => upto (fun r => N.dO (X r) (T r) j * hat (N.fo (X r)) j) (n + 1)
  | 0, hn => (first15 H ⟨0, hn⟩ rfl).of_eq fun _ j => (congrArg (· + _) (upto_zero (fun r => N.dO (X r) (T r) j * hat (N.fo (X r)) j))).symm.trans (upto_succ (fun r => N.dO (X r) (T r) j * hat (N.fo (X r)) j) ⟨0, hn⟩).symm
  | n + 1, hn => (next15 H ⟨n + 1, hn⟩ (by show ¬(n + 1) % 8 = 0; omega) (at15 n (Nat.lt_of_succ_lt hn))).of_eq fun _ j => (upto_succ (fun r => N.dO (X r) (T r) j * hat (N.fo (X r)) j) ⟨n + 1, hn⟩).symm

/-- The array of the gradient of the output's gain. -/
theorem arr15 : IsR (n0 := 1) (n1 := 1024) (φ := .f32) ((dat0 V c).arrAt 15 cfg0.N) fun _ j => ∑ i, N.dO (X i) (T i) j * hat (N.fo (X i)) j := by
  have e : (dat0 V c).arrAt 15 cfg0.N = fun y : (⟨2, ![1, 1024]⟩ : Shape).Idx => (((fun j => ∑ i, N.dO (X i) (T i) j * hat (N.fo (X i)) j) (y 1) : ℝ) : EReal) := by
    refine (dat0 V c).arrAt_eq_of_covers 15 _ (by decide +kernel) fun t hf y => ?_
    have ht : t.val = 7 := last15 t hf
    have e1 : (win0_15.blk t).view.emb y 1 = y 1 := by
      apply Fin.ext; blk_simp [fnd15]
    rw [after0_15]
    refine (at15 H t.val t.isLt).at _ ?_
    refine Eq.trans ?_ (congrArg (fun j => ∑ i, N.dO (X i) (T i) j * hat (N.fo (X i)) j) e1.symm)
    exact (congrArg (fun n => upto _ (n + 1)) ht).trans (upto_all _)
  rw [e]
  exact fun i j => rfl

end Cert.Ffn
-- ==== Proof.FfnRef.lean ====
module

public import proofs.«01_k».proof.Proof.FfnArrays
public import proofs.«01_k».proof.Proof.Gen.Reference2Ideal.Read

@[expose] public section

set_option maxRecDepth 16384

noncomputable section

/-! The reference's stages at real numbers: each holds the real function that the kernel's arrays hold too. -/

namespace Cert.Ffn

open Cert.Reference2Ideal Cert.Reference2Ideal.Read Idealize.ShloMosaic.TcCoe Idealize.SL.Sem
open Idealize.ShloMosaic hiding ix2 ix3 ix4
open Idealize.ShloMosaic.ValueIdx
open Cert.Attn (coe_sum div_real)
open scoped BigOperators

/-- A list holds the given real numbers. -/
def Is1 {n : Nat} {φ : FTy} (v : FVec Ideal ⟨1, ![n]⟩ φ) (Y : Fin n → ℝ) : Prop :=
  ∀ i : (⟨1, ![n]⟩ : Shape).Idx, (v i : EReal) = ((Y (i 0) : ℝ) : EReal)

section
variable {n0 n1 : Nat} {φ : FTy} {v w : FVec Ideal ⟨2, ![n0, n1]⟩ φ} {A B : Fin n0 → Fin n1 → ℝ}

/-- A quotient on the host. -/
theorem IsR.hdiv (h : IsR v A) (k : IsR w B) (hB : ∀ i j, B i j ≠ 0) : IsR (Host.divf v w) fun i j => A i j / B i j := fun i j =>
  (congrArg₂ Ideal.div (h i j) (k i j)).trans (div_real (hB i j))

/-- An exponential on the host. -/
theorem IsR.hexp (h : IsR v A) : IsR (Host.exp v) fun i j => Real.exp (A i j) := fun i j =>
  (congrArg Ideal.exp (h i j)).trans (Ideal.exp_coe _)

/-- A reciprocal root on the host. -/
theorem IsR.hrsqrt (h : IsR v A) (hA : ∀ i j, 0 < A i j) : IsR (Host.rsqrt v) fun i j => (Real.sqrt (A i j))⁻¹ := fun i j =>
  (congrArg Ideal.rsqrt (h i j)).trans (by rw [Ideal.rsqrt_coe, if_neg (hA i j).not_gt, if_neg (hA i j).ne'])

/-- A negation on the host. -/
theorem IsR.hneg (h : IsR v A) : IsR (Host.negf v) fun i j => -A i j := fun i j =>
  (congrArg (fun a : EReal => -a) (h i j)).trans (EReal.coe_neg _).symm

end

/-- The literal -1/2. -/
theorem litNegHalf : (FloatOps.ofBits (F := Ideal) .f32 0xBF000000#32 : EReal) = ((-(1 / 2) : ℝ) : EReal) := by
  show Ideal.ofBits .f32 0xBF000000#32 = _
  simp [Ideal.ofBits, Ideal.ieee]
  rw [← EReal.coe_mul]
  exact congrArg _ (by norm_num)
/-- The literal 1/2. -/
theorem litHalf : (FloatOps.ofBits (F := Ideal) .f32 0x3F000000#32 : EReal) = ((1 / 2 : ℝ) : EReal) := by
  show Ideal.ofBits .f32 0x3F000000#32 = _
  simp [Ideal.ofBits, Ideal.ieee]
  rw [← EReal.coe_mul]
  exact congrArg _ (by norm_num)
/-- The literal 2. -/
theorem lit2 : (FloatOps.ofBits (F := Ideal) .f32 0x40000000#32 : EReal) = ((2 : ℝ) : EReal) := by
  show Ideal.ofBits .f32 0x40000000#32 = _
  simp [Ideal.ofBits, Ideal.ieee]
  rw [← EReal.coe_mul]
  exact congrArg _ (by norm_num)

/-- A sum of real numbers, from zero. -/
theorem sum_from {n : Nat} {f : Fin n → EReal} {G : Fin n → ℝ} (h : ∀ k, f k = ((G k : ℝ) : EReal)) :
    (FloatOps.ofBits (F := Ideal) .f32 0x00000000#32 : EReal) + ∑ k, f k = ((∑ k, G k : ℝ) : EReal) := by
  rw [show (FloatOps.ofBits (F := Ideal) .f32 0x00000000#32 : EReal) = 0 from Ideal.ofBits_zero_f32, zero_add, coe_sum]
  exact Finset.sum_congr rfl fun k _ => h k

variable {x0 x1 : (⟨S2048x1024, .f32⟩ : BufTy).Contents (Elt Ideal)} {x2 x3 : (⟨S1024x2816, .f32⟩ : BufTy).Contents (Elt Ideal)}
  {x4 : (⟨S2816x1024, .f32⟩ : BufTy).Contents (Elt Ideal)} {x5 x6 : (⟨S1024, .f32⟩ : BufTy).Contents (Elt Ideal)}

/-- The arguments are the real numbers of the block. -/
structure Args (x0 x1 : (⟨S2048x1024, .f32⟩ : BufTy).Contents (Elt Ideal)) (x2 x3 : (⟨S1024x2816, .f32⟩ : BufTy).Contents (Elt Ideal))
    (x4 : (⟨S2816x1024, .f32⟩ : BufTy).Contents (Elt Ideal)) (x5 x6 : (⟨S1024, .f32⟩ : BufTy).Contents (Elt Ideal)) (N : Par) (X T : Fin 2048 → Row) : Prop where
  a0 : IsR (n0 := 2048) (n1 := 1024) (φ := .f32) x0 X
  a1 : IsR (n0 := 2048) (n1 := 1024) (φ := .f32) x1 T
  a2 : IsR (n0 := 1024) (n1 := 2816) (φ := .f32) x2 fun n k => N.gate k n
  a3 : IsR (n0 := 1024) (n1 := 2816) (φ := .f32) x3 fun n k => N.up k n
  a4 : IsR (n0 := 2816) (n1 := 1024) (φ := .f32) x4 N.down
  a5 : Is1 (n := 1024) (φ := .f32) x5 N.pre
  a6 : Is1 (n := 1024) (φ := .f32) x6 N.post

namespace Args

variable {N : Par} {X T : Fin 2048 → Row} (h : Args x0 x1 x2 x3 x4 x5 x6 N X T)
include h

theorem v0 : IsR (n0 := 2048) (n1 := 1024) (φ := .f32) (val_main_v0 (F := Ideal) x0) fun i j => (X i) j * (X i) j :=
  IsR.mul h.a0 h.a0
theorem v1 : Is1 (n := 2048) (φ := .f32) (val_main_v1 (F := Ideal) x0) fun i => ∑ j, (X i) j * (X i) j :=
  fun i => (val_main_v1_apply x0 i).trans (sum_from fun k => h.v0.at _ rfl)
theorem v2 : IsR (n0 := 2048) (n1 := 1) (φ := .f32) (val_main_v2 (F := Ideal) x0) fun i j => ∑ j, (X i) j * (X i) j :=
  fun i j => (val_main_v2_apply x0 (ix2 i j)).trans (h.v1 _)
omit h in
theorem v3 : IsR (n0 := 2048) (n1 := 1) (φ := .f32) (val_main_v3 (F := Ideal)) fun i j => (1024 : ℝ) :=
  fun i j => (val_main_v3_apply (ix2 i j)).trans lit1024
theorem v4 : IsR (n0 := 2048) (n1 := 1) (φ := .f32) (val_main_v4 (F := Ideal) x0) fun i j => (∑ j, (X i) j * (X i) j) / 1024 :=
  IsR.hdiv h.v2 v3 fun _ _ => by norm_num
omit h in
theorem v5 : IsR (n0 := 2048) (n1 := 1) (φ := .f32) (val_main_v5 (F := Ideal)) fun i j => eps :=
  fun i j => (val_main_v5_apply (ix2 i j)).trans litEps
/-- The mean square. -/
theorem v6 : IsR (n0 := 2048) (n1 := 1) (φ := .f32) (val_main_v6 (F := Ideal) x0) fun i j => ms (X i) :=
  IsR.add h.v4 v5
/-- The reciprocal of the root mean square. -/
theorem v7 : IsR (n0 := 2048) (n1 := 1) (φ := .f32) (val_main_v7 (F := Ideal) x0) fun i j => rs (X i) :=
  IsR.hrsqrt h.v6 fun i _ => ms_pos (X i)
theorem v8 : IsR (n0 := 2048) (n1 := 1) (φ := .f32) (val_main_v8 (F := Ideal) x0) fun i j => rs (X i) / ms (X i) :=
  IsR.hdiv h.v7 h.v6 fun i _ => (ms_pos (X i)).ne'
omit h in
theorem v9 : IsR (n0 := 2048) (n1 := 1) (φ := .f32) (val_main_v9 (F := Ideal)) fun i j => -(1 / 2 : ℝ) :=
  fun i j => (val_main_v9_apply (ix2 i j)).trans litNegHalf
theorem v10 : IsR (n0 := 2048) (n1 := 1) (φ := .f32) (val_main_v10 (F := Ideal) x0) fun i j => -(1 / 2) * (rs (X i) / ms (X i)) :=
  IsR.mul v9 h.v8
theorem v11 : IsR (n0 := 2048) (n1 := 1024) (φ := .f32) (val_main_v11 (F := Ideal) x0) fun i j => rs (X i) :=
  fun i j => (val_main_v11_apply x0 (ix2 i j)).trans (h.v7.at _ rfl)
/-- The normalised row. -/
theorem v12 : IsR (n0 := 2048) (n1 := 1024) (φ := .f32) (val_main_v12 (F := Ideal) x0) fun i j => hat (X i) j :=
  IsR.mul h.a0 h.v11
theorem v13 : IsR (n0 := 1) (n1 := 1024) (φ := .f32) (val_main_v13 (F := Ideal) x5) fun i j => N.pre j :=
  fun i j => (val_main_v13_apply x5 (ix2 i j)).trans (h.a5 _)
theorem v14 : IsR (n0 := 2048) (n1 := 1024) (φ := .f32) (val_main_v14 (F := Ideal) x5) fun i j => N.pre j :=
  fun i j => (val_main_v14_apply x5 (ix2 i j)).trans (h.v13.at _ rfl)
theorem v15 : IsR (n0 := 2048) (n1 := 1024) (φ := .f32) (val_main_v15 (F := Ideal) x0 x5) fun i j => N.nh (X i) j :=
  IsR.mul h.v12 h.v14
/-- The gate before its activation. -/
theorem v16 : IsR (n0 := 2048) (n1 := 2816) (φ := .f32) (val_main_v16 (F := Ideal) x0 x2 x5) fun i j => N.ga (X i) j :=
  fun i j => (val_main_v16_apply x0 x2 x5 (ix2 i j)).trans (sum_mul_real (fun k => h.v15.at _ rfl) fun k => h.a2.at _ rfl)
theorem c0_v0 : IsR (n0 := 2048) (n1 := 2816) (φ := .f32) (val_main_call0_v0 (F := Ideal) x0 x2 x5) fun i j => -N.ga (X i) j :=
  IsR.hneg h.v16
theorem c0_v1 : IsR (n0 := 2048) (n1 := 2816) (φ := .f32) (val_main_call0_v1 (F := Ideal) x0 x2 x5) fun i j => Real.exp (-N.ga (X i) j) :=
  IsR.hexp h.c0_v0
omit h in
theorem c0_v2 : IsR (n0 := 2048) (n1 := 2816) (φ := .f32) (val_main_call0_v2 (F := Ideal)) fun i j => (1 : ℝ) :=
  fun i j => (val_main_call0_v2_apply (ix2 i j)).trans lit1
theorem c0_v3 : IsR (n0 := 2048) (n1 := 2816) (φ := .f32) (val_main_call0_v3 (F := Ideal) x0 x2 x5) fun i j => 1 + Real.exp (-N.ga (X i) j) :=
  IsR.add c0_v2 h.c0_v1
omit h in
theorem c0_v4 : IsR (n0 := 2048) (n1 := 2816) (φ := .f32) (val_main_call0_v4 (F := Ideal)) fun i j => (1 : ℝ) :=
  fun i j => (val_main_call0_v4_apply (ix2 i j)).trans lit1
/-- The logistic function of the gate. -/
theorem v17_2 : IsR (n0 := 2048) (n1 := 2816) (φ := .f32) (val_main_v17_2 (F := Ideal) x0 x2 x5) fun i j => sg (N.ga (X i) j) :=
  IsR.of_eq (IsR.hdiv c0_v4 h.c0_v3 (fun i j => (add_pos one_pos (Real.exp_pos _)).ne')) fun i j => by unfold sg; rw [zero_sub]
omit h in
theorem c0_v6 : IsR (n0 := 2048) (n1 := 2816) (φ := .f32) (val_main_call0_v6 (F := Ideal)) fun i j => (1 : ℝ) :=
  fun i j => (val_main_call0_v6_apply (ix2 i j)).trans lit1
theorem c0_v7 : IsR (n0 := 2048) (n1 := 2816) (φ := .f32) (val_main_call0_v7 (F := Ideal) x0 x2 x5) fun i j => 1 - sg (N.ga (X i) j) :=
  IsR.sub c0_v6 h.v17_2
theorem v17_1 : IsR (n0 := 2048) (n1 := 2816) (φ := .f32) (val_main_v17_1 (F := Ideal) x0 x2 x5) fun i j => sg (N.ga (X i) j) * (1 - sg (N.ga (X i) j)) :=
  IsR.mul h.v17_2 h.c0_v7
theorem v17_0 : IsR (n0 := 2048) (n1 := 2816) (φ := .f32) (val_main_v17_0 (F := Ideal) x0 x2 x5) fun i j => N.ga (X i) j * sg (N.ga (X i) j) :=
  IsR.mul h.v16 h.v17_2
/-- The other factor. -/
theorem v18 : IsR (n0 := 2048) (n1 := 2816) (φ := .f32) (val_main_v18 (F := Ideal) x0 x3 x5) fun i j => N.ua (X i) j :=
  fun i j => (val_main_v18_apply x0 x3 x5 (ix2 i j)).trans (sum_mul_real (fun k => h.v15.at _ rfl) fun k => h.a3.at _ rfl)
/-- The hidden units. -/
theorem v19 : IsR (n0 := 2048) (n1 := 2816) (φ := .f32) (val_main_v19 (F := Ideal) x0 x2 x3 x5) fun i j => N.ac (X i) j :=
  IsR.mul h.v17_0 h.v18
/-- The output before its normalisation. -/
theorem v20 : IsR (n0 := 2048) (n1 := 1024) (φ := .f32) (val_main_v20 (F := Ideal) x0 x2 x3 x4 x5) fun i j => N.fo (X i) j :=
  fun i j => (val_main_v20_apply x0 x2 x3 x4 x5 (ix2 i j)).trans (sum_mul_real (fun k => h.v19.at _ rfl) fun k => h.a4.at _ rfl)
theorem v21 : IsR (n0 := 2048) (n1 := 1024) (φ := .f32) (val_main_v21 (F := Ideal) x0 x2 x3 x4 x5) fun i j => (N.fo (X i)) j * (N.fo (X i)) j :=
  IsR.mul h.v20 h.v20
theorem v22 : Is1 (n := 2048) (φ := .f32) (val_main_v22 (F := Ideal) x0 x2 x3 x4 x5) fun i => ∑ j, (N.fo (X i)) j * (N.fo (X i)) j :=
  fun i => (val_main_v22_apply x0 x2 x3 x4 x5 i).trans (sum_from fun k => h.v21.at _ rfl)
theorem v23 : IsR (n0 := 2048) (n1 := 1) (φ := .f32) (val_main_v23 (F := Ideal) x0 x2 x3 x4 x5) fun i j => ∑ j, (N.fo (X i)) j * (N.fo (X i)) j :=
  fun i j => (val_main_v23_apply x0 x2 x3 x4 x5 (ix2 i j)).trans (h.v22 _)
omit h in
theorem v24 : IsR (n0 := 2048) (n1 := 1) (φ := .f32) (val_main_v24 (F := Ideal)) fun i j => (1024 : ℝ) :=
  fun i j => (val_main_v24_apply (ix2 i j)).trans lit1024
theorem v25 : IsR (n0 := 2048) (n1 := 1) (φ := .f32) (val_main_v25 (F := Ideal) x0 x2 x3 x4 x5) fun i j => (∑ j, (N.fo (X i)) j * (N.fo (X i)) j) / 1024 :=
  IsR.hdiv h.v23 v24 fun _ _ => by norm_num
omit h in
theorem v26 : IsR (n0 := 2048) (n1 := 1) (φ := .f32) (val_main_v26 (F := Ideal)) fun i j => eps :=
  fun i j => (val_main_v26_apply (ix2 i j)).trans litEps
/-- The mean square. -/
theorem v27 : IsR (n0 := 2048) (n1 := 1) (φ := .f32) (val_main_v27 (F := Ideal) x0 x2 x3 x4 x5) fun i j => ms (N.fo (X i)) :=
  IsR.add h.v25 v26
/-- The reciprocal of the root mean square. -/
theorem v28 : IsR (n0 := 2048) (n1 := 1) (φ := .f32) (val_main_v28 (F := Ideal) x0 x2 x3 x4 x5) fun i j => rs (N.fo (X i)) :=
  IsR.hrsqrt h.v27 fun i _ => ms_pos (N.fo (X i))
theorem v29 : IsR (n0 := 2048) (n1 := 1) (φ := .f32) (val_main_v29 (F := Ideal) x0 x2 x3 x4 x5) fun i j => rs (N.fo (X i)) / ms (N.fo (X i)) :=
  IsR.hdiv h.v28 h.v27 fun i _ => (ms_pos (N.fo (X i))).ne'
omit h in
theorem v30 : IsR (n0 := 2048) (n1 := 1) (φ := .f32) (val_main_v30 (F := Ideal)) fun i j => -(1 / 2 : ℝ) :=
  fun i j => (val_main_v30_apply (ix2 i j)).trans litNegHalf
theorem v31 : IsR (n0 := 2048) (n1 := 1) (φ := .f32) (val_main_v31 (F := Ideal) x0 x2 x3 x4 x5) fun i j => -(1 / 2) * (rs (N.fo (X i)) / ms (N.fo (X i))) :=
  IsR.mul v30 h.v29
theorem v32 : IsR (n0 := 2048) (n1 := 1024) (φ := .f32) (val_main_v32 (F := Ideal) x0 x2 x3 x4 x5) fun i j => rs (N.fo (X i)) :=
  fun i j => (val_main_v32_apply x0 x2 x3 x4 x5 (ix2 i j)).trans (h.v28.at _ rfl)
/-- The normalised row. -/
theorem v33 : IsR (n0 := 2048) (n1 := 1024) (φ := .f32) (val_main_v33 (F := Ideal) x0 x2 x3 x4 x5) fun i j => hat (N.fo (X i)) j :=
  IsR.mul h.v20 h.v32
theorem v34 : IsR (n0 := 1) (n1 := 1024) (φ := .f32) (val_main_v34 (F := Ideal) x6) fun i j => N.post j :=
  fun i j => (val_main_v34_apply x6 (ix2 i j)).trans (h.a6 _)
theorem v35 : IsR (n0 := 2048) (n1 := 1024) (φ := .f32) (val_main_v35 (F := Ideal) x6) fun i j => N.post j :=
  fun i j => (val_main_v35_apply x6 (ix2 i j)).trans (h.v34.at _ rfl)
theorem v36 : IsR (n0 := 2048) (n1 := 1024) (φ := .f32) (val_main_v36 (F := Ideal) x0 x2 x3 x4 x5 x6) fun i j => hat (N.fo (X i)) j * N.post j :=
  IsR.mul h.v33 h.v35
theorem v37 : IsR (n0 := 2048) (n1 := 1024) (φ := .f32) (val_main_v37 (F := Ideal) x0 x2 x3 x4 x5 x6) fun i j => X i j + hat (N.fo (X i)) j * N.post j :=
  IsR.add h.a0 h.v36
/-- The error. -/
theorem v38 : IsR (n0 := 2048) (n1 := 1024) (φ := .f32) (val_main_v38 (F := Ideal) x0 x1 x2 x3 x4 x5 x6) fun i j => N.er (X i) (T i) j :=
  IsR.sub h.v37 h.a1
theorem v39 : IsR (n0 := 2048) (n1 := 1024) (φ := .f32) (val_main_v39 (F := Ideal) x0 x1 x2 x3 x4 x5 x6) fun i j => N.er (X i) (T i) j * N.er (X i) (T i) j :=
  IsR.mul h.v38 h.v38
omit h in
theorem v40 : IsR (n0 := 2048) (n1 := 1024) (φ := .f32) (val_main_v40 (F := Ideal)) fun i j => (2 : ℝ) :=
  fun i j => (val_main_v40_apply (ix2 i j)).trans lit2
theorem v41 : IsR (n0 := 2048) (n1 := 1024) (φ := .f32) (val_main_v41 (F := Ideal) x0 x1 x2 x3 x4 x5 x6) fun i j => 2 * N.er (X i) (T i) j :=
  IsR.mul v40 h.v38
/-- The losses of the columns. -/
theorem v47 : Is1 (n := 1024) (φ := .f32) (val_main_v47 (F := Ideal) x0 x1 x2 x3 x4 x5 x6) fun i => ∑ r, N.er (X r) (T r) i * N.er (X r) (T r) i :=
  fun i => (val_main_v47_apply x0 x1 x2 x3 x4 x5 x6 i).trans (sum_from fun k => h.v39.at _ rfl)
omit h in
theorem v49 : Is1 (n := 2048) (φ := .f32) (val_main_v49 (F := Ideal)) fun i => (1 / 2 * 1 : ℝ) :=
  fun i => (val_main_v49_apply i).trans ((congrArg₂ (fun a b : EReal => a * b) litHalf lit1).trans (EReal.coe_mul _ _).symm)
omit h in
theorem v50 : Is1 (n := 2048) (φ := .f32) (val_main_v50 (F := Ideal)) fun i => (1024 : ℝ) :=
  fun i => (val_main_v50_apply i).trans lit1024
theorem v51 : Is1 (n := 2048) (φ := .f32) (val_main_v51 (F := Ideal)) fun i => (1 / 2 * 1 / 1024 : ℝ) :=
  fun i => (congrArg₂ Ideal.div (v49 i) (v50 i)).trans (div_real (by norm_num))
theorem v52 : IsR (n0 := 2048) (n1 := 1024) (φ := .f32) (val_main_v52 (F := Ideal)) fun i j => (1 / 2 * 1 / 1024 : ℝ) :=
  fun i j => (val_main_v52_apply (ix2 i j)).trans (h.v51 _)
/-- The output's gradient. -/
theorem v53 : IsR (n0 := 2048) (n1 := 1024) (φ := .f32) (val_main_v53 (F := Ideal) x0 x1 x2 x3 x4 x5 x6) fun i j => N.dO (X i) (T i) j :=
  IsR.of_eq (IsR.mul h.v52 h.v41) fun i j => by unfold Par.dO; ring
theorem v54 : IsR (n0 := 2048) (n1 := 1024) (φ := .f32) (val_main_v54 (F := Ideal) x0 x1 x2 x3 x4 x5 x6) fun i j => hat (N.fo (X i)) j * N.dO (X i) (T i) j :=
  IsR.mul h.v33 h.v53
theorem v55 : Is1 (n := 1024) (φ := .f32) (val_main_v55 (F := Ideal) x0 x1 x2 x3 x4 x5 x6) fun i => ∑ r, hat (N.fo (X r)) i * N.dO (X r) (T r) i :=
  fun i => (val_main_v55_apply x0 x1 x2 x3 x4 x5 x6 i).trans (sum_from fun k => h.v54.at _ rfl)
theorem v56 : IsR (n0 := 1) (n1 := 1024) (φ := .f32) (val_main_v56 (F := Ideal) x0 x1 x2 x3 x4 x5 x6) fun i j => ∑ r, hat (N.fo (X r)) j * N.dO (X r) (T r) j :=
  fun i j => (val_main_v56_apply x0 x1 x2 x3 x4 x5 x6 (ix2 i j)).trans ((h.v55 _).trans (congrArg (fun k => (((∑ r, hat (N.fo (X r)) k * N.dO (X r) (T r) k) : ℝ) : EReal)) (Fin.ext (by show i.val * 1024 + j.val = j.val; omega))))
theorem v57 : IsR (n0 := 2048) (n1 := 1024) (φ := .f32) (val_main_v57 (F := Ideal) x6) fun i j => N.post j :=
  fun i j => (val_main_v57_apply x6 (ix2 i j)).trans (h.v34.at _ rfl)
theorem v58 : IsR (n0 := 2048) (n1 := 1024) (φ := .f32) (val_main_v58 (F := Ideal) x0 x1 x2 x3 x4 x5 x6) fun i j => N.dO (X i) (T i) j * N.post j :=
  IsR.mul h.v53 h.v57
theorem v59 : Is1 (n := 1024) (φ := .f32) (val_main_v59 (F := Ideal) x0 x1 x2 x3 x4 x5 x6) fun i => ∑ r, hat (N.fo (X r)) i * N.dO (X r) (T r) i :=
  fun i => (val_main_v59_apply x0 x1 x2 x3 x4 x5 x6 i).trans ((sum_from fun k => h.v56.at _ rfl).trans (congrArg Real.toEReal (Fin.sum_univ_one _)))
theorem v60 : IsR (n0 := 2048) (n1 := 1024) (φ := .f32) (val_main_v60 (F := Ideal) x0 x1 x2 x3 x4 x5 x6) fun i j => N.fo (X i) j * (N.dO (X i) (T i) j * N.post j) :=
  IsR.mul h.v20 h.v58
theorem v61 : Is1 (n := 2048) (φ := .f32) (val_main_v61 (F := Ideal) x0 x1 x2 x3 x4 x5 x6) fun i => ∑ l, N.fo (X i) l * (N.dO (X i) (T i) l * N.post l) :=
  fun i => (val_main_v61_apply x0 x1 x2 x3 x4 x5 x6 i).trans (sum_from fun k => h.v60.at _ rfl)
theorem v62 : IsR (n0 := 2048) (n1 := 1) (φ := .f32) (val_main_v62 (F := Ideal) x0 x1 x2 x3 x4 x5 x6) fun i j => ∑ l, N.fo (X i) l * (N.dO (X i) (T i) l * N.post l) :=
  fun i j => (val_main_v62_apply x0 x1 x2 x3 x4 x5 x6 (ix2 i j)).trans ((h.v61 _).trans (congrArg (fun k => (((∑ l, N.fo (X k) l * (N.dO (X k) (T k) l * N.post l)) : ℝ) : EReal)) (Fin.ext (by show i.val * 1 + j.val = i.val; omega))))
theorem v63 : IsR (n0 := 2048) (n1 := 1024) (φ := .f32) (val_main_v63 (F := Ideal) x0 x2 x3 x4 x5) fun i j => rs (N.fo (X i)) :=
  fun i j => (val_main_v63_apply x0 x2 x3 x4 x5 (ix2 i j)).trans (h.v28.at _ rfl)
theorem v64 : IsR (n0 := 2048) (n1 := 1024) (φ := .f32) (val_main_v64 (F := Ideal) x0 x1 x2 x3 x4 x5 x6) fun i j => N.dO (X i) (T i) j * N.post j * rs (N.fo (X i)) :=
  IsR.mul h.v58 h.v63
theorem v65 : IsR (n0 := 2048) (n1 := 1) (φ := .f32) (val_main_v65 (F := Ideal) x0 x1 x2 x3 x4 x5 x6) fun i j => (∑ l, N.fo (X i) l * (N.dO (X i) (T i) l * N.post l)) * (-(1 / 2) * (rs (N.fo (X i)) / ms (N.fo (X i)))) :=
  IsR.mul h.v62 h.v31
omit h in
theorem v66 : IsR (n0 := 2048) (n1 := 1) (φ := .f32) (val_main_v66 (F := Ideal)) fun i j => (1024 : ℝ) :=
  fun i j => (val_main_v66_apply (ix2 i j)).trans lit1024
theorem v67 : IsR (n0 := 2048) (n1 := 1) (φ := .f32) (val_main_v67 (F := Ideal) x0 x1 x2 x3 x4 x5 x6) fun i j => (∑ l, N.fo (X i) l * (N.dO (X i) (T i) l * N.post l)) * (-(1 / 2) * (rs (N.fo (X i)) / ms (N.fo (X i)))) / 1024 :=
  IsR.hdiv h.v65 v66 fun _ _ => by norm_num
theorem v68 : Is1 (n := 2048) (φ := .f32) (val_main_v68 (F := Ideal) x0 x1 x2 x3 x4 x5 x6) fun i => (∑ l, N.fo (X i) l * (N.dO (X i) (T i) l * N.post l)) * (-(1 / 2) * (rs (N.fo (X i)) / ms (N.fo (X i)))) / 1024 :=
  fun i => (val_main_v68_apply x0 x1 x2 x3 x4 x5 x6 i).trans ((sum_from fun k => h.v67.at _ rfl).trans (congrArg Real.toEReal (Fin.sum_univ_one _)))
theorem v69 : IsR (n0 := 2048) (n1 := 1024) (φ := .f32) (val_main_v69 (F := Ideal) x0 x1 x2 x3 x4 x5 x6) fun i j => (∑ l, N.fo (X i) l * (N.dO (X i) (T i) l * N.post l)) * (-(1 / 2) * (rs (N.fo (X i)) / ms (N.fo (X i)))) / 1024 :=
  fun i j => (val_main_v69_apply x0 x1 x2 x3 x4 x5 x6 (ix2 i j)).trans (h.v68 _)
theorem v70 : IsR (n0 := 2048) (n1 := 1024) (φ := .f32) (val_main_v70 (F := Ideal) x0 x1 x2 x3 x4 x5 x6) fun i j => N.fo (X i) j * ((∑ l, N.fo (X i) l * (N.dO (X i) (T i) l * N.post l)) * (-(1 / 2) * (rs (N.fo (X i)) / ms (N.fo (X i)))) / 1024) :=
  IsR.mul h.v20 h.v69
theorem v71 : IsR (n0 := 2048) (n1 := 1024) (φ := .f32) (val_main_v71 (F := Ideal) x0 x1 x2 x3 x4 x5 x6) fun i j => N.dO (X i) (T i) j * N.post j * rs (N.fo (X i)) + N.fo (X i) j * ((∑ l, N.fo (X i) l * (N.dO (X i) (T i) l * N.post l)) * (-(1 / 2) * (rs (N.fo (X i)) / ms (N.fo (X i)))) / 1024) :=
  IsR.add h.v64 h.v70
theorem v72 : IsR (n0 := 2048) (n1 := 1024) (φ := .f32) (val_main_v72 (F := Ideal) x0 x1 x2 x3 x4 x5 x6) fun i j => (∑ l, N.fo (X i) l * (N.dO (X i) (T i) l * N.post l)) * (-(1 / 2) * (rs (N.fo (X i)) / ms (N.fo (X i)))) / 1024 * N.fo (X i) j :=
  IsR.mul h.v69 h.v20
/-- The gradient before the output's normalisation. -/
theorem v73 : IsR (n0 := 2048) (n1 := 1024) (φ := .f32) (val_main_v73 (F := Ideal) x0 x1 x2 x3 x4 x5 x6) fun i j => N.df (X i) (T i) j :=
  IsR.of_eq (IsR.add h.v71 h.v72) fun i j => bwd_terms (N.fo (X i)) N.post (N.dO (X i) (T i)) j
theorem v74 : IsR (n0 := 1024) (n1 := 2816) (φ := .f32) (val_main_v74 (F := Ideal) x0 x1 x2 x3 x4 x5 x6) fun i j => ∑ l, N.df (X l) (T l) i * N.ac (X l) j :=
  fun i j => (val_main_v74_apply x0 x1 x2 x3 x4 x5 x6 (ix2 i j)).trans (sum_mul_real (fun k => h.v73.at _ rfl) fun k => h.v19.at _ rfl)
/-- The last weights' gradient. -/
theorem v75 : IsR (n0 := 2816) (n1 := 1024) (φ := .f32) (val_main_v75 (F := Ideal) x0 x1 x2 x3 x4 x5 x6) fun i j => ∑ l, N.ac (X l) i * N.df (X l) (T l) j :=
  IsR.of_eq (Y := fun i j => ∑ l, N.ac (X l) i * N.df (X l) (T l) j) (X := fun i j => ∑ l, N.df (X l) (T l) j * N.ac (X l) i) (fun i j => (val_main_v75_apply x0 x1 x2 x3 x4 x5 x6 (ix2 i j)).trans (h.v74.at _ rfl)) fun i j => Finset.sum_congr rfl fun l _ => mul_comm _ _
/-- The hidden units' gradient. -/
theorem v76 : IsR (n0 := 2048) (n1 := 2816) (φ := .f32) (val_main_v76 (F := Ideal) x0 x1 x2 x3 x4 x5 x6) fun i j => N.da (X i) (T i) j :=
  fun i j => (val_main_v76_apply x0 x1 x2 x3 x4 x5 x6 (ix2 i j)).trans (sum_mul_real (fun k => h.v73.at _ rfl) fun k => h.a4.at _ rfl)
theorem v77 : IsR (n0 := 2048) (n1 := 2816) (φ := .f32) (val_main_v77 (F := Ideal) x0 x1 x2 x3 x4 x5 x6) fun i j => N.du (X i) (T i) j :=
  IsR.of_eq (IsR.mul h.v17_0 h.v76) fun i j => mul_comm _ _
theorem v78 : IsR (n0 := 2048) (n1 := 2816) (φ := .f32) (val_main_v78 (F := Ideal) x0 x1 x2 x3 x4 x5 x6) fun i j => N.da (X i) (T i) j * N.ua (X i) j :=
  IsR.mul h.v76 h.v18
theorem v79 : IsR (n0 := 2816) (n1 := 1024) (φ := .f32) (val_main_v79 (F := Ideal) x0 x1 x2 x3 x4 x5 x6) fun i j => ∑ l, N.du (X l) (T l) i * N.nh (X l) j :=
  fun i j => (val_main_v79_apply x0 x1 x2 x3 x4 x5 x6 (ix2 i j)).trans (sum_mul_real (fun k => h.v77.at _ rfl) fun k => h.v15.at _ rfl)
theorem v80 : IsR (n0 := 1024) (n1 := 2816) (φ := .f32) (val_main_v80 (F := Ideal) x0 x1 x2 x3 x4 x5 x6) fun i j => ∑ l, N.du (X l) (T l) j * N.nh (X l) i :=
  fun i j => (val_main_v80_apply x0 x1 x2 x3 x4 x5 x6 (ix2 i j)).trans (h.v79.at _ rfl)
theorem v81 : IsR (n0 := 2048) (n1 := 1024) (φ := .f32) (val_main_v81 (F := Ideal) x0 x1 x2 x3 x4 x5 x6) fun i j => ∑ k, N.du (X i) (T i) k * N.up k j :=
  fun i j => (val_main_v81_apply x0 x1 x2 x3 x4 x5 x6 (ix2 i j)).trans (sum_mul_real (fun k => h.v77.at _ rfl) fun k => h.a3.at _ rfl)
theorem c1_v0 : IsR (n0 := 2048) (n1 := 2816) (φ := .f32) (val_main_call1_v0 (F := Ideal) x0 x1 x2 x3 x4 x5 x6) fun i j => N.ga (X i) j * (N.da (X i) (T i) j * N.ua (X i) j) :=
  IsR.mul h.v16 h.v78
theorem c1_v1 : IsR (n0 := 2048) (n1 := 2816) (φ := .f32) (val_main_call1_v1 (F := Ideal) x0 x1 x2 x3 x4 x5 x6) fun i j => N.da (X i) (T i) j * N.ua (X i) j * sg (N.ga (X i) j) :=
  IsR.mul h.v78 h.v17_2
theorem c1_v2 : IsR (n0 := 2048) (n1 := 2816) (φ := .f32) (val_main_call1_v2 (F := Ideal) x0 x1 x2 x3 x4 x5 x6) fun i j => N.ga (X i) j * (N.da (X i) (T i) j * N.ua (X i) j) * (sg (N.ga (X i) j) * (1 - sg (N.ga (X i) j))) :=
  IsR.mul h.c1_v0 h.v17_1
/-- The gate's gradient. -/
theorem v82 : IsR (n0 := 2048) (n1 := 2816) (φ := .f32) (val_main_v82 (F := Ideal) x0 x1 x2 x3 x4 x5 x6) fun i j => N.dg (X i) (T i) j :=
  IsR.of_eq (IsR.add h.c1_v1 h.c1_v2) fun i j => by unfold Par.dg; ring
theorem v83 : IsR (n0 := 2816) (n1 := 1024) (φ := .f32) (val_main_v83 (F := Ideal) x0 x1 x2 x3 x4 x5 x6) fun i j => ∑ l, N.dg (X l) (T l) i * N.nh (X l) j :=
  fun i j => (val_main_v83_apply x0 x1 x2 x3 x4 x5 x6 (ix2 i j)).trans (sum_mul_real (fun k => h.v82.at _ rfl) fun k => h.v15.at _ rfl)
theorem v84 : IsR (n0 := 1024) (n1 := 2816) (φ := .f32) (val_main_v84 (F := Ideal) x0 x1 x2 x3 x4 x5 x6) fun i j => ∑ l, N.dg (X l) (T l) j * N.nh (X l) i :=
  fun i j => (val_main_v84_apply x0 x1 x2 x3 x4 x5 x6 (ix2 i j)).trans (h.v83.at _ rfl)
theorem v85 : IsR (n0 := 2048) (n1 := 1024) (φ := .f32) (val_main_v85 (F := Ideal) x0 x1 x2 x3 x4 x5 x6) fun i j => ∑ k, N.dg (X i) (T i) k * N.gate k j :=
  fun i j => (val_main_v85_apply x0 x1 x2 x3 x4 x5 x6 (ix2 i j)).trans (sum_mul_real (fun k => h.v82.at _ rfl) fun k => h.a2.at _ rfl)
/-- The normalised input's gradient. -/
theorem v86 : IsR (n0 := 2048) (n1 := 1024) (φ := .f32) (val_main_v86 (F := Ideal) x0 x1 x2 x3 x4 x5 x6) fun i j => N.dh (X i) (T i) j :=
  IsR.of_eq (IsR.add h.v81 h.v85) fun i j => add_comm _ _
theorem v87 : IsR (n0 := 2048) (n1 := 1024) (φ := .f32) (val_main_v87 (F := Ideal) x0 x1 x2 x3 x4 x5 x6) fun i j => hat (X i) j * N.dh (X i) (T i) j :=
  IsR.mul h.v12 h.v86
theorem v88 : Is1 (n := 1024) (φ := .f32) (val_main_v88 (F := Ideal) x0 x1 x2 x3 x4 x5 x6) fun i => ∑ r, hat (X r) i * N.dh (X r) (T r) i :=
  fun i => (val_main_v88_apply x0 x1 x2 x3 x4 x5 x6 i).trans (sum_from fun k => h.v87.at _ rfl)
theorem v89 : IsR (n0 := 1) (n1 := 1024) (φ := .f32) (val_main_v89 (F := Ideal) x0 x1 x2 x3 x4 x5 x6) fun i j => ∑ r, hat (X r) j * N.dh (X r) (T r) j :=
  fun i j => (val_main_v89_apply x0 x1 x2 x3 x4 x5 x6 (ix2 i j)).trans ((h.v88 _).trans (congrArg (fun k => (((∑ r, hat (X r) k * N.dh (X r) (T r) k) : ℝ) : EReal)) (Fin.ext (by show i.val * 1024 + j.val = j.val; omega))))
theorem v90 : IsR (n0 := 2048) (n1 := 1024) (φ := .f32) (val_main_v90 (F := Ideal) x5) fun i j => N.pre j :=
  fun i j => (val_main_v90_apply x5 (ix2 i j)).trans (h.v13.at _ rfl)
theorem v91 : IsR (n0 := 2048) (n1 := 1024) (φ := .f32) (val_main_v91 (F := Ideal) x0 x1 x2 x3 x4 x5 x6) fun i j => N.dh (X i) (T i) j * N.pre j :=
  IsR.mul h.v86 h.v90
theorem v92 : Is1 (n := 1024) (φ := .f32) (val_main_v92 (F := Ideal) x0 x1 x2 x3 x4 x5 x6) fun i => ∑ r, hat (X r) i * N.dh (X r) (T r) i :=
  fun i => (val_main_v92_apply x0 x1 x2 x3 x4 x5 x6 i).trans ((sum_from fun k => h.v89.at _ rfl).trans (congrArg Real.toEReal (Fin.sum_univ_one _)))
theorem v93 : IsR (n0 := 2048) (n1 := 1024) (φ := .f32) (val_main_v93 (F := Ideal) x0 x1 x2 x3 x4 x5 x6) fun i j => X i j * (N.dh (X i) (T i) j * N.pre j) :=
  IsR.mul h.a0 h.v91
theorem v94 : Is1 (n := 2048) (φ := .f32) (val_main_v94 (F := Ideal) x0 x1 x2 x3 x4 x5 x6) fun i => ∑ l, X i l * (N.dh (X i) (T i) l * N.pre l) :=
  fun i => (val_main_v94_apply x0 x1 x2 x3 x4 x5 x6 i).trans (sum_from fun k => h.v93.at _ rfl)
theorem v95 : IsR (n0 := 2048) (n1 := 1) (φ := .f32) (val_main_v95 (F := Ideal) x0 x1 x2 x3 x4 x5 x6) fun i j => ∑ l, X i l * (N.dh (X i) (T i) l * N.pre l) :=
  fun i j => (val_main_v95_apply x0 x1 x2 x3 x4 x5 x6 (ix2 i j)).trans ((h.v94 _).trans (congrArg (fun k => (((∑ l, X k l * (N.dh (X k) (T k) l * N.pre l)) : ℝ) : EReal)) (Fin.ext (by show i.val * 1 + j.val = i.val; omega))))
theorem v96 : IsR (n0 := 2048) (n1 := 1024) (φ := .f32) (val_main_v96 (F := Ideal) x0) fun i j => rs (X i) :=
  fun i j => (val_main_v96_apply x0 (ix2 i j)).trans (h.v7.at _ rfl)
theorem v97 : IsR (n0 := 2048) (n1 := 1024) (φ := .f32) (val_main_v97 (F := Ideal) x0 x1 x2 x3 x4 x5 x6) fun i j => N.dh (X i) (T i) j * N.pre j * rs (X i) :=
  IsR.mul h.v91 h.v96
theorem v98 : IsR (n0 := 2048) (n1 := 1024) (φ := .f32) (val_main_v98 (F := Ideal) x0 x1 x2 x3 x4 x5 x6) fun i j => N.dO (X i) (T i) j + N.dh (X i) (T i) j * N.pre j * rs (X i) :=
  IsR.add h.v53 h.v97
theorem v99 : IsR (n0 := 2048) (n1 := 1) (φ := .f32) (val_main_v99 (F := Ideal) x0 x1 x2 x3 x4 x5 x6) fun i j => (∑ l, X i l * (N.dh (X i) (T i) l * N.pre l)) * (-(1 / 2) * (rs (X i) / ms (X i))) :=
  IsR.mul h.v95 h.v10
omit h in
theorem v100 : IsR (n0 := 2048) (n1 := 1) (φ := .f32) (val_main_v100 (F := Ideal)) fun i j => (1024 : ℝ) :=
  fun i j => (val_main_v100_apply (ix2 i j)).trans lit1024
theorem v101 : IsR (n0 := 2048) (n1 := 1) (φ := .f32) (val_main_v101 (F := Ideal) x0 x1 x2 x3 x4 x5 x6) fun i j => (∑ l, X i l * (N.dh (X i) (T i) l * N.pre l)) * (-(1 / 2) * (rs (X i) / ms (X i))) / 1024 :=
  IsR.hdiv h.v99 v100 fun _ _ => by norm_num
theorem v102 : Is1 (n := 2048) (φ := .f32) (val_main_v102 (F := Ideal) x0 x1 x2 x3 x4 x5 x6) fun i => (∑ l, X i l * (N.dh (X i) (T i) l * N.pre l)) * (-(1 / 2) * (rs (X i) / ms (X i))) / 1024 :=
  fun i => (val_main_v102_apply x0 x1 x2 x3 x4 x5 x6 i).trans ((sum_from fun k => h.v101.at _ rfl).trans (congrArg Real.toEReal (Fin.sum_univ_one _)))
theorem v103 : IsR (n0 := 2048) (n1 := 1024) (φ := .f32) (val_main_v103 (F := Ideal) x0 x1 x2 x3 x4 x5 x6) fun i j => (∑ l, X i l * (N.dh (X i) (T i) l * N.pre l)) * (-(1 / 2) * (rs (X i) / ms (X i))) / 1024 :=
  fun i j => (val_main_v103_apply x0 x1 x2 x3 x4 x5 x6 (ix2 i j)).trans (h.v102 _)
theorem v104 : IsR (n0 := 2048) (n1 := 1024) (φ := .f32) (val_main_v104 (F := Ideal) x0 x1 x2 x3 x4 x5 x6) fun i j => X i j * ((∑ l, X i l * (N.dh (X i) (T i) l * N.pre l)) * (-(1 / 2) * (rs (X i) / ms (X i))) / 1024) :=
  IsR.mul h.a0 h.v103
theorem v105 : IsR (n0 := 2048) (n1 := 1024) (φ := .f32) (val_main_v105 (F := Ideal) x0 x1 x2 x3 x4 x5 x6) fun i j => N.dO (X i) (T i) j + N.dh (X i) (T i) j * N.pre j * rs (X i) + X i j * ((∑ l, X i l * (N.dh (X i) (T i) l * N.pre l)) * (-(1 / 2) * (rs (X i) / ms (X i))) / 1024) :=
  IsR.add h.v98 h.v104
theorem v106 : IsR (n0 := 2048) (n1 := 1024) (φ := .f32) (val_main_v106 (F := Ideal) x0 x1 x2 x3 x4 x5 x6) fun i j => (∑ l, X i l * (N.dh (X i) (T i) l * N.pre l)) * (-(1 / 2) * (rs (X i) / ms (X i))) / 1024 * X i j :=
  IsR.mul h.v103 h.a0
/-- The input's gradient. -/
theorem v107 : IsR (n0 := 2048) (n1 := 1024) (φ := .f32) (val_main_v107 (F := Ideal) x0 x1 x2 x3 x4 x5 x6) fun i j => N.dx (X i) (T i) j :=
  IsR.of_eq (IsR.add h.v105 h.v106) fun i j => by rw [add_assoc (N.dO (X i) (T i) j), add_assoc (N.dO (X i) (T i) j)]; exact congrArg _ (bwd_terms (X i) N.pre (N.dh (X i) (T i)) j)
/-- The losses of the columns, as one row. -/
theorem v108 : IsR (n0 := 1) (n1 := 1024) (φ := .f32) (val_main_v108 (F := Ideal) x0 x1 x2 x3 x4 x5 x6) fun i j => ∑ r, N.er (X r) (T r) j * N.er (X r) (T r) j :=
  fun i j => (val_main_v108_apply x0 x1 x2 x3 x4 x5 x6 (ix2 i j)).trans (h.v47 _)
/-- The gradient of the input's gain. -/
theorem v109 : IsR (n0 := 1) (n1 := 1024) (φ := .f32) (val_main_v109 (F := Ideal) x0 x1 x2 x3 x4 x5 x6) fun i j => ∑ r, N.dh (X r) (T r) j * hat (X r) j :=
  IsR.of_eq (Y := fun _ j => ∑ r, N.dh (X r) (T r) j * hat (X r) j) (X := fun _ j => ∑ r, hat (X r) j * N.dh (X r) (T r) j) (fun i j => (val_main_v109_apply x0 x1 x2 x3 x4 x5 x6 (ix2 i j)).trans (h.v92 _)) fun i j => Finset.sum_congr rfl fun l _ => mul_comm _ _
/-- The gradient of the output's gain. -/
theorem v110 : IsR (n0 := 1) (n1 := 1024) (φ := .f32) (val_main_v110 (F := Ideal) x0 x1 x2 x3 x4 x5 x6) fun i j => ∑ r, N.dO (X r) (T r) j * hat (N.fo (X r)) j :=
  IsR.of_eq (Y := fun _ j => ∑ r, N.dO (X r) (T r) j * hat (N.fo (X r)) j) (X := fun _ j => ∑ r, hat (N.fo (X r)) j * N.dO (X r) (T r) j) (fun i j => (val_main_v110_apply x0 x1 x2 x3 x4 x5 x6 (ix2 i j)).trans (h.v59 _)) fun i j => Finset.sum_congr rfl fun l _ => mul_comm _ _
/-- The gradient of the gate's weights. -/
theorem v111 : IsR (n0 := 2816) (n1 := 1024) (φ := .f32) (val_main_v111 (F := Ideal) x0 x1 x2 x3 x4 x5 x6) fun i j => ∑ l, N.dg (X l) (T l) i * N.nh (X l) j :=
  fun i j => (val_main_v111_apply x0 x1 x2 x3 x4 x5 x6 (ix2 i j)).trans (h.v84.at _ rfl)
/-- The gradient of the other factor's weights. -/
theorem v112 : IsR (n0 := 2816) (n1 := 1024) (φ := .f32) (val_main_v112 (F := Ideal) x0 x1 x2 x3 x4 x5 x6) fun i j => ∑ l, N.du (X l) (T l) i * N.nh (X l) j :=
  fun i j => (val_main_v112_apply x0 x1 x2 x3 x4 x5 x6 (ix2 i j)).trans (h.v80.at _ rfl)

end Args

end Cert.Ffn
-- ==== Proof.FfnWeights.lean ====
module

public import proofs.«01_k».proof.Proof.FfnArrays
public import proofs.«01_k».proof.Proof.Gen.Kernel2Ideal.Frame

@[expose] public section

set_option maxRecDepth 16384

noncomputable section

/-! The weights' gradients that the two later kernels leave: sums over the rows of products of two arrays. -/

namespace Cert.Ffn

open Cert.Kernel2Ideal Cert.Kernel2Ideal.Gen Idealize.ShloMosaic.TcCoe Idealize.SL.Sem
open Idealize.ShloMosaic hiding ix2 ix3 ix4
open Idealize.ShloMosaic.ValueIdx
open scoped BigOperators

/-- A block's row among the weights' rows. -/
def wrow (t : Fin 11) (i : Fin 256) : Fin 2816 := ⟨t.val * 256 + i.val, by omega⟩

/-- The sums over the rows of the products of a column of one array and a column of another. -/
def wsum {n : Nat} (D : Fin 2048 → Fin n → ℝ) (H : Fin 2048 → Row) (k : Fin n) (j : Fin 1024) : ℝ := ∑ l, D l k * H l j

section
variable {v : Vec Ideal S2048x256 .bf16} {w : Vec Ideal S2048x1024 .bf16} {D : Fin 2048 → Fin 256 → ℝ} {H : Fin 2048 → Row}

/-- A whole block, loaded. -/
theorem ld_whole {n0 n1 : Nat} {x : Vec Ideal ⟨2, ![n0, n1]⟩ .bf16} {X : Fin n0 → Fin n1 → ℝ} (h : IsR (φ := .bf16) x X)
    (inb : ∀ k, (![0, 0] : Fin 2 → Nat) k + (![n0, n1] : Fin 2 → Nat) k ≤ (⟨2, ![n0, n1]⟩ : Shape).size k) (i : Fin n0) (j : Fin n1) :
    View.ld (Val := Elt Ideal) x (Rect.unit (s := ⟨2, ![n0, n1]⟩) ![0, 0] ![n0, n1] inb) (ix2 (n0 := n0) (n1 := n1) i j) = (X i j : EReal) :=
  (ld_at x _ (fun i => i) (fun j => j) (fun _ => (Nat.zero_add _).symm) (fun _ => (Nat.zero_add _).symm) i j).trans (h i j)

/-- A block stored whole. -/
theorem st_whole {p : FVec Ideal S256x1024 .f32} {Y : Fin 256 → Row} (h : IsR p Y) (a : Fin 256) (b : Fin 1024) :
    View.canon (Val := Elt Ideal) (e := .f32) [⟨Rect.unit (s := S256x1024) ![0, 0] S256x1024.size inb_S256x1024_S256x1024_0_0, p⟩] (ix2 a b) = (Y a b : EReal) := by
  refine head_at (e := .f32) (fun y : S256x1024.Idx => ((Y (y 0) (y 1) : ℝ) : EReal)) inb_S256x1024_S256x1024_0_0 _ _ ?_ (ix2 a b)
  exact piece_at (Y := Y) (fun i => i) (fun j => j) h inb_S256x1024_S256x1024_0_0 (fun _ => (Nat.zero_add _).symm) fun _ => (Nat.zero_add _).symm

/-- A block of the gradient of the gate's weights. -/
theorem k1_pay2_at (h : IsR (φ := .bf16) v D) (k : IsR (φ := .bf16) w H) : IsR (k1_pay2 (F := Ideal) w v) (wsum D H) :=
  h.cast.tn k.cast

/-- A block of the gradient of the other factor's weights. -/
theorem k1_pay4_at (h : IsR (φ := .bf16) v D) (k : IsR (φ := .bf16) w H) : IsR (k1_pay4 (F := Ideal) w v) (wsum D H) :=
  h.cast.tn k.cast

/-- A block of the gradient of the last weights. -/
theorem k2_pay1_at (h : IsR (φ := .bf16) v D) (k : IsR (φ := .bf16) w H) : IsR (k2_pay1 (F := Ideal) w v) (wsum D H) :=
  h.cast.tn k.cast

end

variable {V : (c : Dev nD) → (b : Ref sig .tc) → Buf (Elt Ideal) ((c : Thread nD τ).loc b)} {c : Dev nD} {D : Fin 2048 → Fin 2816 → ℝ} {H : Fin 2048 → Row}

theorem wnd1_0 : ∀ t : Fin cfg1.N, win1_0.index t = ![0, t.val] := (by decide +kernel : ∀ t : Fin grid1.N, win1_0.index t = ![0, t.val])
theorem wnd1_2 : ∀ t : Fin cfg1.N, win1_2.index t = ![0, 0] := (by decide +kernel : ∀ t : Fin grid1.N, win1_2.index t = ![0, 0])
theorem wnd1_3 : ∀ t : Fin cfg1.N, win1_3.index t = ![t.val, 0] := (by decide +kernel : ∀ t : Fin grid1.N, win1_3.index t = ![t.val, 0])
theorem wnd1_1 : ∀ t : Fin cfg1.N, win1_1.index t = ![0, t.val] := (by decide +kernel : ∀ t : Fin grid1.N, win1_1.index t = ![0, t.val])
theorem wnd1_4 : ∀ t : Fin cfg1.N, win1_4.index t = ![t.val, 0] := (by decide +kernel : ∀ t : Fin grid1.N, win1_4.index t = ![t.val, 0])
theorem wnd2_0 : ∀ t : Fin cfg2.N, win2_0.index t = ![0, t.val] := (by decide +kernel : ∀ t : Fin grid2.N, win2_0.index t = ![0, t.val])
theorem wnd2_1 : ∀ t : Fin cfg2.N, win2_1.index t = ![0, 0] := (by decide +kernel : ∀ t : Fin grid2.N, win2_1.index t = ![0, 0])
theorem wnd2_2 : ∀ t : Fin cfg2.N, win2_2.index t = ![t.val, 0] := (by decide +kernel : ∀ t : Fin grid2.N, win2_2.index t = ![t.val, 0])

/-- The blocks that a point reads for the gradient of the gate's weights. -/
theorem in1_3 (hD : IsR (n0 := 2048) (n1 := 2816) (φ := .bf16) (V c main_v7_2) D) (t : Fin cfg1.N) :
    IsR (n0 := 2048) (n1 := 256) (φ := .bf16) (iblk1 V c 0 t) fun l k => D l (wrow t k) := fun i j => by
  refine Eq.trans ?_ (hD i (wrow t j))
  blk_simp [iblk1, wnd1_0]
  refine congrArg (V c main_v7_2) ?_
  funext x
  match x with
  | 0 => apply Fin.ext; blk_simp [wnd1_0] <;> rfl
  | 1 => apply Fin.ext; blk_simp [wnd1_0] <;> rfl

/-- The whole array that a point reads for the gradient of the gate's weights. -/
theorem all1_3 (hH : IsR (n0 := 2048) (n1 := 1024) (φ := .bf16) (V c main_v7_0) H) (t : Fin cfg1.N) :
    IsR (n0 := 2048) (n1 := 1024) (φ := .bf16) (iblk1 V c 2 t) H := fun i j => by
  refine Eq.trans ?_ (hH i j)
  blk_simp [iblk1, wnd1_2]
  refine congrArg (V c main_v7_0) ?_
  funext x
  match x with
  | 0 => apply Fin.ext; blk_simp [wnd1_2] <;> rfl
  | 1 => apply Fin.ext; blk_simp [wnd1_2] <;> rfl

/-- A point's block of the gradient of the gate's weights. -/
theorem blk1_3 (hD : IsR (n0 := 2048) (n1 := 2816) (φ := .bf16) (V c main_v7_2) D) (hH : IsR (n0 := 2048) (n1 := 1024) (φ := .bf16) (V c main_v7_0) H) (t : Fin cfg1.N) :
    IsR (n0 := 256) (n1 := 1024) (φ := .f32) (out1_3 (iblk1 V c 0 t) (iblk1 V c 1 t) (iblk1 V c 2 t)) fun i => wsum D H (wrow t i) := by
  have h := k1_pay2_at (ld_whole (in1_3 hD t) inb_S2048x256_S2048x256_0_0) (ld_whole (all1_3 hH t) inb_S2048x1024_S2048x1024_0_0)
  intro a b
  unfold out1_3
  exact st_whole h a b

/-- The array of the gradient of the gate's weights. -/
theorem grad1_3 (hD : IsR (n0 := 2048) (n1 := 2816) (φ := .bf16) (V c main_v7_2) D) (hH : IsR (n0 := 2048) (n1 := 1024) (φ := .bf16) (V c main_v7_0) H) :
    IsR (n0 := 2816) (n1 := 1024) (φ := .f32) ((dat1 V c).arrAt 3 cfg1.N) (wsum D H) := by
  have e : (dat1 V c).arrAt 3 cfg1.N = fun y : (⟨2, ![2816, 1024]⟩ : Shape).Idx => ((wsum D H (y 0) (y 1) : ℝ) : EReal) := by
    refine (dat1 V c).arrAt_eq_of_covers 3 _ (by decide +kernel) fun t hf y => ?_
    have e0 : (win1_3.blk t).view.emb y 0 = wrow t (y 0) := by
      apply Fin.ext; blk_simp [wnd1_3] <;> rfl
    have e1 : (win1_3.blk t).view.emb y 1 = y 1 := by
      apply Fin.ext; blk_simp [wnd1_3] <;> rfl
    rw [after1_3]
    have k := blk1_3 hD hH t
    generalize out1_3 (iblk1 V c 0 t) (iblk1 V c 1 t) (iblk1 V c 2 t) = o at k ⊢
    refine k.at _ ?_
    exact congr (congrArg (wsum D H) e0).symm e1.symm
  rw [e]
  exact fun i j => rfl

/-- The blocks that a point reads for the gradient of the other factor's weights. -/
theorem in1_4 (hD : IsR (n0 := 2048) (n1 := 2816) (φ := .bf16) (V c main_v7_3) D) (t : Fin cfg1.N) :
    IsR (n0 := 2048) (n1 := 256) (φ := .bf16) (iblk1 V c 1 t) fun l k => D l (wrow t k) := fun i j => by
  refine Eq.trans ?_ (hD i (wrow t j))
  blk_simp [iblk1, wnd1_1]
  refine congrArg (V c main_v7_3) ?_
  funext x
  match x with
  | 0 => apply Fin.ext; blk_simp [wnd1_1] <;> rfl
  | 1 => apply Fin.ext; blk_simp [wnd1_1] <;> rfl

/-- The whole array that a point reads for the gradient of the other factor's weights. -/
theorem all1_4 (hH : IsR (n0 := 2048) (n1 := 1024) (φ := .bf16) (V c main_v7_0) H) (t : Fin cfg1.N) :
    IsR (n0 := 2048) (n1 := 1024) (φ := .bf16) (iblk1 V c 2 t) H := fun i j => by
  refine Eq.trans ?_ (hH i j)
  blk_simp [iblk1, wnd1_2]
  refine congrArg (V c main_v7_0) ?_
  funext x
  match x with
  | 0 => apply Fin.ext; blk_simp [wnd1_2] <;> rfl
  | 1 => apply Fin.ext; blk_simp [wnd1_2] <;> rfl

/-- A point's block of the gradient of the other factor's weights. -/
theorem blk1_4 (hD : IsR (n0 := 2048) (n1 := 2816) (φ := .bf16) (V c main_v7_3) D) (hH : IsR (n0 := 2048) (n1 := 1024) (φ := .bf16) (V c main_v7_0) H) (t : Fin cfg1.N) :
    IsR (n0 := 256) (n1 := 1024) (φ := .f32) (out1_4 (iblk1 V c 0 t) (iblk1 V c 1 t) (iblk1 V c 2 t)) fun i => wsum D H (wrow t i) := by
  have h := k1_pay4_at (ld_whole (in1_4 hD t) inb_S2048x256_S2048x256_0_0) (ld_whole (all1_4 hH t) inb_S2048x1024_S2048x1024_0_0)
  intro a b
  unfold out1_4
  exact st_whole h a b

/-- The array of the gradient of the other factor's weights. -/
theorem grad1_4 (hD : IsR (n0 := 2048) (n1 := 2816) (φ := .bf16) (V c main_v7_3) D) (hH : IsR (n0 := 2048) (n1 := 1024) (φ := .bf16) (V c main_v7_0) H) :
    IsR (n0 := 2816) (n1 := 1024) (φ := .f32) ((dat1 V c).arrAt 4 cfg1.N) (wsum D H) := by
  have e : (dat1 V c).arrAt 4 cfg1.N = fun y : (⟨2, ![2816, 1024]⟩ : Shape).Idx => ((wsum D H (y 0) (y 1) : ℝ) : EReal) := by
    refine (dat1 V c).arrAt_eq_of_covers 4 _ (by decide +kernel) fun t hf y => ?_
    have e0 : (win1_4.blk t).view.emb y 0 = wrow t (y 0) := by
      apply Fin.ext; blk_simp [wnd1_4] <;> rfl
    have e1 : (win1_4.blk t).view.emb y 1 = y 1 := by
      apply Fin.ext; blk_simp [wnd1_4] <;> rfl
    rw [after1_4]
    have k := blk1_4 hD hH t
    generalize out1_4 (iblk1 V c 0 t) (iblk1 V c 1 t) (iblk1 V c 2 t) = o at k ⊢
    refine k.at _ ?_
    exact congr (congrArg (wsum D H) e0).symm e1.symm
  rw [e]
  exact fun i j => rfl

/-- The blocks that a point reads for the gradient of the last weights. -/
theorem in2_2 (hD : IsR (n0 := 2048) (n1 := 2816) (φ := .bf16) (V c main_v7_1) D) (t : Fin cfg2.N) :
    IsR (n0 := 2048) (n1 := 256) (φ := .bf16) (iblk2 V c 0 t) fun l k => D l (wrow t k) := fun i j => by
  refine Eq.trans ?_ (hD i (wrow t j))
  blk_simp [iblk2, wnd2_0]
  refine congrArg (V c main_v7_1) ?_
  funext x
  match x with
  | 0 => apply Fin.ext; blk_simp [wnd2_0] <;> rfl
  | 1 => apply Fin.ext; blk_simp [wnd2_0] <;> rfl

/-- The whole array that a point reads for the gradient of the last weights. -/
theorem all2_2 (hH : IsR (n0 := 2048) (n1 := 1024) (φ := .bf16) (V c main_v7_4) H) (t : Fin cfg2.N) :
    IsR (n0 := 2048) (n1 := 1024) (φ := .bf16) (iblk2 V c 1 t) H := fun i j => by
  refine Eq.trans ?_ (hH i j)
  blk_simp [iblk2, wnd2_1]
  refine congrArg (V c main_v7_4) ?_
  funext x
  match x with
  | 0 => apply Fin.ext; blk_simp [wnd2_1] <;> rfl
  | 1 => apply Fin.ext; blk_simp [wnd2_1] <;> rfl

/-- A point's block of the gradient of the last weights. -/
theorem blk2_2 (hD : IsR (n0 := 2048) (n1 := 2816) (φ := .bf16) (V c main_v7_1) D) (hH : IsR (n0 := 2048) (n1 := 1024) (φ := .bf16) (V c main_v7_4) H) (t : Fin cfg2.N) :
    IsR (n0 := 256) (n1 := 1024) (φ := .f32) (out2_2 (iblk2 V c 0 t) (iblk2 V c 1 t)) fun i => wsum D H (wrow t i) := by
  have h := k2_pay1_at (ld_whole (in2_2 hD t) inb_S2048x256_S2048x256_0_0) (ld_whole (all2_2 hH t) inb_S2048x1024_S2048x1024_0_0)
  intro a b
  unfold out2_2
  exact st_whole h a b

/-- The array of the gradient of the last weights. -/
theorem grad2_2 (hD : IsR (n0 := 2048) (n1 := 2816) (φ := .bf16) (V c main_v7_1) D) (hH : IsR (n0 := 2048) (n1 := 1024) (φ := .bf16) (V c main_v7_4) H) :
    IsR (n0 := 2816) (n1 := 1024) (φ := .f32) ((dat2 V c).arrAt 2 cfg2.N) (wsum D H) := by
  have e : (dat2 V c).arrAt 2 cfg2.N = fun y : (⟨2, ![2816, 1024]⟩ : Shape).Idx => ((wsum D H (y 0) (y 1) : ℝ) : EReal) := by
    refine (dat2 V c).arrAt_eq_of_covers 2 _ (by decide +kernel) fun t hf y => ?_
    have e0 : (win2_2.blk t).view.emb y 0 = wrow t (y 0) := by
      apply Fin.ext; blk_simp [wnd2_2] <;> rfl
    have e1 : (win2_2.blk t).view.emb y 1 = y 1 := by
      apply Fin.ext; blk_simp [wnd2_2] <;> rfl
    rw [after2_2]
    have k := blk2_2 hD hH t
    generalize out2_2 (iblk2 V c 0 t) (iblk2 V c 1 t) = o at k ⊢
    refine k.at _ ?_
    exact congr (congrArg (wsum D H) e0).symm e1.symm
  rw [e]
  exact fun i j => rfl

end Cert.Ffn
-- ==== Proof.FfnHost.lean ====
module

public import proofs.«01_k».proof.Proof.FfnRef
public import proofs.«01_k».proof.Proof.FfnWeights
public import Idealize.ShloMosaic.Lib.StableHlo.Run

@[expose] public section

set_option maxRecDepth 16384

noncomputable section

/-! From the arguments to the results: the buffers at the boundaries between the three kernels. -/

namespace Cert.Ffn

open Cert.Kernel2Ideal Cert.Kernel2Ideal.Gen Idealize.ShloMosaic.TcCoe Idealize.SL.Sem
open Idealize.ShloMosaic hiding ix2 ix3 ix4
open Idealize.ShloMosaic.ValueIdx Idealize.ShloMosaic.StableHlo
open scoped BigOperators

variable (m : (ℓ : Loc nD τ sig) → Buf (Elt Ideal) ℓ) (ρ : Dev nD → PrngReg) (c : Dev nD)

/-- The gate's weights as the kernels read them. -/
theorem host2 : V1 m ρ c main_v2 = truncf (F := Ideal) .bf16 (transpose S2816x1024 [1, 0] (m ((c.tc : Thread nD τ).loc main_arg2)) transposes_S1024x2816_S2816x1024_1_0) bitsLt_bf16_f32 := by
  show after hostOps0 (W0 m ρ c) (Proc.devRef .tc main_v2) = _
  after_results_simp

/-- The other factor's weights as the kernels read them. -/
theorem host3 : V1 m ρ c main_v3 = truncf (F := Ideal) .bf16 (transpose S2816x1024 [1, 0] (m ((c.tc : Thread nD τ).loc main_arg3)) transposes_S1024x2816_S2816x1024_1_0) bitsLt_bf16_f32 := by
  show after hostOps0 (W0 m ρ c) (Proc.devRef .tc main_v3) = _
  after_results_simp

/-- The last weights as the kernels read them. -/
theorem host4 : V1 m ρ c main_v4 = truncf (F := Ideal) .bf16 (m ((c.tc : Thread nD τ).loc main_arg4)) bitsLt_bf16_f32 := by
  show after hostOps0 (W0 m ρ c) (Proc.devRef .tc main_v4) = _
  after_results_simp

/-- The input's gain as the kernels read it. -/
theorem host5 : V1 m ρ c main_v5 = broadcastInDim S1x1024 ![1] bcast_S1024_S1x1024_1 (m ((c.tc : Thread nD τ).loc main_arg5)) := by
  show after hostOps0 (W0 m ρ c) (Proc.devRef .tc main_v5) = _
  after_results_simp

/-- The output's gain as the kernels read it. -/
theorem host6 : V1 m ρ c main_v6 = broadcastInDim S1x1024 ![1] bcast_S1024_S1x1024_1 (m ((c.tc : Thread nD τ).loc main_arg6)) := by
  show after hostOps0 (W0 m ρ c) (Proc.devRef .tc main_v6) = _
  after_results_simp

variable {m ρ c} {N : Par} {X T : Fin 2048 → Row}

/-- One device's arguments hold the real numbers of the block. -/
abbrev Holds (m : (ℓ : Loc nD τ sig) → Buf (Elt Ideal) ℓ) (c : Dev nD) (N : Par) (X T : Fin 2048 → Row) : Prop :=
  Args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) N X T

/-- The first kernel's inputs. -/
theorem found (A : Holds m c N X T) : Found0 (V1 m ρ) c N X T where
  h0 := A.a0.via (W1_of m ρ c main_arg0 (by decide))
  h1 := A.a1.via (W1_of m ρ c main_arg1 (by decide))
  h2 := fun i j => (congrFun (host2 m ρ c) (ix2 i j)).trans (A.a2.at _ rfl)
  h3 := fun i j => (congrFun (host3 m ρ c) (ix2 i j)).trans (A.a3.at _ rfl)
  h4 := fun i j => (congrFun (host4 m ρ c) (ix2 i j)).trans (A.a4.at _ rfl)
  h5 := fun i j => (congrFun (host5 m ρ c) (ix2 i j)).trans (A.a5 _)
  h6 := fun i j => (congrFun (host6 m ρ c) (ix2 i j)).trans (A.a6 _)

section
variable (H : Found0 (V1 m ρ) c N X T)
include H

/-- The normalised input, after the first kernel. -/
theorem mid0 : IsR (n0 := 2048) (n1 := 1024) (φ := .bf16) (V2 m ρ c main_v7_0) fun i => N.nh (X i) := (arr7 H).via (W2_arr m ρ c 7)
/-- The hidden units, after the first kernel. -/
theorem mid1 : IsR (n0 := 2048) (n1 := 2816) (φ := .bf16) (V2 m ρ c main_v7_1) fun i => N.ac (X i) := (arr8 H).via (W2_arr m ρ c 8)
/-- The gate's gradient, after the first kernel. -/
theorem mid2 : IsR (n0 := 2048) (n1 := 2816) (φ := .bf16) (V2 m ρ c main_v7_2) fun i => N.dg (X i) (T i) := (arr9 H).via (W2_arr m ρ c 9)
/-- The other factor's gradient, after the first kernel. -/
theorem mid3 : IsR (n0 := 2048) (n1 := 2816) (φ := .bf16) (V2 m ρ c main_v7_3) fun i => N.du (X i) (T i) := (arr10 H).via (W2_arr m ρ c 10)
/-- The gradient before the output's normalisation, after the first kernel. -/
theorem mid4 : IsR (n0 := 2048) (n1 := 1024) (φ := .bf16) (V2 m ρ c main_v7_4) fun i => N.df (X i) (T i) := (arr11 H).via (W2_arr m ρ c 11)

/-- What the first kernel leaves outlives the other two. -/
theorem keep (r : Ref sig .tc) (h1 : ∀ w : Fin cfg1.W, Pipeline.arrRef spec1 w = r → (cfg1.win w).isOut = false)
    (h2 : ∀ w : Fin cfg2.W, Pipeline.arrRef spec2 w = r → (cfg2.win w).isOut = false) :
    W4 m ρ c (Proc.devRef .tc r) = W2 m ρ c (Proc.devRef .tc r) := (W4_of m ρ c r h2).trans (W3_of m ρ c r h1)

/-- The input's gradient at the end. -/
theorem end_dx : IsR (n0 := 2048) (n1 := 1024) (φ := .f32) (W4 m ρ c (Proc.devRef .tc main_v7_5)) fun i => N.dx (X i) (T i) :=
  (arr12 H).via ((keep H main_v7_5 (by decide) (by decide)).trans (W2_arr m ρ c 12))
/-- The columns' losses at the end. -/
theorem end_cols : IsR (n0 := 1) (n1 := 1024) (φ := .f32) (W4 m ρ c (Proc.devRef .tc main_v7_6)) fun _ j => ∑ i, N.er (X i) (T i) j * N.er (X i) (T i) j :=
  (arr13 H).via ((keep H main_v7_6 (by decide) (by decide)).trans (W2_arr m ρ c 13))
/-- The gradient of the input's gain at the end. -/
theorem end_pre : IsR (n0 := 1) (n1 := 1024) (φ := .f32) (W4 m ρ c (Proc.devRef .tc main_v7_7)) fun _ j => ∑ i, N.dh (X i) (T i) j * hat (X i) j :=
  (arr14 H).via ((keep H main_v7_7 (by decide) (by decide)).trans (W2_arr m ρ c 14))
/-- The gradient of the output's gain at the end. -/
theorem end_post : IsR (n0 := 1) (n1 := 1024) (φ := .f32) (W4 m ρ c (Proc.devRef .tc main_v7_8)) fun _ j => ∑ i, N.dO (X i) (T i) j * hat (N.fo (X i)) j :=
  (arr15 H).via ((keep H main_v7_8 (by decide) (by decide)).trans (W2_arr m ρ c 15))
/-- The gradient of the gate's weights at the end. -/
theorem end_gate : IsR (n0 := 2816) (n1 := 1024) (φ := .f32) (W4 m ρ c (Proc.devRef .tc main_v8_0)) (wsum (fun i => N.dg (X i) (T i)) fun i => N.nh (X i)) :=
  (grad1_3 (mid2 H) (mid0 H)).via ((W4_of m ρ c main_v8_0 (by decide)).trans (W3_arr m ρ c 3))
/-- The gradient of the other factor's weights at the end. -/
theorem end_up : IsR (n0 := 2816) (n1 := 1024) (φ := .f32) (W4 m ρ c (Proc.devRef .tc main_v8_1)) (wsum (fun i => N.du (X i) (T i)) fun i => N.nh (X i)) :=
  (grad1_4 (mid3 H) (mid0 H)).via ((W4_of m ρ c main_v8_1 (by decide)).trans (W3_arr m ρ c 4))
/-- The gradient of the last weights at the end. -/
theorem end_down : IsR (n0 := 2816) (n1 := 1024) (φ := .f32) (W4 m ρ c (Proc.devRef .tc main_v9_0)) (wsum (fun i => N.ac (X i)) fun i => N.df (X i) (T i)) :=
  (grad2_2 (V := V3 m ρ) ((mid1 H).via (W3_of m ρ c main_v7_1 (by decide))) ((mid4 H).via (W3_of m ρ c main_v7_4 (by decide)))).via (W4_arr m ρ c 2)

end

end Cert.Ffn

end
-- ==== Proof.FfnFinite.lean ====
module

public import proofs.«01_k».proof.Pre_finite2
public import proofs.«01_k».proof.Proof.Finite

@[expose] public section

set_option maxRecDepth 16384

noncomputable section

/-! What the second precondition says: every entry of every argument is a real number. -/

namespace Cert.Ffn

open Cert.Pre_finite2
open Idealize.ShloMosaic hiding ix2 ix3 ix4
open Idealize.ShloMosaic.ValueIdx
open Cert.Attn (real_of_abs)

/-- The side conditions of the precondition's operations. -/
theorem preFacts : Cert.Pre_finite2.Facts where
  bcast_S_S2048x1024 := by decide +kernel
  reducesTo_S2048x1024_S_d0_1 := by decide +kernel
  h_S_ := by decide +kernel
  bcast_S_S1024x2816 := by decide +kernel
  reducesTo_S1024x2816_S_d0_1 := by decide +kernel
  bcast_S_S2816x1024 := by decide +kernel
  reducesTo_S2816x1024_S_d0_1 := by decide +kernel
  bcast_S_S1024 := by decide +kernel
  reducesTo_S1024_S_d0 := by decide +kernel
  bcast_S_S1 := by decide +kernel
  concatenates_S1_S1_S1_S1_S1_S1_S1_S7_d0 := by decide +kernel

/-- The index of a scalar. -/
def o : S_.Idx := fun x => x.elim0

instance : Subsingleton S_.Idx := ⟨fun _ _ => funext fun x => x.elim0⟩

/-- An array all of whose absolute values lie below the top holds real numbers. -/
theorem real_of_all {s : Shape} {axes : List (Fin s.rank)} (x : FVec Ideal s .f32) (top : FVec Ideal s .f32) (init : IVec S_ 1)
    (h : s.ReducesTo axes S_) (hu : 0 < S_.numel) (htop : top = fun _ => FloatOps.ofBits (F := Ideal) .f32 0x7F800000#32) (j : S_.Idx)
    (e : Host.reduce IntOp.andi (cmpf .olt (Host.absf x) top) init h hu j = 1#1) (i : s.Idx) :
    ((EReal.toReal (x i) : ℝ) : EReal) = x i := by
  subst htop
  exact real_of_abs _ (Host.reduce_andi_all _ _ _ _ _ e i)

/-- Seven bits stacked are all one when their stack is. -/
theorem stack_one (x0 x1 x2 x3 x4 x5 x6 : IVec S_ 1) (hb : S_.BroadcastsInDim S1 (![] : Fin 0 → Fin S1.rank))
    (hc : Shape.Concatenates [S1, S1, S1, S1, S1, S1, S1] S7 0)
    (h : concatenate S7 0 [⟨S1, broadcastInDim S1 ![] hb x0⟩, ⟨S1, broadcastInDim S1 ![] hb x1⟩, ⟨S1, broadcastInDim S1 ![] hb x2⟩,
      ⟨S1, broadcastInDim S1 ![] hb x3⟩, ⟨S1, broadcastInDim S1 ![] hb x4⟩, ⟨S1, broadcastInDim S1 ![] hb x5⟩,
      ⟨S1, broadcastInDim S1 ![] hb x6⟩] hc = fun _ => 1#1) :
    x0 o = 1#1 ∧ x1 o = 1#1 ∧ x2 o = 1#1 ∧ x3 o = 1#1 ∧ x4 o = 1#1 ∧ x5 o = 1#1 ∧ x6 o = 1#1 := by
  have e : ∀ (x : IVec S_ 1) (i : S_.Idx), x i = x o := fun x i => congrArg x (Subsingleton.elim _ _)
  have h0 := congrFun h (ix1 (n0 := 7) 0)
  have h1 := congrFun h (ix1 (n0 := 7) 1)
  have h2 := congrFun h (ix1 (n0 := 7) 2)
  have h3 := congrFun h (ix1 (n0 := 7) 3)
  have h4 := congrFun h (ix1 (n0 := 7) 4)
  have h5 := congrFun h (ix1 (n0 := 7) 5)
  have h6 := congrFun h (ix1 (n0 := 7) 6)
  pointwise at h0 h1 h2 h3 h4 h5 h6
  exact ⟨(e _ _).symm.trans h0, (e _ _).symm.trans h1, (e _ _).symm.trans h2, (e _ _).symm.trans h3,
    (e _ _).symm.trans h4, (e _ _).symm.trans h5, (e _ _).symm.trans h6⟩

/-- The precondition makes every entry of every argument a real number. -/
theorem all_real [Cert.Pre_finite2.Facts] (x t : FVec Ideal S2048x1024 .f32) (g u : FVec Ideal S1024x2816 .f32) (d : FVec Ideal S2816x1024 .f32)
    (p q : FVec Ideal S1024 .f32) (h : Cert.Pre_finite2.fn (F := Ideal) x t g u d p q = fun _ => 1#1) :
    (∀ i, ((EReal.toReal (x i) : ℝ) : EReal) = x i) ∧ (∀ i, ((EReal.toReal (t i) : ℝ) : EReal) = t i)
      ∧ (∀ i, ((EReal.toReal (g i) : ℝ) : EReal) = g i) ∧ (∀ i, ((EReal.toReal (u i) : ℝ) : EReal) = u i)
      ∧ (∀ i, ((EReal.toReal (d i) : ℝ) : EReal) = d i) ∧ (∀ i, ((EReal.toReal (p i) : ℝ) : EReal) = p i)
      ∧ (∀ i, ((EReal.toReal (q i) : ℝ) : EReal) = q i) := by
  unfold Cert.Pre_finite2.fn Cert.Pre_finite2.fn_part1 Cert.Pre_finite2.fn_part2 at h
  dsimp only at h
  obtain ⟨h0, h1, h2, h3, h4, h5, h6⟩ := stack_one _ _ _ _ _ _ _ _ _ h
  exact ⟨real_of_all _ _ _ _ _ rfl _ h0, real_of_all _ _ _ _ _ rfl _ h1, real_of_all _ _ _ _ _ rfl _ h2,
    real_of_all _ _ _ _ _ rfl _ h3, real_of_all _ _ _ _ _ rfl _ h4, real_of_all _ _ _ _ _ rfl _ h5,
    real_of_all _ _ _ _ _ rfl _ h6⟩

end Cert.Ffn

end
-- ==== Proof.FfnAlgebraic.lean ====
module

public import proofs.«01_k».proof.Defs
public import proofs.«01_k».proof.Proof.FfnRun
public import proofs.«01_k».proof.Proof.FfnHost
public import proofs.«01_k».proof.Proof.FfnFinite
public import proofs.«01_k».proof.Proof.Gen.Reference2Ideal.Run
public import Idealize.ShloMosaic.Lib.Quiescent

@[expose] public section

set_option maxRecDepth 16384

noncomputable section

/-! The claims about the second idealized program and its reference, assembled. -/

namespace Cert.Ffn

open Idealize.ShloMosaic.TcCoe Idealize.SL.Sem
open Idealize.ShloMosaic hiding ix2 ix3 ix4
open Idealize.ShloMosaic.ValueIdx
open scoped BigOperators

/-- The array of the given real numbers. -/
def arr {n0 n1 : Nat} (Y : Fin n0 → Fin n1 → ℝ) : FVec Ideal ⟨2, ![n0, n1]⟩ .f32 := fun i => ((Y (i 0) (i 1) : ℝ) : EReal)

/-- An array that holds the given real numbers is the array of them. -/
theorem IsR.eq {n0 n1 : Nat} {v : FVec Ideal ⟨2, ![n0, n1]⟩ .f32} {Y : Fin n0 → Fin n1 → ℝ} (h : IsR v Y) : v = arr Y :=
  funext fun y => h.at y rfl

/-- An index of one axis is its coordinate. -/
theorem ix1_of {n : Nat} (i : (⟨1, ![n]⟩ : Shape).Idx) : i = ix1 (n0 := n) (i 0) := by
  funext x
  match x with
  | 0 => rfl

/-- The parameters of one device as real numbers. -/
def par (m : (ℓ : Loc Cert.Kernel2Ideal.nD Cert.Kernel2Ideal.τ Cert.Kernel2Ideal.sig) → Buf (Elt Ideal) ℓ) (c : Dev Cert.Kernel2Ideal.nD) : Par where
  gate k n := EReal.toReal (m ((c.tc : Thread Cert.Kernel2Ideal.nD Cert.Kernel2Ideal.τ).loc Cert.Kernel2Ideal.main_arg2) (ix2 (n0 := 1024) (n1 := 2816) n k))
  up k n := EReal.toReal (m ((c.tc : Thread Cert.Kernel2Ideal.nD Cert.Kernel2Ideal.τ).loc Cert.Kernel2Ideal.main_arg3) (ix2 (n0 := 1024) (n1 := 2816) n k))
  down k n := EReal.toReal (m ((c.tc : Thread Cert.Kernel2Ideal.nD Cert.Kernel2Ideal.τ).loc Cert.Kernel2Ideal.main_arg4) (ix2 (n0 := 2816) (n1 := 1024) k n))
  pre n := EReal.toReal (m ((c.tc : Thread Cert.Kernel2Ideal.nD Cert.Kernel2Ideal.τ).loc Cert.Kernel2Ideal.main_arg5) (ix1 (n0 := 1024) n))
  post n := EReal.toReal (m ((c.tc : Thread Cert.Kernel2Ideal.nD Cert.Kernel2Ideal.τ).loc Cert.Kernel2Ideal.main_arg6) (ix1 (n0 := 1024) n))

/-- The rows of one device as real numbers. -/
def rows (m : (ℓ : Loc Cert.Kernel2Ideal.nD Cert.Kernel2Ideal.τ Cert.Kernel2Ideal.sig) → Buf (Elt Ideal) ℓ) (c : Dev Cert.Kernel2Ideal.nD) (i : Fin 2048) : Row := fun n =>
  EReal.toReal (m ((c.tc : Thread Cert.Kernel2Ideal.nD Cert.Kernel2Ideal.τ).loc Cert.Kernel2Ideal.main_arg0) (ix2 (n0 := 2048) (n1 := 1024) i n))

/-- The targets of one device as real numbers. -/
def targets (m : (ℓ : Loc Cert.Kernel2Ideal.nD Cert.Kernel2Ideal.τ Cert.Kernel2Ideal.sig) → Buf (Elt Ideal) ℓ) (c : Dev Cert.Kernel2Ideal.nD) (i : Fin 2048) : Row := fun n =>
  EReal.toReal (m ((c.tc : Thread Cert.Kernel2Ideal.nD Cert.Kernel2Ideal.τ).loc Cert.Kernel2Ideal.main_arg1) (ix2 (n0 := 2048) (n1 := 1024) i n))

/-- Under the precondition one device's arguments hold real numbers. -/
theorem inputs [Cert.Pre_finite2.Facts] (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) : Holds m c (par m c) (rows m c) (targets m c) := by
  obtain ⟨h0, h1, h2, h3, h4, h5, h6⟩ := all_real _ _ _ _ _ _ _ (h c)
  exact ⟨fun i j => (h0 (ix2 i j)).symm, fun i j => (h1 (ix2 i j)).symm, fun i j => (h2 (ix2 i j)).symm, fun i j => (h3 (ix2 i j)).symm,
    fun i j => (h4 (ix2 i j)).symm, fun i => (h5 i).symm.trans (congrArg (fun y => ((EReal.toReal (m ((c.tc : Thread Cert.Kernel2Ideal.nD Cert.Kernel2Ideal.τ).loc Cert.Kernel2Ideal.main_arg5) y) : ℝ) : EReal)) (ix1_of i)),
    fun i => (h6 i).symm.trans (congrArg (fun y => ((EReal.toReal (m ((c.tc : Thread Cert.Kernel2Ideal.nD Cert.Kernel2Ideal.τ).loc Cert.Kernel2Ideal.main_arg6) y) : ℝ) : EReal)) (ix1_of i))⟩

/-- The reference's frame. -/
theorem frame_ref : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

/-- The idealized kernels compute the reference's gradients on finite inputs. -/
theorem algebraic [Cert.Pre_finite2.Facts] : Cert.algebraic_Kernel2Ideal_Reference2Ideal_pre_finite2 := by
  intro m g m' g' hpre hargs
  refine ⟨fun c => arr fun i => (par m c).dx (rows m c i) (targets m c i),
    fun c => arr fun _ j => ∑ i, (par m c).er (rows m c i) (targets m c i) j * (par m c).er (rows m c i) (targets m c i) j,
    fun c => arr fun _ j => ∑ i, (par m c).dh (rows m c i) (targets m c i) j * hat (rows m c i) j,
    fun c => arr fun _ j => ∑ i, (par m c).dO (rows m c i) (targets m c i) j * hat ((par m c).fo (rows m c i)) j,
    fun c => arr (wsum (fun i => (par m c).dg (rows m c i) (targets m c i)) fun i => (par m c).nh (rows m c i)),
    fun c => arr (wsum (fun i => (par m c).du (rows m c i) (targets m c i)) fun i => (par m c).nh (rows m c i)),
    fun c => arr (wsum (fun i => (par m c).ac (rows m c i)) fun i => (par m c).df (rows m c i) (targets m c i)), ?_, ?_⟩
  · refine (θ_run Cert.Kernel2Ideal.defs _ _).mono (fun r h c => ?_) (ends (F := Ideal) m g)
    have H := found (ρ := g) (inputs m hpre c)
    exact ⟨(ends_at m g (h c) (by decide)).trans (end_dx H).eq, (ends_at m g (h c) (by decide)).trans (end_cols H).eq,
      (ends_at m g (h c) (by decide)).trans (end_pre H).eq, (ends_at m g (h c) (by decide)).trans (end_post H).eq,
      (ends_at m g (h c) (by decide)).trans (end_gate H).eq, (ends_at m g (h c) (by decide)).trans (end_up H).eq,
      (ends_at m g (h c) (by decide)).trans (end_down H).eq,
      (ends_at m g (h c) (by decide)).trans (Cert.Kernel2Ideal.Gen.W4_main_arg0 m g c),
      (ends_at m g (h c) (by decide)).trans (Cert.Kernel2Ideal.Gen.W4_main_arg1 m g c),
      (ends_at m g (h c) (by decide)).trans (Cert.Kernel2Ideal.Gen.W4_main_arg2 m g c),
      (ends_at m g (h c) (by decide)).trans (Cert.Kernel2Ideal.Gen.W4_main_arg3 m g c),
      (ends_at m g (h c) (by decide)).trans (Cert.Kernel2Ideal.Gen.W4_main_arg4 m g c),
      (ends_at m g (h c) (by decide)).trans (Cert.Kernel2Ideal.Gen.W4_main_arg5 m g c),
      (ends_at m g (h c) (by decide)).trans (Cert.Kernel2Ideal.Gen.W4_main_arg6 m g c)⟩
  · refine (θ_run Cert.Reference2Ideal.defs _ _).mono (fun r h c => ?_) (Cert.Reference2Ideal.Value.run (F := Ideal) m' g')
    have A := inputs m hpre c
    obtain ⟨a0, a1, a2, a3, a4, a5, a6⟩ := hargs c
    have B : Args (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))
        (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))
        (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5))
        (m' ((c.tc : Thread Cert.Reference2Ideal.nD Cert.Reference2Ideal.τ).loc Cert.Reference2Ideal.main_arg6)) (par m c) (rows m c) (targets m c) :=
      ⟨A.a0.via a0, A.a1.via a1, A.a2.via a2, A.a3.via a3, A.a4.via a4, fun i => (congrFun a5 i).trans (A.a5 i), fun i => (congrFun a6 i).trans (A.a6 i)⟩
    obtain ⟨h0, h1, h2, h3, h4, h5, h6, hr⟩ := h c
    exact ⟨(h0.trans (Cert.Reference2Ideal.Read.val_main_v107_eq (StableHlo.launchContents m' c))).trans B.v107.eq,
      (h1.trans (Cert.Reference2Ideal.Read.val_main_v108_eq (StableHlo.launchContents m' c))).trans B.v108.eq,
      (h2.trans (Cert.Reference2Ideal.Read.val_main_v109_eq (StableHlo.launchContents m' c))).trans B.v109.eq,
      (h3.trans (Cert.Reference2Ideal.Read.val_main_v110_eq (StableHlo.launchContents m' c))).trans B.v110.eq,
      (h4.trans (Cert.Reference2Ideal.Read.val_main_v111_eq (StableHlo.launchContents m' c))).trans B.v111.eq,
      (h5.trans (Cert.Reference2Ideal.Read.val_main_v112_eq (StableHlo.launchContents m' c))).trans B.v112.eq,
      (h6.trans (Cert.Reference2Ideal.Read.val_main_v75_eq (StableHlo.launchContents m' c))).trans B.v75.eq, hr⟩

end Cert.Ffn

end
-- ==== Proof.WgradIn.lean ====
module

public import proofs.«01_k».proof.Defs
public import proofs.«01_k».proof.Proof.FfnChain
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.Quiescent

@[expose] public section

set_option maxRecDepth 16384

noncomputable section

/-! The gradient of the input projection's weights. -/

namespace Cert.WgradIn

open Cert.Kernel3Ideal Cert.Kernel3Ideal.Gen Idealize.ShloMosaic.TcCoe Idealize.SL.Sem
open Idealize.ShloMosaic hiding ix2 ix3 ix4
open Idealize.ShloMosaic.ValueIdx
open Cert.Ffn (ld_at)
open scoped BigOperators

/-- The gradient of the input projection's weights: the sums over the rows of the products of the two arrays' entries. -/
def grad (x0 : Vec Ideal S2048x1024 .bf16) (x1 : Vec Ideal S2048x2560 .bf16) : FVec Ideal S4x1024x640 .f32 := fun y =>
  ∑ l : Fin 2048, (fun a b : EReal => a * b) (x0 (ix2 (n0 := 2048) (n1 := 1024) l ⟨(y 1).val, by have := (y 0).isLt; have := (y 1).isLt; have := (y 2).isLt; have : (y 0).val < 4 := (y 0).isLt; have : (y 1).val < 1024 := (y 1).isLt; have : (y 2).val < 640 := (y 2).isLt; omega⟩))
    (x1 (ix2 (n0 := 2048) (n1 := 2560) l ⟨(y 0).val * 640 + (y 2).val, by have := (y 0).isLt; have := (y 1).isLt; have := (y 2).isLt; have : (y 0).val < 4 := (y 0).isLt; have : (y 1).val < 1024 := (y 1).isLt; have : (y 2).val < 640 := (y 2).isLt; omega⟩))

/-- A point's product. -/
theorem pay_at (v : Vec Ideal S2048x1024 .bf16) (w : Vec Ideal S2048x640 .bf16) (i : Fin 1024) (j : Fin 640) :
    (k0_pay1 (F := Ideal) v w) (ix2 (n0 := 1024) (n1 := 640) i j)
      = ∑ l : Fin 2048, (fun a b : EReal => a * b) (v (ix2 (n0 := 2048) (n1 := 1024) l i)) (w (ix2 (n0 := 2048) (n1 := 640) l j)) := by
  unfold k0_pay1
  pointwise
  rfl

theorem wnd0 : ∀ t : Fin cfg0.N, win0_0.index t = ![0, 0] := (by decide +kernel : ∀ t : Fin grid0.N, win0_0.index t = ![0, 0])
theorem wnd1 : ∀ t : Fin cfg0.N, win0_1.index t = ![0, t.val] := (by decide +kernel : ∀ t : Fin grid0.N, win0_1.index t = ![0, t.val])
theorem wnd2 : ∀ t : Fin cfg0.N, win0_2.index t = ![t.val, 0, 0] := (by decide +kernel : ∀ t : Fin grid0.N, win0_2.index t = ![t.val, 0, 0])

variable (m : (ℓ : Loc nD τ sig) → Buf (Elt Ideal) ℓ) (c : Dev nD)

/-- A point's block of the first array. -/
theorem in0 (t : Fin cfg0.N) (i : Fin 2048) (j : Fin 1024) (y : S2048x1024.Idx) (h0 : (y 0).val = i.val) (h1 : (y 1).val = j.val) :
    (iblk m c 0 t : Vec Ideal S2048x1024 .bf16) (ix2 (n0 := 2048) (n1 := 1024) i j) = m ((c.tc : Thread nD τ).loc main_arg0) y := by
  blk_simp [iblk, wnd0]
  refine congrArg (m ((c.tc : Thread nD τ).loc main_arg0)) ?_
  funext x
  match x with
  | 0 => apply Fin.ext; refine Eq.trans ?_ h0.symm; blk_simp [wnd0] <;> rfl
  | 1 => apply Fin.ext; refine Eq.trans ?_ h1.symm; blk_simp [wnd0] <;> rfl

/-- A point's block of the second array. -/
theorem in1 (t : Fin cfg0.N) (i : Fin 2048) (j : Fin 640) (y : S2048x2560.Idx) (h0 : (y 0).val = i.val) (h1 : (y 1).val = t.val * 640 + j.val) :
    (iblk m c 1 t : Vec Ideal S2048x640 .bf16) (ix2 (n0 := 2048) (n1 := 640) i j) = m ((c.tc : Thread nD τ).loc main_arg1) y := by
  blk_simp [iblk, wnd1]
  refine congrArg (m ((c.tc : Thread nD τ).loc main_arg1)) ?_
  funext x
  match x with
  | 0 => apply Fin.ext; refine Eq.trans ?_ h0.symm; blk_simp [wnd1] <;> rfl
  | 1 => apply Fin.ext; refine Eq.trans ?_ h1.symm; blk_simp [wnd1] <;> rfl

/-- What a point leaves, at any index of the array under the block's. -/
theorem out_at (t : Fin cfg0.N) (y : S1x1024x640.Idx) (z : S4x1024x640.Idx) (h0 : (z 0).val = t.val) (h1 : (z 1).val = (y 1).val) (h2 : (z 2).val = (y 2).val) :
    out0_2 (F := Ideal) (iblk m c 0 t) (iblk m c 1 t) y = grad (m ((c.tc : Thread nD τ).loc main_arg0)) (m ((c.tc : Thread nD τ).loc main_arg1)) z := by
  have e : out0_2 (F := Ideal) (iblk m c 0 t) (iblk m c 1 t) y
      = Cert.Kernel3Ideal.Value.E2 (View.ld (iblk m c 0 t : Vec Ideal S2048x1024 .bf16) r0_0) (View.ld (iblk m c 1 t : Vec Ideal S2048x640 .bf16) r0_1) y := Cert.Kernel3Ideal.Value.canon2_eq _ _ y
  rw [e]
  refine (congrArg _ (?_ : Cert.Kernel3Ideal.Value.ix2_0 y = ix2 (n0 := 1024) (n1 := 640) ⟨(y 1).val, (y 1).isLt⟩ ⟨(y 2).val, (y 2).isLt⟩)).trans ((pay_at _ _ _ _).trans ?_)
  · funext x
    match x with
    | 0 => rfl
    | 1 => rfl
  refine Finset.sum_congr rfl fun l _ => congrArg₂ (fun a b : EReal => a * b) ?_ ?_
  · refine (ld_at (e := .bf16) (iblk m c 0 t : Vec Ideal S2048x1024 .bf16) _ (fun i => i) (fun j => j) (fun _ => (Nat.zero_add _).symm) (fun _ => (Nat.zero_add _).symm) l _).trans (in0 m c t l _ _ rfl ?_)
    exact h1
  · refine (ld_at (e := .bf16) (iblk m c 1 t : Vec Ideal S2048x640 .bf16) _ (fun i => i) (fun j => j) (fun _ => (Nat.zero_add _).symm) (fun _ => (Nat.zero_add _).symm) l _).trans (in1 m c t l _ _ rfl ?_)
    show (z 0).val * 640 + (z 2).val = t.val * 640 + (y 2).val; rw [h0, h2]

/-- The array that the call leaves. -/
theorem arr_eq : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have e0 : ((win0_2.blk t).view.emb y 0).val = t.val := by
    have : (y 0).val < 1 := (y 0).isLt
    blk_simp [wnd2]
  have e1 : ((win0_2.blk t).view.emb y 1).val = (y 1).val := by
    blk_simp [wnd2] <;> rfl
  have e2 : ((win0_2.blk t).view.emb y 2).val = (y 2).val := by
    blk_simp [wnd2] <;> rfl
  rw [after0_2]
  have k := out_at m c t
  generalize out0_2 (iblk m c 0 t) (iblk m c 1 t) = o at k ⊢
  generalize grad (m ((c.tc : Thread nD τ).loc main_arg0)) (m ((c.tc : Thread nD τ).loc main_arg1)) = G at k ⊢
  exact k y _ e0 e1 e2

/-- The reference's array. -/
theorem ref_eq (x0 : Vec Ideal S2048x1024 .bf16) (x1 : Vec Ideal S2048x2560 .bf16) : Cert.Reference3Ideal.Read.val_main_v7 (F := Ideal) x0 x1 = grad x0 x1 := by
  funext y
  have y0 : (y 0).val < 4 := (y 0).isLt
  have y1 : (y 1).val < 1024 := (y 1).isLt
  have y2 : (y 2).val < 640 := (y 2).isLt
  refine ((Cert.Reference3Ideal.Read.val_main_v7_apply x0 x1 _).trans ((Cert.Reference3Ideal.Read.val_main_v6_apply x0 x1 _).trans ((Cert.Reference3Ideal.Read.val_main_v5_apply x0 x1 _).trans (Cert.Reference3Ideal.Read.val_main_v4_apply x0 x1 _)))).trans (Finset.sum_congr rfl fun k _ => (mul_comm _ _).trans (congrArg₂ (fun a b : EReal => a * b) (congrArg x0 ?_) (congrArg x1 ?_)))
  · funext x
    match x with
    | 0 => rfl
    | 1 => apply Fin.ext; show (((y 1).val * 4 + (y 0).val) * 640 + (y 2).val) / 2560 = (y 1).val; omega
  · funext x
    match x with
    | 0 => rfl
    | 1 => apply Fin.ext; show (((y 1).val * 4 + (y 0).val) * 640 + (y 2).val) % 2560 = (y 0).val * 640 + (y 2).val; omega

/-- The reference's frame. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The idealized call computes the reference's gradient. -/
theorem algebraic : Cert.algebraic_Kernel3Ideal_Reference3Ideal := by
  intro m g m' g' _ hargs
  refine ⟨fun c => grad (m ((c.tc : Thread nD τ).loc main_arg0)) (m ((c.tc : Thread nD τ).loc main_arg1)), ?_, ?_⟩
  · refine (θ_run Cert.Kernel3Ideal.defs _ _).mono (fun r h c => ?_) (Cert.Kernel3Ideal.Value.run_blocks (F := Ideal) m g)
    exact ⟨(h c).1.trans (arr_eq m c), (h c).2.2⟩
  · refine (θ_run Cert.Reference3Ideal.defs _ _).mono (fun r h c => ?_) (Cert.Reference3Ideal.Value.run (F := Ideal) m' g')
    refine ⟨((h c).1.trans (Cert.Reference3Ideal.Read.val_main_v7_eq _ _)).trans ((ref_eq _ _).trans ?_), (h c).2⟩
    exact congrArg₂ grad (hargs c).1 (hargs c).2

end Cert.WgradIn

end
-- ==== Proof.AdamMath.lean ====
module

public import proofs.«01_k».proof.Defs
public import Idealize.ShloMosaic.Lib.Pipeline.ValueKit

@[expose] public section

noncomputable section

/-! One step of the optimiser, an entry at a time. -/

namespace Cert.Adam

open Idealize.ShloMosaic

/-- The first moment after the step: β₁ · m + (1 − β₁) · g. -/
def stepM (g m : Ideal .f32) : Ideal .f32 :=
  FloatOps.addf (FloatOps.mulf (FloatOps.ofBits .f32 0x3F666666#32) m) (FloatOps.mulf (FloatOps.ofBits .f32 0x3DCCCCCD#32) g)

/-- The second moment after the step: β₂ · v + (1 − β₂) · g². -/
def stepV (g v : Ideal .f32) : Ideal .f32 :=
  FloatOps.addf (FloatOps.mulf (FloatOps.ofBits .f32 0x3F7FBE77#32) v) (FloatOps.mulf (FloatOps.ofBits .f32 0x3A83126F#32) (FloatOps.mulf g g))

/-- The change of the weight: −α · (m̂ / (√v̂ + ε) + λ · w), with the moments' biases divided out. -/
def stepD (w g m v : Ideal .f32) : Ideal .f32 :=
  FloatOps.mulf (FloatOps.ofBits .f32 0xBA83126F#32)
    (FloatOps.addf
      (FloatOps.divf (FloatOps.divf (stepM g m) (FloatOps.ofBits .f32 0x3F26BD02#32))
        (FloatOps.addf (FloatOps.sqrt (FloatOps.divf (stepV g v) (FloatOps.ofBits .f32 0x3C231ACC#32))) (FloatOps.ofBits .f32 0x322BCC77#32)))
      (FloatOps.mulf (FloatOps.ofBits .f32 0x3C23D70A#32) w))

/-- Slot `k`'s entry, or the device's own where the slot is its own. -/
def pick (me : BitVec 32) (k : Nat) (own slot : EReal) : EReal :=
  Scalar.select (Scalar.cmpi .eq me (BitVec.ofNat 32 k)) own slot

/-- The sum of the eight devices' gradients, this one's own read from `own`. -/
def total (me : BitVec 32) (own : EReal) (slots : Fin 8 → EReal) : EReal :=
  ∑ k : Fin 8, pick me k.val own (slots k)

/-- A choice between two arrays, read at an entry. -/
theorem select_apply {s : Shape} (c : BitVec 1) (a b : s.Idx → EReal) (y : s.Idx) :
    Scalar.select c a b y = Scalar.select c (a y) (b y) := by
  unfold Scalar.select
  split <;> rfl

/-- Equality of words is symmetric. -/
theorem cmpi_comm (a b : BitVec 32) : IntOp.cmpi .eq a b = IntOp.cmpi .eq b a := by
  show BitVec.ofBool (a == b) = BitVec.ofBool (b == a)
  rw [BEq.comm]

end Cert.Adam

end
-- ==== Proof.AdamFfn.lean ====
module

public import proofs.«01_k».proof.Defs
public import proofs.«01_k».proof.Proof.AdamMath
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit
public import Idealize.ShloMosaic.Lib.Quiescent

@[expose] public section

set_option maxRecDepth 16384

noncomputable section

/-! The optimiser's step of the feed-forward weights. -/

namespace Cert.AdamFfn

open Cert.Kernel5Ideal Cert.Kernel5Ideal.Gen Idealize.ShloMosaic.TcCoe Idealize.SL.Sem
open Idealize.ShloMosaic
open Cert.Adam (stepM stepV stepD)

theorem zero_off : (![0, 0] : Fin 2 → Nat) = fun _ => 0 := funext fun a => match a with
  | 0 => rfl
  | 1 => rfl

variable (m : (ℓ : Loc nD τ sig) → Buf (Elt Ideal) ℓ) (c : Dev nD)

/-- Window 13's block at a point: the change of the weights of array 1. -/
theorem out_13 (x0 : Vec Ideal S176x1024 .f32) (x1 : Vec Ideal S176x1024 .f32) (x2 : Vec Ideal S176x1024 .f32) (x3 : Vec Ideal S176x1024 .f32) (x4 : Vec Ideal S176x1024 .f32) (x5 : Vec Ideal S176x1024 .f32) (x6 : Vec Ideal S176x1024 .f32) (x7 : Vec Ideal S176x1024 .f32) (x8 : Vec Ideal S176x1024 .f32) (x9 : Vec Ideal S176x1024 .f32) (x10 : Vec Ideal S176x1024 .f32) (x11 : Vec Ideal S176x1024 .f32) : out0_13 (F := Ideal) x0 x1 x2 x3 x4 x5 x6 x7 x8 x9 x10 x11 = fun y => stepD (x0 y) (x3 y) (x6 y) (x9 y) := by
  unfold out0_13
  refine (View.canon_unit_zero (Val := Elt Ideal) zero_off _ _).trans ?_
  rw [View.ld_unit_zero (Val := Elt Ideal) zero_off _ x3, View.ld_unit_zero (Val := Elt Ideal) zero_off _ x0, View.ld_unit_zero (Val := Elt Ideal) zero_off _ x6, View.ld_unit_zero (Val := Elt Ideal) zero_off _ x9]
  rfl

/-- The array: the change of the weights of array 1. -/
theorem arr_13 : (dats m 0 c).arrAt 13 cfg0.N = fun y => stepD ((m ((c.tc : Thread nD τ).loc main_arg0)) y) ((m ((c.tc : Thread nD τ).loc main_arg1)) y) ((m ((c.tc : Thread nD τ).loc main_arg2)) y) ((m ((c.tc : Thread nD τ).loc main_arg3)) y) := by
  refine (dats m 0 c).arrAt_eq_of_covers 13 _ (by decide +kernel) fun t hf y => ?_
  rw [after0_13, out_13]
  rfl

/-- Window 14's block at a point: the first moment of array 1. -/
theorem out_14 (x0 : Vec Ideal S176x1024 .f32) (x1 : Vec Ideal S176x1024 .f32) (x2 : Vec Ideal S176x1024 .f32) (x3 : Vec Ideal S176x1024 .f32) (x4 : Vec Ideal S176x1024 .f32) (x5 : Vec Ideal S176x1024 .f32) (x6 : Vec Ideal S176x1024 .f32) (x7 : Vec Ideal S176x1024 .f32) (x8 : Vec Ideal S176x1024 .f32) (x9 : Vec Ideal S176x1024 .f32) (x10 : Vec Ideal S176x1024 .f32) (x11 : Vec Ideal S176x1024 .f32) : out0_14 (F := Ideal) x0 x1 x2 x3 x4 x5 x6 x7 x8 x9 x10 x11 = fun y => stepM (x3 y) (x6 y) := by
  unfold out0_14
  refine (View.canon_unit_zero (Val := Elt Ideal) zero_off _ _).trans ?_
  rw [View.ld_unit_zero (Val := Elt Ideal) zero_off _ x3, View.ld_unit_zero (Val := Elt Ideal) zero_off _ x6]
  rfl

/-- The array: the first moment of array 1. -/
theorem arr_14 : (dats m 0 c).arrAt 14 cfg0.N = fun y => stepM ((m ((c.tc : Thread nD τ).loc main_arg1)) y) ((m ((c.tc : Thread nD τ).loc main_arg2)) y) := by
  refine (dats m 0 c).arrAt_eq_of_covers 14 _ (by decide +kernel) fun t hf y => ?_
  rw [after0_14, out_14]
  rfl

/-- Window 15's block at a point: the second moment of array 1. -/
theorem out_15 (x0 : Vec Ideal S176x1024 .f32) (x1 : Vec Ideal S176x1024 .f32) (x2 : Vec Ideal S176x1024 .f32) (x3 : Vec Ideal S176x1024 .f32) (x4 : Vec Ideal S176x1024 .f32) (x5 : Vec Ideal S176x1024 .f32) (x6 : Vec Ideal S176x1024 .f32) (x7 : Vec Ideal S176x1024 .f32) (x8 : Vec Ideal S176x1024 .f32) (x9 : Vec Ideal S176x1024 .f32) (x10 : Vec Ideal S176x1024 .f32) (x11 : Vec Ideal S176x1024 .f32) : out0_15 (F := Ideal) x0 x1 x2 x3 x4 x5 x6 x7 x8 x9 x10 x11 = fun y => stepV (x3 y) (x9 y) := by
  unfold out0_15
  refine (View.canon_unit_zero (Val := Elt Ideal) zero_off _ _).trans ?_
  rw [View.ld_unit_zero (Val := Elt Ideal) zero_off _ x3, View.ld_unit_zero (Val := Elt Ideal) zero_off _ x9]
  rfl

/-- The array: the second moment of array 1. -/
theorem arr_15 : (dats m 0 c).arrAt 15 cfg0.N = fun y => stepV ((m ((c.tc : Thread nD τ).loc main_arg1)) y) ((m ((c.tc : Thread nD τ).loc main_arg3)) y) := by
  refine (dats m 0 c).arrAt_eq_of_covers 15 _ (by decide +kernel) fun t hf y => ?_
  rw [after0_15, out_15]
  rfl

/-- Window 17's block at a point: the change of the weights of array 2. -/
theorem out_17 (x0 : Vec Ideal S176x1024 .f32) (x1 : Vec Ideal S176x1024 .f32) (x2 : Vec Ideal S176x1024 .f32) (x3 : Vec Ideal S176x1024 .f32) (x4 : Vec Ideal S176x1024 .f32) (x5 : Vec Ideal S176x1024 .f32) (x6 : Vec Ideal S176x1024 .f32) (x7 : Vec Ideal S176x1024 .f32) (x8 : Vec Ideal S176x1024 .f32) (x9 : Vec Ideal S176x1024 .f32) (x10 : Vec Ideal S176x1024 .f32) (x11 : Vec Ideal S176x1024 .f32) : out0_17 (F := Ideal) x0 x1 x2 x3 x4 x5 x6 x7 x8 x9 x10 x11 = fun y => stepD (x1 y) (x4 y) (x7 y) (x10 y) := by
  unfold out0_17
  refine (View.canon_unit_zero (Val := Elt Ideal) zero_off _ _).trans ?_
  rw [View.ld_unit_zero (Val := Elt Ideal) zero_off _ x4, View.ld_unit_zero (Val := Elt Ideal) zero_off _ x1, View.ld_unit_zero (Val := Elt Ideal) zero_off _ x7, View.ld_unit_zero (Val := Elt Ideal) zero_off _ x10]
  rfl

/-- The array: the change of the weights of array 2. -/
theorem arr_17 : (dats m 0 c).arrAt 17 cfg0.N = fun y => stepD ((m ((c.tc : Thread nD τ).loc main_arg4)) y) ((m ((c.tc : Thread nD τ).loc main_arg5)) y) ((m ((c.tc : Thread nD τ).loc main_arg6)) y) ((m ((c.tc : Thread nD τ).loc main_arg7)) y) := by
  refine (dats m 0 c).arrAt_eq_of_covers 17 _ (by decide +kernel) fun t hf y => ?_
  rw [after0_17, out_17]
  rfl

/-- Window 18's block at a point: the first moment of array 2. -/
theorem out_18 (x0 : Vec Ideal S176x1024 .f32) (x1 : Vec Ideal S176x1024 .f32) (x2 : Vec Ideal S176x1024 .f32) (x3 : Vec Ideal S176x1024 .f32) (x4 : Vec Ideal S176x1024 .f32) (x5 : Vec Ideal S176x1024 .f32) (x6 : Vec Ideal S176x1024 .f32) (x7 : Vec Ideal S176x1024 .f32) (x8 : Vec Ideal S176x1024 .f32) (x9 : Vec Ideal S176x1024 .f32) (x10 : Vec Ideal S176x1024 .f32) (x11 : Vec Ideal S176x1024 .f32) : out0_18 (F := Ideal) x0 x1 x2 x3 x4 x5 x6 x7 x8 x9 x10 x11 = fun y => stepM (x4 y) (x7 y) := by
  unfold out0_18
  refine (View.canon_unit_zero (Val := Elt Ideal) zero_off _ _).trans ?_
  rw [View.ld_unit_zero (Val := Elt Ideal) zero_off _ x4, View.ld_unit_zero (Val := Elt Ideal) zero_off _ x7]
  rfl

/-- The array: the first moment of array 2. -/
theorem arr_18 : (dats m 0 c).arrAt 18 cfg0.N = fun y => stepM ((m ((c.tc : Thread nD τ).loc main_arg5)) y) ((m ((c.tc : Thread nD τ).loc main_arg6)) y) := by
  refine (dats m 0 c).arrAt_eq_of_covers 18 _ (by decide +kernel) fun t hf y => ?_
  rw [after0_18, out_18]
  rfl

/-- Window 19's block at a point: the second moment of array 2. -/
theorem out_19 (x0 : Vec Ideal S176x1024 .f32) (x1 : Vec Ideal S176x1024 .f32) (x2 : Vec Ideal S176x1024 .f32) (x3 : Vec Ideal S176x1024 .f32) (x4 : Vec Ideal S176x1024 .f32) (x5 : Vec Ideal S176x1024 .f32) (x6 : Vec Ideal S176x1024 .f32) (x7 : Vec Ideal S176x1024 .f32) (x8 : Vec Ideal S176x1024 .f32) (x9 : Vec Ideal S176x1024 .f32) (x10 : Vec Ideal S176x1024 .f32) (x11 : Vec Ideal S176x1024 .f32) : out0_19 (F := Ideal) x0 x1 x2 x3 x4 x5 x6 x7 x8 x9 x10 x11 = fun y => stepV (x4 y) (x10 y) := by
  unfold out0_19
  refine (View.canon_unit_zero (Val := Elt Ideal) zero_off _ _).trans ?_
  rw [View.ld_unit_zero (Val := Elt Ideal) zero_off _ x4, View.ld_unit_zero (Val := Elt Ideal) zero_off _ x10]
  rfl

/-- The array: the second moment of array 2. -/
theorem arr_19 : (dats m 0 c).arrAt 19 cfg0.N = fun y => stepV ((m ((c.tc : Thread nD τ).loc main_arg5)) y) ((m ((c.tc : Thread nD τ).loc main_arg7)) y) := by
  refine (dats m 0 c).arrAt_eq_of_covers 19 _ (by decide +kernel) fun t hf y => ?_
  rw [after0_19, out_19]
  rfl

/-- Window 21's block at a point: the change of the weights of array 3. -/
theorem out_21 (x0 : Vec Ideal S176x1024 .f32) (x1 : Vec Ideal S176x1024 .f32) (x2 : Vec Ideal S176x1024 .f32) (x3 : Vec Ideal S176x1024 .f32) (x4 : Vec Ideal S176x1024 .f32) (x5 : Vec Ideal S176x1024 .f32) (x6 : Vec Ideal S176x1024 .f32) (x7 : Vec Ideal S176x1024 .f32) (x8 : Vec Ideal S176x1024 .f32) (x9 : Vec Ideal S176x1024 .f32) (x10 : Vec Ideal S176x1024 .f32) (x11 : Vec Ideal S176x1024 .f32) : out0_21 (F := Ideal) x0 x1 x2 x3 x4 x5 x6 x7 x8 x9 x10 x11 = fun y => stepD (x2 y) (x5 y) (x8 y) (x11 y) := by
  unfold out0_21
  refine (View.canon_unit_zero (Val := Elt Ideal) zero_off _ _).trans ?_
  rw [View.ld_unit_zero (Val := Elt Ideal) zero_off _ x5, View.ld_unit_zero (Val := Elt Ideal) zero_off _ x2, View.ld_unit_zero (Val := Elt Ideal) zero_off _ x8, View.ld_unit_zero (Val := Elt Ideal) zero_off _ x11]
  rfl

/-- The array: the change of the weights of array 3. -/
theorem arr_21 : (dats m 0 c).arrAt 21 cfg0.N = fun y => stepD ((m ((c.tc : Thread nD τ).loc main_arg8)) y) ((m ((c.tc : Thread nD τ).loc main_arg9)) y) ((m ((c.tc : Thread nD τ).loc main_arg10)) y) ((m ((c.tc : Thread nD τ).loc main_arg11)) y) := by
  refine (dats m 0 c).arrAt_eq_of_covers 21 _ (by decide +kernel) fun t hf y => ?_
  rw [after0_21, out_21]
  rfl

/-- Window 22's block at a point: the first moment of array 3. -/
theorem out_22 (x0 : Vec Ideal S176x1024 .f32) (x1 : Vec Ideal S176x1024 .f32) (x2 : Vec Ideal S176x1024 .f32) (x3 : Vec Ideal S176x1024 .f32) (x4 : Vec Ideal S176x1024 .f32) (x5 : Vec Ideal S176x1024 .f32) (x6 : Vec Ideal S176x1024 .f32) (x7 : Vec Ideal S176x1024 .f32) (x8 : Vec Ideal S176x1024 .f32) (x9 : Vec Ideal S176x1024 .f32) (x10 : Vec Ideal S176x1024 .f32) (x11 : Vec Ideal S176x1024 .f32) : out0_22 (F := Ideal) x0 x1 x2 x3 x4 x5 x6 x7 x8 x9 x10 x11 = fun y => stepM (x5 y) (x8 y) := by
  unfold out0_22
  refine (View.canon_unit_zero (Val := Elt Ideal) zero_off _ _).trans ?_
  rw [View.ld_unit_zero (Val := Elt Ideal) zero_off _ x5, View.ld_unit_zero (Val := Elt Ideal) zero_off _ x8]
  rfl

/-- The array: the first moment of array 3. -/
theorem arr_22 : (dats m 0 c).arrAt 22 cfg0.N = fun y => stepM ((m ((c.tc : Thread nD τ).loc main_arg9)) y) ((m ((c.tc : Thread nD τ).loc main_arg10)) y) := by
  refine (dats m 0 c).arrAt_eq_of_covers 22 _ (by decide +kernel) fun t hf y => ?_
  rw [after0_22, out_22]
  rfl

/-- Window 23's block at a point: the second moment of array 3. -/
theorem out_23 (x0 : Vec Ideal S176x1024 .f32) (x1 : Vec Ideal S176x1024 .f32) (x2 : Vec Ideal S176x1024 .f32) (x3 : Vec Ideal S176x1024 .f32) (x4 : Vec Ideal S176x1024 .f32) (x5 : Vec Ideal S176x1024 .f32) (x6 : Vec Ideal S176x1024 .f32) (x7 : Vec Ideal S176x1024 .f32) (x8 : Vec Ideal S176x1024 .f32) (x9 : Vec Ideal S176x1024 .f32) (x10 : Vec Ideal S176x1024 .f32) (x11 : Vec Ideal S176x1024 .f32) : out0_23 (F := Ideal) x0 x1 x2 x3 x4 x5 x6 x7 x8 x9 x10 x11 = fun y => stepV (x5 y) (x11 y) := by
  unfold out0_23
  refine (View.canon_unit_zero (Val := Elt Ideal) zero_off _ _).trans ?_
  rw [View.ld_unit_zero (Val := Elt Ideal) zero_off _ x5, View.ld_unit_zero (Val := Elt Ideal) zero_off _ x11]
  rfl

/-- The array: the second moment of array 3. -/
theorem arr_23 : (dats m 0 c).arrAt 23 cfg0.N = fun y => stepV ((m ((c.tc : Thread nD τ).loc main_arg9)) y) ((m ((c.tc : Thread nD τ).loc main_arg11)) y) := by
  refine (dats m 0 c).arrAt_eq_of_covers 23 _ (by decide +kernel) fun t hf y => ?_
  rw [after0_23, out_23]
  rfl

/-- The reference's frame. -/
theorem frame_ref : Cert.quiescent_Reference5Ideal := fun m ρ _ =>
  (θ_run Cert.Reference5Ideal.defs _ _).mono (fun r h => ⟨fun c => (h c).2.2.2.2.2.2.2.2.2, sem_eq_zero_of_no_sems (by decide) r.2⟩)
    (Cert.Reference5Ideal.Value.run (F := Ideal) m ρ)

/-- The idealized call takes the reference's step. -/
theorem algebraic : Cert.algebraic_Kernel5Ideal_Reference5Ideal := by
  intro m g m' g' _ hargs
  refine ⟨fun c => fun y => stepD ((m ((c.tc : Thread nD τ).loc main_arg0)) y) ((m ((c.tc : Thread nD τ).loc main_arg1)) y) ((m ((c.tc : Thread nD τ).loc main_arg2)) y) ((m ((c.tc : Thread nD τ).loc main_arg3)) y), fun c => fun y => stepM ((m ((c.tc : Thread nD τ).loc main_arg1)) y) ((m ((c.tc : Thread nD τ).loc main_arg2)) y), fun c => fun y => stepV ((m ((c.tc : Thread nD τ).loc main_arg1)) y) ((m ((c.tc : Thread nD τ).loc main_arg3)) y), fun c => fun y => stepD ((m ((c.tc : Thread nD τ).loc main_arg4)) y) ((m ((c.tc : Thread nD τ).loc main_arg5)) y) ((m ((c.tc : Thread nD τ).loc main_arg6)) y) ((m ((c.tc : Thread nD τ).loc main_arg7)) y), fun c => fun y => stepM ((m ((c.tc : Thread nD τ).loc main_arg5)) y) ((m ((c.tc : Thread nD τ).loc main_arg6)) y), fun c => fun y => stepV ((m ((c.tc : Thread nD τ).loc main_arg5)) y) ((m ((c.tc : Thread nD τ).loc main_arg7)) y), fun c => fun y => stepD ((m ((c.tc : Thread nD τ).loc main_arg8)) y) ((m ((c.tc : Thread nD τ).loc main_arg9)) y) ((m ((c.tc : Thread nD τ).loc main_arg10)) y) ((m ((c.tc : Thread nD τ).loc main_arg11)) y), fun c => fun y => stepM ((m ((c.tc : Thread nD τ).loc main_arg9)) y) ((m ((c.tc : Thread nD τ).loc main_arg10)) y), fun c => fun y => stepV ((m ((c.tc : Thread nD τ).loc main_arg9)) y) ((m ((c.tc : Thread nD τ).loc main_arg11)) y), ?_, ?_⟩
  · refine (θ_run Cert.Kernel5Ideal.defs _ _).mono (fun r h c => ?_) (Cert.Kernel5Ideal.Value.run_blocks (F := Ideal) m g)
    exact ⟨(h c).2.1.trans (arr_13 m c), (h c).2.2.1.trans (arr_14 m c), (h c).2.2.2.1.trans (arr_15 m c), (h c).2.2.2.2.2.1.trans (arr_17 m c), (h c).2.2.2.2.2.2.1.trans (arr_18 m c), (h c).2.2.2.2.2.2.2.1.trans (arr_19 m c), (h c).2.2.2.2.2.2.2.2.2.1.trans (arr_21 m c), (h c).2.2.2.2.2.2.2.2.2.2.1.trans (arr_22 m c), (h c).2.2.2.2.2.2.2.2.2.2.2.1.trans (arr_23 m c), (h c).2.2.2.2.2.2.2.2.2.2.2.2⟩
  · refine (θ_run Cert.Reference5Ideal.defs _ _).mono (fun r h c => ?_) (Cert.Reference5Ideal.Value.run (F := Ideal) m' g')
    obtain ⟨e0, e1, e2, e3, e4, e5, e6, e7, e8, e9, e10, e11⟩ := hargs c
    have q0 : Cert.Reference5Ideal.Read.val_main_v23 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = fun y => stepD ((m ((c.tc : Thread nD τ).loc main_arg0)) y) ((m ((c.tc : Thread nD τ).loc main_arg1)) y) ((m ((c.tc : Thread nD τ).loc main_arg2)) y) ((m ((c.tc : Thread nD τ).loc main_arg3)) y) := by
      rw [e0, e1, e2, e3]
      rfl
    have q1 : Cert.Reference5Ideal.Read.val_main_v4 (F := Ideal) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) = fun y => stepM ((m ((c.tc : Thread nD τ).loc main_arg1)) y) ((m ((c.tc : Thread nD τ).loc main_arg2)) y) := by
      rw [e1, e2]
      rfl
    have q2 : Cert.Reference5Ideal.Read.val_main_v10 (F := Ideal) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)) = fun y => stepV ((m ((c.tc : Thread nD τ).loc main_arg1)) y) ((m ((c.tc : Thread nD τ).loc main_arg3)) y) := by
      rw [e1, e3]
      rfl
    have q3 : Cert.Reference5Ideal.Read.val_main_v47 (F := Ideal) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) (m' ((c.tc : Thread Cert.Reference5Ideal.nD Cert.Reference5Ideal.τ).loc Cert.Reference5Ideal.main_arg7)) = fun y => stepD ((m ((c.tc : Thread nD τ).loc main_arg4)) y) ((m ((c.tc : Thread nD τ).loc main_arg5)) y) ((m ((c.tc : Thread nD τ).loc main_arg6)) y) ((m ((c.tc : Thread nD τ).loc main_arg7)) y) := by
      rw [e4, e5, e6, e7]
      rfl
    have q4 : Cert.Reference5Ideal.Read.val_main_v28 (F := Ideal) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg6)) = fun y => stepM ((m ((c.tc : Thread nD τ).loc main_arg5)) y) ((m ((c.tc : Thread nD τ).loc main_arg6)) y) := by
      rw [e5, e6]
      rfl
    have q5 : Cert.Reference5Ideal.Read.val_main_v34 (F := Ideal) (m' ((c.tc : Thread Cert.Reference5Ideal.nD Cert.Reference5Ideal.τ).loc Cert.Reference5Ideal.main_arg5)) (m' ((c.tc : Thread Cert.Reference5Ideal.nD Cert.Reference5Ideal.τ).loc Cert.Reference5Ideal.main_arg7)) = fun y => stepV ((m ((c.tc : Thread nD τ).loc main_arg5)) y) ((m ((c.tc : Thread nD τ).loc main_arg7)) y) := by
      rw [e5, e7]
      rfl
    have q6 : Cert.Reference5Ideal.Read.val_main_v71 (F := Ideal) (m' ((c.tc : Thread Cert.Reference5Ideal.nD Cert.Reference5Ideal.τ).loc Cert.Reference5Ideal.main_arg8)) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10)) (m' ((c.tc : Thread Cert.Reference5Ideal.nD Cert.Reference5Ideal.τ).loc Cert.Reference5Ideal.main_arg11)) = fun y => stepD ((m ((c.tc : Thread nD τ).loc main_arg8)) y) ((m ((c.tc : Thread nD τ).loc main_arg9)) y) ((m ((c.tc : Thread nD τ).loc main_arg10)) y) ((m ((c.tc : Thread nD τ).loc main_arg11)) y) := by
      rw [e8, e9, e10, e11]
      rfl
    have q7 : Cert.Reference5Ideal.Read.val_main_v52 (F := Ideal) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg10)) = fun y => stepM ((m ((c.tc : Thread nD τ).loc main_arg9)) y) ((m ((c.tc : Thread nD τ).loc main_arg10)) y) := by
      rw [e9, e10]
      rfl
    have q8 : Cert.Reference5Ideal.Read.val_main_v58 (F := Ideal) (m' ((c.tc : Thread Cert.Reference5Ideal.nD Cert.Reference5Ideal.τ).loc Cert.Reference5Ideal.main_arg9)) (m' ((c.tc : Thread Cert.Reference5Ideal.nD Cert.Reference5Ideal.τ).loc Cert.Reference5Ideal.main_arg11)) = fun y => stepV ((m ((c.tc : Thread nD τ).loc main_arg9)) y) ((m ((c.tc : Thread nD τ).loc main_arg11)) y) := by
      rw [e9, e11]
      rfl
    exact ⟨((h c).1.trans (Cert.Reference5Ideal.Read.val_main_v23_eq _ _ _ _ )).trans q0, ((h c).2.1.trans (Cert.Reference5Ideal.Read.val_main_v4_eq _ _ )).trans q1, ((h c).2.2.1.trans (Cert.Reference5Ideal.Read.val_main_v10_eq _ _ )).trans q2, ((h c).2.2.2.1.trans (Cert.Reference5Ideal.Read.val_main_v47_eq _ _ _ _ )).trans q3, ((h c).2.2.2.2.1.trans (Cert.Reference5Ideal.Read.val_main_v28_eq _ _ )).trans q4, ((h c).2.2.2.2.2.1.trans (Cert.Reference5Ideal.Read.val_main_v34_eq _ _ )).trans q5, ((h c).2.2.2.2.2.2.1.trans (Cert.Reference5Ideal.Read.val_main_v71_eq _ _ _ _ )).trans q6, ((h c).2.2.2.2.2.2.2.1.trans (Cert.Reference5Ideal.Read.val_main_v52_eq _ _ )).trans q7, ((h c).2.2.2.2.2.2.2.2.1.trans (Cert.Reference5Ideal.Read.val_main_v58_eq _ _ )).trans q8, (h c).2.2.2.2.2.2.2.2.2⟩

end Cert.AdamFfn

end
-- ==== Proof.AdamProj.lean ====
module

public import proofs.«01_k».proof.Defs
public import proofs.«01_k».proof.Proof.AdamMath
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Quiescent

@[expose] public section

set_option maxRecDepth 16384

noncomputable section

/-! The optimiser's step of the projections' weights. -/

namespace Cert.AdamProj

open Cert.Kernel6Ideal Cert.Kernel6Ideal.Gen Idealize.ShloMosaic.TcCoe Idealize.SL.Sem
open Idealize.ShloMosaic
open Cert.Adam (stepM stepV stepD)

theorem zero_off : (![0, 0] : Fin 2 → Nat) = fun _ => 0 := funext fun a => match a with
  | 0 => rfl
  | 1 => rfl

variable (m : (ℓ : Loc nD τ sig) → Buf (Elt Ideal) ℓ) (c : Dev nD)

/-- Window 9's block at a point: the change of the weights of array 1. -/
theorem out_9 (x0 : Vec Ideal S256x640 .f32) (x1 : Vec Ideal S64x1024 .f32) (x2 : Vec Ideal S256x640 .f32) (x3 : Vec Ideal S64x1024 .f32) (x4 : Vec Ideal S256x640 .f32) (x5 : Vec Ideal S64x1024 .f32) (x6 : Vec Ideal S256x640 .f32) (x7 : Vec Ideal S64x1024 .f32) : out0_9 (F := Ideal) x0 x1 x2 x3 x4 x5 x6 x7 = fun y => stepD (x0 y) (x2 y) (x4 y) (x6 y) := by
  unfold out0_9
  refine (View.canon_unit_zero (Val := Elt Ideal) zero_off _ _).trans ?_
  rw [View.ld_unit_zero (Val := Elt Ideal) zero_off _ x2, View.ld_unit_zero (Val := Elt Ideal) zero_off _ x0, View.ld_unit_zero (Val := Elt Ideal) zero_off _ x4, View.ld_unit_zero (Val := Elt Ideal) zero_off _ x6]
  rfl

/-- The array: the change of the weights of array 1. -/
theorem arr_9 : (dats m 0 c).arrAt 9 cfg0.N = fun y => stepD ((m ((c.tc : Thread nD τ).loc main_arg0)) y) ((m ((c.tc : Thread nD τ).loc main_arg1)) y) ((m ((c.tc : Thread nD τ).loc main_arg2)) y) ((m ((c.tc : Thread nD τ).loc main_arg3)) y) := by
  refine (dats m 0 c).arrAt_eq_of_covers 9 _ (by decide +kernel) fun t hf y => ?_
  rw [after0_9, out_9]
  rfl

/-- Window 10's block at a point: the first moment of array 1. -/
theorem out_10 (x0 : Vec Ideal S256x640 .f32) (x1 : Vec Ideal S64x1024 .f32) (x2 : Vec Ideal S256x640 .f32) (x3 : Vec Ideal S64x1024 .f32) (x4 : Vec Ideal S256x640 .f32) (x5 : Vec Ideal S64x1024 .f32) (x6 : Vec Ideal S256x640 .f32) (x7 : Vec Ideal S64x1024 .f32) : out0_10 (F := Ideal) x0 x1 x2 x3 x4 x5 x6 x7 = fun y => stepM (x2 y) (x4 y) := by
  unfold out0_10
  refine (View.canon_unit_zero (Val := Elt Ideal) zero_off _ _).trans ?_
  rw [View.ld_unit_zero (Val := Elt Ideal) zero_off _ x2, View.ld_unit_zero (Val := Elt Ideal) zero_off _ x4]
  rfl

/-- The array: the first moment of array 1. -/
theorem arr_10 : (dats m 0 c).arrAt 10 cfg0.N = fun y => stepM ((m ((c.tc : Thread nD τ).loc main_arg1)) y) ((m ((c.tc : Thread nD τ).loc main_arg2)) y) := by
  refine (dats m 0 c).arrAt_eq_of_covers 10 _ (by decide +kernel) fun t hf y => ?_
  rw [after0_10, out_10]
  rfl

/-- Window 11's block at a point: the second moment of array 1. -/
theorem out_11 (x0 : Vec Ideal S256x640 .f32) (x1 : Vec Ideal S64x1024 .f32) (x2 : Vec Ideal S256x640 .f32) (x3 : Vec Ideal S64x1024 .f32) (x4 : Vec Ideal S256x640 .f32) (x5 : Vec Ideal S64x1024 .f32) (x6 : Vec Ideal S256x640 .f32) (x7 : Vec Ideal S64x1024 .f32) : out0_11 (F := Ideal) x0 x1 x2 x3 x4 x5 x6 x7 = fun y => stepV (x2 y) (x6 y) := by
  unfold out0_11
  refine (View.canon_unit_zero (Val := Elt Ideal) zero_off _ _).trans ?_
  rw [View.ld_unit_zero (Val := Elt Ideal) zero_off _ x2, View.ld_unit_zero (Val := Elt Ideal) zero_off _ x6]
  rfl

/-- The array: the second moment of array 1. -/
theorem arr_11 : (dats m 0 c).arrAt 11 cfg0.N = fun y => stepV ((m ((c.tc : Thread nD τ).loc main_arg1)) y) ((m ((c.tc : Thread nD τ).loc main_arg3)) y) := by
  refine (dats m 0 c).arrAt_eq_of_covers 11 _ (by decide +kernel) fun t hf y => ?_
  rw [after0_11, out_11]
  rfl

/-- Window 13's block at a point: the change of the weights of array 2. -/
theorem out_13 (x0 : Vec Ideal S256x640 .f32) (x1 : Vec Ideal S64x1024 .f32) (x2 : Vec Ideal S256x640 .f32) (x3 : Vec Ideal S64x1024 .f32) (x4 : Vec Ideal S256x640 .f32) (x5 : Vec Ideal S64x1024 .f32) (x6 : Vec Ideal S256x640 .f32) (x7 : Vec Ideal S64x1024 .f32) : out0_13 (F := Ideal) x0 x1 x2 x3 x4 x5 x6 x7 = fun y => stepD (x1 y) (x3 y) (x5 y) (x7 y) := by
  unfold out0_13
  refine (View.canon_unit_zero (Val := Elt Ideal) zero_off _ _).trans ?_
  rw [View.ld_unit_zero (Val := Elt Ideal) zero_off _ x3, View.ld_unit_zero (Val := Elt Ideal) zero_off _ x1, View.ld_unit_zero (Val := Elt Ideal) zero_off _ x5, View.ld_unit_zero (Val := Elt Ideal) zero_off _ x7]
  rfl

/-- The array: the change of the weights of array 2. -/
theorem arr_13 : (dats m 0 c).arrAt 13 cfg0.N = fun y => stepD ((m ((c.tc : Thread nD τ).loc main_arg4)) y) ((m ((c.tc : Thread nD τ).loc main_arg5)) y) ((m ((c.tc : Thread nD τ).loc main_arg6)) y) ((m ((c.tc : Thread nD τ).loc main_arg7)) y) := by
  refine (dats m 0 c).arrAt_eq_of_covers 13 _ (by decide +kernel) fun t hf y => ?_
  rw [after0_13, out_13]
  rfl

/-- Window 14's block at a point: the first moment of array 2. -/
theorem out_14 (x0 : Vec Ideal S256x640 .f32) (x1 : Vec Ideal S64x1024 .f32) (x2 : Vec Ideal S256x640 .f32) (x3 : Vec Ideal S64x1024 .f32) (x4 : Vec Ideal S256x640 .f32) (x5 : Vec Ideal S64x1024 .f32) (x6 : Vec Ideal S256x640 .f32) (x7 : Vec Ideal S64x1024 .f32) : out0_14 (F := Ideal) x0 x1 x2 x3 x4 x5 x6 x7 = fun y => stepM (x3 y) (x5 y) := by
  unfold out0_14
  refine (View.canon_unit_zero (Val := Elt Ideal) zero_off _ _).trans ?_
  rw [View.ld_unit_zero (Val := Elt Ideal) zero_off _ x3, View.ld_unit_zero (Val := Elt Ideal) zero_off _ x5]
  rfl

/-- The array: the first moment of array 2. -/
theorem arr_14 : (dats m 0 c).arrAt 14 cfg0.N = fun y => stepM ((m ((c.tc : Thread nD τ).loc main_arg5)) y) ((m ((c.tc : Thread nD τ).loc main_arg6)) y) := by
  refine (dats m 0 c).arrAt_eq_of_covers 14 _ (by decide +kernel) fun t hf y => ?_
  rw [after0_14, out_14]
  rfl

/-- Window 15's block at a point: the second moment of array 2. -/
theorem out_15 (x0 : Vec Ideal S256x640 .f32) (x1 : Vec Ideal S64x1024 .f32) (x2 : Vec Ideal S256x640 .f32) (x3 : Vec Ideal S64x1024 .f32) (x4 : Vec Ideal S256x640 .f32) (x5 : Vec Ideal S64x1024 .f32) (x6 : Vec Ideal S256x640 .f32) (x7 : Vec Ideal S64x1024 .f32) : out0_15 (F := Ideal) x0 x1 x2 x3 x4 x5 x6 x7 = fun y => stepV (x3 y) (x7 y) := by
  unfold out0_15
  refine (View.canon_unit_zero (Val := Elt Ideal) zero_off _ _).trans ?_
  rw [View.ld_unit_zero (Val := Elt Ideal) zero_off _ x3, View.ld_unit_zero (Val := Elt Ideal) zero_off _ x7]
  rfl

/-- The array: the second moment of array 2. -/
theorem arr_15 : (dats m 0 c).arrAt 15 cfg0.N = fun y => stepV ((m ((c.tc : Thread nD τ).loc main_arg5)) y) ((m ((c.tc : Thread nD τ).loc main_arg7)) y) := by
  refine (dats m 0 c).arrAt_eq_of_covers 15 _ (by decide +kernel) fun t hf y => ?_
  rw [after0_15, out_15]
  rfl

/-- The reference's frame. -/
theorem frame_ref : Cert.quiescent_Reference6Ideal := fun m ρ _ =>
  (θ_run Cert.Reference6Ideal.defs _ _).mono (fun r h => ⟨fun c => (h c).2.2.2.2.2.2, sem_eq_zero_of_no_sems (by decide) r.2⟩)
    (Cert.Reference6Ideal.Value.run (F := Ideal) m ρ)

/-- The idealized call takes the reference's step. -/
theorem algebraic : Cert.algebraic_Kernel6Ideal_Reference6Ideal := by
  intro m g m' g' _ hargs
  refine ⟨fun c => fun y => stepD ((m ((c.tc : Thread nD τ).loc main_arg0)) y) ((m ((c.tc : Thread nD τ).loc main_arg1)) y) ((m ((c.tc : Thread nD τ).loc main_arg2)) y) ((m ((c.tc : Thread nD τ).loc main_arg3)) y), fun c => fun y => stepM ((m ((c.tc : Thread nD τ).loc main_arg1)) y) ((m ((c.tc : Thread nD τ).loc main_arg2)) y), fun c => fun y => stepV ((m ((c.tc : Thread nD τ).loc main_arg1)) y) ((m ((c.tc : Thread nD τ).loc main_arg3)) y), fun c => fun y => stepD ((m ((c.tc : Thread nD τ).loc main_arg4)) y) ((m ((c.tc : Thread nD τ).loc main_arg5)) y) ((m ((c.tc : Thread nD τ).loc main_arg6)) y) ((m ((c.tc : Thread nD τ).loc main_arg7)) y), fun c => fun y => stepM ((m ((c.tc : Thread nD τ).loc main_arg5)) y) ((m ((c.tc : Thread nD τ).loc main_arg6)) y), fun c => fun y => stepV ((m ((c.tc : Thread nD τ).loc main_arg5)) y) ((m ((c.tc : Thread nD τ).loc main_arg7)) y), ?_, ?_⟩
  · refine (θ_run Cert.Kernel6Ideal.defs _ _).mono (fun r h c => ?_) (Cert.Kernel6Ideal.Value.run_blocks (F := Ideal) m g)
    exact ⟨(h c).2.1.trans (arr_9 m c), (h c).2.2.1.trans (arr_10 m c), (h c).2.2.2.1.trans (arr_11 m c), (h c).2.2.2.2.2.1.trans (arr_13 m c), (h c).2.2.2.2.2.2.1.trans (arr_14 m c), (h c).2.2.2.2.2.2.2.1.trans (arr_15 m c), (h c).2.2.2.2.2.2.2.2⟩
  · refine (θ_run Cert.Reference6Ideal.defs _ _).mono (fun r h c => ?_) (Cert.Reference6Ideal.Value.run (F := Ideal) m' g')
    obtain ⟨e0, e1, e2, e3, e4, e5, e6, e7⟩ := hargs c
    have q0 : Cert.Reference6Ideal.Read.val_main_v23 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) = fun y => stepD ((m ((c.tc : Thread nD τ).loc main_arg0)) y) ((m ((c.tc : Thread nD τ).loc main_arg1)) y) ((m ((c.tc : Thread nD τ).loc main_arg2)) y) ((m ((c.tc : Thread nD τ).loc main_arg3)) y) := by
      rw [e0, e1, e2, e3]
      rfl
    have q1 : Cert.Reference6Ideal.Read.val_main_v4 (F := Ideal) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = fun y => stepM ((m ((c.tc : Thread nD τ).loc main_arg1)) y) ((m ((c.tc : Thread nD τ).loc main_arg2)) y) := by
      rw [e1, e2]
      rfl
    have q2 : Cert.Reference6Ideal.Read.val_main_v10 (F := Ideal) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg3)) = fun y => stepV ((m ((c.tc : Thread nD τ).loc main_arg1)) y) ((m ((c.tc : Thread nD τ).loc main_arg3)) y) := by
      rw [e1, e3]
      rfl
    have q3 : Cert.Reference6Ideal.Read.val_main_v47 (F := Ideal) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) = fun y => stepD ((m ((c.tc : Thread nD τ).loc main_arg4)) y) ((m ((c.tc : Thread nD τ).loc main_arg5)) y) ((m ((c.tc : Thread nD τ).loc main_arg6)) y) ((m ((c.tc : Thread nD τ).loc main_arg7)) y) := by
      rw [e4, e5, e6, e7]
      rfl
    have q4 : Cert.Reference6Ideal.Read.val_main_v28 (F := Ideal) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) = fun y => stepM ((m ((c.tc : Thread nD τ).loc main_arg5)) y) ((m ((c.tc : Thread nD τ).loc main_arg6)) y) := by
      rw [e5, e6]
      rfl
    have q5 : Cert.Reference6Ideal.Read.val_main_v34 (F := Ideal) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg7)) = fun y => stepV ((m ((c.tc : Thread nD τ).loc main_arg5)) y) ((m ((c.tc : Thread nD τ).loc main_arg7)) y) := by
      rw [e5, e7]
      rfl
    exact ⟨((h c).1.trans (Cert.Reference6Ideal.Read.val_main_v23_eq _ _ _ _ )).trans q0, ((h c).2.1.trans (Cert.Reference6Ideal.Read.val_main_v4_eq _ _ )).trans q1, ((h c).2.2.1.trans (Cert.Reference6Ideal.Read.val_main_v10_eq _ _ )).trans q2, ((h c).2.2.2.1.trans (Cert.Reference6Ideal.Read.val_main_v47_eq _ _ _ _ )).trans q3, ((h c).2.2.2.2.1.trans (Cert.Reference6Ideal.Read.val_main_v28_eq _ _ )).trans q4, ((h c).2.2.2.2.2.1.trans (Cert.Reference6Ideal.Read.val_main_v34_eq _ _ )).trans q5, (h c).2.2.2.2.2.2⟩

end Cert.AdamProj

end
-- ==== Proof.AdamEarly.lean ====
module

public import proofs.«01_k».proof.Defs
public import proofs.«01_k».proof.Proof.AdamMath
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pipeline.ValueKit
public import Idealize.ShloMosaic.Lib.Quiescent

@[expose] public section

set_option maxRecDepth 16384

noncomputable section

/-! The optimiser's step of the small parameters packed early. -/

namespace Cert.AdamEarly

open Cert.Kernel7Ideal Cert.Kernel7Ideal.Gen Idealize.ShloMosaic.TcCoe Idealize.SL.Sem
open Idealize.ShloMosaic
open Cert.Adam (stepM stepV stepD pick total select_apply cmpi_comm)

theorem zero_off : (![0, 0] : Fin 2 → Nat) = fun _ => 0 := funext fun a => match a with
  | 0 => rfl
  | 1 => rfl

/-- Entry `y` of slot `k`. -/
def slot (y : S8x1024.Idx) (k : Fin 8) : S8x8x1024.Idx := fun a => match a with
  | ⟨0, _⟩ => ⟨k.val, k.isLt⟩
  | ⟨1, _⟩ => ⟨(y 0).val, (y 0).isLt⟩
  | ⟨2, _⟩ => ⟨(y 1).val, (y 1).isLt⟩

/-- The one word of the device's number. -/
def word (x : S1.Idx → BitVec 32) : BitVec 32 := x fun _ => ⟨0, by decide +revert⟩

/-- A slot read off the stack and cast to two axes. -/
theorem slot_read (x1 : Vec Ideal S8x8x1024 .f32) (k : Fin 8) (inb : ∀ a, (![k.val, 0, 0] : Fin 3 → Nat) a + S1x8x1024.size a ≤ S8x8x1024.size a) (h : S1x8x1024.ShapeCasts S8x1024) (y : S8x1024.Idx) :
    shapeCast S8x1024 (View.ld x1 (Rect.unit ![k.val, 0, 0] S1x8x1024.size inb)) h y = x1 (slot y k) := by
  refine (shapeCast_dropUnit_apply ![8, 1024] _ h y).trans ?_
  refine congrArg x1 (funext fun a => Fin.ext ?_)
  match a with
  | ⟨0, _⟩ => show k.val + 1 * 0 = k.val; omega
  | ⟨1, _⟩ => show 0 + 1 * (y 0).val = (y 0).val; omega
  | ⟨2, _⟩ => show 0 + 1 * (y 1).val = (y 1).val; omega

/-- The call's sum of eight slots, the device's own in its place, an entry at a time. -/
theorem sum_eq (x0 : Vec Ideal S8x1024 .f32) (me : BitVec 32) (s0 s1 s2 s3 s4 s5 s6 s7 : Vec Ideal S1x8x1024 .f32) (y : S8x1024.Idx) (f : Fin 8 → EReal)
    (h0 : shapeCast S8x1024 s0 shapeCasts_S1x8x1024_S8x1024 y = f 0)
    (h1 : shapeCast S8x1024 s1 shapeCasts_S1x8x1024_S8x1024 y = f 1)
    (h2 : shapeCast S8x1024 s2 shapeCasts_S1x8x1024_S8x1024 y = f 2)
    (h3 : shapeCast S8x1024 s3 shapeCasts_S1x8x1024_S8x1024 y = f 3)
    (h4 : shapeCast S8x1024 s4 shapeCasts_S1x8x1024_S8x1024 y = f 4)
    (h5 : shapeCast S8x1024 s5 shapeCasts_S1x8x1024_S8x1024 y = f 5)
    (h6 : shapeCast S8x1024 s6 shapeCasts_S1x8x1024_S8x1024 y = f 6)
    (h7 : shapeCast S8x1024 s7 shapeCasts_S1x8x1024_S8x1024 y = f 7) :
    ((k0_pay3 x0 (k0_pay2 x0 me s0 me s1 me s2 me s3 me s4) me s5 me s6 me s7) : FVec Ideal S8x1024 .f32) y = total me (x0 y) f := by
  unfold total
  rw [Fin.sum_univ_eight, ← h0, ← h1, ← h2, ← h3, ← h4, ← h5, ← h6, ← h7]
  unfold k0_pay3 k0_pay2
  dsimp only
  simp only [pick]
  simp only [← select_apply]
  rfl

/-- The same of a stack of slots. -/
theorem sum_slots (x0 : Vec Ideal S8x1024 .f32) (me : BitVec 32) (x1 : Vec Ideal S8x8x1024 .f32) :
    ((k0_pay3 x0 (k0_pay2 x0 me (View.ld x1 (Rect.unit ![0, 0, 0] S1x8x1024.size inb_S8x8x1024_S1x8x1024_0_0_0)) me (View.ld x1 (Rect.unit ![1, 0, 0] S1x8x1024.size inb_S8x8x1024_S1x8x1024_1_0_0)) me (View.ld x1 (Rect.unit ![2, 0, 0] S1x8x1024.size inb_S8x8x1024_S1x8x1024_2_0_0)) me (View.ld x1 (Rect.unit ![3, 0, 0] S1x8x1024.size inb_S8x8x1024_S1x8x1024_3_0_0)) me (View.ld x1 (Rect.unit ![4, 0, 0] S1x8x1024.size inb_S8x8x1024_S1x8x1024_4_0_0))) me (View.ld x1 (Rect.unit ![5, 0, 0] S1x8x1024.size inb_S8x8x1024_S1x8x1024_5_0_0)) me (View.ld x1 (Rect.unit ![6, 0, 0] S1x8x1024.size inb_S8x8x1024_S1x8x1024_6_0_0)) me (View.ld x1 (Rect.unit ![7, 0, 0] S1x8x1024.size inb_S8x8x1024_S1x8x1024_7_0_0))) : FVec Ideal S8x1024 .f32) = fun y => total me (x0 y) fun k => x1 (slot y k) :=
  funext fun y => sum_eq x0 me _ _ _ _ _ _ _ _ y (fun k => x1 (slot y k)) (slot_read x1 0 inb_S8x8x1024_S1x8x1024_0_0_0 shapeCasts_S1x8x1024_S8x1024 y) (slot_read x1 1 inb_S8x8x1024_S1x8x1024_1_0_0 shapeCasts_S1x8x1024_S8x1024 y) (slot_read x1 2 inb_S8x8x1024_S1x8x1024_2_0_0 shapeCasts_S1x8x1024_S8x1024 y) (slot_read x1 3 inb_S8x8x1024_S1x8x1024_3_0_0 shapeCasts_S1x8x1024_S8x1024 y) (slot_read x1 4 inb_S8x8x1024_S1x8x1024_4_0_0 shapeCasts_S1x8x1024_S8x1024 y) (slot_read x1 5 inb_S8x8x1024_S1x8x1024_5_0_0 shapeCasts_S1x8x1024_S8x1024 y) (slot_read x1 6 inb_S8x8x1024_S1x8x1024_6_0_0 shapeCasts_S1x8x1024_S8x1024 y) (slot_read x1 7 inb_S8x8x1024_S1x8x1024_7_0_0 shapeCasts_S1x8x1024_S8x1024 y)

/-- The first moment's payload from the sum. -/
theorem pay_7 (x0 : Vec Ideal S8x1024 .f32) (v : FVec Ideal S8x1024 .f32) (p q r : BitVec 32) (a b c : Vec Ideal S1x8x1024 .f32) (m : Vec Ideal S8x1024 .f32) : k0_pay4 (F := Ideal) x0 v p a q b r c m = fun y => stepM (k0_pay3 (F := Ideal) x0 v p a q b r c y) (m y) := rfl

/-- The second moment's payload from the sum. -/
theorem pay_8 (x0 : Vec Ideal S8x1024 .f32) (v : FVec Ideal S8x1024 .f32) (p q r : BitVec 32) (a b c : Vec Ideal S1x8x1024 .f32) (n : Vec Ideal S8x1024 .f32) : k0_pay5 (F := Ideal) x0 v p a q b r c n = fun y => stepV (k0_pay3 (F := Ideal) x0 v p a q b r c y) (n y) := rfl

/-- The change's payload from the sum. -/
theorem pay_6 (x0 : Vec Ideal S8x1024 .f32) (v : FVec Ideal S8x1024 .f32) (p q r : BitVec 32) (a b c : Vec Ideal S1x8x1024 .f32) (w m n : Vec Ideal S8x1024 .f32) : k0_pay1 (F := Ideal) w (k0_pay4 (F := Ideal) x0 v p a q b r c m) (k0_pay5 (F := Ideal) x0 v p a q b r c n) (Scalar.ofBits .f32 0x3F26BD02#32) =
    fun y => stepD (w y) (k0_pay3 (F := Ideal) x0 v p a q b r c y) (m y) (n y) := rfl

/-- Window 5's block: the gradient summed over the devices. -/
theorem out_5  (c : Dev nD) (i : grid0.Coords) (arg2 : Memref sig .tc .vmem S8x1024 .f32) (harg2 : arg2.IsWhole) (arg3 : Memref sig .tc .vmem S8x8x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S8x1024 .f32) (harg10 : arg10.IsWhole)
    (x0 : Vec Ideal S8x1024 .f32) (x1 : Vec Ideal S8x8x1024 .f32) (x2 : Vec Ideal S8x1024 .f32) (x3 : Vec Ideal S8x1024 .f32) (x4 : Vec Ideal S8x1024 .f32) (xt0 : TbBuf0 (F := Ideal) c tbM0_0)  :
    out0_A_5 (F := Ideal) c i arg2 harg2 arg3 harg3 arg4 harg4 arg5 harg5 arg6 harg6 arg7 harg7 arg8 harg8 arg9 harg9 arg10 harg10 x0 x1 x2 x3 x4 xt0 = fun y => (total (word xt0) (x0 y) fun k => x1 (slot y k)) := by
  have e := sum_slots x0 (word xt0) x1
  have hw : ∀ h, View.ld (View.read (Elt Ideal) (View.whole main_arg5) xt0) (Rect.unit ![0] ![1] inb_S1_S1_0) (Shape.Idx.first h) = word xt0 := fun _ =>
    congrArg xt0 (funext fun a => match a with | ⟨0, _⟩ => rfl)
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread]
  refine (View.canon_unit_zero (Val := Elt Ideal) zero_off _ _).trans ?_
  rw [View.ld_unit_zero (Val := Elt Ideal) zero_off _ x0]
  simp only [hw]
  exact e

/-- Window 6's block: the change of the weights. -/
theorem out_6  (c : Dev nD) (i : grid0.Coords) (arg2 : Memref sig .tc .vmem S8x1024 .f32) (harg2 : arg2.IsWhole) (arg3 : Memref sig .tc .vmem S8x8x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S8x1024 .f32) (harg10 : arg10.IsWhole)
    (x0 : Vec Ideal S8x1024 .f32) (x1 : Vec Ideal S8x8x1024 .f32) (x2 : Vec Ideal S8x1024 .f32) (x3 : Vec Ideal S8x1024 .f32) (x4 : Vec Ideal S8x1024 .f32) (xt0 : TbBuf0 (F := Ideal) c tbM0_0)  :
    out0_A_6 (F := Ideal) c i arg2 harg2 arg3 harg3 arg4 harg4 arg5 harg5 arg6 harg6 arg7 harg7 arg8 harg8 arg9 harg9 arg10 harg10 x0 x1 x2 x3 x4 xt0 = fun y => stepD (x2 y) (total (word xt0) (x0 y) fun k => x1 (slot y k)) (x3 y) (x4 y) := by
  have e := sum_slots x0 (word xt0) x1
  have hw : ∀ h, View.ld (View.read (Elt Ideal) (View.whole main_arg5) xt0) (Rect.unit ![0] ![1] inb_S1_S1_0) (Shape.Idx.first h) = word xt0 := fun _ =>
    congrArg xt0 (funext fun a => match a with | ⟨0, _⟩ => rfl)
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread]
  refine (View.canon_unit_zero (Val := Elt Ideal) zero_off _ _).trans ?_
  rw [View.ld_unit_zero (Val := Elt Ideal) zero_off _ x0, View.ld_unit_zero (Val := Elt Ideal) zero_off _ x2, View.ld_unit_zero (Val := Elt Ideal) zero_off _ x3, View.ld_unit_zero (Val := Elt Ideal) zero_off _ x4]
  simp only [hw]
  rw [pay_6]
  exact congrArg (fun G : S8x1024.Idx → EReal => fun y => stepD (x2 y) (G y) (x3 y) (x4 y)) e

/-- Window 7's block: the first moment. -/
theorem out_7  (c : Dev nD) (i : grid0.Coords) (arg2 : Memref sig .tc .vmem S8x1024 .f32) (harg2 : arg2.IsWhole) (arg3 : Memref sig .tc .vmem S8x8x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S8x1024 .f32) (harg10 : arg10.IsWhole)
    (x0 : Vec Ideal S8x1024 .f32) (x1 : Vec Ideal S8x8x1024 .f32) (x2 : Vec Ideal S8x1024 .f32) (x3 : Vec Ideal S8x1024 .f32) (x4 : Vec Ideal S8x1024 .f32) (xt0 : TbBuf0 (F := Ideal) c tbM0_0)  :
    out0_A_7 (F := Ideal) c i arg2 harg2 arg3 harg3 arg4 harg4 arg5 harg5 arg6 harg6 arg7 harg7 arg8 harg8 arg9 harg9 arg10 harg10 x0 x1 x2 x3 x4 xt0 = fun y => stepM (total (word xt0) (x0 y) fun k => x1 (slot y k)) (x3 y) := by
  have e := sum_slots x0 (word xt0) x1
  have hw : ∀ h, View.ld (View.read (Elt Ideal) (View.whole main_arg5) xt0) (Rect.unit ![0] ![1] inb_S1_S1_0) (Shape.Idx.first h) = word xt0 := fun _ =>
    congrArg xt0 (funext fun a => match a with | ⟨0, _⟩ => rfl)
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread]
  refine (View.canon_unit_zero (Val := Elt Ideal) zero_off _ _).trans ?_
  rw [View.ld_unit_zero (Val := Elt Ideal) zero_off _ x0, View.ld_unit_zero (Val := Elt Ideal) zero_off _ x3]
  simp only [hw]
  rw [pay_7]
  exact congrArg (fun G : S8x1024.Idx → EReal => fun y => stepM (G y) (x3 y)) e

/-- Window 8's block: the second moment. -/
theorem out_8  (c : Dev nD) (i : grid0.Coords) (arg2 : Memref sig .tc .vmem S8x1024 .f32) (harg2 : arg2.IsWhole) (arg3 : Memref sig .tc .vmem S8x8x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S8x1024 .f32) (harg9 : arg9.IsWhole) (arg10 : Memref sig .tc .vmem S8x1024 .f32) (harg10 : arg10.IsWhole)
    (x0 : Vec Ideal S8x1024 .f32) (x1 : Vec Ideal S8x8x1024 .f32) (x2 : Vec Ideal S8x1024 .f32) (x3 : Vec Ideal S8x1024 .f32) (x4 : Vec Ideal S8x1024 .f32) (xt0 : TbBuf0 (F := Ideal) c tbM0_0)  :
    out0_A_8 (F := Ideal) c i arg2 harg2 arg3 harg3 arg4 harg4 arg5 harg5 arg6 harg6 arg7 harg7 arg8 harg8 arg9 harg9 arg10 harg10 x0 x1 x2 x3 x4 xt0 = fun y => stepV (total (word xt0) (x0 y) fun k => x1 (slot y k)) (x4 y) := by
  have e := sum_slots x0 (word xt0) x1
  have hw : ∀ h, View.ld (View.read (Elt Ideal) (View.whole main_arg5) xt0) (Rect.unit ![0] ![1] inb_S1_S1_0) (Shape.Idx.first h) = word xt0 := fun _ =>
    congrArg xt0 (funext fun a => match a with | ⟨0, _⟩ => rfl)
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread]
  refine (View.canon_unit_zero (Val := Elt Ideal) zero_off _ _).trans ?_
  rw [View.ld_unit_zero (Val := Elt Ideal) zero_off _ x0, View.ld_unit_zero (Val := Elt Ideal) zero_off _ x4]
  simp only [hw]
  rw [pay_8]
  exact congrArg (fun G : S8x1024.Idx → EReal => fun y => stepV (G y) (x4 y)) e

variable (m : (ℓ : Loc nD τ sig) → Buf (Elt Ideal) ℓ)

/-- Window 0's block is the whole argument. -/
theorem blk_0 (hO : Ok (F := Ideal) m) (t : Fin (cfgM m hO).N) : iblk m hO 0 0 t = (m (((0 : Dev nD).tc : Thread nD τ).loc main_arg0)) := by
  refine funext fun z : S8x1024.Idx => congrArg (m (((0 : Dev nD).tc : Thread nD τ).loc main_arg0)) (funext fun a => Fin.ext ?_)
  match a with
  | ⟨0, _⟩ => show 0 * 8 + 1 * (z 0).val = (z 0).val; omega
  | ⟨1, _⟩ => show 0 * 1024 + 1 * (z 1).val = (z 1).val; omega

/-- Window 1's block is the whole argument. -/
theorem blk_1 (hO : Ok (F := Ideal) m) (t : Fin (cfgM m hO).N) : iblk m hO 0 1 t = (m (((0 : Dev nD).tc : Thread nD τ).loc main_arg1)) := by
  refine funext fun z : S8x8x1024.Idx => congrArg (m (((0 : Dev nD).tc : Thread nD τ).loc main_arg1)) (funext fun a => Fin.ext ?_)
  match a with
  | ⟨0, _⟩ => show 0 * 8 + 1 * (z 0).val = (z 0).val; omega
  | ⟨1, _⟩ => show 0 * 8 + 1 * (z 1).val = (z 1).val; omega
  | ⟨2, _⟩ => show 0 * 1024 + 1 * (z 2).val = (z 2).val; omega

/-- Window 2's block is the whole argument. -/
theorem blk_2 (hO : Ok (F := Ideal) m) (t : Fin (cfgM m hO).N) : iblk m hO 0 2 t = (m (((0 : Dev nD).tc : Thread nD τ).loc main_arg2)) := by
  refine funext fun z : S8x1024.Idx => congrArg (m (((0 : Dev nD).tc : Thread nD τ).loc main_arg2)) (funext fun a => Fin.ext ?_)
  match a with
  | ⟨0, _⟩ => show 0 * 8 + 1 * (z 0).val = (z 0).val; omega
  | ⟨1, _⟩ => show 0 * 1024 + 1 * (z 1).val = (z 1).val; omega

/-- Window 3's block is the whole argument. -/
theorem blk_3 (hO : Ok (F := Ideal) m) (t : Fin (cfgM m hO).N) : iblk m hO 0 3 t = (m (((0 : Dev nD).tc : Thread nD τ).loc main_arg3)) := by
  refine funext fun z : S8x1024.Idx => congrArg (m (((0 : Dev nD).tc : Thread nD τ).loc main_arg3)) (funext fun a => Fin.ext ?_)
  match a with
  | ⟨0, _⟩ => show 0 * 8 + 1 * (z 0).val = (z 0).val; omega
  | ⟨1, _⟩ => show 0 * 1024 + 1 * (z 1).val = (z 1).val; omega

/-- Window 4's block is the whole argument. -/
theorem blk_4 (hO : Ok (F := Ideal) m) (t : Fin (cfgM m hO).N) : iblk m hO 0 4 t = (m (((0 : Dev nD).tc : Thread nD τ).loc main_arg4)) := by
  refine funext fun z : S8x1024.Idx => congrArg (m (((0 : Dev nD).tc : Thread nD τ).loc main_arg4)) (funext fun a => Fin.ext ?_)
  match a with
  | ⟨0, _⟩ => show 0 * 8 + 1 * (z 0).val = (z 0).val; omega
  | ⟨1, _⟩ => show 0 * 1024 + 1 * (z 1).val = (z 1).val; omega

/-- The one block covers the array. -/
theorem cov_5 (hO : Ok (F := Ideal) m) : ((cfgM m hO).win 5).Covers :=
  of_decide_eq_true (by sl_kernel_rfl)

/-- The block's place in the array. -/
theorem emb_5 (hO : Ok (F := Ideal) m) (t : Fin (cfgM m hO).N) (y : S8x1024.Idx) :
    ((((cfgM m hO).win 5).blk t).view.emb y : S8x1024.Idx) = y := by
  refine (funext fun a => Fin.ext ?_)
  match a with
  | ⟨0, _⟩ => show 0 * 8 + 1 * (y 0).val = (y 0).val; omega
  | ⟨1, _⟩ => show 0 * 1024 + 1 * (y 1).val = (y 1).val; omega

/-- What the point leaves: the gradient summed over the devices. -/
theorem left_5 (hO : Ok (F := Ideal) m) (t : Fin (cfgM m hO).N) (y : S8x1024.Idx) : (dats m hO 0 0).after 5 t y =
    (total (word (tbl m 0)) (iblk m hO 0 0 t y) fun k => iblk m hO 0 1 t (slot y k)) := by
  have e := out_5 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)
  have a := after0_5 m hO 0 t
  unfold outsAt0 at a
  dsimp only at a
  exact congrFun (a.trans e) y

/-- The array: the gradient summed over the devices. -/
theorem arr_5 (hO : Ok (F := Ideal) m) (c : Dev nD) : (dats m hO 0 c).arrAt 5 (cfgM m hO).N = fun y => (total (word (m ((c.tc : Thread nD τ).loc main_arg5))) ((m ((c.tc : Thread nD τ).loc main_arg0)) y) fun k => (m ((c.tc : Thread nD τ).loc main_arg1)) (slot y k)) := by
  obtain rfl : c = 0 := Subsingleton.elim _ _
  refine (dats m hO 0 0).arrAt_eq_of_covers 5 _ (cov_5 m hO) fun t hf y => ?_
  refine (left_5 m hO t y).trans ?_
  rw [blk_0 m hO t, blk_1 m hO t]
  exact (congrArg (fun y : S8x1024.Idx => (total (word (m (((0 : Dev nD).tc : Thread nD τ).loc main_arg5))) ((m (((0 : Dev nD).tc : Thread nD τ).loc main_arg0)) y) fun k => (m (((0 : Dev nD).tc : Thread nD τ).loc main_arg1)) (slot y k))) (emb_5 m hO t y)).symm

/-- The one block covers the array. -/
theorem cov_6 (hO : Ok (F := Ideal) m) : ((cfgM m hO).win 6).Covers :=
  of_decide_eq_true (by sl_kernel_rfl)

/-- The block's place in the array. -/
theorem emb_6 (hO : Ok (F := Ideal) m) (t : Fin (cfgM m hO).N) (y : S8x1024.Idx) :
    ((((cfgM m hO).win 6).blk t).view.emb y : S8x1024.Idx) = y := by
  refine (funext fun a => Fin.ext ?_)
  match a with
  | ⟨0, _⟩ => show 0 * 8 + 1 * (y 0).val = (y 0).val; omega
  | ⟨1, _⟩ => show 0 * 1024 + 1 * (y 1).val = (y 1).val; omega

/-- What the point leaves: the change of the weights. -/
theorem left_6 (hO : Ok (F := Ideal) m) (t : Fin (cfgM m hO).N) (y : S8x1024.Idx) : (dats m hO 0 0).after 6 t y =
    stepD (iblk m hO 0 2 t y) (total (word (tbl m 0)) (iblk m hO 0 0 t y) fun k => iblk m hO 0 1 t (slot y k)) (iblk m hO 0 3 t y) (iblk m hO 0 4 t y) := by
  have e := out_6 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)
  have a := after0_6 m hO 0 t
  unfold outsAt0 at a
  dsimp only at a
  exact congrFun (a.trans e) y

/-- The array: the change of the weights. -/
theorem arr_6 (hO : Ok (F := Ideal) m) (c : Dev nD) : (dats m hO 0 c).arrAt 6 (cfgM m hO).N = fun y => stepD ((m ((c.tc : Thread nD τ).loc main_arg2)) y) (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) ((m ((c.tc : Thread nD τ).loc main_arg4)) y) := by
  obtain rfl : c = 0 := Subsingleton.elim _ _
  refine (dats m hO 0 0).arrAt_eq_of_covers 6 _ (cov_6 m hO) fun t hf y => ?_
  refine (left_6 m hO t y).trans ?_
  rw [blk_0 m hO t, blk_1 m hO t, blk_2 m hO t, blk_3 m hO t, blk_4 m hO t]
  exact (congrArg (fun y : S8x1024.Idx => stepD ((m (((0 : Dev nD).tc : Thread nD τ).loc main_arg2)) y) (total (word (m (((0 : Dev nD).tc : Thread nD τ).loc main_arg5))) ((m (((0 : Dev nD).tc : Thread nD τ).loc main_arg0)) y) fun k => (m (((0 : Dev nD).tc : Thread nD τ).loc main_arg1)) (slot y k)) ((m (((0 : Dev nD).tc : Thread nD τ).loc main_arg3)) y) ((m (((0 : Dev nD).tc : Thread nD τ).loc main_arg4)) y)) (emb_6 m hO t y)).symm

/-- The one block covers the array. -/
theorem cov_7 (hO : Ok (F := Ideal) m) : ((cfgM m hO).win 7).Covers :=
  of_decide_eq_true (by sl_kernel_rfl)

/-- The block's place in the array. -/
theorem emb_7 (hO : Ok (F := Ideal) m) (t : Fin (cfgM m hO).N) (y : S8x1024.Idx) :
    ((((cfgM m hO).win 7).blk t).view.emb y : S8x1024.Idx) = y := by
  refine (funext fun a => Fin.ext ?_)
  match a with
  | ⟨0, _⟩ => show 0 * 8 + 1 * (y 0).val = (y 0).val; omega
  | ⟨1, _⟩ => show 0 * 1024 + 1 * (y 1).val = (y 1).val; omega

/-- What the point leaves: the first moment. -/
theorem left_7 (hO : Ok (F := Ideal) m) (t : Fin (cfgM m hO).N) (y : S8x1024.Idx) : (dats m hO 0 0).after 7 t y =
    stepM (total (word (tbl m 0)) (iblk m hO 0 0 t y) fun k => iblk m hO 0 1 t (slot y k)) (iblk m hO 0 3 t y) := by
  have e := out_7 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)
  have a := after0_7 m hO 0 t
  unfold outsAt0 at a
  dsimp only at a
  exact congrFun (a.trans e) y

/-- The array: the first moment. -/
theorem arr_7 (hO : Ok (F := Ideal) m) (c : Dev nD) : (dats m hO 0 c).arrAt 7 (cfgM m hO).N = fun y => stepM (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) := by
  obtain rfl : c = 0 := Subsingleton.elim _ _
  refine (dats m hO 0 0).arrAt_eq_of_covers 7 _ (cov_7 m hO) fun t hf y => ?_
  refine (left_7 m hO t y).trans ?_
  rw [blk_0 m hO t, blk_1 m hO t, blk_3 m hO t]
  exact (congrArg (fun y : S8x1024.Idx => stepM (total (word (m (((0 : Dev nD).tc : Thread nD τ).loc main_arg5))) ((m (((0 : Dev nD).tc : Thread nD τ).loc main_arg0)) y) fun k => (m (((0 : Dev nD).tc : Thread nD τ).loc main_arg1)) (slot y k)) ((m (((0 : Dev nD).tc : Thread nD τ).loc main_arg3)) y)) (emb_7 m hO t y)).symm

/-- The one block covers the array. -/
theorem cov_8 (hO : Ok (F := Ideal) m) : ((cfgM m hO).win 8).Covers :=
  of_decide_eq_true (by sl_kernel_rfl)

/-- The block's place in the array. -/
theorem emb_8 (hO : Ok (F := Ideal) m) (t : Fin (cfgM m hO).N) (y : S8x1024.Idx) :
    ((((cfgM m hO).win 8).blk t).view.emb y : S8x1024.Idx) = y := by
  refine (funext fun a => Fin.ext ?_)
  match a with
  | ⟨0, _⟩ => show 0 * 8 + 1 * (y 0).val = (y 0).val; omega
  | ⟨1, _⟩ => show 0 * 1024 + 1 * (y 1).val = (y 1).val; omega

/-- What the point leaves: the second moment. -/
theorem left_8 (hO : Ok (F := Ideal) m) (t : Fin (cfgM m hO).N) (y : S8x1024.Idx) : (dats m hO 0 0).after 8 t y =
    stepV (total (word (tbl m 0)) (iblk m hO 0 0 t y) fun k => iblk m hO 0 1 t (slot y k)) (iblk m hO 0 4 t y) := by
  have e := out_8 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)
  have a := after0_8 m hO 0 t
  unfold outsAt0 at a
  dsimp only at a
  exact congrFun (a.trans e) y

/-- The array: the second moment. -/
theorem arr_8 (hO : Ok (F := Ideal) m) (c : Dev nD) : (dats m hO 0 c).arrAt 8 (cfgM m hO).N = fun y => stepV (total (word (m ((c.tc : Thread nD τ).loc main_arg5))) ((m ((c.tc : Thread nD τ).loc main_arg0)) y) fun k => (m ((c.tc : Thread nD τ).loc main_arg1)) (slot y k)) ((m ((c.tc : Thread nD τ).loc main_arg4)) y) := by
  obtain rfl : c = 0 := Subsingleton.elim _ _
  refine (dats m hO 0 0).arrAt_eq_of_covers 8 _ (cov_8 m hO) fun t hf y => ?_
  refine (left_8 m hO t y).trans ?_
  rw [blk_0 m hO t, blk_1 m hO t, blk_4 m hO t]
  exact (congrArg (fun y : S8x1024.Idx => stepV (total (word (m (((0 : Dev nD).tc : Thread nD τ).loc main_arg5))) ((m (((0 : Dev nD).tc : Thread nD τ).loc main_arg0)) y) fun k => (m (((0 : Dev nD).tc : Thread nD τ).loc main_arg1)) (slot y k)) ((m (((0 : Dev nD).tc : Thread nD τ).loc main_arg4)) y)) (emb_8 m hO t y)).symm

/-- The run with each result named and the arguments unchanged. -/
theorem run (ρ : Dev nD → PrngReg) (hO : Ok (F := Ideal) m) : θ_run defs (onTc (τ := τ) (main (F := Ideal))) ⟨m, fun _ => 0, ρ⟩ fun r => ∀ c : Dev nD,
      r.2.mem ((c.tc : Thread nD τ).loc main_v0_0) = (fun y => (total (word (m ((c.tc : Thread nD τ).loc main_arg5))) ((m ((c.tc : Thread nD τ).loc main_arg0)) y) fun k => (m ((c.tc : Thread nD τ).loc main_arg1)) (slot y k)))
      ∧ r.2.mem ((c.tc : Thread nD τ).loc main_v0_1) = (fun y => stepD ((m ((c.tc : Thread nD τ).loc main_arg2)) y) (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) ((m ((c.tc : Thread nD τ).loc main_arg4)) y))
      ∧ r.2.mem ((c.tc : Thread nD τ).loc main_v0_2) = (fun y => stepM (total (word (m ((c.tc : Thread nD τ).loc main_arg5))) ((m ((c.tc : Thread nD τ).loc main_arg0)) y) fun k => (m ((c.tc : Thread nD τ).loc main_arg1)) (slot y k)) ((m ((c.tc : Thread nD τ).loc main_arg3)) y))
      ∧ r.2.mem ((c.tc : Thread nD τ).loc main_v0_3) = (fun y => stepV (total (word (m ((c.tc : Thread nD τ).loc main_arg5))) ((m ((c.tc : Thread nD τ).loc main_arg0)) y) fun k => (m ((c.tc : Thread nD τ).loc main_arg1)) (slot y k)) ((m ((c.tc : Thread nD τ).loc main_arg4)) y)) :=
  (θ_run defs _ _).mono (fun r h c => ⟨((h c).1 5).trans (arr_5 m hO c), ((h c).1 6).trans (arr_6 m hO c), ((h c).1 7).trans (arr_7 m hO c), ((h c).1 8).trans (arr_8 m hO c)⟩) (run_main m ρ hO)

/-- The reference's frame. -/
theorem frame_ref : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

/-- The reference's sum of the slots is the same sum. -/
theorem ref_sum (x0 : (⟨Cert.Reference7Ideal.S8x1024, .f32⟩ : BufTy).Contents (Elt Ideal)) (x1 : (⟨Cert.Reference7Ideal.S8x8x1024, .f32⟩ : BufTy).Contents (Elt Ideal)) (x5 : (⟨Cert.Reference7Ideal.S1, .i32⟩ : BufTy).Contents (Elt Ideal)) :
    Cert.Reference7Ideal.Read.val_main_v6 (F := Ideal) x0 x1 x5 = fun y => total (word x5) (x0 y) fun k => x1 (slot y k) := by
  funext y
  rw [Cert.Reference7Ideal.Read.val_main_v6_apply, Cert.Reference7Ideal.Read.val_main_cst_apply]
  refine Eq.trans (b := (0 : EReal) + ∑ k : Fin 8, Cert.Reference7Ideal.Read.val_main_v5 (F := Ideal) x0 x1 x5 (Cert.Reference7Ideal.Read.idx_main_v6 y k)) ?_ ?_
  · exact congrArg (· + _) Ideal.ofBits_zero_f32
  rw [zero_add]
  unfold total
  refine Finset.sum_congr rfl fun k _ => ?_
  have hw : Cert.Reference7Ideal.Read.val_main_v2 (F := Ideal) x5 (Cert.Reference7Ideal.Read.idx_main_v3 (Cert.Reference7Ideal.Read.idx_main_call0_v0 (Cert.Reference7Ideal.Read.idx_main_v6 y k))) = word x5 :=
    congrArg x5 (funext fun a => match a with | ⟨0, _⟩ => Subsingleton.elim (α := Fin 1) _ _)
  have hi : Cert.Reference7Ideal.Read.idx_main_call0_v1 (Cert.Reference7Ideal.Read.idx_main_v6 y k) = y := funext fun a => match a with
    | ⟨0, _⟩ => rfl
    | ⟨1, _⟩ => rfl
  rw [Cert.Reference7Ideal.Read.val_main_v5_apply, Cert.Reference7Ideal.Read.val_main_call0_v0_apply, Cert.Reference7Ideal.Read.val_main_v4_apply, Cert.Reference7Ideal.Read.val_main_v3_apply, hw,
    Cert.Reference7Ideal.Read.val_main_v1_apply, Cert.Reference7Ideal.Read.val_main_v0_apply, Cert.Reference7Ideal.Read.val_main_call0_v1_apply, hi, cmpi_comm]
  rfl

/-- The idealized call sums the slots and takes the reference's step. -/
theorem algebraic : Cert.algebraic_Kernel7Ideal_Reference7Ideal := by
  intro m g m' g' _ hargs
  have hO : Ok (F := Ideal) m := trivial
  refine ⟨fun c => fun y => (total (word (m ((c.tc : Thread nD τ).loc main_arg5))) ((m ((c.tc : Thread nD τ).loc main_arg0)) y) fun k => (m ((c.tc : Thread nD τ).loc main_arg1)) (slot y k)), fun c => fun y => stepD ((m ((c.tc : Thread nD τ).loc main_arg2)) y) (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) ((m ((c.tc : Thread nD τ).loc main_arg4)) y), fun c => fun y => stepM (total (word (m ((c.tc : Thread nD τ).loc main_arg5))) ((m ((c.tc : Thread nD τ).loc main_arg0)) y) fun k => (m ((c.tc : Thread nD τ).loc main_arg1)) (slot y k)) ((m ((c.tc : Thread nD τ).loc main_arg3)) y), fun c => fun y => stepV (total (word (m ((c.tc : Thread nD τ).loc main_arg5))) ((m ((c.tc : Thread nD τ).loc main_arg0)) y) fun k => (m ((c.tc : Thread nD τ).loc main_arg1)) (slot y k)) ((m ((c.tc : Thread nD τ).loc main_arg4)) y), ?_, ?_⟩
  · refine (θ_run Cert.Kernel7Ideal.defs _ _).mono (fun r h c => ?_) (θ_run_and (run m g hO) (unchanged m g hO))
    exact ⟨(h.1 c).1, (h.1 c).2.1, (h.1 c).2.2.1, (h.1 c).2.2.2, h.2 c⟩
  · refine (θ_run Cert.Reference7Ideal.defs _ _).mono (fun r h c => ?_) (Cert.Reference7Ideal.Value.run (F := Ideal) m' g')
    obtain ⟨e0, e1, e2, e3, e4, e5⟩ := hargs c
    have q0 : Cert.Reference7Ideal.Read.val_main_v6 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg5)) = fun y => (total (word (m ((c.tc : Thread nD τ).loc main_arg5))) ((m ((c.tc : Thread nD τ).loc main_arg0)) y) fun k => (m ((c.tc : Thread nD τ).loc main_arg1)) (slot y k)) := by
      rw [e0, e1, e5]
      exact ref_sum _ _ _
    have q1 : Cert.Reference7Ideal.Read.val_main_v30 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) = fun y => stepD ((m ((c.tc : Thread nD τ).loc main_arg2)) y) (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) ((m ((c.tc : Thread nD τ).loc main_arg4)) y) := by
      rw [e0, e1, e2, e3, e4, e5]
      refine Eq.trans (b := fun y => stepD ((m ((c.tc : Thread nD τ).loc main_arg2)) y) (Cert.Reference7Ideal.Read.val_main_v6 (F := Ideal) (m ((c.tc : Thread nD τ).loc main_arg0)) (m ((c.tc : Thread nD τ).loc main_arg1)) (m ((c.tc : Thread nD τ).loc main_arg5)) y) ((m ((c.tc : Thread nD τ).loc main_arg3)) y) ((m ((c.tc : Thread nD τ).loc main_arg4)) y)) rfl ?_
      simp only [ref_sum]
      all_goals rfl
    have q2 : Cert.Reference7Ideal.Read.val_main_v11 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg5)) = fun y => stepM (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) := by
      rw [e0, e1, e3, e5]
      refine Eq.trans (b := fun y => stepM (Cert.Reference7Ideal.Read.val_main_v6 (F := Ideal) (m ((c.tc : Thread nD τ).loc main_arg0)) (m ((c.tc : Thread nD τ).loc main_arg1)) (m ((c.tc : Thread nD τ).loc main_arg5)) y) ((m ((c.tc : Thread nD τ).loc main_arg3)) y)) rfl ?_
      simp only [ref_sum]
      all_goals rfl
    have q3 : Cert.Reference7Ideal.Read.val_main_v17 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) = fun y => stepV (total (word (m ((c.tc : Thread nD τ).loc main_arg5))) ((m ((c.tc : Thread nD τ).loc main_arg0)) y) fun k => (m ((c.tc : Thread nD τ).loc main_arg1)) (slot y k)) ((m ((c.tc : Thread nD τ).loc main_arg4)) y) := by
      rw [e0, e1, e4, e5]
      refine Eq.trans (b := fun y => stepV (Cert.Reference7Ideal.Read.val_main_v6 (F := Ideal) (m ((c.tc : Thread nD τ).loc main_arg0)) (m ((c.tc : Thread nD τ).loc main_arg1)) (m ((c.tc : Thread nD τ).loc main_arg5)) y) ((m ((c.tc : Thread nD τ).loc main_arg4)) y)) rfl ?_
      simp only [ref_sum]
      all_goals rfl
    exact ⟨((h c).1.trans (Cert.Reference7Ideal.Read.val_main_v6_eq _ _ _ )).trans q0, ((h c).2.1.trans (Cert.Reference7Ideal.Read.val_main_v30_eq _ _ _ _ _ _ )).trans q1, ((h c).2.2.1.trans (Cert.Reference7Ideal.Read.val_main_v11_eq _ _ _ _ )).trans q2, ((h c).2.2.2.1.trans (Cert.Reference7Ideal.Read.val_main_v17_eq _ _ _ _ )).trans q3, (h c).2.2.2.2⟩

end Cert.AdamEarly

end
-- ==== Proof.AdamSpatial.lean ====
module

public import proofs.«01_k».proof.Defs
public import proofs.«01_k».proof.Proof.AdamMath
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.ValueKit
public import Idealize.ShloMosaic.Lib.Quiescent

@[expose] public section

set_option maxRecDepth 16384

noncomputable section

/-! The optimiser's step of the spatial weights. -/

namespace Cert.AdamSpatial

open Cert.Kernel8Ideal Cert.Kernel8Ideal.Gen Idealize.ShloMosaic.TcCoe Idealize.SL.Sem
open Idealize.ShloMosaic
open Cert.Adam (stepM stepV stepD pick total select_apply cmpi_comm)

theorem zero_off : (![0, 0] : Fin 2 → Nat) = fun _ => 0 := funext fun a => match a with
  | 0 => rfl
  | 1 => rfl

/-- Entry `y` of slot `k`. -/
def slot (y : S1024x128.Idx) (k : Fin 8) : S8x1024x128.Idx := fun a => match a with
  | ⟨0, _⟩ => ⟨k.val, k.isLt⟩
  | ⟨1, _⟩ => ⟨(y 0).val, (y 0).isLt⟩
  | ⟨2, _⟩ => ⟨(y 1).val, (y 1).isLt⟩

/-- The one word of the device's number. -/
def word (x : S1.Idx → BitVec 32) : BitVec 32 := x fun _ => ⟨0, by decide +revert⟩

/-- A slot read off the stack and cast to two axes. -/
theorem slot_read (x1 : Vec Ideal S8x1024x128 .bf16) (k : Fin 8) (inb : ∀ a, (![k.val, 0, 0] : Fin 3 → Nat) a + S1x1024x128.size a ≤ S8x1024x128.size a) (h : S1x1024x128.ShapeCasts S1024x128) (y : S1024x128.Idx) :
    shapeCast S1024x128 (View.ld x1 (Rect.unit ![k.val, 0, 0] S1x1024x128.size inb)) h y = x1 (slot y k) := by
  refine (shapeCast_dropUnit_apply ![1024, 128] _ h y).trans ?_
  refine congrArg x1 (funext fun a => Fin.ext ?_)
  match a with
  | ⟨0, _⟩ => show k.val + 1 * 0 = k.val; omega
  | ⟨1, _⟩ => show 0 + 1 * (y 0).val = (y 0).val; omega
  | ⟨2, _⟩ => show 0 + 1 * (y 1).val = (y 1).val; omega

/-- The call's sum of eight slots, the device's own in its place, an entry at a time. -/
theorem sum_eq (x0 : Vec Ideal S1024x128 .bf16) (me : BitVec 32) (s0 s1 s2 s3 s4 s5 s6 s7 : Vec Ideal S1x1024x128 .bf16) (y : S1024x128.Idx) (f : Fin 8 → EReal)
    (h0 : shapeCast S1024x128 s0 shapeCasts_S1x1024x128_S1024x128 y = f 0)
    (h1 : shapeCast S1024x128 s1 shapeCasts_S1x1024x128_S1024x128 y = f 1)
    (h2 : shapeCast S1024x128 s2 shapeCasts_S1x1024x128_S1024x128 y = f 2)
    (h3 : shapeCast S1024x128 s3 shapeCasts_S1x1024x128_S1024x128 y = f 3)
    (h4 : shapeCast S1024x128 s4 shapeCasts_S1x1024x128_S1024x128 y = f 4)
    (h5 : shapeCast S1024x128 s5 shapeCasts_S1x1024x128_S1024x128 y = f 5)
    (h6 : shapeCast S1024x128 s6 shapeCasts_S1x1024x128_S1024x128 y = f 6)
    (h7 : shapeCast S1024x128 s7 shapeCasts_S1x1024x128_S1024x128 y = f 7) :
    ((k0_pay5 (k0_pay3 x0) (k0_pay4 x0 me s0 me s1 me s2 me s3) (Scalar.cmpi .eq me 4#32) s4 me s5 me s6 me s7) : FVec Ideal S1024x128 .f32) y = total me (x0 y) f := by
  unfold total
  rw [Fin.sum_univ_eight, ← h0, ← h1, ← h2, ← h3, ← h4, ← h5, ← h6, ← h7]
  unfold k0_pay5 k0_pay4 k0_pay3
  dsimp only
  simp only [pick]
  simp only [← select_apply]
  rfl

/-- The same of a stack of slots. -/
theorem sum_slots (x0 : Vec Ideal S1024x128 .bf16) (me : BitVec 32) (x1 : Vec Ideal S8x1024x128 .bf16) :
    ((k0_pay5 (k0_pay3 x0) (k0_pay4 x0 me (View.ld x1 (Rect.unit ![0, 0, 0] S1x1024x128.size inb_S8x1024x128_S1x1024x128_0_0_0)) me (View.ld x1 (Rect.unit ![1, 0, 0] S1x1024x128.size inb_S8x1024x128_S1x1024x128_1_0_0)) me (View.ld x1 (Rect.unit ![2, 0, 0] S1x1024x128.size inb_S8x1024x128_S1x1024x128_2_0_0)) me (View.ld x1 (Rect.unit ![3, 0, 0] S1x1024x128.size inb_S8x1024x128_S1x1024x128_3_0_0))) (Scalar.cmpi .eq me 4#32) (View.ld x1 (Rect.unit ![4, 0, 0] S1x1024x128.size inb_S8x1024x128_S1x1024x128_4_0_0)) me (View.ld x1 (Rect.unit ![5, 0, 0] S1x1024x128.size inb_S8x1024x128_S1x1024x128_5_0_0)) me (View.ld x1 (Rect.unit ![6, 0, 0] S1x1024x128.size inb_S8x1024x128_S1x1024x128_6_0_0)) me (View.ld x1 (Rect.unit ![7, 0, 0] S1x1024x128.size inb_S8x1024x128_S1x1024x128_7_0_0))) : FVec Ideal S1024x128 .f32) = fun y => total me (x0 y) fun k => x1 (slot y k) :=
  funext fun y => sum_eq x0 me _ _ _ _ _ _ _ _ y (fun k => x1 (slot y k)) (slot_read x1 0 inb_S8x1024x128_S1x1024x128_0_0_0 shapeCasts_S1x1024x128_S1024x128 y) (slot_read x1 1 inb_S8x1024x128_S1x1024x128_1_0_0 shapeCasts_S1x1024x128_S1024x128 y) (slot_read x1 2 inb_S8x1024x128_S1x1024x128_2_0_0 shapeCasts_S1x1024x128_S1024x128 y) (slot_read x1 3 inb_S8x1024x128_S1x1024x128_3_0_0 shapeCasts_S1x1024x128_S1024x128 y) (slot_read x1 4 inb_S8x1024x128_S1x1024x128_4_0_0 shapeCasts_S1x1024x128_S1024x128 y) (slot_read x1 5 inb_S8x1024x128_S1x1024x128_5_0_0 shapeCasts_S1x1024x128_S1024x128 y) (slot_read x1 6 inb_S8x1024x128_S1x1024x128_6_0_0 shapeCasts_S1x1024x128_S1024x128 y) (slot_read x1 7 inb_S8x1024x128_S1x1024x128_7_0_0 shapeCasts_S1x1024x128_S1024x128 y)

/-- The first moment's payload from the sum. -/
theorem pay_7 (x0 : FVec Ideal S1024x128 .f32) (v : FVec Ideal S1024x128 .f32) (o : BitVec 1) (p q r : BitVec 32) (a b c d : Vec Ideal S1x1024x128 .bf16) (m : Vec Ideal S1024x128 .f32) : k0_pay6 (F := Ideal) x0 v o a p b q c r d m = fun y => stepM (k0_pay5 (F := Ideal) x0 v o a p b q c r d y) (m y) := rfl

/-- The second moment's payload from the sum. -/
theorem pay_8 (g : FVec Ideal S1024x128 .f32) (n : Vec Ideal S1024x128 .f32) : k0_pay1 (F := Ideal) g n = fun y => stepV (g y) (n y) := rfl

/-- The change's payload from the sum. -/
theorem pay_6 (x0 : FVec Ideal S1024x128 .f32) (v : FVec Ideal S1024x128 .f32) (o : BitVec 1) (p q r : BitVec 32) (a b c d : Vec Ideal S1x1024x128 .bf16) (w m n : Vec Ideal S1024x128 .f32) : k0_pay2 (F := Ideal) (k0_pay5 (F := Ideal) x0 v o a p b q c r d) w n (k0_pay6 (F := Ideal) x0 v o a p b q c r d m) =
    fun y => stepD (w y) (k0_pay5 (F := Ideal) x0 v o a p b q c r d y) (m y) (n y) := rfl

/-- Window 5's block: the gradient summed over the devices. -/
theorem out_5  (c : Dev nD) (i : grid0.Coords) (arg2 : Memref sig .tc .vmem S1024x128 .bf16) (harg2 : arg2.IsWhole) (arg3 : Memref sig .tc .vmem S8x1024x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole)
    (x0 : Vec Ideal S1024x128 .bf16) (x1 : Vec Ideal S8x1024x128 .bf16) (x2 : Vec Ideal S1024x128 .f32) (x3 : Vec Ideal S1024x128 .f32) (x4 : Vec Ideal S1024x128 .f32) (xt0 : TbBuf0 (F := Ideal) c tbM0_0)  :
    out0_A_5 (F := Ideal) c i arg2 harg2 arg3 harg3 arg4 harg4 arg5 harg5 arg6 harg6 arg7 harg7 arg8 harg8 arg9 harg9 arg10 harg10 x0 x1 x2 x3 x4 xt0 = fun y => (total (word xt0) (x0 y) fun k => x1 (slot y k)) := by
  have e := sum_slots x0 (word xt0) x1
  have hw : ∀ h, View.ld (View.read (Elt Ideal) (View.whole main_arg5) xt0) (Rect.unit ![0] ![1] inb_S1_S1_0) (Shape.Idx.first h) = word xt0 := fun _ =>
    congrArg xt0 (funext fun a => match a with | ⟨0, _⟩ => rfl)
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread]
  refine (View.canon_unit_zero (Val := Elt Ideal) zero_off _ _).trans ?_
  rw [View.ld_unit_zero (Val := Elt Ideal) zero_off _ x0]
  simp only [hw]
  exact e

/-- Window 6's block: the change of the weights. -/
theorem out_6  (c : Dev nD) (i : grid0.Coords) (arg2 : Memref sig .tc .vmem S1024x128 .bf16) (harg2 : arg2.IsWhole) (arg3 : Memref sig .tc .vmem S8x1024x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole)
    (x0 : Vec Ideal S1024x128 .bf16) (x1 : Vec Ideal S8x1024x128 .bf16) (x2 : Vec Ideal S1024x128 .f32) (x3 : Vec Ideal S1024x128 .f32) (x4 : Vec Ideal S1024x128 .f32) (xt0 : TbBuf0 (F := Ideal) c tbM0_0)  :
    out0_A_6 (F := Ideal) c i arg2 harg2 arg3 harg3 arg4 harg4 arg5 harg5 arg6 harg6 arg7 harg7 arg8 harg8 arg9 harg9 arg10 harg10 x0 x1 x2 x3 x4 xt0 = fun y => stepD (x2 y) (total (word xt0) (x0 y) fun k => x1 (slot y k)) (x3 y) (x4 y) := by
  have e := sum_slots x0 (word xt0) x1
  have hw : ∀ h, View.ld (View.read (Elt Ideal) (View.whole main_arg5) xt0) (Rect.unit ![0] ![1] inb_S1_S1_0) (Shape.Idx.first h) = word xt0 := fun _ =>
    congrArg xt0 (funext fun a => match a with | ⟨0, _⟩ => rfl)
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread]
  refine (View.canon_unit_zero (Val := Elt Ideal) zero_off _ _).trans ?_
  rw [View.ld_unit_zero (Val := Elt Ideal) zero_off _ x0, View.ld_unit_zero (Val := Elt Ideal) zero_off _ x2, View.ld_unit_zero (Val := Elt Ideal) zero_off _ x3, View.ld_unit_zero (Val := Elt Ideal) zero_off _ x4]
  simp only [hw]
  rw [pay_6]
  exact congrArg (fun G : S1024x128.Idx → EReal => fun y => stepD (x2 y) (G y) (x3 y) (x4 y)) e

/-- Window 7's block: the first moment. -/
theorem out_7  (c : Dev nD) (i : grid0.Coords) (arg2 : Memref sig .tc .vmem S1024x128 .bf16) (harg2 : arg2.IsWhole) (arg3 : Memref sig .tc .vmem S8x1024x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole)
    (x0 : Vec Ideal S1024x128 .bf16) (x1 : Vec Ideal S8x1024x128 .bf16) (x2 : Vec Ideal S1024x128 .f32) (x3 : Vec Ideal S1024x128 .f32) (x4 : Vec Ideal S1024x128 .f32) (xt0 : TbBuf0 (F := Ideal) c tbM0_0)  :
    out0_A_7 (F := Ideal) c i arg2 harg2 arg3 harg3 arg4 harg4 arg5 harg5 arg6 harg6 arg7 harg7 arg8 harg8 arg9 harg9 arg10 harg10 x0 x1 x2 x3 x4 xt0 = fun y => stepM (total (word xt0) (x0 y) fun k => x1 (slot y k)) (x3 y) := by
  have e := sum_slots x0 (word xt0) x1
  have hw : ∀ h, View.ld (View.read (Elt Ideal) (View.whole main_arg5) xt0) (Rect.unit ![0] ![1] inb_S1_S1_0) (Shape.Idx.first h) = word xt0 := fun _ =>
    congrArg xt0 (funext fun a => match a with | ⟨0, _⟩ => rfl)
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread]
  refine (View.canon_unit_zero (Val := Elt Ideal) zero_off _ _).trans ?_
  rw [View.ld_unit_zero (Val := Elt Ideal) zero_off _ x0, View.ld_unit_zero (Val := Elt Ideal) zero_off _ x3]
  simp only [hw]
  rw [pay_7]
  exact congrArg (fun G : S1024x128.Idx → EReal => fun y => stepM (G y) (x3 y)) e

/-- Window 8's block: the second moment. -/
theorem out_8  (c : Dev nD) (i : grid0.Coords) (arg2 : Memref sig .tc .vmem S1024x128 .bf16) (harg2 : arg2.IsWhole) (arg3 : Memref sig .tc .vmem S8x1024x128 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x128 .f32) (harg10 : arg10.IsWhole)
    (x0 : Vec Ideal S1024x128 .bf16) (x1 : Vec Ideal S8x1024x128 .bf16) (x2 : Vec Ideal S1024x128 .f32) (x3 : Vec Ideal S1024x128 .f32) (x4 : Vec Ideal S1024x128 .f32) (xt0 : TbBuf0 (F := Ideal) c tbM0_0)  :
    out0_A_8 (F := Ideal) c i arg2 harg2 arg3 harg3 arg4 harg4 arg5 harg5 arg6 harg6 arg7 harg7 arg8 harg8 arg9 harg9 arg10 harg10 x0 x1 x2 x3 x4 xt0 = fun y => stepV (total (word xt0) (x0 y) fun k => x1 (slot y k)) (x4 y) := by
  have e := sum_slots x0 (word xt0) x1
  have hw : ∀ h, View.ld (View.read (Elt Ideal) (View.whole main_arg5) xt0) (Rect.unit ![0] ![1] inb_S1_S1_0) (Shape.Idx.first h) = word xt0 := fun _ =>
    congrArg xt0 (funext fun a => match a with | ⟨0, _⟩ => rfl)
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread]
  refine (View.canon_unit_zero (Val := Elt Ideal) zero_off _ _).trans ?_
  rw [View.ld_unit_zero (Val := Elt Ideal) zero_off _ x0, View.ld_unit_zero (Val := Elt Ideal) zero_off _ x4]
  simp only [hw]
  rw [pay_8]
  exact congrArg (fun G : S1024x128.Idx → EReal => fun y => stepV (G y) (x4 y)) e

variable (m : (ℓ : Loc nD τ sig) → Buf (Elt Ideal) ℓ)

/-- Window 0's block is the whole argument. -/
theorem blk_0 (hO : Ok (F := Ideal) m) (t : Fin (cfgM m hO).N) : iblk m hO 0 0 t = (m (((0 : Dev nD).tc : Thread nD τ).loc main_arg0)) := by
  refine funext fun z : S1024x128.Idx => congrArg (m (((0 : Dev nD).tc : Thread nD τ).loc main_arg0)) (funext fun a => Fin.ext ?_)
  match a with
  | ⟨0, _⟩ => show 0 * 1024 + 1 * (z 0).val = (z 0).val; omega
  | ⟨1, _⟩ => show 0 * 128 + 1 * (z 1).val = (z 1).val; omega

/-- Window 1's block is the whole argument. -/
theorem blk_1 (hO : Ok (F := Ideal) m) (t : Fin (cfgM m hO).N) : iblk m hO 0 1 t = (m (((0 : Dev nD).tc : Thread nD τ).loc main_arg1)) := by
  refine funext fun z : S8x1024x128.Idx => congrArg (m (((0 : Dev nD).tc : Thread nD τ).loc main_arg1)) (funext fun a => Fin.ext ?_)
  match a with
  | ⟨0, _⟩ => show 0 * 8 + 1 * (z 0).val = (z 0).val; omega
  | ⟨1, _⟩ => show 0 * 1024 + 1 * (z 1).val = (z 1).val; omega
  | ⟨2, _⟩ => show 0 * 128 + 1 * (z 2).val = (z 2).val; omega

/-- Window 2's block is the whole argument. -/
theorem blk_2 (hO : Ok (F := Ideal) m) (t : Fin (cfgM m hO).N) : iblk m hO 0 2 t = (m (((0 : Dev nD).tc : Thread nD τ).loc main_arg2)) := by
  refine funext fun z : S1024x128.Idx => congrArg (m (((0 : Dev nD).tc : Thread nD τ).loc main_arg2)) (funext fun a => Fin.ext ?_)
  match a with
  | ⟨0, _⟩ => show 0 * 1024 + 1 * (z 0).val = (z 0).val; omega
  | ⟨1, _⟩ => show 0 * 128 + 1 * (z 1).val = (z 1).val; omega

/-- Window 3's block is the whole argument. -/
theorem blk_3 (hO : Ok (F := Ideal) m) (t : Fin (cfgM m hO).N) : iblk m hO 0 3 t = (m (((0 : Dev nD).tc : Thread nD τ).loc main_arg3)) := by
  refine funext fun z : S1024x128.Idx => congrArg (m (((0 : Dev nD).tc : Thread nD τ).loc main_arg3)) (funext fun a => Fin.ext ?_)
  match a with
  | ⟨0, _⟩ => show 0 * 1024 + 1 * (z 0).val = (z 0).val; omega
  | ⟨1, _⟩ => show 0 * 128 + 1 * (z 1).val = (z 1).val; omega

/-- Window 4's block is the whole argument. -/
theorem blk_4 (hO : Ok (F := Ideal) m) (t : Fin (cfgM m hO).N) : iblk m hO 0 4 t = (m (((0 : Dev nD).tc : Thread nD τ).loc main_arg4)) := by
  refine funext fun z : S1024x128.Idx => congrArg (m (((0 : Dev nD).tc : Thread nD τ).loc main_arg4)) (funext fun a => Fin.ext ?_)
  match a with
  | ⟨0, _⟩ => show 0 * 1024 + 1 * (z 0).val = (z 0).val; omega
  | ⟨1, _⟩ => show 0 * 128 + 1 * (z 1).val = (z 1).val; omega

/-- The one block covers the array. -/
theorem cov_5 (hO : Ok (F := Ideal) m) : ((cfgM m hO).win 5).Covers :=
  of_decide_eq_true (by sl_kernel_rfl)

/-- The block's place in the array. -/
theorem emb_5 (hO : Ok (F := Ideal) m) (t : Fin (cfgM m hO).N) (y : S1024x128.Idx) :
    ((((cfgM m hO).win 5).blk t).view.emb y : S1024x128.Idx) = y := by
  refine (funext fun a => Fin.ext ?_)
  match a with
  | ⟨0, _⟩ => show 0 * 1024 + 1 * (y 0).val = (y 0).val; omega
  | ⟨1, _⟩ => show 0 * 128 + 1 * (y 1).val = (y 1).val; omega

/-- What the point leaves: the gradient summed over the devices. -/
theorem left_5 (hO : Ok (F := Ideal) m) (t : Fin (cfgM m hO).N) (y : S1024x128.Idx) : (dats m hO 0 0).after 5 t y =
    (total (word (tbl m 0)) (iblk m hO 0 0 t y) fun k => iblk m hO 0 1 t (slot y k)) := by
  have e := out_5 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)
  have a := after0_5 m hO 0 t
  unfold outsAt0 at a
  dsimp only at a
  exact congrFun (a.trans e) y

/-- The array: the gradient summed over the devices. -/
theorem arr_5 (hO : Ok (F := Ideal) m) (c : Dev nD) : (dats m hO 0 c).arrAt 5 (cfgM m hO).N = fun y => (total (word (m ((c.tc : Thread nD τ).loc main_arg5))) ((m ((c.tc : Thread nD τ).loc main_arg0)) y) fun k => (m ((c.tc : Thread nD τ).loc main_arg1)) (slot y k)) := by
  obtain rfl : c = 0 := Subsingleton.elim _ _
  refine (dats m hO 0 0).arrAt_eq_of_covers 5 _ (cov_5 m hO) fun t hf y => ?_
  refine (left_5 m hO t y).trans ?_
  rw [blk_0 m hO t, blk_1 m hO t]
  exact (congrArg (fun y : S1024x128.Idx => (total (word (m (((0 : Dev nD).tc : Thread nD τ).loc main_arg5))) ((m (((0 : Dev nD).tc : Thread nD τ).loc main_arg0)) y) fun k => (m (((0 : Dev nD).tc : Thread nD τ).loc main_arg1)) (slot y k))) (emb_5 m hO t y)).symm

/-- The one block covers the array. -/
theorem cov_6 (hO : Ok (F := Ideal) m) : ((cfgM m hO).win 6).Covers :=
  of_decide_eq_true (by sl_kernel_rfl)

/-- The block's place in the array. -/
theorem emb_6 (hO : Ok (F := Ideal) m) (t : Fin (cfgM m hO).N) (y : S1024x128.Idx) :
    ((((cfgM m hO).win 6).blk t).view.emb y : S1024x128.Idx) = y := by
  refine (funext fun a => Fin.ext ?_)
  match a with
  | ⟨0, _⟩ => show 0 * 1024 + 1 * (y 0).val = (y 0).val; omega
  | ⟨1, _⟩ => show 0 * 128 + 1 * (y 1).val = (y 1).val; omega

/-- What the point leaves: the change of the weights. -/
theorem left_6 (hO : Ok (F := Ideal) m) (t : Fin (cfgM m hO).N) (y : S1024x128.Idx) : (dats m hO 0 0).after 6 t y =
    stepD (iblk m hO 0 2 t y) (total (word (tbl m 0)) (iblk m hO 0 0 t y) fun k => iblk m hO 0 1 t (slot y k)) (iblk m hO 0 3 t y) (iblk m hO 0 4 t y) := by
  have e := out_6 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)
  have a := after0_6 m hO 0 t
  unfold outsAt0 at a
  dsimp only at a
  exact congrFun (a.trans e) y

/-- The array: the change of the weights. -/
theorem arr_6 (hO : Ok (F := Ideal) m) (c : Dev nD) : (dats m hO 0 c).arrAt 6 (cfgM m hO).N = fun y => stepD ((m ((c.tc : Thread nD τ).loc main_arg2)) y) (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) ((m ((c.tc : Thread nD τ).loc main_arg4)) y) := by
  obtain rfl : c = 0 := Subsingleton.elim _ _
  refine (dats m hO 0 0).arrAt_eq_of_covers 6 _ (cov_6 m hO) fun t hf y => ?_
  refine (left_6 m hO t y).trans ?_
  rw [blk_0 m hO t, blk_1 m hO t, blk_2 m hO t, blk_3 m hO t, blk_4 m hO t]
  exact (congrArg (fun y : S1024x128.Idx => stepD ((m (((0 : Dev nD).tc : Thread nD τ).loc main_arg2)) y) (total (word (m (((0 : Dev nD).tc : Thread nD τ).loc main_arg5))) ((m (((0 : Dev nD).tc : Thread nD τ).loc main_arg0)) y) fun k => (m (((0 : Dev nD).tc : Thread nD τ).loc main_arg1)) (slot y k)) ((m (((0 : Dev nD).tc : Thread nD τ).loc main_arg3)) y) ((m (((0 : Dev nD).tc : Thread nD τ).loc main_arg4)) y)) (emb_6 m hO t y)).symm

/-- The one block covers the array. -/
theorem cov_7 (hO : Ok (F := Ideal) m) : ((cfgM m hO).win 7).Covers :=
  of_decide_eq_true (by sl_kernel_rfl)

/-- The block's place in the array. -/
theorem emb_7 (hO : Ok (F := Ideal) m) (t : Fin (cfgM m hO).N) (y : S1024x128.Idx) :
    ((((cfgM m hO).win 7).blk t).view.emb y : S1024x128.Idx) = y := by
  refine (funext fun a => Fin.ext ?_)
  match a with
  | ⟨0, _⟩ => show 0 * 1024 + 1 * (y 0).val = (y 0).val; omega
  | ⟨1, _⟩ => show 0 * 128 + 1 * (y 1).val = (y 1).val; omega

/-- What the point leaves: the first moment. -/
theorem left_7 (hO : Ok (F := Ideal) m) (t : Fin (cfgM m hO).N) (y : S1024x128.Idx) : (dats m hO 0 0).after 7 t y =
    stepM (total (word (tbl m 0)) (iblk m hO 0 0 t y) fun k => iblk m hO 0 1 t (slot y k)) (iblk m hO 0 3 t y) := by
  have e := out_7 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)
  have a := after0_7 m hO 0 t
  unfold outsAt0 at a
  dsimp only at a
  exact congrFun (a.trans e) y

/-- The array: the first moment. -/
theorem arr_7 (hO : Ok (F := Ideal) m) (c : Dev nD) : (dats m hO 0 c).arrAt 7 (cfgM m hO).N = fun y => stepM (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) := by
  obtain rfl : c = 0 := Subsingleton.elim _ _
  refine (dats m hO 0 0).arrAt_eq_of_covers 7 _ (cov_7 m hO) fun t hf y => ?_
  refine (left_7 m hO t y).trans ?_
  rw [blk_0 m hO t, blk_1 m hO t, blk_3 m hO t]
  exact (congrArg (fun y : S1024x128.Idx => stepM (total (word (m (((0 : Dev nD).tc : Thread nD τ).loc main_arg5))) ((m (((0 : Dev nD).tc : Thread nD τ).loc main_arg0)) y) fun k => (m (((0 : Dev nD).tc : Thread nD τ).loc main_arg1)) (slot y k)) ((m (((0 : Dev nD).tc : Thread nD τ).loc main_arg3)) y)) (emb_7 m hO t y)).symm

/-- The one block covers the array. -/
theorem cov_8 (hO : Ok (F := Ideal) m) : ((cfgM m hO).win 8).Covers :=
  of_decide_eq_true (by sl_kernel_rfl)

/-- The block's place in the array. -/
theorem emb_8 (hO : Ok (F := Ideal) m) (t : Fin (cfgM m hO).N) (y : S1024x128.Idx) :
    ((((cfgM m hO).win 8).blk t).view.emb y : S1024x128.Idx) = y := by
  refine (funext fun a => Fin.ext ?_)
  match a with
  | ⟨0, _⟩ => show 0 * 1024 + 1 * (y 0).val = (y 0).val; omega
  | ⟨1, _⟩ => show 0 * 128 + 1 * (y 1).val = (y 1).val; omega

/-- What the point leaves: the second moment. -/
theorem left_8 (hO : Ok (F := Ideal) m) (t : Fin (cfgM m hO).N) (y : S1024x128.Idx) : (dats m hO 0 0).after 8 t y =
    stepV (total (word (tbl m 0)) (iblk m hO 0 0 t y) fun k => iblk m hO 0 1 t (slot y k)) (iblk m hO 0 4 t y) := by
  have e := out_8 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)
  have a := after0_8 m hO 0 t
  unfold outsAt0 at a
  dsimp only at a
  exact congrFun (a.trans e) y

/-- The array: the second moment. -/
theorem arr_8 (hO : Ok (F := Ideal) m) (c : Dev nD) : (dats m hO 0 c).arrAt 8 (cfgM m hO).N = fun y => stepV (total (word (m ((c.tc : Thread nD τ).loc main_arg5))) ((m ((c.tc : Thread nD τ).loc main_arg0)) y) fun k => (m ((c.tc : Thread nD τ).loc main_arg1)) (slot y k)) ((m ((c.tc : Thread nD τ).loc main_arg4)) y) := by
  obtain rfl : c = 0 := Subsingleton.elim _ _
  refine (dats m hO 0 0).arrAt_eq_of_covers 8 _ (cov_8 m hO) fun t hf y => ?_
  refine (left_8 m hO t y).trans ?_
  rw [blk_0 m hO t, blk_1 m hO t, blk_4 m hO t]
  exact (congrArg (fun y : S1024x128.Idx => stepV (total (word (m (((0 : Dev nD).tc : Thread nD τ).loc main_arg5))) ((m (((0 : Dev nD).tc : Thread nD τ).loc main_arg0)) y) fun k => (m (((0 : Dev nD).tc : Thread nD τ).loc main_arg1)) (slot y k)) ((m (((0 : Dev nD).tc : Thread nD τ).loc main_arg4)) y)) (emb_8 m hO t y)).symm

/-- The run with each result named and the arguments unchanged. -/
theorem run (ρ : Dev nD → PrngReg) (hO : Ok (F := Ideal) m) : θ_run defs (onTc (τ := τ) (main (F := Ideal))) ⟨m, fun _ => 0, ρ⟩ fun r => ∀ c : Dev nD,
      r.2.mem ((c.tc : Thread nD τ).loc main_v0_0) = (fun y => (total (word (m ((c.tc : Thread nD τ).loc main_arg5))) ((m ((c.tc : Thread nD τ).loc main_arg0)) y) fun k => (m ((c.tc : Thread nD τ).loc main_arg1)) (slot y k)))
      ∧ r.2.mem ((c.tc : Thread nD τ).loc main_v0_1) = (fun y => stepD ((m ((c.tc : Thread nD τ).loc main_arg2)) y) (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) ((m ((c.tc : Thread nD τ).loc main_arg4)) y))
      ∧ r.2.mem ((c.tc : Thread nD τ).loc main_v0_2) = (fun y => stepM (total (word (m ((c.tc : Thread nD τ).loc main_arg5))) ((m ((c.tc : Thread nD τ).loc main_arg0)) y) fun k => (m ((c.tc : Thread nD τ).loc main_arg1)) (slot y k)) ((m ((c.tc : Thread nD τ).loc main_arg3)) y))
      ∧ r.2.mem ((c.tc : Thread nD τ).loc main_v0_3) = (fun y => stepV (total (word (m ((c.tc : Thread nD τ).loc main_arg5))) ((m ((c.tc : Thread nD τ).loc main_arg0)) y) fun k => (m ((c.tc : Thread nD τ).loc main_arg1)) (slot y k)) ((m ((c.tc : Thread nD τ).loc main_arg4)) y)) :=
  (θ_run defs _ _).mono (fun r h c => ⟨((h c).1 5).trans (arr_5 m hO c), ((h c).1 6).trans (arr_6 m hO c), ((h c).1 7).trans (arr_7 m hO c), ((h c).1 8).trans (arr_8 m hO c)⟩) (run_main m ρ hO)

/-- The reference's frame. -/
theorem frame_ref : Cert.quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

/-- The reference's sum of the slots is the same sum. -/
theorem ref_sum (x0 : (⟨Cert.Reference8Ideal.S1024x128, .bf16⟩ : BufTy).Contents (Elt Ideal)) (x1 : (⟨Cert.Reference8Ideal.S8x1024x128, .bf16⟩ : BufTy).Contents (Elt Ideal)) (x5 : (⟨Cert.Reference8Ideal.S1, .i32⟩ : BufTy).Contents (Elt Ideal)) :
    Cert.Reference8Ideal.Read.val_main_v8 (F := Ideal) x0 x1 x5 = fun y => total (word x5) (x0 y) fun k => x1 (slot y k) := by
  funext y
  rw [Cert.Reference8Ideal.Read.val_main_v8_apply, Cert.Reference8Ideal.Read.val_main_cst_apply]
  refine Eq.trans (b := (0 : EReal) + ∑ k : Fin 8, Cert.Reference8Ideal.Read.val_main_v7 (F := Ideal) x0 x1 x5 (Cert.Reference8Ideal.Read.idx_main_v8 y k)) ?_ ?_
  · exact congrArg (· + _) Ideal.ofBits_zero_f32
  rw [zero_add]
  unfold total
  refine Finset.sum_congr rfl fun k _ => ?_
  have hw : Cert.Reference8Ideal.Read.val_main_v2 (F := Ideal) x5 (Cert.Reference8Ideal.Read.idx_main_v3 (Cert.Reference8Ideal.Read.idx_main_call0_v0 (Cert.Reference8Ideal.Read.idx_main_v8 y k))) = word x5 :=
    congrArg x5 (funext fun a => match a with | ⟨0, _⟩ => Subsingleton.elim (α := Fin 1) _ _)
  have hi : Cert.Reference8Ideal.Read.idx_main_call0_v1 (Cert.Reference8Ideal.Read.idx_main_v8 y k) = y := funext fun a => match a with
    | ⟨0, _⟩ => rfl
    | ⟨1, _⟩ => rfl
  rw [Cert.Reference8Ideal.Read.val_main_v7_apply, Cert.Reference8Ideal.Read.val_main_call0_v0_apply, Cert.Reference8Ideal.Read.val_main_v4_apply, Cert.Reference8Ideal.Read.val_main_v3_apply, hw,
    Cert.Reference8Ideal.Read.val_main_v1_apply, Cert.Reference8Ideal.Read.val_main_v0_apply, Cert.Reference8Ideal.Read.val_main_call0_v1_apply, hi, cmpi_comm]
  rfl

/-- The idealized call sums the slots and takes the reference's step. -/
theorem algebraic : Cert.algebraic_Kernel8Ideal_Reference8Ideal := by
  intro m g m' g' _ hargs
  have hO : Ok (F := Ideal) m := trivial
  refine ⟨fun c => fun y => (total (word (m ((c.tc : Thread nD τ).loc main_arg5))) ((m ((c.tc : Thread nD τ).loc main_arg0)) y) fun k => (m ((c.tc : Thread nD τ).loc main_arg1)) (slot y k)), fun c => fun y => stepD ((m ((c.tc : Thread nD τ).loc main_arg2)) y) (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) ((m ((c.tc : Thread nD τ).loc main_arg4)) y), fun c => fun y => stepM (total (word (m ((c.tc : Thread nD τ).loc main_arg5))) ((m ((c.tc : Thread nD τ).loc main_arg0)) y) fun k => (m ((c.tc : Thread nD τ).loc main_arg1)) (slot y k)) ((m ((c.tc : Thread nD τ).loc main_arg3)) y), fun c => fun y => stepV (total (word (m ((c.tc : Thread nD τ).loc main_arg5))) ((m ((c.tc : Thread nD τ).loc main_arg0)) y) fun k => (m ((c.tc : Thread nD τ).loc main_arg1)) (slot y k)) ((m ((c.tc : Thread nD τ).loc main_arg4)) y), ?_, ?_⟩
  · refine (θ_run Cert.Kernel8Ideal.defs _ _).mono (fun r h c => ?_) (θ_run_and (run m g hO) (unchanged m g hO))
    exact ⟨(h.1 c).1, (h.1 c).2.1, (h.1 c).2.2.1, (h.1 c).2.2.2, h.2 c⟩
  · refine (θ_run Cert.Reference8Ideal.defs _ _).mono (fun r h c => ?_) (Cert.Reference8Ideal.Value.run (F := Ideal) m' g')
    obtain ⟨e0, e1, e2, e3, e4, e5⟩ := hargs c
    have q0 : Cert.Reference8Ideal.Read.val_main_v8 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg5)) = fun y => (total (word (m ((c.tc : Thread nD τ).loc main_arg5))) ((m ((c.tc : Thread nD τ).loc main_arg0)) y) fun k => (m ((c.tc : Thread nD τ).loc main_arg1)) (slot y k)) := by
      rw [e0, e1, e5]
      exact ref_sum _ _ _
    have q1 : Cert.Reference8Ideal.Read.val_main_v32 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) = fun y => stepD ((m ((c.tc : Thread nD τ).loc main_arg2)) y) (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) ((m ((c.tc : Thread nD τ).loc main_arg4)) y) := by
      rw [e0, e1, e2, e3, e4, e5]
      refine Eq.trans (b := fun y => stepD ((m ((c.tc : Thread nD τ).loc main_arg2)) y) (Cert.Reference8Ideal.Read.val_main_v8 (F := Ideal) (m ((c.tc : Thread nD τ).loc main_arg0)) (m ((c.tc : Thread nD τ).loc main_arg1)) (m ((c.tc : Thread nD τ).loc main_arg5)) y) ((m ((c.tc : Thread nD τ).loc main_arg3)) y) ((m ((c.tc : Thread nD τ).loc main_arg4)) y)) rfl ?_
      simp only [ref_sum]
      all_goals rfl
    have q2 : Cert.Reference8Ideal.Read.val_main_v13 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg5)) = fun y => stepM (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) := by
      rw [e0, e1, e3, e5]
      refine Eq.trans (b := fun y => stepM (Cert.Reference8Ideal.Read.val_main_v8 (F := Ideal) (m ((c.tc : Thread nD τ).loc main_arg0)) (m ((c.tc : Thread nD τ).loc main_arg1)) (m ((c.tc : Thread nD τ).loc main_arg5)) y) ((m ((c.tc : Thread nD τ).loc main_arg3)) y)) rfl ?_
      simp only [ref_sum]
      all_goals rfl
    have q3 : Cert.Reference8Ideal.Read.val_main_v19 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) = fun y => stepV (total (word (m ((c.tc : Thread nD τ).loc main_arg5))) ((m ((c.tc : Thread nD τ).loc main_arg0)) y) fun k => (m ((c.tc : Thread nD τ).loc main_arg1)) (slot y k)) ((m ((c.tc : Thread nD τ).loc main_arg4)) y) := by
      rw [e0, e1, e4, e5]
      refine Eq.trans (b := fun y => stepV (Cert.Reference8Ideal.Read.val_main_v8 (F := Ideal) (m ((c.tc : Thread nD τ).loc main_arg0)) (m ((c.tc : Thread nD τ).loc main_arg1)) (m ((c.tc : Thread nD τ).loc main_arg5)) y) ((m ((c.tc : Thread nD τ).loc main_arg4)) y)) rfl ?_
      simp only [ref_sum]
      all_goals rfl
    exact ⟨((h c).1.trans (Cert.Reference8Ideal.Read.val_main_v8_eq _ _ _ )).trans q0, ((h c).2.1.trans (Cert.Reference8Ideal.Read.val_main_v32_eq _ _ _ _ _ _ )).trans q1, ((h c).2.2.1.trans (Cert.Reference8Ideal.Read.val_main_v13_eq _ _ _ _ )).trans q2, ((h c).2.2.2.1.trans (Cert.Reference8Ideal.Read.val_main_v19_eq _ _ _ _ )).trans q3, (h c).2.2.2.2⟩

end Cert.AdamSpatial

end
-- ==== Proof.AdamLate.lean ====
module

public import proofs.«01_k».proof.Defs
public import proofs.«01_k».proof.Proof.AdamMath
public import proofs.«01_k».proof.Proof.Gen.Kernel9Ideal.Frame
public import proofs.«01_k».proof.Proof.Gen.Reference9Ideal.Run
public import proofs.«01_k».proof.Proof.Gen.Reference9Ideal.Read
public import Idealize.ShloMosaic.Lib.Pipeline.ValueKit
public import Idealize.ShloMosaic.Lib.Quiescent

@[expose] public section

set_option maxRecDepth 16384

noncomputable section

/-! The optimiser's step of the small parameter packed late. -/

namespace Cert.AdamLate

open Cert.Kernel9Ideal Cert.Kernel9Ideal.Gen Idealize.ShloMosaic.TcCoe Idealize.SL.Sem
open Idealize.ShloMosaic
open Cert.Adam (stepM stepV stepD pick total select_apply cmpi_comm)

theorem zero_off : (![0, 0] : Fin 2 → Nat) = fun _ => 0 := funext fun a => match a with
  | 0 => rfl
  | 1 => rfl

/-- Entry `y` of slot `k`. -/
def slot (y : S1x1024.Idx) (k : Fin 8) : S8x1x1024.Idx := fun a => match a with
  | ⟨0, _⟩ => ⟨k.val, k.isLt⟩
  | ⟨1, _⟩ => ⟨(y 0).val, (y 0).isLt⟩
  | ⟨2, _⟩ => ⟨(y 1).val, (y 1).isLt⟩

/-- The one word of the device's number. -/
def word (x : S1.Idx → BitVec 32) : BitVec 32 := x fun _ => ⟨0, by decide +revert⟩

/-- A slot read off the stack and cast to two axes. -/
theorem slot_read (x1 : Vec Ideal S8x1x1024 .f32) (k : Fin 8) (inb : ∀ a, (![k.val, 0, 0] : Fin 3 → Nat) a + S1x1x1024.size a ≤ S8x1x1024.size a) (h : S1x1x1024.ShapeCasts S1x1024) (y : S1x1024.Idx) :
    shapeCast S1x1024 (View.ld x1 (Rect.unit ![k.val, 0, 0] S1x1x1024.size inb)) h y = x1 (slot y k) := by
  refine (shapeCast_dropUnit_apply ![1, 1024] _ h y).trans ?_
  refine congrArg x1 (funext fun a => Fin.ext ?_)
  match a with
  | ⟨0, _⟩ => show k.val + 1 * 0 = k.val; omega
  | ⟨1, _⟩ => show 0 + 1 * (y 0).val = (y 0).val; omega
  | ⟨2, _⟩ => show 0 + 1 * (y 1).val = (y 1).val; omega

/-- The call's sum of eight slots, the device's own in its place, an entry at a time. -/
theorem sum_eq (x0 : Vec Ideal S1x1024 .f32) (me : BitVec 32) (s0 s1 s2 s3 s4 s5 s6 s7 : Vec Ideal S1x1x1024 .f32) (y : S1x1024.Idx) (f : Fin 8 → EReal)
    (h0 : shapeCast S1x1024 s0 shapeCasts_S1x1x1024_S1x1024 y = f 0)
    (h1 : shapeCast S1x1024 s1 shapeCasts_S1x1x1024_S1x1024 y = f 1)
    (h2 : shapeCast S1x1024 s2 shapeCasts_S1x1x1024_S1x1024 y = f 2)
    (h3 : shapeCast S1x1024 s3 shapeCasts_S1x1x1024_S1x1024 y = f 3)
    (h4 : shapeCast S1x1024 s4 shapeCasts_S1x1x1024_S1x1024 y = f 4)
    (h5 : shapeCast S1x1024 s5 shapeCasts_S1x1x1024_S1x1024 y = f 5)
    (h6 : shapeCast S1x1024 s6 shapeCasts_S1x1x1024_S1x1024 y = f 6)
    (h7 : shapeCast S1x1024 s7 shapeCasts_S1x1x1024_S1x1024 y = f 7) :
    ((k0_pay3 x0 (k0_pay2 x0 me s0 me s1 me s2 me s3 me s4) me s5 me s6 me s7) : FVec Ideal S1x1024 .f32) y = total me (x0 y) f := by
  unfold total
  rw [Fin.sum_univ_eight, ← h0, ← h1, ← h2, ← h3, ← h4, ← h5, ← h6, ← h7]
  unfold k0_pay3 k0_pay2
  dsimp only
  simp only [pick]
  simp only [← select_apply]
  rfl

/-- The same of a stack of slots. -/
theorem sum_slots (x0 : Vec Ideal S1x1024 .f32) (me : BitVec 32) (x1 : Vec Ideal S8x1x1024 .f32) :
    ((k0_pay3 x0 (k0_pay2 x0 me (View.ld x1 (Rect.unit ![0, 0, 0] S1x1x1024.size inb_S8x1x1024_S1x1x1024_0_0_0)) me (View.ld x1 (Rect.unit ![1, 0, 0] S1x1x1024.size inb_S8x1x1024_S1x1x1024_1_0_0)) me (View.ld x1 (Rect.unit ![2, 0, 0] S1x1x1024.size inb_S8x1x1024_S1x1x1024_2_0_0)) me (View.ld x1 (Rect.unit ![3, 0, 0] S1x1x1024.size inb_S8x1x1024_S1x1x1024_3_0_0)) me (View.ld x1 (Rect.unit ![4, 0, 0] S1x1x1024.size inb_S8x1x1024_S1x1x1024_4_0_0))) me (View.ld x1 (Rect.unit ![5, 0, 0] S1x1x1024.size inb_S8x1x1024_S1x1x1024_5_0_0)) me (View.ld x1 (Rect.unit ![6, 0, 0] S1x1x1024.size inb_S8x1x1024_S1x1x1024_6_0_0)) me (View.ld x1 (Rect.unit ![7, 0, 0] S1x1x1024.size inb_S8x1x1024_S1x1x1024_7_0_0))) : FVec Ideal S1x1024 .f32) = fun y => total me (x0 y) fun k => x1 (slot y k) :=
  funext fun y => sum_eq x0 me _ _ _ _ _ _ _ _ y (fun k => x1 (slot y k)) (slot_read x1 0 inb_S8x1x1024_S1x1x1024_0_0_0 shapeCasts_S1x1x1024_S1x1024 y) (slot_read x1 1 inb_S8x1x1024_S1x1x1024_1_0_0 shapeCasts_S1x1x1024_S1x1024 y) (slot_read x1 2 inb_S8x1x1024_S1x1x1024_2_0_0 shapeCasts_S1x1x1024_S1x1024 y) (slot_read x1 3 inb_S8x1x1024_S1x1x1024_3_0_0 shapeCasts_S1x1x1024_S1x1024 y) (slot_read x1 4 inb_S8x1x1024_S1x1x1024_4_0_0 shapeCasts_S1x1x1024_S1x1024 y) (slot_read x1 5 inb_S8x1x1024_S1x1x1024_5_0_0 shapeCasts_S1x1x1024_S1x1024 y) (slot_read x1 6 inb_S8x1x1024_S1x1x1024_6_0_0 shapeCasts_S1x1x1024_S1x1024 y) (slot_read x1 7 inb_S8x1x1024_S1x1x1024_7_0_0 shapeCasts_S1x1x1024_S1x1024 y)

/-- The first moment's payload from the sum. -/
theorem pay_7 (x0 : Vec Ideal S1x1024 .f32) (v : FVec Ideal S1x1024 .f32) (p q r : BitVec 32) (a b c : Vec Ideal S1x1x1024 .f32) (m : Vec Ideal S1x1024 .f32) : k0_pay4 (F := Ideal) x0 v p a q b r c m = fun y => stepM (k0_pay3 (F := Ideal) x0 v p a q b r c y) (m y) := rfl

/-- The second moment's payload from the sum. -/
theorem pay_8 (x0 : Vec Ideal S1x1024 .f32) (v : FVec Ideal S1x1024 .f32) (p q r : BitVec 32) (a b c : Vec Ideal S1x1x1024 .f32) (n : Vec Ideal S1x1024 .f32) : k0_pay5 (F := Ideal) x0 v p a q b r c n = fun y => stepV (k0_pay3 (F := Ideal) x0 v p a q b r c y) (n y) := rfl

/-- The change's payload from the sum. -/
theorem pay_6 (x0 : Vec Ideal S1x1024 .f32) (v : FVec Ideal S1x1024 .f32) (p q r : BitVec 32) (a b c : Vec Ideal S1x1x1024 .f32) (w m n : Vec Ideal S1x1024 .f32) : k0_pay1 (F := Ideal) w (k0_pay4 (F := Ideal) x0 v p a q b r c m) (k0_pay5 (F := Ideal) x0 v p a q b r c n) (Scalar.ofBits .f32 0x3F26BD02#32) =
    fun y => stepD (w y) (k0_pay3 (F := Ideal) x0 v p a q b r c y) (m y) (n y) := rfl

/-- Window 5's block: the gradient summed over the devices. -/
theorem out_5  (c : Dev nD) (i : grid0.Coords) (arg2 : Memref sig .tc .vmem S1x1024 .f32) (harg2 : arg2.IsWhole) (arg3 : Memref sig .tc .vmem S8x1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole)
    (x0 : Vec Ideal S1x1024 .f32) (x1 : Vec Ideal S8x1x1024 .f32) (x2 : Vec Ideal S1x1024 .f32) (x3 : Vec Ideal S1x1024 .f32) (x4 : Vec Ideal S1x1024 .f32) (xt0 : TbBuf0 (F := Ideal) c tbM0_0)  :
    out0_A_5 (F := Ideal) c i arg2 harg2 arg3 harg3 arg4 harg4 arg5 harg5 arg6 harg6 arg7 harg7 arg8 harg8 arg9 harg9 arg10 harg10 x0 x1 x2 x3 x4 xt0 = fun y => (total (word xt0) (x0 y) fun k => x1 (slot y k)) := by
  have e := sum_slots x0 (word xt0) x1
  have hw : ∀ h, View.ld (View.read (Elt Ideal) (View.whole main_arg5) xt0) (Rect.unit ![0] ![1] inb_S1_S1_0) (Shape.Idx.first h) = word xt0 := fun _ =>
    congrArg xt0 (funext fun a => match a with | ⟨0, _⟩ => rfl)
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread]
  refine (View.canon_unit_zero (Val := Elt Ideal) zero_off _ _).trans ?_
  rw [View.ld_unit_zero (Val := Elt Ideal) zero_off _ x0]
  simp only [hw]
  exact e

/-- Window 6's block: the change of the weights. -/
theorem out_6  (c : Dev nD) (i : grid0.Coords) (arg2 : Memref sig .tc .vmem S1x1024 .f32) (harg2 : arg2.IsWhole) (arg3 : Memref sig .tc .vmem S8x1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole)
    (x0 : Vec Ideal S1x1024 .f32) (x1 : Vec Ideal S8x1x1024 .f32) (x2 : Vec Ideal S1x1024 .f32) (x3 : Vec Ideal S1x1024 .f32) (x4 : Vec Ideal S1x1024 .f32) (xt0 : TbBuf0 (F := Ideal) c tbM0_0)  :
    out0_A_6 (F := Ideal) c i arg2 harg2 arg3 harg3 arg4 harg4 arg5 harg5 arg6 harg6 arg7 harg7 arg8 harg8 arg9 harg9 arg10 harg10 x0 x1 x2 x3 x4 xt0 = fun y => stepD (x2 y) (total (word xt0) (x0 y) fun k => x1 (slot y k)) (x3 y) (x4 y) := by
  have e := sum_slots x0 (word xt0) x1
  have hw : ∀ h, View.ld (View.read (Elt Ideal) (View.whole main_arg5) xt0) (Rect.unit ![0] ![1] inb_S1_S1_0) (Shape.Idx.first h) = word xt0 := fun _ =>
    congrArg xt0 (funext fun a => match a with | ⟨0, _⟩ => rfl)
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread]
  refine (View.canon_unit_zero (Val := Elt Ideal) zero_off _ _).trans ?_
  rw [View.ld_unit_zero (Val := Elt Ideal) zero_off _ x0, View.ld_unit_zero (Val := Elt Ideal) zero_off _ x2, View.ld_unit_zero (Val := Elt Ideal) zero_off _ x3, View.ld_unit_zero (Val := Elt Ideal) zero_off _ x4]
  simp only [hw]
  rw [pay_6]
  exact congrArg (fun G : S1x1024.Idx → EReal => fun y => stepD (x2 y) (G y) (x3 y) (x4 y)) e

/-- Window 7's block: the first moment. -/
theorem out_7  (c : Dev nD) (i : grid0.Coords) (arg2 : Memref sig .tc .vmem S1x1024 .f32) (harg2 : arg2.IsWhole) (arg3 : Memref sig .tc .vmem S8x1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole)
    (x0 : Vec Ideal S1x1024 .f32) (x1 : Vec Ideal S8x1x1024 .f32) (x2 : Vec Ideal S1x1024 .f32) (x3 : Vec Ideal S1x1024 .f32) (x4 : Vec Ideal S1x1024 .f32) (xt0 : TbBuf0 (F := Ideal) c tbM0_0)  :
    out0_A_7 (F := Ideal) c i arg2 harg2 arg3 harg3 arg4 harg4 arg5 harg5 arg6 harg6 arg7 harg7 arg8 harg8 arg9 harg9 arg10 harg10 x0 x1 x2 x3 x4 xt0 = fun y => stepM (total (word xt0) (x0 y) fun k => x1 (slot y k)) (x3 y) := by
  have e := sum_slots x0 (word xt0) x1
  have hw : ∀ h, View.ld (View.read (Elt Ideal) (View.whole main_arg5) xt0) (Rect.unit ![0] ![1] inb_S1_S1_0) (Shape.Idx.first h) = word xt0 := fun _ =>
    congrArg xt0 (funext fun a => match a with | ⟨0, _⟩ => rfl)
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread]
  refine (View.canon_unit_zero (Val := Elt Ideal) zero_off _ _).trans ?_
  rw [View.ld_unit_zero (Val := Elt Ideal) zero_off _ x0, View.ld_unit_zero (Val := Elt Ideal) zero_off _ x3]
  simp only [hw]
  rw [pay_7]
  exact congrArg (fun G : S1x1024.Idx → EReal => fun y => stepM (G y) (x3 y)) e

/-- Window 8's block: the second moment. -/
theorem out_8  (c : Dev nD) (i : grid0.Coords) (arg2 : Memref sig .tc .vmem S1x1024 .f32) (harg2 : arg2.IsWhole) (arg3 : Memref sig .tc .vmem S8x1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole)
    (x0 : Vec Ideal S1x1024 .f32) (x1 : Vec Ideal S8x1x1024 .f32) (x2 : Vec Ideal S1x1024 .f32) (x3 : Vec Ideal S1x1024 .f32) (x4 : Vec Ideal S1x1024 .f32) (xt0 : TbBuf0 (F := Ideal) c tbM0_0)  :
    out0_A_8 (F := Ideal) c i arg2 harg2 arg3 harg3 arg4 harg4 arg5 harg5 arg6 harg6 arg7 harg7 arg8 harg8 arg9 harg9 arg10 harg10 x0 x1 x2 x3 x4 xt0 = fun y => stepV (total (word xt0) (x0 y) fun k => x1 (slot y k)) (x4 y) := by
  have e := sum_slots x0 (word xt0) x1
  have hw : ∀ h, View.ld (View.read (Elt Ideal) (View.whole main_arg5) xt0) (Rect.unit ![0] ![1] inb_S1_S1_0) (Shape.Idx.first h) = word xt0 := fun _ =>
    congrArg xt0 (funext fun a => match a with | ⟨0, _⟩ => rfl)
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  simp (disch := decide) only [View.readAt_eq_ld, harg2.read_unread, harg3.read_unread, harg4.read_unread, harg5.read_unread, harg6.read_unread, harg7.read_unread, harg8.read_unread, harg9.read_unread, harg10.read_unread]
  refine (View.canon_unit_zero (Val := Elt Ideal) zero_off _ _).trans ?_
  rw [View.ld_unit_zero (Val := Elt Ideal) zero_off _ x0, View.ld_unit_zero (Val := Elt Ideal) zero_off _ x4]
  simp only [hw]
  rw [pay_8]
  exact congrArg (fun G : S1x1024.Idx → EReal => fun y => stepV (G y) (x4 y)) e

variable (m : (ℓ : Loc nD τ sig) → Buf (Elt Ideal) ℓ)

/-- Window 0's block is the whole argument. -/
theorem blk_0 (hO : Ok (F := Ideal) m) (t : Fin (cfgM m hO).N) : iblk m hO 0 0 t = (m (((0 : Dev nD).tc : Thread nD τ).loc main_arg0)) := by
  refine funext fun z : S1x1024.Idx => congrArg (m (((0 : Dev nD).tc : Thread nD τ).loc main_arg0)) (funext fun a => Fin.ext ?_)
  match a with
  | ⟨0, _⟩ => show 0 * 1 + 1 * (z 0).val = (z 0).val; omega
  | ⟨1, _⟩ => show 0 * 1024 + 1 * (z 1).val = (z 1).val; omega

/-- Window 1's block is the whole argument. -/
theorem blk_1 (hO : Ok (F := Ideal) m) (t : Fin (cfgM m hO).N) : iblk m hO 0 1 t = (m (((0 : Dev nD).tc : Thread nD τ).loc main_arg1)) := by
  refine funext fun z : S8x1x1024.Idx => congrArg (m (((0 : Dev nD).tc : Thread nD τ).loc main_arg1)) (funext fun a => Fin.ext ?_)
  match a with
  | ⟨0, _⟩ => show 0 * 8 + 1 * (z 0).val = (z 0).val; omega
  | ⟨1, _⟩ => show 0 * 1 + 1 * (z 1).val = (z 1).val; omega
  | ⟨2, _⟩ => show 0 * 1024 + 1 * (z 2).val = (z 2).val; omega

/-- Window 2's block is the whole argument. -/
theorem blk_2 (hO : Ok (F := Ideal) m) (t : Fin (cfgM m hO).N) : iblk m hO 0 2 t = (m (((0 : Dev nD).tc : Thread nD τ).loc main_arg2)) := by
  refine funext fun z : S1x1024.Idx => congrArg (m (((0 : Dev nD).tc : Thread nD τ).loc main_arg2)) (funext fun a => Fin.ext ?_)
  match a with
  | ⟨0, _⟩ => show 0 * 1 + 1 * (z 0).val = (z 0).val; omega
  | ⟨1, _⟩ => show 0 * 1024 + 1 * (z 1).val = (z 1).val; omega

/-- Window 3's block is the whole argument. -/
theorem blk_3 (hO : Ok (F := Ideal) m) (t : Fin (cfgM m hO).N) : iblk m hO 0 3 t = (m (((0 : Dev nD).tc : Thread nD τ).loc main_arg3)) := by
  refine funext fun z : S1x1024.Idx => congrArg (m (((0 : Dev nD).tc : Thread nD τ).loc main_arg3)) (funext fun a => Fin.ext ?_)
  match a with
  | ⟨0, _⟩ => show 0 * 1 + 1 * (z 0).val = (z 0).val; omega
  | ⟨1, _⟩ => show 0 * 1024 + 1 * (z 1).val = (z 1).val; omega

/-- Window 4's block is the whole argument. -/
theorem blk_4 (hO : Ok (F := Ideal) m) (t : Fin (cfgM m hO).N) : iblk m hO 0 4 t = (m (((0 : Dev nD).tc : Thread nD τ).loc main_arg4)) := by
  refine funext fun z : S1x1024.Idx => congrArg (m (((0 : Dev nD).tc : Thread nD τ).loc main_arg4)) (funext fun a => Fin.ext ?_)
  match a with
  | ⟨0, _⟩ => show 0 * 1 + 1 * (z 0).val = (z 0).val; omega
  | ⟨1, _⟩ => show 0 * 1024 + 1 * (z 1).val = (z 1).val; omega

/-- The one block covers the array. -/
theorem cov_5 (hO : Ok (F := Ideal) m) : ((cfgM m hO).win 5).Covers :=
  of_decide_eq_true (by sl_kernel_rfl)

/-- The block's place in the array. -/
theorem emb_5 (hO : Ok (F := Ideal) m) (t : Fin (cfgM m hO).N) (y : S1x1024.Idx) :
    ((((cfgM m hO).win 5).blk t).view.emb y : S1x1024.Idx) = y := by
  refine (funext fun a => Fin.ext ?_)
  match a with
  | ⟨0, _⟩ => show 0 * 1 + 1 * (y 0).val = (y 0).val; omega
  | ⟨1, _⟩ => show 0 * 1024 + 1 * (y 1).val = (y 1).val; omega

/-- What the point leaves: the gradient summed over the devices. -/
theorem left_5 (hO : Ok (F := Ideal) m) (t : Fin (cfgM m hO).N) (y : S1x1024.Idx) : (dats m hO 0 0).after 5 t y =
    (total (word (tbl m 0)) (iblk m hO 0 0 t y) fun k => iblk m hO 0 1 t (slot y k)) := by
  have e := out_5 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)
  have a := after0_5 m hO 0 t
  unfold outsAt0 at a
  dsimp only at a
  exact congrFun (a.trans e) y

/-- The array: the gradient summed over the devices. -/
theorem arr_5 (hO : Ok (F := Ideal) m) (c : Dev nD) : (dats m hO 0 c).arrAt 5 (cfgM m hO).N = fun y => (total (word (m ((c.tc : Thread nD τ).loc main_arg5))) ((m ((c.tc : Thread nD τ).loc main_arg0)) y) fun k => (m ((c.tc : Thread nD τ).loc main_arg1)) (slot y k)) := by
  obtain rfl : c = 0 := Subsingleton.elim _ _
  refine (dats m hO 0 0).arrAt_eq_of_covers 5 _ (cov_5 m hO) fun t hf y => ?_
  refine (left_5 m hO t y).trans ?_
  rw [blk_0 m hO t, blk_1 m hO t]
  exact (congrArg (fun y : S1x1024.Idx => (total (word (m (((0 : Dev nD).tc : Thread nD τ).loc main_arg5))) ((m (((0 : Dev nD).tc : Thread nD τ).loc main_arg0)) y) fun k => (m (((0 : Dev nD).tc : Thread nD τ).loc main_arg1)) (slot y k))) (emb_5 m hO t y)).symm

/-- The one block covers the array. -/
theorem cov_6 (hO : Ok (F := Ideal) m) : ((cfgM m hO).win 6).Covers :=
  of_decide_eq_true (by sl_kernel_rfl)

/-- The block's place in the array. -/
theorem emb_6 (hO : Ok (F := Ideal) m) (t : Fin (cfgM m hO).N) (y : S1x1024.Idx) :
    ((((cfgM m hO).win 6).blk t).view.emb y : S1x1024.Idx) = y := by
  refine (funext fun a => Fin.ext ?_)
  match a with
  | ⟨0, _⟩ => show 0 * 1 + 1 * (y 0).val = (y 0).val; omega
  | ⟨1, _⟩ => show 0 * 1024 + 1 * (y 1).val = (y 1).val; omega

/-- What the point leaves: the change of the weights. -/
theorem left_6 (hO : Ok (F := Ideal) m) (t : Fin (cfgM m hO).N) (y : S1x1024.Idx) : (dats m hO 0 0).after 6 t y =
    stepD (iblk m hO 0 2 t y) (total (word (tbl m 0)) (iblk m hO 0 0 t y) fun k => iblk m hO 0 1 t (slot y k)) (iblk m hO 0 3 t y) (iblk m hO 0 4 t y) := by
  have e := out_6 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)
  have a := after0_6 m hO 0 t
  unfold outsAt0 at a
  dsimp only at a
  exact congrFun (a.trans e) y

/-- The array: the change of the weights. -/
theorem arr_6 (hO : Ok (F := Ideal) m) (c : Dev nD) : (dats m hO 0 c).arrAt 6 (cfgM m hO).N = fun y => stepD ((m ((c.tc : Thread nD τ).loc main_arg2)) y) (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) ((m ((c.tc : Thread nD τ).loc main_arg4)) y) := by
  obtain rfl : c = 0 := Subsingleton.elim _ _
  refine (dats m hO 0 0).arrAt_eq_of_covers 6 _ (cov_6 m hO) fun t hf y => ?_
  refine (left_6 m hO t y).trans ?_
  rw [blk_0 m hO t, blk_1 m hO t, blk_2 m hO t, blk_3 m hO t, blk_4 m hO t]
  exact (congrArg (fun y : S1x1024.Idx => stepD ((m (((0 : Dev nD).tc : Thread nD τ).loc main_arg2)) y) (total (word (m (((0 : Dev nD).tc : Thread nD τ).loc main_arg5))) ((m (((0 : Dev nD).tc : Thread nD τ).loc main_arg0)) y) fun k => (m (((0 : Dev nD).tc : Thread nD τ).loc main_arg1)) (slot y k)) ((m (((0 : Dev nD).tc : Thread nD τ).loc main_arg3)) y) ((m (((0 : Dev nD).tc : Thread nD τ).loc main_arg4)) y)) (emb_6 m hO t y)).symm

/-- The one block covers the array. -/
theorem cov_7 (hO : Ok (F := Ideal) m) : ((cfgM m hO).win 7).Covers :=
  of_decide_eq_true (by sl_kernel_rfl)

/-- The block's place in the array. -/
theorem emb_7 (hO : Ok (F := Ideal) m) (t : Fin (cfgM m hO).N) (y : S1x1024.Idx) :
    ((((cfgM m hO).win 7).blk t).view.emb y : S1x1024.Idx) = y := by
  refine (funext fun a => Fin.ext ?_)
  match a with
  | ⟨0, _⟩ => show 0 * 1 + 1 * (y 0).val = (y 0).val; omega
  | ⟨1, _⟩ => show 0 * 1024 + 1 * (y 1).val = (y 1).val; omega

/-- What the point leaves: the first moment. -/
theorem left_7 (hO : Ok (F := Ideal) m) (t : Fin (cfgM m hO).N) (y : S1x1024.Idx) : (dats m hO 0 0).after 7 t y =
    stepM (total (word (tbl m 0)) (iblk m hO 0 0 t y) fun k => iblk m hO 0 1 t (slot y k)) (iblk m hO 0 3 t y) := by
  have e := out_7 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)
  have a := after0_7 m hO 0 t
  unfold outsAt0 at a
  dsimp only at a
  exact congrFun (a.trans e) y

/-- The array: the first moment. -/
theorem arr_7 (hO : Ok (F := Ideal) m) (c : Dev nD) : (dats m hO 0 c).arrAt 7 (cfgM m hO).N = fun y => stepM (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) := by
  obtain rfl : c = 0 := Subsingleton.elim _ _
  refine (dats m hO 0 0).arrAt_eq_of_covers 7 _ (cov_7 m hO) fun t hf y => ?_
  refine (left_7 m hO t y).trans ?_
  rw [blk_0 m hO t, blk_1 m hO t, blk_3 m hO t]
  exact (congrArg (fun y : S1x1024.Idx => stepM (total (word (m (((0 : Dev nD).tc : Thread nD τ).loc main_arg5))) ((m (((0 : Dev nD).tc : Thread nD τ).loc main_arg0)) y) fun k => (m (((0 : Dev nD).tc : Thread nD τ).loc main_arg1)) (slot y k)) ((m (((0 : Dev nD).tc : Thread nD τ).loc main_arg3)) y)) (emb_7 m hO t y)).symm

/-- The one block covers the array. -/
theorem cov_8 (hO : Ok (F := Ideal) m) : ((cfgM m hO).win 8).Covers :=
  of_decide_eq_true (by sl_kernel_rfl)

/-- The block's place in the array. -/
theorem emb_8 (hO : Ok (F := Ideal) m) (t : Fin (cfgM m hO).N) (y : S1x1024.Idx) :
    ((((cfgM m hO).win 8).blk t).view.emb y : S1x1024.Idx) = y := by
  refine (funext fun a => Fin.ext ?_)
  match a with
  | ⟨0, _⟩ => show 0 * 1 + 1 * (y 0).val = (y 0).val; omega
  | ⟨1, _⟩ => show 0 * 1024 + 1 * (y 1).val = (y 1).val; omega

/-- What the point leaves: the second moment. -/
theorem left_8 (hO : Ok (F := Ideal) m) (t : Fin (cfgM m hO).N) (y : S1x1024.Idx) : (dats m hO 0 0).after 8 t y =
    stepV (total (word (tbl m 0)) (iblk m hO 0 0 t y) fun k => iblk m hO 0 1 t (slot y k)) (iblk m hO 0 4 t y) := by
  have e := out_8 0 (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO 0 0 t) (iblk m hO 0 1 t) (iblk m hO 0 2 t) (iblk m hO 0 3 t) (iblk m hO 0 4 t) (tbl m 0)
  have a := after0_8 m hO 0 t
  unfold outsAt0 at a
  dsimp only at a
  exact congrFun (a.trans e) y

/-- The array: the second moment. -/
theorem arr_8 (hO : Ok (F := Ideal) m) (c : Dev nD) : (dats m hO 0 c).arrAt 8 (cfgM m hO).N = fun y => stepV (total (word (m ((c.tc : Thread nD τ).loc main_arg5))) ((m ((c.tc : Thread nD τ).loc main_arg0)) y) fun k => (m ((c.tc : Thread nD τ).loc main_arg1)) (slot y k)) ((m ((c.tc : Thread nD τ).loc main_arg4)) y) := by
  obtain rfl : c = 0 := Subsingleton.elim _ _
  refine (dats m hO 0 0).arrAt_eq_of_covers 8 _ (cov_8 m hO) fun t hf y => ?_
  refine (left_8 m hO t y).trans ?_
  rw [blk_0 m hO t, blk_1 m hO t, blk_4 m hO t]
  exact (congrArg (fun y : S1x1024.Idx => stepV (total (word (m (((0 : Dev nD).tc : Thread nD τ).loc main_arg5))) ((m (((0 : Dev nD).tc : Thread nD τ).loc main_arg0)) y) fun k => (m (((0 : Dev nD).tc : Thread nD τ).loc main_arg1)) (slot y k)) ((m (((0 : Dev nD).tc : Thread nD τ).loc main_arg4)) y)) (emb_8 m hO t y)).symm

/-- The run with each result named and the arguments unchanged. -/
theorem run (ρ : Dev nD → PrngReg) (hO : Ok (F := Ideal) m) : θ_run defs (onTc (τ := τ) (main (F := Ideal))) ⟨m, fun _ => 0, ρ⟩ fun r => ∀ c : Dev nD,
      r.2.mem ((c.tc : Thread nD τ).loc main_v0_0) = (fun y => (total (word (m ((c.tc : Thread nD τ).loc main_arg5))) ((m ((c.tc : Thread nD τ).loc main_arg0)) y) fun k => (m ((c.tc : Thread nD τ).loc main_arg1)) (slot y k)))
      ∧ r.2.mem ((c.tc : Thread nD τ).loc main_v0_1) = (fun y => stepD ((m ((c.tc : Thread nD τ).loc main_arg2)) y) (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) ((m ((c.tc : Thread nD τ).loc main_arg4)) y))
      ∧ r.2.mem ((c.tc : Thread nD τ).loc main_v0_2) = (fun y => stepM (total (word (m ((c.tc : Thread nD τ).loc main_arg5))) ((m ((c.tc : Thread nD τ).loc main_arg0)) y) fun k => (m ((c.tc : Thread nD τ).loc main_arg1)) (slot y k)) ((m ((c.tc : Thread nD τ).loc main_arg3)) y))
      ∧ r.2.mem ((c.tc : Thread nD τ).loc main_v0_3) = (fun y => stepV (total (word (m ((c.tc : Thread nD τ).loc main_arg5))) ((m ((c.tc : Thread nD τ).loc main_arg0)) y) fun k => (m ((c.tc : Thread nD τ).loc main_arg1)) (slot y k)) ((m ((c.tc : Thread nD τ).loc main_arg4)) y)) :=
  (θ_run defs _ _).mono (fun r h c => ⟨((h c).1 5).trans (arr_5 m hO c), ((h c).1 6).trans (arr_6 m hO c), ((h c).1 7).trans (arr_7 m hO c), ((h c).1 8).trans (arr_8 m hO c)⟩) (run_main m ρ hO)

/-- The reference's frame. -/
theorem frame_ref : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

/-- The reference's sum of the slots is the same sum. -/
theorem ref_sum (x0 : (⟨Cert.Reference9Ideal.S1x1024, .f32⟩ : BufTy).Contents (Elt Ideal)) (x1 : (⟨Cert.Reference9Ideal.S8x1x1024, .f32⟩ : BufTy).Contents (Elt Ideal)) (x5 : (⟨Cert.Reference9Ideal.S1, .i32⟩ : BufTy).Contents (Elt Ideal)) :
    Cert.Reference9Ideal.Read.val_main_v6 (F := Ideal) x0 x1 x5 = fun y => total (word x5) (x0 y) fun k => x1 (slot y k) := by
  funext y
  rw [Cert.Reference9Ideal.Read.val_main_v6_apply, Cert.Reference9Ideal.Read.val_main_cst_apply]
  refine Eq.trans (b := (0 : EReal) + ∑ k : Fin 8, Cert.Reference9Ideal.Read.val_main_v5 (F := Ideal) x0 x1 x5 (Cert.Reference9Ideal.Read.idx_main_v6 y k)) ?_ ?_
  · exact congrArg (· + _) Ideal.ofBits_zero_f32
  rw [zero_add]
  unfold total
  refine Finset.sum_congr rfl fun k _ => ?_
  have hw : Cert.Reference9Ideal.Read.val_main_v2 (F := Ideal) x5 (Cert.Reference9Ideal.Read.idx_main_v3 (Cert.Reference9Ideal.Read.idx_main_call0_v0 (Cert.Reference9Ideal.Read.idx_main_v6 y k))) = word x5 :=
    congrArg x5 (funext fun a => match a with | ⟨0, _⟩ => Subsingleton.elim (α := Fin 1) _ _)
  have hi : Cert.Reference9Ideal.Read.idx_main_call0_v1 (Cert.Reference9Ideal.Read.idx_main_v6 y k) = y := funext fun a => match a with
    | ⟨0, _⟩ => Subsingleton.elim (α := Fin 1) _ _
    | ⟨1, _⟩ => rfl
  rw [Cert.Reference9Ideal.Read.val_main_v5_apply, Cert.Reference9Ideal.Read.val_main_call0_v0_apply, Cert.Reference9Ideal.Read.val_main_v4_apply, Cert.Reference9Ideal.Read.val_main_v3_apply, hw,
    Cert.Reference9Ideal.Read.val_main_v1_apply, Cert.Reference9Ideal.Read.val_main_v0_apply, Cert.Reference9Ideal.Read.val_main_call0_v1_apply, hi, cmpi_comm]
  rfl

/-- The idealized call sums the slots and takes the reference's step. -/
theorem algebraic : Cert.algebraic_Kernel9Ideal_Reference9Ideal := by
  intro m g m' g' _ hargs
  have hO : Ok (F := Ideal) m := trivial
  refine ⟨fun c => fun y => (total (word (m ((c.tc : Thread nD τ).loc main_arg5))) ((m ((c.tc : Thread nD τ).loc main_arg0)) y) fun k => (m ((c.tc : Thread nD τ).loc main_arg1)) (slot y k)), fun c => fun y => stepD ((m ((c.tc : Thread nD τ).loc main_arg2)) y) (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) ((m ((c.tc : Thread nD τ).loc main_arg4)) y), fun c => fun y => stepM (total (word (m ((c.tc : Thread nD τ).loc main_arg5))) ((m ((c.tc : Thread nD τ).loc main_arg0)) y) fun k => (m ((c.tc : Thread nD τ).loc main_arg1)) (slot y k)) ((m ((c.tc : Thread nD τ).loc main_arg3)) y), fun c => fun y => stepV (total (word (m ((c.tc : Thread nD τ).loc main_arg5))) ((m ((c.tc : Thread nD τ).loc main_arg0)) y) fun k => (m ((c.tc : Thread nD τ).loc main_arg1)) (slot y k)) ((m ((c.tc : Thread nD τ).loc main_arg4)) y), ?_, ?_⟩
  · refine (θ_run Cert.Kernel9Ideal.defs _ _).mono (fun r h c => ?_) (θ_run_and (run m g hO) (unchanged m g hO))
    exact ⟨(h.1 c).1, (h.1 c).2.1, (h.1 c).2.2.1, (h.1 c).2.2.2, h.2 c⟩
  · refine (θ_run Cert.Reference9Ideal.defs _ _).mono (fun r h c => ?_) (Cert.Reference9Ideal.Value.run (F := Ideal) m' g')
    obtain ⟨e0, e1, e2, e3, e4, e5⟩ := hargs c
    have q0 : Cert.Reference9Ideal.Read.val_main_v6 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg5)) = fun y => (total (word (m ((c.tc : Thread nD τ).loc main_arg5))) ((m ((c.tc : Thread nD τ).loc main_arg0)) y) fun k => (m ((c.tc : Thread nD τ).loc main_arg1)) (slot y k)) := by
      rw [e0, e1, e5]
      exact ref_sum _ _ _
    have q1 : Cert.Reference9Ideal.Read.val_main_v30 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) = fun y => stepD ((m ((c.tc : Thread nD τ).loc main_arg2)) y) (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) ((m ((c.tc : Thread nD τ).loc main_arg4)) y) := by
      rw [e0, e1, e2, e3, e4, e5]
      refine Eq.trans (b := fun y => stepD ((m ((c.tc : Thread nD τ).loc main_arg2)) y) (Cert.Reference9Ideal.Read.val_main_v6 (F := Ideal) (m ((c.tc : Thread nD τ).loc main_arg0)) (m ((c.tc : Thread nD τ).loc main_arg1)) (m ((c.tc : Thread nD τ).loc main_arg5)) y) ((m ((c.tc : Thread nD τ).loc main_arg3)) y) ((m ((c.tc : Thread nD τ).loc main_arg4)) y)) rfl ?_
      simp only [ref_sum]
      all_goals rfl
    have q2 : Cert.Reference9Ideal.Read.val_main_v11 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg5)) = fun y => stepM (total (word (m ((c.tc : Thread nD τ).loc main_arg5))) ((m ((c.tc : Thread nD τ).loc main_arg0)) y) fun k => (m ((c.tc : Thread nD τ).loc main_arg1)) (slot y k)) ((m ((c.tc : Thread nD τ).loc main_arg3)) y) := by
      rw [e0, e1, e3, e5]
      refine Eq.trans (b := fun y => stepM (Cert.Reference9Ideal.Read.val_main_v6 (F := Ideal) (m ((c.tc : Thread nD τ).loc main_arg0)) (m ((c.tc : Thread nD τ).loc main_arg1)) (m ((c.tc : Thread nD τ).loc main_arg5)) y) ((m ((c.tc : Thread nD τ).loc main_arg3)) y)) rfl ?_
      simp only [ref_sum]
      all_goals rfl
    have q3 : Cert.Reference9Ideal.Read.val_main_v17 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) = fun y => stepV (total (word (m ((c.tc : Thread nD τ).loc main_arg5))) ((m ((c.tc : Thread nD τ).loc main_arg0)) y) fun k => (m ((c.tc : Thread nD τ).loc main_arg1)) (slot y k)) ((m ((c.tc : Thread nD τ).loc main_arg4)) y) := by
      rw [e0, e1, e4, e5]
      refine Eq.trans (b := fun y => stepV (Cert.Reference9Ideal.Read.val_main_v6 (F := Ideal) (m ((c.tc : Thread nD τ).loc main_arg0)) (m ((c.tc : Thread nD τ).loc main_arg1)) (m ((c.tc : Thread nD τ).loc main_arg5)) y) ((m ((c.tc : Thread nD τ).loc main_arg4)) y)) rfl ?_
      simp only [ref_sum]
      all_goals rfl
    exact ⟨((h c).1.trans (Cert.Reference9Ideal.Read.val_main_v6_eq _ _ _ )).trans q0, ((h c).2.1.trans (Cert.Reference9Ideal.Read.val_main_v30_eq _ _ _ _ _ _ )).trans q1, ((h c).2.2.1.trans (Cert.Reference9Ideal.Read.val_main_v11_eq _ _ _ _ )).trans q2, ((h c).2.2.2.1.trans (Cert.Reference9Ideal.Read.val_main_v17_eq _ _ _ _ )).trans q3, (h c).2.2.2.2⟩

end Cert.AdamLate

end
-- ==== Proof.WgradOut.lean ====
module

public import proofs.«01_k».proof.Defs
public import proofs.«01_k».proof.Proof.FfnChain
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Lib.Quiescent

@[expose] public section

set_option maxRecDepth 16384

noncomputable section

/-! The gradient of the output projection's weights. -/

namespace Cert.WgradOut

open Cert.Kernel4Ideal Cert.Kernel4Ideal.Gen Idealize.ShloMosaic.TcCoe Idealize.SL.Sem
open Idealize.ShloMosaic hiding ix2 ix3 ix4
open Idealize.ShloMosaic.ValueIdx
open Cert.Ffn (ld_at)
open scoped BigOperators

/-- The gradient of the output projection's weights: the sums over the rows of the products of the two arrays' entries. -/
def grad (x0 : Vec Ideal S2048x1024 .bf16) (x1 : Vec Ideal S2048x1024 .bf16) : FVec Ideal S4x256x1024 .f32 := fun y =>
  ∑ l : Fin 2048, (fun a b : EReal => a * b) (x0 (ix2 (n0 := 2048) (n1 := 1024) l ⟨(y 0).val * 256 + (y 1).val, by have := (y 0).isLt; have := (y 1).isLt; have := (y 2).isLt; have : (y 0).val < 4 := (y 0).isLt; have : (y 1).val < 256 := (y 1).isLt; have : (y 2).val < 1024 := (y 2).isLt; omega⟩))
    (x1 (ix2 (n0 := 2048) (n1 := 1024) l ⟨(y 2).val, by have := (y 0).isLt; have := (y 1).isLt; have := (y 2).isLt; have : (y 0).val < 4 := (y 0).isLt; have : (y 1).val < 256 := (y 1).isLt; have : (y 2).val < 1024 := (y 2).isLt; omega⟩))

/-- A point's product. -/
theorem pay_at (v : Vec Ideal S2048x256 .bf16) (w : Vec Ideal S2048x1024 .bf16) (i : Fin 256) (j : Fin 1024) :
    (k0_pay1 (F := Ideal) v w) (ix2 (n0 := 256) (n1 := 1024) i j)
      = ∑ l : Fin 2048, (fun a b : EReal => a * b) (v (ix2 (n0 := 2048) (n1 := 256) l i)) (w (ix2 (n0 := 2048) (n1 := 1024) l j)) := by
  unfold k0_pay1
  pointwise
  rfl

theorem wnd0 : ∀ t : Fin cfg0.N, win0_0.index t = ![0, t.val] := (by decide +kernel : ∀ t : Fin grid0.N, win0_0.index t = ![0, t.val])
theorem wnd1 : ∀ t : Fin cfg0.N, win0_1.index t = ![0, 0] := (by decide +kernel : ∀ t : Fin grid0.N, win0_1.index t = ![0, 0])
theorem wnd2 : ∀ t : Fin cfg0.N, win0_2.index t = ![t.val, 0, 0] := (by decide +kernel : ∀ t : Fin grid0.N, win0_2.index t = ![t.val, 0, 0])

variable (m : (ℓ : Loc nD τ sig) → Buf (Elt Ideal) ℓ) (c : Dev nD)

/-- A point's block of the first array. -/
theorem in0 (t : Fin cfg0.N) (i : Fin 2048) (j : Fin 256) (y : S2048x1024.Idx) (h0 : (y 0).val = i.val) (h1 : (y 1).val = t.val * 256 + j.val) :
    (iblk m c 0 t : Vec Ideal S2048x256 .bf16) (ix2 (n0 := 2048) (n1 := 256) i j) = m ((c.tc : Thread nD τ).loc main_arg0) y := by
  blk_simp [iblk, wnd0]
  refine congrArg (m ((c.tc : Thread nD τ).loc main_arg0)) ?_
  funext x
  match x with
  | 0 => apply Fin.ext; refine Eq.trans ?_ h0.symm; blk_simp [wnd0] <;> rfl
  | 1 => apply Fin.ext; refine Eq.trans ?_ h1.symm; blk_simp [wnd0] <;> rfl

/-- A point's block of the second array. -/
theorem in1 (t : Fin cfg0.N) (i : Fin 2048) (j : Fin 1024) (y : S2048x1024.Idx) (h0 : (y 0).val = i.val) (h1 : (y 1).val = j.val) :
    (iblk m c 1 t : Vec Ideal S2048x1024 .bf16) (ix2 (n0 := 2048) (n1 := 1024) i j) = m ((c.tc : Thread nD τ).loc main_arg1) y := by
  blk_simp [iblk, wnd1]
  refine congrArg (m ((c.tc : Thread nD τ).loc main_arg1)) ?_
  funext x
  match x with
  | 0 => apply Fin.ext; refine Eq.trans ?_ h0.symm; blk_simp [wnd1] <;> rfl
  | 1 => apply Fin.ext; refine Eq.trans ?_ h1.symm; blk_simp [wnd1] <;> rfl

/-- What a point leaves, at any index of the array under the block's. -/
theorem out_at (t : Fin cfg0.N) (y : S1x256x1024.Idx) (z : S4x256x1024.Idx) (h0 : (z 0).val = t.val) (h1 : (z 1).val = (y 1).val) (h2 : (z 2).val = (y 2).val) :
    out0_2 (F := Ideal) (iblk m c 0 t) (iblk m c 1 t) y = grad (m ((c.tc : Thread nD τ).loc main_arg0)) (m ((c.tc : Thread nD τ).loc main_arg1)) z := by
  have e : out0_2 (F := Ideal) (iblk m c 0 t) (iblk m c 1 t) y
      = Cert.Kernel4Ideal.Value.E2 (View.ld (iblk m c 0 t : Vec Ideal S2048x256 .bf16) r0_0) (View.ld (iblk m c 1 t : Vec Ideal S2048x1024 .bf16) r0_1) y := Cert.Kernel4Ideal.Value.canon2_eq _ _ y
  rw [e]
  refine (congrArg _ (?_ : Cert.Kernel4Ideal.Value.ix2_0 y = ix2 (n0 := 256) (n1 := 1024) ⟨(y 1).val, (y 1).isLt⟩ ⟨(y 2).val, (y 2).isLt⟩)).trans ((pay_at _ _ _ _).trans ?_)
  · funext x
    match x with
    | 0 => rfl
    | 1 => rfl
  refine Finset.sum_congr rfl fun l _ => congrArg₂ (fun a b : EReal => a * b) ?_ ?_
  · refine (ld_at (e := .bf16) (iblk m c 0 t : Vec Ideal S2048x256 .bf16) _ (fun i => i) (fun j => j) (fun _ => (Nat.zero_add _).symm) (fun _ => (Nat.zero_add _).symm) l _).trans (in0 m c t l _ _ rfl ?_)
    show (z 0).val * 256 + (z 1).val = t.val * 256 + (y 1).val; rw [h0, h1]
  · refine (ld_at (e := .bf16) (iblk m c 1 t : Vec Ideal S2048x1024 .bf16) _ (fun i => i) (fun j => j) (fun _ => (Nat.zero_add _).symm) (fun _ => (Nat.zero_add _).symm) l _).trans (in1 m c t l _ _ rfl ?_)
    exact h2

/-- The array that the call leaves. -/
theorem arr_eq : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have e0 : ((win0_2.blk t).view.emb y 0).val = t.val := by
    have : (y 0).val < 1 := (y 0).isLt
    blk_simp [wnd2]
  have e1 : ((win0_2.blk t).view.emb y 1).val = (y 1).val := by
    blk_simp [wnd2] <;> rfl
  have e2 : ((win0_2.blk t).view.emb y 2).val = (y 2).val := by
    blk_simp [wnd2] <;> rfl
  rw [after0_2]
  have k := out_at m c t
  generalize out0_2 (iblk m c 0 t) (iblk m c 1 t) = o at k ⊢
  generalize grad (m ((c.tc : Thread nD τ).loc main_arg0)) (m ((c.tc : Thread nD τ).loc main_arg1)) = G at k ⊢
  exact k y _ e0 e1 e2

/-- The reference's array. -/
theorem ref_eq (x0 : Vec Ideal S2048x1024 .bf16) (x1 : Vec Ideal S2048x1024 .bf16) : Cert.Reference4Ideal.Read.val_main_v6 (F := Ideal) x0 x1 = grad x0 x1 := by
  funext y
  have y0 : (y 0).val < 4 := (y 0).isLt
  have y1 : (y 1).val < 256 := (y 1).isLt
  have y2 : (y 2).val < 1024 := (y 2).isLt
  refine ((Cert.Reference4Ideal.Read.val_main_v6_apply x0 x1 _).trans ((Cert.Reference4Ideal.Read.val_main_v5_apply x0 x1 _).trans (Cert.Reference4Ideal.Read.val_main_v4_apply x0 x1 _))).trans (Finset.sum_congr rfl fun k _ => (mul_comm _ _).trans (congrArg₂ (fun a b : EReal => a * b) (congrArg x0 ?_) (congrArg x1 ?_)))
  · funext x
    match x with
    | 0 => rfl
    | 1 => apply Fin.ext; show (((y 0).val * 256 + (y 1).val) * 1024 + (y 2).val) / 1024 = (y 0).val * 256 + (y 1).val; omega
  · funext x
    match x with
    | 0 => rfl
    | 1 => apply Fin.ext; show (((y 0).val * 256 + (y 1).val) * 1024 + (y 2).val) % 1024 = (y 2).val; omega

/-- The reference's frame. -/
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The idealized call computes the reference's gradient. -/
theorem algebraic : Cert.algebraic_Kernel4Ideal_Reference4Ideal := by
  intro m g m' g' _ hargs
  refine ⟨fun c => grad (m ((c.tc : Thread nD τ).loc main_arg0)) (m ((c.tc : Thread nD τ).loc main_arg1)), ?_, ?_⟩
  · refine (θ_run Cert.Kernel4Ideal.defs _ _).mono (fun r h c => ?_) (Cert.Kernel4Ideal.Value.run_blocks (F := Ideal) m g)
    exact ⟨(h c).1.trans (arr_eq m c), (h c).2.2⟩
  · refine (θ_run Cert.Reference4Ideal.defs _ _).mono (fun r h c => ?_) (Cert.Reference4Ideal.Value.run (F := Ideal) m' g')
    refine ⟨((h c).1.trans (Cert.Reference4Ideal.Read.val_main_v6_eq _ _)).trans ((ref_eq _ _).trans ?_), (h c).2⟩
    exact congrArg₂ grad (hargs c).1 (hargs c).2

end Cert.WgradOut

end
-- ==== Proof.lean ====
/- The gradient of the dilated attention window is the reference's: the claims of `Cert.Claim`, put together.
   `Proof/Reals`, `Mask`, `RefRow`, `RefGrad` read the reference; `Block`, `Pieces`, `BlockVal` the kernel's body;
   `HostRead`, `HostVal` the arrays the host prepares; `PointVal`, `Arrays`, `Points` join the two per grid point;
   `Finite` reads the precondition. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Algebraic
public import proofs.«01_k».proof.Proof.FfnAlgebraic
public import proofs.«01_k».proof.Proof.WgradIn
public import proofs.«01_k».proof.Proof.AdamFfn
public import proofs.«01_k».proof.Proof.AdamProj
public import proofs.«01_k».proof.Proof.AdamEarly
public import proofs.«01_k».proof.Proof.AdamSpatial
public import proofs.«01_k».proof.Proof.AdamLate
public import proofs.«01_k».proof.Proof.WgradOut
public import Idealize.ShloMosaic.Adequacy
public import Idealize.ShloMosaic.Init

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Attn.preFacts, Cert.Ffn.preFacts,
  fun m ρ _ => Cert.Kernel.Gen.frame m ρ, fun m ρ _ => Cert.KernelIdeal.Gen.frame m ρ, fun m ρ _ => Cert.KernelIdeal.Gen.frame m ρ,
  Cert.Attn.frame_ref, fun m ρ _ => Cert.Attn.frame_ref m ρ trivial,
  fun m ρ _ => Cert.Kernel2.Gen.frame m ρ, fun m ρ _ => Cert.Kernel2Ideal.Gen.frame m ρ, fun m ρ _ => Cert.Kernel2Ideal.Gen.frame m ρ,
  Cert.Ffn.frame_ref, fun m ρ _ => Cert.Ffn.frame_ref m ρ trivial,
  fun m ρ _ => Cert.Kernel3.Gen.frame m ρ, fun m ρ _ => Cert.Kernel3Ideal.Gen.frame m ρ, Cert.WgradIn.frame_ref,
  fun m ρ _ => Cert.Kernel4.Gen.frame m ρ, fun m ρ _ => Cert.Kernel4Ideal.Gen.frame m ρ, Cert.WgradOut.frame_ref,
  fun m ρ _ => Cert.Kernel5.Gen.frame m ρ, fun m ρ _ => Cert.Kernel5Ideal.Gen.frame m ρ, Cert.AdamFfn.frame_ref,
  fun m ρ _ => Cert.Kernel6.Gen.frame m ρ, fun m ρ _ => Cert.Kernel6Ideal.Gen.frame m ρ, Cert.AdamProj.frame_ref,
  fun m ρ _ => Cert.Kernel7.Gen.frame m ρ trivial, fun m ρ _ => Cert.Kernel7Ideal.Gen.frame m ρ trivial, Cert.AdamEarly.frame_ref,
  fun m ρ _ => Cert.Kernel8.Gen.frame m ρ trivial, fun m ρ _ => Cert.Kernel8Ideal.Gen.frame m ρ trivial, Cert.AdamSpatial.frame_ref,
  fun m ρ _ => Cert.Kernel9.Gen.frame m ρ trivial, fun m ρ _ => Cert.Kernel9Ideal.Gen.frame m ρ trivial, Cert.AdamLate.frame_ref,
  IdealRules.named_const.statement Cert.KernelIdeal.κ "mask" .f32 0xF149F2CA#32 ⊥ rfl,
  (have : Cert.Pre_finite.Facts := Cert.Attn.preFacts
  Cert.Attn.algebraic),
  trivial,
  (have : Cert.Pre_finite2.Facts := Cert.Ffn.preFacts
  Cert.Ffn.algebraic),
  trivial, Cert.WgradIn.algebraic, trivial, Cert.WgradOut.algebraic,
  trivial, Cert.AdamFfn.algebraic, trivial, Cert.AdamProj.algebraic, trivial, Cert.AdamEarly.algebraic, trivial, Cert.AdamSpatial.algebraic, trivial, Cert.AdamLate.algebraic⟩

end Cert.Proof

end
